-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleReferenceIdeal (m : (ℓ : Loc Cert.InprojSampleReferenceIdeal.nD Cert.InprojSampleReferenceIdeal.τ Cert.InprojSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8)
      ∧ r.2.mem ((c.tc : Thread Cert.FfnSampleReferenceIdeal.nD Cert.FfnSampleReferenceIdeal.τ).loc Cert.FfnSampleReferenceIdeal.main_arg9) = m ((c.tc : Thread Cert.FfnSampleReferenceIdeal.nD Cert.FfnSampleReferenceIdeal.τ).loc Cert.FfnSampleReferenceIdeal.main_arg9)
      ∧ r.2.mem ((c.tc : Thread Cert.FfnSampleReferenceIdeal.nD Cert.FfnSampleReferenceIdeal.τ).loc Cert.FfnSampleReferenceIdeal.main_arg10) = m ((c.tc : Thread Cert.FfnSampleReferenceIdeal.nD Cert.FfnSampleReferenceIdeal.τ).loc Cert.FfnSampleReferenceIdeal.main_arg10))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleReferenceIdeal [hInprojSampleReferenceIdeal : Cert.InprojSampleReferenceIdeal.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "q_scale" .f32 0x3E38AA3B#32 (((Real.log 2)⁻¹ * (1 / 8) : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v14_0)) (v1 : (c : Dev Cert.InprojIdeal.nD) → Buf (Elt Ideal) ((c.tc : Thread Cert.InprojIdeal.nD Cert.InprojIdeal.τ).loc Cert.InprojIdeal.main_v14_1)) (v2 : (c : Dev Cert.InprojIdeal.nD) → Buf (Elt Ideal) ((c.tc : Thread Cert.InprojIdeal.nD Cert.InprojIdeal.τ).loc Cert.InprojIdeal.main_v14_2)) (v3 : (c : Dev Cert.InprojIdeal.nD) → Buf (Elt Ideal) ((c.tc : Thread Cert.InprojIdeal.nD Cert.InprojIdeal.τ).loc Cert.InprojIdeal.main_v14_3)) (v4 : (c : Dev Cert.InprojIdeal.nD) → Buf (Elt Ideal) ((c.tc : Thread Cert.InprojIdeal.nD Cert.InprojIdeal.τ).loc Cert.InprojIdeal.main_v14_4)) (v5 : (c : Dev Cert.InprojIdeal.nD) → Buf (Elt Ideal) ((c.tc : Thread Cert.InprojIdeal.nD Cert.InprojIdeal.τ).loc Cert.InprojIdeal.main_v14_5)) (v6 : (c : Dev Cert.InprojIdeal.nD) → Buf (Elt Ideal) ((c.tc : Thread Cert.InprojIdeal.nD Cert.InprojIdeal.τ).loc Cert.InprojIdeal.main_v14_6)) (v7 : (c : Dev Cert.InprojIdeal.nD) → Buf (Elt Ideal) ((c.tc : Thread Cert.InprojIdeal.nD Cert.InprojIdeal.τ).loc Cert.InprojIdeal.main_v14_7)) (v8 : (c : Dev Cert.InprojIdeal.nD) → Buf (Elt Ideal) ((c.tc : Thread Cert.InprojIdeal.nD Cert.InprojIdeal.τ).loc Cert.InprojIdeal.main_v14_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v14_0) = v0 c
          ∧ r.2.mem ((c.tc : Thread Cert.InprojIdeal.nD Cert.InprojIdeal.τ).loc Cert.InprojIdeal.main_v14_1) = v1 c
          ∧ r.2.mem ((c.tc : Thread Cert.InprojIdeal.nD Cert.InprojIdeal.τ).loc Cert.InprojIdeal.main_v14_2) = v2 c
          ∧ r.2.mem ((c.tc : Thread Cert.InprojIdeal.nD Cert.InprojIdeal.τ).loc Cert.InprojIdeal.main_v14_3) = v3 c
          ∧ r.2.mem ((c.tc : Thread Cert.InprojIdeal.nD Cert.InprojIdeal.τ).loc Cert.InprojIdeal.main_v14_4) = v4 c
          ∧ r.2.mem ((c.tc : Thread Cert.InprojIdeal.nD Cert.InprojIdeal.τ).loc Cert.InprojIdeal.main_v14_5) = v5 c
          ∧ r.2.mem ((c.tc : Thread Cert.InprojIdeal.nD Cert.InprojIdeal.τ).loc Cert.InprojIdeal.main_v14_6) = v6 c
          ∧ r.2.mem ((c.tc : Thread Cert.InprojIdeal.nD Cert.InprojIdeal.τ).loc Cert.InprojIdeal.main_v14_7) = v7 c
          ∧ r.2.mem ((c.tc : Thread Cert.InprojIdeal.nD Cert.InprojIdeal.τ).loc Cert.InprojIdeal.main_v14_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v44) = v0 c
          ∧ r.2.mem ((c.tc : Thread Cert.InprojReferenceIdeal.nD Cert.InprojReferenceIdeal.τ).loc Cert.InprojReferenceIdeal.main_v45) = v1 c
          ∧ r.2.mem ((c.tc : Thread Cert.InprojReferenceIdeal.nD Cert.InprojReferenceIdeal.τ).loc Cert.InprojReferenceIdeal.main_v46) = v2 c
          ∧ r.2.mem ((c.tc : Thread Cert.InprojReferenceIdeal.nD Cert.InprojReferenceIdeal.τ).loc Cert.InprojReferenceIdeal.main_v47) = v3 c
          ∧ r.2.mem ((c.tc : Thread Cert.InprojReferenceIdeal.nD Cert.InprojReferenceIdeal.τ).loc Cert.InprojReferenceIdeal.main_v48) = v4 c
          ∧ r.2.mem ((c.tc : Thread Cert.InprojReferenceIdeal.nD Cert.InprojReferenceIdeal.τ).loc Cert.InprojReferenceIdeal.main_v56) = v5 c
          ∧ r.2.mem ((c.tc : Thread Cert.InprojReferenceIdeal.nD Cert.InprojReferenceIdeal.τ).loc Cert.InprojReferenceIdeal.main_v64) = v6 c
          ∧ r.2.mem ((c.tc : Thread Cert.InprojReferenceIdeal.nD Cert.InprojReferenceIdeal.τ).loc Cert.InprojReferenceIdeal.main_v66) = v7 c
          ∧ r.2.mem ((c.tc : Thread Cert.InprojReferenceIdeal.nD Cert.InprojReferenceIdeal.τ).loc Cert.InprojReferenceIdeal.main_v68) = v8 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v73) = v0 c
          ∧ r.2.mem ((c.tc : Thread Cert.FfnReferenceIdeal.nD Cert.FfnReferenceIdeal.τ).loc Cert.FfnReferenceIdeal.main_v74) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v62) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)
      ∧ m' ((c.tc : Thread Cert.FfnSampleReferenceIdeal.nD Cert.FfnSampleReferenceIdeal.τ).loc Cert.FfnSampleReferenceIdeal.main_arg9) = m ((c.tc : Thread Cert.FfnSampleIdeal.nD Cert.FfnSampleIdeal.τ).loc Cert.FfnSampleIdeal.main_arg9)
      ∧ m' ((c.tc : Thread Cert.FfnSampleReferenceIdeal.nD Cert.FfnSampleReferenceIdeal.τ).loc Cert.FfnSampleReferenceIdeal.main_arg10) = m ((c.tc : Thread Cert.FfnSampleIdeal.nD Cert.FfnSampleIdeal.τ).loc Cert.FfnSampleIdeal.main_arg10)) →
    ∃ (v0 : (c : Dev Cert.FfnSampleIdeal.nD) → Buf (Elt Ideal) ((c.tc : Thread Cert.FfnSampleIdeal.nD Cert.FfnSampleIdeal.τ).loc Cert.FfnSampleIdeal.main_v10_0)) (v1 : (c : Dev Cert.FfnSampleIdeal.nD) → Buf (Elt Ideal) ((c.tc : Thread Cert.FfnSampleIdeal.nD Cert.FfnSampleIdeal.τ).loc Cert.FfnSampleIdeal.main_v10_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v10_0) = v0 c
          ∧ r.2.mem ((c.tc : Thread Cert.FfnSampleIdeal.nD Cert.FfnSampleIdeal.τ).loc Cert.FfnSampleIdeal.main_v10_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v72) = v0 c
          ∧ r.2.mem ((c.tc : Thread Cert.FfnSampleReferenceIdeal.nD Cert.FfnSampleReferenceIdeal.τ).loc Cert.FfnSampleReferenceIdeal.main_v73) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8)
          ∧ r.2.mem ((c.tc : Thread Cert.FfnSampleReferenceIdeal.nD Cert.FfnSampleReferenceIdeal.τ).loc Cert.FfnSampleReferenceIdeal.main_arg9) = m' ((c.tc : Thread Cert.FfnSampleReferenceIdeal.nD Cert.FfnSampleReferenceIdeal.τ).loc Cert.FfnSampleReferenceIdeal.main_arg9)
          ∧ r.2.mem ((c.tc : Thread Cert.FfnSampleReferenceIdeal.nD Cert.FfnSampleReferenceIdeal.τ).loc Cert.FfnSampleReferenceIdeal.main_arg10) = m' ((c.tc : Thread Cert.FfnSampleReferenceIdeal.nD Cert.FfnSampleReferenceIdeal.τ).loc Cert.FfnSampleReferenceIdeal.main_arg10))

def preserves_InprojSample_InprojSampleIdeal : Prop :=
  True

def algebraic_InprojSampleIdeal_InprojSampleReferenceIdeal [hInprojSampleIdeal : Cert.InprojSampleIdeal.Facts] [hInprojSampleReferenceIdeal : Cert.InprojSampleReferenceIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleReferenceIdeal.nD Cert.InprojSampleReferenceIdeal.τ Cert.InprojSampleReferenceIdeal.sig) → Buf (Elt Ideal) ℓ) (g' : Dev Cert.InprojSampleReferenceIdeal.nD → PrngReg), Pre_InprojSampleIdeal m →
    (∀ c : Dev Cert.InprojSampleIdeal.nD,
      m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)
      ∧ m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)
      ∧ m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)
      ∧ m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)
      ∧ m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) →
    ∃ (v0 : (c : Dev Cert.InprojSampleIdeal.nD) → Buf (Elt Ideal) ((c.tc : Thread Cert.InprojSampleIdeal.nD Cert.InprojSampleIdeal.τ).loc Cert.InprojSampleIdeal.main_v14_0)) (v1 : (c : Dev Cert.InprojSampleIdeal.nD) → Buf (Elt Ideal) ((c.tc : Thread Cert.InprojSampleIdeal.nD Cert.InprojSampleIdeal.τ).loc Cert.InprojSampleIdeal.main_v14_1)) (v2 : (c : Dev Cert.InprojSampleIdeal.nD) → Buf (Elt Ideal) ((c.tc : Thread Cert.InprojSampleIdeal.nD Cert.InprojSampleIdeal.τ).loc Cert.InprojSampleIdeal.main_v14_2)) (v3 : (c : Dev Cert.InprojSampleIdeal.nD) → Buf (Elt Ideal) ((c.tc : Thread Cert.InprojSampleIdeal.nD Cert.InprojSampleIdeal.τ).loc Cert.InprojSampleIdeal.main_v14_3)) (v4 : (c : Dev Cert.InprojSampleIdeal.nD) → Buf (Elt Ideal) ((c.tc : Thread Cert.InprojSampleIdeal.nD Cert.InprojSampleIdeal.τ).loc Cert.InprojSampleIdeal.main_v14_4)) (v5 : (c : Dev Cert.InprojSampleIdeal.nD) → Buf (Elt Ideal) ((c.tc : Thread Cert.InprojSampleIdeal.nD Cert.InprojSampleIdeal.τ).loc Cert.InprojSampleIdeal.main_v14_5)) (v6 : (c : Dev Cert.InprojSampleIdeal.nD) → Buf (Elt Ideal) ((c.tc : Thread Cert.InprojSampleIdeal.nD Cert.InprojSampleIdeal.τ).loc Cert.InprojSampleIdeal.main_v14_6)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v14_0) = v0 c
          ∧ r.2.mem ((c.tc : Thread Cert.InprojSampleIdeal.nD Cert.InprojSampleIdeal.τ).loc Cert.InprojSampleIdeal.main_v14_1) = v1 c
          ∧ r.2.mem ((c.tc : Thread Cert.InprojSampleIdeal.nD Cert.InprojSampleIdeal.τ).loc Cert.InprojSampleIdeal.main_v14_2) = v2 c
          ∧ r.2.mem ((c.tc : Thread Cert.InprojSampleIdeal.nD Cert.InprojSampleIdeal.τ).loc Cert.InprojSampleIdeal.main_v14_3) = v3 c
          ∧ r.2.mem ((c.tc : Thread Cert.InprojSampleIdeal.nD Cert.InprojSampleIdeal.τ).loc Cert.InprojSampleIdeal.main_v14_4) = v4 c
          ∧ r.2.mem ((c.tc : Thread Cert.InprojSampleIdeal.nD Cert.InprojSampleIdeal.τ).loc Cert.InprojSampleIdeal.main_v14_5) = v5 c
          ∧ r.2.mem ((c.tc : Thread Cert.InprojSampleIdeal.nD Cert.InprojSampleIdeal.τ).loc Cert.InprojSampleIdeal.main_v14_6) = v6 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ θ_run (Cert.InprojSampleReferenceIdeal.defs (F := Ideal)) (onTc (τ := Cert.InprojSampleReferenceIdeal.τ) (Cert.InprojSampleReferenceIdeal.main (F := Ideal))) ⟨m', fun _ => 0, g'⟩ (fun r => ∀ c : Dev Cert.InprojSampleReferenceIdeal.nD,
          r.2.mem ((c.tc : Thread Cert.InprojSampleReferenceIdeal.nD Cert.InprojSampleReferenceIdeal.τ).loc Cert.InprojSampleReferenceIdeal.main_v44) = v0 c
          ∧ r.2.mem ((c.tc : Thread Cert.InprojSampleReferenceIdeal.nD Cert.InprojSampleReferenceIdeal.τ).loc Cert.InprojSampleReferenceIdeal.main_v45) = v1 c
          ∧ r.2.mem ((c.tc : Thread Cert.InprojSampleReferenceIdeal.nD Cert.InprojSampleReferenceIdeal.τ).loc Cert.InprojSampleReferenceIdeal.main_v46) = v2 c
          ∧ r.2.mem ((c.tc : Thread Cert.InprojSampleReferenceIdeal.nD Cert.InprojSampleReferenceIdeal.τ).loc Cert.InprojSampleReferenceIdeal.main_v47) = v3 c
          ∧ r.2.mem ((c.tc : Thread Cert.InprojSampleReferenceIdeal.nD Cert.InprojSampleReferenceIdeal.τ).loc Cert.InprojSampleReferenceIdeal.main_v48) = v4 c
          ∧ r.2.mem ((c.tc : Thread Cert.InprojSampleReferenceIdeal.nD Cert.InprojSampleReferenceIdeal.τ).loc Cert.InprojSampleReferenceIdeal.main_v56) = v5 c
          ∧ r.2.mem ((c.tc : Thread Cert.InprojSampleReferenceIdeal.nD Cert.InprojSampleReferenceIdeal.τ).loc Cert.InprojSampleReferenceIdeal.main_v64) = v6 c
          ∧ r.2.mem ((c.tc : Thread Cert.InprojSampleReferenceIdeal.nD Cert.InprojSampleReferenceIdeal.τ).loc Cert.InprojSampleReferenceIdeal.main_arg0) = m' ((c.tc : Thread Cert.InprojSampleReferenceIdeal.nD Cert.InprojSampleReferenceIdeal.τ).loc Cert.InprojSampleReferenceIdeal.main_arg0)
          ∧ r.2.mem ((c.tc : Thread Cert.InprojSampleReferenceIdeal.nD Cert.InprojSampleReferenceIdeal.τ).loc Cert.InprojSampleReferenceIdeal.main_arg1) = m' ((c.tc : Thread Cert.InprojSampleReferenceIdeal.nD Cert.InprojSampleReferenceIdeal.τ).loc Cert.InprojSampleReferenceIdeal.main_arg1)
          ∧ r.2.mem ((c.tc : Thread Cert.InprojSampleReferenceIdeal.nD Cert.InprojSampleReferenceIdeal.τ).loc Cert.InprojSampleReferenceIdeal.main_arg2) = m' ((c.tc : Thread Cert.InprojSampleReferenceIdeal.nD Cert.InprojSampleReferenceIdeal.τ).loc Cert.InprojSampleReferenceIdeal.main_arg2)
          ∧ r.2.mem ((c.tc : Thread Cert.InprojSampleReferenceIdeal.nD Cert.InprojSampleReferenceIdeal.τ).loc Cert.InprojSampleReferenceIdeal.main_arg3) = m' ((c.tc : Thread Cert.InprojSampleReferenceIdeal.nD Cert.InprojSampleReferenceIdeal.τ).loc Cert.InprojSampleReferenceIdeal.main_arg3)
          ∧ r.2.mem ((c.tc : Thread Cert.InprojSampleReferenceIdeal.nD Cert.InprojSampleReferenceIdeal.τ).loc Cert.InprojSampleReferenceIdeal.main_arg4) = m' ((c.tc : Thread Cert.InprojSampleReferenceIdeal.nD Cert.InprojSampleReferenceIdeal.τ).loc Cert.InprojSampleReferenceIdeal.main_arg4))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hFfnSample : Cert.FfnSample.Facts) (hFfnSampleIdeal : Cert.FfnSampleIdeal.Facts) (hFfnSampleReferenceIdeal : Cert.FfnSampleReferenceIdeal.Facts) (hInprojSample : Cert.InprojSample.Facts) (hInprojSampleIdeal : Cert.InprojSampleIdeal.Facts) (hInprojSampleReferenceIdeal : Cert.InprojSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_InprojSample (hInprojSample := hInprojSample)
    ∧ quiescent_InprojSampleIdeal (hInprojSampleIdeal := hInprojSampleIdeal)
    ∧ quiescent_InprojSampleReferenceIdeal (hInprojSampleReferenceIdeal := hInprojSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojReferenceIdeal (hInprojIdeal := hInprojIdeal) (hInprojReferenceIdeal := hInprojReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_InprojSample_InprojSampleIdeal
    ∧ algebraic_InprojSampleIdeal_InprojSampleReferenceIdeal (hInprojSampleIdeal := hInprojSampleIdeal) (hInprojSampleReferenceIdeal := hInprojSampleReferenceIdeal)
-- ==== Pre_finite.lean ====
abbrev S8x8192x1024 : Shape := ⟨3, ![8, 8192, 1024]⟩
abbrev S8x8192x16 : Shape := ⟨3, ![8, 8192, 16]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x8192x16 : S_.BroadcastsInDim S8x8192x16 (![] : Fin 0 → Fin S8x8192x16.rank)
  reducesTo_S8x8192x16_S_d0_1_2 : S8x8192x16.ReducesTo [0, 1, 2] S_

variable [Facts]

def fn_part1 {F : FTy → Type} [FloatOps F] (main_v13 : IVec S_ 1) (main_v16 : IVec S8x8192x16 1) : IVec S_ 1 :=
  let main_c_5 : IVec S_ 1 := constantI S_ 1 1#1
  let main_v17 : IVec S_ 1 := (fun x v => Host.reduce IntOp.andi x v reducesTo_S8x8192x16_S_d0_1_2 h_S_) main_v16 main_c_5
  let main_v18 : IVec S_ 1 := andi main_v13 main_v17
  main_v18

def fn {F : FTy → Type} [FloatOps F] (main_arg0 : FVec F S8x8192x1024 .f32) (main_arg1 : FVec F S8x8192x1024 .f32) (main_arg2 : FVec F S8x8192x1024 .f32) (main_arg3 : FVec F S8x8192x16 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x8192x1024 .f32 := Host.absf main_arg2
  let main_cst_2 : FVec F S_ .f32 := constant S_ .f32 0x7F800000#32
  let main_v10 : FVec F S8x8192x1024 .f32 := broadcastInDim S8x8192x1024 ![] bcast_S_S8x8192x1024 main_cst_2
  let main_v11 : IVec S8x8192x1024 1 := cmpf .olt main_v9 main_v10
  let main_c_3 : IVec S_ 1 := constantI S_ 1 1#1
  let main_v12 : IVec S_ 1 := (fun x v => Host.reduce IntOp.andi x v reducesTo_S8x8192x1024_S_d0_1_2 h_S_) main_v11 main_c_3
  let main_v13 : IVec S_ 1 := andi main_v8 main_v12
  let main_v14 : FVec F S8x8192x16 .f32 := Host.absf main_arg3
  let main_cst_4 : FVec F S_ .f32 := constant S_ .f32 0x7F800000#32
  let main_v15 : FVec F S8x8192x16 .f32 := broadcastInDim S8x8192x16 ![] bcast_S_S8x8192x16 main_cst_4
  let main_v16 : IVec S8x8192x16 1 := cmpf .olt main_v14 main_v15
  fn_part1 (F := F) main_v13 main_v16
-- ==== Kernel.lean ====
abbrev S8x8192x1024 : Shape := ⟨3, ![8, 8192, 1024]⟩
abbrev S8x8192x16 : Shape := ⟨3, ![8, 8192, 16]⟩
abbrev S8x1024x8192 : Shape := ⟨3, ![8, 1024, 8192]⟩
abbrev S8x16x8192 : Shape := ⟨3, ![8, 16, 8192]⟩
abbrev S_ : Shape := ⟨0, ![]⟩
abbrev S8x16x64x128 : Shape := ⟨4, ![8, 16, 64, 128]⟩
abbrev S8x3x16x64x128 : Shape := ⟨5, ![8, 3, 16, 64, 128]⟩
abbrev S1x16x64x128 : Shape := ⟨4, ![1, 16, 64, 128]⟩
abbrev S1x3x16x64x128 : Shape := ⟨5, ![1, 3, 16, 64, 128]⟩
abbrev S16x64x128 : Shape := ⟨3, ![16, 64, 128]⟩
abbrev S16x64x1 : Shape := ⟨3, ![16, 64, 1]⟩
abbrev S1x1x16x64x128 : Shape := ⟨5, ![1, 1, 16, 64, 128]⟩
abbrev S8x3x16x8192 : Shape := ⟨4, ![8, 3, 16, 8192]⟩
abbrev S8x8192x16x3 : Shape := ⟨4, ![8, 8192, 16, 3]⟩
abbrev S8x8192x48 : Shape := ⟨3, ![8, 8192, 48]⟩
abbrev S8x8192x128 : Shape := ⟨3, ![8, 8192, 128]⟩
abbrev S1x512x512 : Shape := ⟨3, ![1, 512, 512]⟩
abbrev S1x8192x512 : Shape := ⟨3, ![1, 8192, 512]⟩
abbrev S1x8192x128 : Shape := ⟨3, ![1, 8192, 128]⟩
abbrev S1x512x8192 : Shape := ⟨3, ![1, 512, 8192]⟩
abbrev S4096x256 : Shape := ⟨2, ![4096, 256]⟩
abbrev S1x4096 : Shape := ⟨2, ![1, 4096]⟩
abbrev S8x80x512 : Shape := ⟨3, ![8, 80, 512]⟩
abbrev S512x4096 : Shape := ⟨2, ![512, 4096]⟩
abbrev S512x128 : Shape := ⟨2, ![512, 128]⟩
abbrev S1x512x128 : Shape := ⟨3, ![1, 512, 128]⟩
abbrev S16x512 : Shape := ⟨2, ![16, 512]⟩
abbrev S512x512 : Shape := ⟨2, ![512, 512]⟩
abbrev S512x256 : Shape := ⟨2, ![512, 256]⟩
abbrev S1024x256 : Shape := ⟨2, ![1024, 256]⟩
abbrev S512x1024 : Shape := ⟨2, ![512, 1024]⟩
abbrev S1024 : Shape := ⟨1, ![1024]⟩
abbrev S1x1024 : Shape := ⟨2, ![1, 1024]⟩
abbrev S1x64x512 : Shape := ⟨3, ![1, 64, 512]⟩
abbrev S64x512 : Shape := ⟨2, ![64, 512]⟩
abbrev S80x512 : Shape := ⟨2, ![80, 512]⟩
abbrev S1x512 : Shape := ⟨2, ![1, 512]⟩
abbrev S1x80x512 : Shape := ⟨3, ![1, 80, 512]⟩

abbrev nBuf : Space → Nat
  | .hbm => 22
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x8192x16, .f32⟩
  | .hbm, ⟨4, _⟩ => ⟨S8x8192x1024, .bf16⟩
  | .hbm, ⟨5, _⟩ => ⟨S8x1024x8192, .f32⟩
  | .hbm, ⟨6, _⟩ => ⟨S8x1024x8192, .bf16⟩
  | .hbm, ⟨7, _⟩ => ⟨S8x16x8192, .f32⟩
  | .hbm, ⟨8, _⟩ => ⟨S_, .i32⟩
  | .hbm, ⟨9, _⟩ => ⟨S_, .f32⟩
  | .hbm, ⟨10, _⟩ => ⟨S8x16x8192, .f32⟩
  | .hbm, ⟨11, _⟩ => ⟨S8x16x64x128, .f32⟩
  | .hbm, ⟨12, _⟩ => ⟨S8x16x64x128, .f32⟩
  | .hbm, ⟨13, _⟩ => ⟨S8x3x16x64x128, .bf16⟩
  | .hbm, ⟨14, _⟩ => ⟨S8x16x8192, .f32⟩
  | .hbm, ⟨15, _⟩ => ⟨S8x3x16x8192, .bf16⟩
  | .hbm, ⟨16, _⟩ => ⟨S8x8192x16x3, .bf16⟩
  | .hbm, ⟨17, _⟩ => ⟨S8x8192x48, .bf16⟩
  | .hbm, ⟨18, _⟩ => ⟨S_, .i32⟩
  | .hbm, ⟨19, _⟩ => ⟨S_, .bf16⟩
  | .hbm, ⟨20, _⟩ => ⟨S8x8192x128, .bf16⟩
  | .hbm, ⟨21, _⟩ => ⟨S8x8192x1024, .bf16⟩
  | .local _ .vmem, ⟨0, _⟩ => ⟨S1x16x64x128, .f32⟩
  | .local _ .vmem, ⟨1, _⟩ => ⟨S1x16x64x128, .f32⟩
  | .local _ .vmem, ⟨2, _⟩ => ⟨S1x16x64x128, .f32⟩
  | .local _ .vmem, ⟨3, _⟩ => ⟨S1x16x64x128, .f32⟩
  | .local _ .vmem, ⟨4, _⟩ => ⟨S1x3x16x64x128, .bf16⟩
  | .local _ .vmem, ⟨5, _⟩ => ⟨S1x3x16x64x128, .bf16⟩
  | .local _ .vmem, ⟨6, _⟩ => ⟨S1x512x512, .f32⟩
  | .local _ .vmem, ⟨7, _⟩ => ⟨S1x512x512, .f32⟩
  | .local _ .vmem, ⟨8, _⟩ => ⟨S1x8192x512, .bf16⟩
  | .local _ .vmem, ⟨9, _⟩ => ⟨S1x8192x128, .bf16⟩
  | .local _ .vmem, ⟨10, _⟩ => ⟨S1x512x8192, .bf16⟩
  | .local _ .vmem, ⟨11, _⟩ => ⟨S1x512x512, .bf16⟩
  | .local _ .vmem, ⟨12, _⟩ => ⟨S1x512x512, .bf16⟩
  | .local _ .vmem, ⟨13, _⟩ => ⟨S4096x256, .bf16⟩
  | .local _ .vmem, ⟨14, _⟩ => ⟨S1x4096, .f32⟩
  | .local _ .vmem, ⟨15, _⟩ => ⟨S8x80x512, .f32⟩
  | .local _ .vmem, ⟨16, _⟩ => ⟨S512x4096, .f32⟩
  | .local _ .vmem, ⟨17, _⟩ => ⟨S512x4096, .f32⟩
  | .local _ .vmem, ⟨18, _⟩ => ⟨S1x4096, .f32⟩
  | .local _ .vmem, ⟨19, _⟩ => ⟨S1x4096, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x16x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 16], ![false, false, false]⟩

def k1_mult1 (i : grid1.Coords) : BitVec 32 :=
  let arg2 : BitVec 32 := BitVec.ofNat 32 (i 2).val
  let c512_i32 : BitVec 32 := 512#32
  let v249 : BitVec 32 := Scalar.muli arg2 c512_i32
  v249
def k1_off1 (i : grid1.Coords) : Fin 3 → Nat :=
  let c0_113 : Index := 0#32
  let arg2 : BitVec 32 := BitVec.ofNat 32 (i 2).val
  let c512_i32 : BitVec 32 := 512#32
  let v249 : BitVec 32 := Scalar.muli arg2 c512_i32
  let v250 : BitVec 32 := v249
  let v251 : Index := Scalar.indexCast v250
  let c0_114 : Index := 0#32
  ![0, v251.toNat, 0]
def k1_off2 (i : grid1.Coords) : Fin 3 → Nat :=
  let c0_115 : Index := 0#32
  let arg2 : BitVec 32 := BitVec.ofNat 32 (i 2).val
  let c512_i32 : BitVec 32 := 512#32
  let v249 : BitVec 32 := Scalar.muli arg2 c512_i32
  let v250 : BitVec 32 := v249
  let v254 : Index := Scalar.indexCast v250
  let c0_116 : Index := 0#32
  ![0, v254.toNat, 0]
def k1_off3 (i : grid1.Coords) : Fin 3 → Nat :=
  let c0_127 : Index := 0#32
  let arg2 : BitVec 32 := BitVec.ofNat 32 (i 2).val
  let c512_i32 : BitVec 32 := 512#32
  let v249 : BitVec 32 := Scalar.muli arg2 c512_i32
  let v250 : BitVec 32 := v249
  let v275 : Index := Scalar.indexCast v250
  let c128_128 : Index := 128#32
  ![0, v275.toNat, 128]
def k1_off4 (i : grid1.Coords) : Fin 3 → Nat :=
  let c0_139 : Index := 0#32
  let arg2 : BitVec 32 := BitVec.ofNat 32 (i 2).val
  let c512_i32 : BitVec 32 := 512#32
  let v249 : BitVec 32 := Scalar.muli arg2 c512_i32
  let v250 : BitVec 32 := v249
  let v296 : Index := Scalar.indexCast v250
  let c256_140 : Index := 256#32
  ![0, v296.toNat, 256]
def k1_off5 (i : grid1.Coords) : Fin 3 → Nat :=
  let c0_151 : Index := 0#32
  let arg2 : BitVec 32 := BitVec.ofNat 32 (i 2).val
  let c512_i32 : BitVec 32 := 512#32
  let v249 : BitVec 32 := Scalar.muli arg2 c512_i32
  let v250 : BitVec 32 := v249
  let v317 : Index := Scalar.indexCast v250
  let c384_152 : Index := 384#32
  ![0, v317.toNat, 384]
@[reducible] def k1_t1_loop (i : grid1.Coords) : Scf.Loop 32 :=
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_173 : BitVec 32 := 1#32
  ⟨c0_i32_171, v359, c1_i32_173⟩
def k1_mult2 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c0_i32_252 : BitVec 32 := 0#32
  let v488 : BitVec 32 := Scalar.addi v487 c0_i32_252
  let c512_i32_253 : BitVec 32 := 512#32
  let v489 : BitVec 32 := Scalar.muli v488 c512_i32_253
  v489
def k1_off6 (i : grid1.Coords) (k1_t1 : Fin (k1_t1_loop i).trips) (c0_i32_252 : BitVec 32) : Fin 3 → Nat :=
  let c0_254 : Index := 0#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v491 : Index := Scalar.indexCast v490
  let c0_255 : Index := 0#32
  ![0, v491.toNat, 0]
def k1_off7 (i : grid1.Coords) (k1_t1 : Fin (k1_t1_loop i).trips) (c0_i32_252 : BitVec 32) : Fin 3 → Nat :=
  let c0_256 : Index := 0#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v494 : Index := Scalar.indexCast v490
  let c0_257 : Index := 0#32
  ![0, v494.toNat, 0]
def k1_off8 (i : grid1.Coords) (k1_t1 : Fin (k1_t1_loop i).trips) (c0_i32_252 : BitVec 32) : Fin 3 → Nat :=
  let c0_266 : Index := 0#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v508 : Index := Scalar.indexCast v490
  let c128_267 : Index := 128#32
  ![0, v508.toNat, 128]
def k1_off9 (i : grid1.Coords) (k1_t1 : Fin (k1_t1_loop i).trips) (c0_i32_252 : BitVec 32) : Fin 3 → Nat :=
  let c0_276 : Index := 0#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v522 : Index := Scalar.indexCast v490
  let c256_277 : Index := 256#32
  ![0, v522.toNat, 256]
def k1_off10 (i : grid1.Coords) (k1_t1 : Fin (k1_t1_loop i).trips) (c0_i32_252 : BitVec 32) : Fin 3 → Nat :=
  let c0_286 : Index := 0#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v536 : Index := Scalar.indexCast v490
  let c384_287 : Index := 384#32
  ![0, v536.toNat, 384]
def k1_mult3 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c0_i32_296 : BitVec 32 := 0#32
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  v554
def k1_off11 (i : grid1.Coords) (k1_t1 : Fin (k1_t1_loop i).trips) (c0_i32_296 : BitVec 32) : Fin 3 → Nat :=
  let c0_308 : Index := 0#32
  let c0_309 : Index := 0#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v569 : Index := Scalar.indexCast v555
  ![0, 0, v569.toNat]
def k1_off12 (i : grid1.Coords) (k1_t1 : Fin (k1_t1_loop i).trips) (c0_i32_296 : BitVec 32) : Fin 3 → Nat :=
  let c0_317 : Index := 0#32
  let c64 : Index := 64#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v584 : Index := Scalar.indexCast v555
  ![0, 64, v584.toNat]
def k1_off13 (i : grid1.Coords) (k1_t1 : Fin (k1_t1_loop i).trips) (c0_i32_296 : BitVec 32) : Fin 3 → Nat :=
  let c0_325 : Index := 0#32
  let c128_326 : Index := 128#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v599 : Index := Scalar.indexCast v555
  ![0, 128, v599.toNat]
def k1_off14 (i : grid1.Coords) (k1_t1 : Fin (k1_t1_loop i).trips) (c0_i32_296 : BitVec 32) : Fin 3 → Nat :=
  let c0_334 : Index := 0#32
  let c192 : Index := 192#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v614 : Index := Scalar.indexCast v555
  ![0, 192, v614.toNat]
def k1_off15 (i : grid1.Coords) (k1_t1 : Fin (k1_t1_loop i).trips) (c0_i32_296 : BitVec 32) : Fin 3 → Nat :=
  let c0_342 : Index := 0#32
  let c256_343 : Index := 256#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v629 : Index := Scalar.indexCast v555
  ![0, 256, v629.toNat]
def k1_off16 (i : grid1.Coords) (k1_t1 : Fin (k1_t1_loop i).trips) (c0_i32_296 : BitVec 32) : Fin 3 → Nat :=
  let c0_351 : Index := 0#32
  let c320 : Index := 320#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v644 : Index := Scalar.indexCast v555
  ![0, 320, v644.toNat]
def k1_off17 (i : grid1.Coords) (k1_t1 : Fin (k1_t1_loop i).trips) (c0_i32_296 : BitVec 32) : Fin 3 → Nat :=
  let c0_359 : Index := 0#32
  let c384_360 : Index := 384#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v659 : Index := Scalar.indexCast v555
  ![0, 384, v659.toNat]
def k1_off18 (i : grid1.Coords) (k1_t1 : Fin (k1_t1_loop i).trips) (c0_i32_296 : BitVec 32) : Fin 3 → Nat :=
  let c0_368 : Index := 0#32
  let c448 : Index := 448#32
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let arg2 : BitVec 32 := BitVec.ofNat 32 (i 2).val
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v674 : Index := Scalar.indexCast v555
  ![0, 448, v674.toNat]
def k1_mult4 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c1_i32_376 : BitVec 32 := 1#32
  let v689 : BitVec 32 := Scalar.addi v487 c1_i32_376
  let c512_i32_377 : BitVec 32 := 512#32
  let v690 : BitVec 32 := Scalar.muli v689 c512_i32_377
  v690
def k1_mult5 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c1_i32_420 : BitVec 32 := 1#32
  let v751 : BitVec 32 := Scalar.addi v487 c1_i32_420
  let c0_i32_421 : BitVec 32 := 0#32
  let v752 : BitVec 1 := Scalar.cmpi .eq v751 c0_i32_421
  let arg2 : BitVec 32 := BitVec.ofNat 32 (i 2).val
  let c1_i32_422 : BitVec 32 := 1#32
  let v753 : BitVec 32 := Scalar.subi v751 c1_i32_422
  let v754 : BitVec 32 := Scalar.select v752 arg2 v753
  let c512_i32_423 : BitVec 32 := 512#32
  let v755 : BitVec 32 := Scalar.muli v754 c512_i32_423
  v755
def k1_mult6 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c2_i32_504 : BitVec 32 := 2#32
  let v890 : BitVec 32 := Scalar.addi v487 c2_i32_504
  let c512_i32_505 : BitVec 32 := 512#32
  let v891 : BitVec 32 := Scalar.muli v890 c512_i32_505
  v891
def k1_mult7 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c2_i32_548 : BitVec 32 := 2#32
  let v952 : BitVec 32 := Scalar.addi v487 c2_i32_548
  let c0_i32_549 : BitVec 32 := 0#32
  let v953 : BitVec 1 := Scalar.cmpi .eq v952 c0_i32_549
  let arg2 : BitVec 32 := BitVec.ofNat 32 (i 2).val
  let c1_i32_550 : BitVec 32 := 1#32
  let v954 : BitVec 32 := Scalar.subi v952 c1_i32_550
  let v955 : BitVec 32 := Scalar.select v953 arg2 v954
  let c512_i32_551 : BitVec 32 := 512#32
  let v956 : BitVec 32 := Scalar.muli v955 c512_i32_551
  v956
def k1_mult8 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c3_i32_632 : BitVec 32 := 3#32
  let v1091 : BitVec 32 := Scalar.addi v487 c3_i32_632
  let c512_i32_633 : BitVec 32 := 512#32
  let v1092 : BitVec 32 := Scalar.muli v1091 c512_i32_633
  v1092
def k1_mult9 (i : grid1.Coords) (k1_t1 : Fin (k1_t1_loop i).trips) : BitVec 32 :=
  let c4_i32_251 : BitVec 32 := 4#32
  let c0_i32_171 : BitVec 32 := 0#32
  let c1_i32_173 : BitVec 32 := 1#32
  let arg15 : BitVec 32 := Scf.iv c0_i32_171 c1_i32_173 k1_t1
  let v487 : BitVec 32 := Scalar.muli c4_i32_251 arg15
  let c3_i32_676 : BitVec 32 := 3#32
  let v1153 : BitVec 32 := Scalar.addi v487 c3_i32_676
  let c0_i32_677 : BitVec 32 := 0#32
  let v1154 : BitVec 1 := Scalar.cmpi .eq v1153 c0_i32_677
  let arg2 : BitVec 32 := BitVec.ofNat 32 (i 2).val
  let c1_i32_678 : BitVec 32 := 1#32
  let v1155 : BitVec 32 := Scalar.subi v1153 c1_i32_678
  let v1156 : BitVec 32 := Scalar.select v1154 arg2 v1155
  let c512_i32_679 : BitVec 32 := 512#32
  let v1157 : BitVec 32 := Scalar.muli v1156 c512_i32_679
  v1157
@[reducible] def k1_t2_loop (i : grid1.Coords) : Scf.Loop 32 :=
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let v356 : BitVec 32 := Scalar.addi c0_i32_171 v355
  let c1_i32_174 : BitVec 32 := 1#32
  ⟨v359, v356, c1_i32_174⟩
def k1_mult10 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c0_i32_252 : BitVec 32 := 0#32
  let v488 : BitVec 32 := Scalar.addi v487 c0_i32_252
  let c512_i32_253 : BitVec 32 := 512#32
  let v489 : BitVec 32 := Scalar.muli v488 c512_i32_253
  v489
def k1_off19 (i : grid1.Coords) (k1_t2 : Fin (k1_t2_loop i).trips) (c0_i32_252 : BitVec 32) : Fin 3 → Nat :=
  let c0_254 : Index := 0#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v491 : Index := Scalar.indexCast v490
  let c0_255 : Index := 0#32
  ![0, v491.toNat, 0]
def k1_off20 (i : grid1.Coords) (k1_t2 : Fin (k1_t2_loop i).trips) (c0_i32_252 : BitVec 32) : Fin 3 → Nat :=
  let c0_256 : Index := 0#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v494 : Index := Scalar.indexCast v490
  let c0_257 : Index := 0#32
  ![0, v494.toNat, 0]
def k1_off21 (i : grid1.Coords) (k1_t2 : Fin (k1_t2_loop i).trips) (c0_i32_252 : BitVec 32) : Fin 3 → Nat :=
  let c0_266 : Index := 0#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v508 : Index := Scalar.indexCast v490
  let c128_267 : Index := 128#32
  ![0, v508.toNat, 128]
def k1_off22 (i : grid1.Coords) (k1_t2 : Fin (k1_t2_loop i).trips) (c0_i32_252 : BitVec 32) : Fin 3 → Nat :=
  let c0_276 : Index := 0#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v522 : Index := Scalar.indexCast v490
  let c256_277 : Index := 256#32
  ![0, v522.toNat, 256]
def k1_off23 (i : grid1.Coords) (k1_t2 : Fin (k1_t2_loop i).trips) (c0_i32_252 : BitVec 32) : Fin 3 → Nat :=
  let c0_286 : Index := 0#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v488 : BitVec 32 := Scalar.addi v487 c0_i32_252
  let c512_i32_253 : BitVec 32 := 512#32
  let v489 : BitVec 32 := Scalar.muli v488 c512_i32_253
  let v490 : BitVec 32 := v489
  let v536 : Index := Scalar.indexCast v490
  let c384_287 : Index := 384#32
  ![0, v536.toNat, 384]
def k1_mult11 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c0_i32_296 : BitVec 32 := 0#32
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  v554
def k1_off24 (i : grid1.Coords) (k1_t2 : Fin (k1_t2_loop i).trips) (c0_i32_296 : BitVec 32) : Fin 3 → Nat :=
  let c0_308 : Index := 0#32
  let c0_309 : Index := 0#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v569 : Index := Scalar.indexCast v555
  ![0, 0, v569.toNat]
def k1_off25 (i : grid1.Coords) (k1_t2 : Fin (k1_t2_loop i).trips) (c0_i32_296 : BitVec 32) : Fin 3 → Nat :=
  let c0_317 : Index := 0#32
  let c64 : Index := 64#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v584 : Index := Scalar.indexCast v555
  ![0, 64, v584.toNat]
def k1_off26 (i : grid1.Coords) (k1_t2 : Fin (k1_t2_loop i).trips) (c0_i32_296 : BitVec 32) : Fin 3 → Nat :=
  let c0_325 : Index := 0#32
  let c128_326 : Index := 128#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v599 : Index := Scalar.indexCast v555
  ![0, 128, v599.toNat]
def k1_off27 (i : grid1.Coords) (k1_t2 : Fin (k1_t2_loop i).trips) (c0_i32_296 : BitVec 32) : Fin 3 → Nat :=
  let c0_334 : Index := 0#32
  let c192 : Index := 192#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v614 : Index := Scalar.indexCast v555
  ![0, 192, v614.toNat]
def k1_off28 (i : grid1.Coords) (k1_t2 : Fin (k1_t2_loop i).trips) (c0_i32_296 : BitVec 32) : Fin 3 → Nat :=
  let c0_342 : Index := 0#32
  let c256_343 : Index := 256#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v629 : Index := Scalar.indexCast v555
  ![0, 256, v629.toNat]
def k1_off29 (i : grid1.Coords) (k1_t2 : Fin (k1_t2_loop i).trips) (c0_i32_296 : BitVec 32) : Fin 3 → Nat :=
  let c0_351 : Index := 0#32
  let c320 : Index := 320#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v644 : Index := Scalar.indexCast v555
  ![0, 320, v644.toNat]
def k1_off30 (i : grid1.Coords) (k1_t2 : Fin (k1_t2_loop i).trips) (c0_i32_296 : BitVec 32) : Fin 3 → Nat :=
  let c0_359 : Index := 0#32
  let c384_360 : Index := 384#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v659 : Index := Scalar.indexCast v555
  ![0, 384, v659.toNat]
def k1_off31 (i : grid1.Coords) (k1_t2 : Fin (k1_t2_loop i).trips) (c0_i32_296 : BitVec 32) : Fin 3 → Nat :=
  let c0_368 : Index := 0#32
  let c448 : Index := 448#32
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let v550 : BitVec 32 := Scalar.addi v487 c0_i32_296
  let c0_i32_297 : BitVec 32 := 0#32
  let v551 : BitVec 1 := Scalar.cmpi .eq v550 c0_i32_297
  let c1_i32_298 : BitVec 32 := 1#32
  let v552 : BitVec 32 := Scalar.subi v550 c1_i32_298
  let v553 : BitVec 32 := Scalar.select v551 arg2 v552
  let c512_i32_299 : BitVec 32 := 512#32
  let v554 : BitVec 32 := Scalar.muli v553 c512_i32_299
  let v555 : BitVec 32 := v554
  let v674 : Index := Scalar.indexCast v555
  ![0, 448, v674.toNat]
def k1_mult12 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c1_i32_376 : BitVec 32 := 1#32
  let v689 : BitVec 32 := Scalar.addi v487 c1_i32_376
  let c512_i32_377 : BitVec 32 := 512#32
  let v690 : BitVec 32 := Scalar.muli v689 c512_i32_377
  v690
def k1_mult13 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c1_i32_420 : BitVec 32 := 1#32
  let v751 : BitVec 32 := Scalar.addi v487 c1_i32_420
  let c0_i32_421 : BitVec 32 := 0#32
  let v752 : BitVec 1 := Scalar.cmpi .eq v751 c0_i32_421
  let c1_i32_422 : BitVec 32 := 1#32
  let v753 : BitVec 32 := Scalar.subi v751 c1_i32_422
  let v754 : BitVec 32 := Scalar.select v752 arg2 v753
  let c512_i32_423 : BitVec 32 := 512#32
  let v755 : BitVec 32 := Scalar.muli v754 c512_i32_423
  v755
def k1_mult14 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c2_i32_504 : BitVec 32 := 2#32
  let v890 : BitVec 32 := Scalar.addi v487 c2_i32_504
  let c512_i32_505 : BitVec 32 := 512#32
  let v891 : BitVec 32 := Scalar.muli v890 c512_i32_505
  v891
def k1_mult15 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c2_i32_548 : BitVec 32 := 2#32
  let v952 : BitVec 32 := Scalar.addi v487 c2_i32_548
  let c0_i32_549 : BitVec 32 := 0#32
  let v953 : BitVec 1 := Scalar.cmpi .eq v952 c0_i32_549
  let c1_i32_550 : BitVec 32 := 1#32
  let v954 : BitVec 32 := Scalar.subi v952 c1_i32_550
  let v955 : BitVec 32 := Scalar.select v953 arg2 v954
  let c512_i32_551 : BitVec 32 := 512#32
  let v956 : BitVec 32 := Scalar.muli v955 c512_i32_551
  v956
def k1_mult16 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c3_i32_632 : BitVec 32 := 3#32
  let v1091 : BitVec 32 := Scalar.addi v487 c3_i32_632
  let c512_i32_633 : BitVec 32 := 512#32
  let v1092 : BitVec 32 := Scalar.muli v1091 c512_i32_633
  v1092
def k1_mult17 (i : grid1.Coords) (k1_t2 : Fin (k1_t2_loop i).trips) : BitVec 32 :=
  let c4_i32_251 : BitVec 32 := 4#32
  let c0_i32_171 : BitVec 32 := 0#32
  let arg2 : BitVec 32 := BitVec.ofNat 32 (i 2).val
  let c0_i32_164 : BitVec 32 := 0#32
  let v339 : BitVec 1 := Scalar.cmpi .sgt arg2 c0_i32_164
  let v340 : BitVec 32 := Scalar.extui v339
  let c0_i32_165 : BitVec 32 := 0#32
  let v341 : BitVec 1 := Scalar.cmpi .slt arg2 c0_i32_165
  let v342 : BitVec 32 := Scalar.extui v341
  let v343 : BitVec 32 := Scalar.subi v340 v342
  let c4_i32_163 : BitVec 32 := 4#32
  let c0_i32_166 : BitVec 32 := 0#32
  let v344 : BitVec 1 := Scalar.cmpi .sgt c4_i32_163 c0_i32_166
  let v345 : BitVec 32 := Scalar.extui v344
  let c0_i32_167 : BitVec 32 := 0#32
  let v346 : BitVec 1 := Scalar.cmpi .slt c4_i32_163 c0_i32_167
  let v347 : BitVec 32 := Scalar.extui v346
  let v348 : BitVec 32 := Scalar.subi v345 v347
  let v349 : BitVec 1 := Scalar.cmpi .ne v343 v348
  let v350 : BitVec 32 := Scalar.remsi arg2 c4_i32_163
  let c0_i32_168 : BitVec 32 := 0#32
  let v351 : BitVec 1 := Scalar.cmpi .ne v350 c0_i32_168
  let v352 : BitVec 1 := Scalar.andi v349 v351
  let v338 : BitVec 32 := Scalar.divsi arg2 c4_i32_163
  let c1_i32_169 : BitVec 32 := 1#32
  let v353 : BitVec 32 := Scalar.subi v338 c1_i32_169
  let v354 : BitVec 32 := Scalar.select v352 v353 v338
  let v355 : BitVec 32 := Scalar.subi v354 c0_i32_171
  let c1_i32_172 : BitVec 32 := 1#32
  let v357 : BitVec 32 := Scalar.divsi v355 c1_i32_172
  let v358 : BitVec 32 := Scalar.muli v357 c1_i32_172
  let v359 : BitVec 32 := Scalar.addi c0_i32_171 v358
  let c1_i32_174 : BitVec 32 := 1#32
  let arg15 : BitVec 32 := Scf.iv v359 c1_i32_174 k1_t2
  let v487 : BitVec 32 := Scalar.muli c4_i32_251 arg15
  let c3_i32_676 : BitVec 32 := 3#32
  let v1153 : BitVec 32 := Scalar.addi v487 c3_i32_676
  let c0_i32_677 : BitVec 32 := 0#32
  let v1154 : BitVec 1 := Scalar.cmpi .eq v1153 c0_i32_677
  let c1_i32_678 : BitVec 32 := 1#32
  let v1155 : BitVec 32 := Scalar.subi v1153 c1_i32_678
  let v1156 : BitVec 32 := Scalar.select v1154 arg2 v1155
  let c512_i32_679 : BitVec 32 := 512#32
  let v1157 : BitVec 32 := Scalar.muli v1156 c512_i32_679
  v1157
def k1_cond1 (i : grid1.Coords) : BitVec 1 :=
  let arg2 : BitVec 32 := BitVec.ofNat 32 (i 2).val
  let c4_i32_175 : BitVec 32 := 4#32
  let c0_i32_176 : BitVec 32 := 0#32
  let v360 : BitVec 1 := Scalar.cmpi .eq c4_i32_175 c0_i32_176
  let c1_i32_177 : BitVec 32 := 1#32
  let v361 : BitVec 32 := Scalar.select v360 c1_i32_177 c4_i32_175
  let v362 : BitVec 32 := Scalar.remsi arg2 v361
  let c0_i32_179 : BitVec 32 := 0#32
  let v364 : BitVec 1 := Scalar.cmpi .slt v362 c0_i32_179
  let c0_i32_180 : BitVec 32 := 0#32
  let v365 : BitVec 1 := Scalar.cmpi .slt v361 c0_i32_180
  let v366 : BitVec 1 := Scalar.xori v364 v365
  let c0_i32_178 : BitVec 32 := 0#32
  let v363 : BitVec 1 := Scalar.cmpi .ne v362 c0_i32_178
  let v367 : BitVec 1 := Scalar.andi v366 v363
  let v368 : BitVec 32 := Scalar.addi v362 v361
  let v369 : BitVec 32 := Scalar.select v367 v368 v362
  let c2_i32_181 : BitVec 32 := 2#32
  let v370 : BitVec 1 := Scalar.cmpi .sge v369 c2_i32_181
  let v371 : BitVec 32 := Scalar.extui v370
  let c0_i32_182 : BitVec 32 := 0#32
  let v372 : BitVec 1 := Scalar.cmpi .ne v371 c0_i32_182
  v372

def k1_mult18 (i : grid1.Coords) : BitVec 32 :=
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let c0_i32_259 : BitVec 32 := 0#32
  let v505 : BitVec 32 := Scalar.addi v504 c0_i32_259
  let c512_i32_260 : BitVec 32 := 512#32
  let v506 : BitVec 32 := Scalar.muli v505 c512_i32_260
  v506
def k1_off32 (i : grid1.Coords) (c0_i32_259 : BitVec 32) : Fin 3 → Nat :=
  let c0_261 : Index := 0#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v505 : BitVec 32 := Scalar.addi v504 c0_i32_259
  let c512_i32_260 : BitVec 32 := 512#32
  let v506 : BitVec 32 := Scalar.muli v505 c512_i32_260
  let v507 : BitVec 32 := v506
  let v508 : Index := Scalar.indexCast v507
  let c0_262 : Index := 0#32
  ![0, v508.toNat, 0]
def k1_off33 (i : grid1.Coords) (c0_i32_259 : BitVec 32) : Fin 3 → Nat :=
  let c0_263 : Index := 0#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v505 : BitVec 32 := Scalar.addi v504 c0_i32_259
  let c512_i32_260 : BitVec 32 := 512#32
  let v506 : BitVec 32 := Scalar.muli v505 c512_i32_260
  let v507 : BitVec 32 := v506
  let v511 : Index := Scalar.indexCast v507
  let c0_264 : Index := 0#32
  ![0, v511.toNat, 0]
def k1_off34 (i : grid1.Coords) (c0_i32_259 : BitVec 32) : Fin 3 → Nat :=
  let c0_273 : Index := 0#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v505 : BitVec 32 := Scalar.addi v504 c0_i32_259
  let c512_i32_260 : BitVec 32 := 512#32
  let v506 : BitVec 32 := Scalar.muli v505 c512_i32_260
  let v507 : BitVec 32 := v506
  let v525 : Index := Scalar.indexCast v507
  let c128_274 : Index := 128#32
  ![0, v525.toNat, 128]
def k1_off35 (i : grid1.Coords) (c0_i32_259 : BitVec 32) : Fin 3 → Nat :=
  let c0_283 : Index := 0#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v505 : BitVec 32 := Scalar.addi v504 c0_i32_259
  let c512_i32_260 : BitVec 32 := 512#32
  let v506 : BitVec 32 := Scalar.muli v505 c512_i32_260
  let v507 : BitVec 32 := v506
  let v539 : Index := Scalar.indexCast v507
  let c256_284 : Index := 256#32
  ![0, v539.toNat, 256]
def k1_off36 (i : grid1.Coords) (c0_i32_259 : BitVec 32) : Fin 3 → Nat :=
  let c0_293 : Index := 0#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v505 : BitVec 32 := Scalar.addi v504 c0_i32_259
  let c512_i32_260 : BitVec 32 := 512#32
  let v506 : BitVec 32 := Scalar.muli v505 c512_i32_260
  let v507 : BitVec 32 := v506
  let v553 : Index := Scalar.indexCast v507
  let c384_294 : Index := 384#32
  ![0, v553.toNat, 384]
def k1_mult19 (i : grid1.Coords) : BitVec 32 :=
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let c0_i32_303 : BitVec 32 := 0#32
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  v571
def k1_off37 (i : grid1.Coords) (c0_i32_303 : BitVec 32) : Fin 3 → Nat :=
  let c0_315 : Index := 0#32
  let c0_316 : Index := 0#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v586 : Index := Scalar.indexCast v572
  ![0, 0, v586.toNat]
def k1_off38 (i : grid1.Coords) (c0_i32_303 : BitVec 32) : Fin 3 → Nat :=
  let c0_324 : Index := 0#32
  let c64 : Index := 64#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v601 : Index := Scalar.indexCast v572
  ![0, 64, v601.toNat]
def k1_off39 (i : grid1.Coords) (c0_i32_303 : BitVec 32) : Fin 3 → Nat :=
  let c0_332 : Index := 0#32
  let c128_333 : Index := 128#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v616 : Index := Scalar.indexCast v572
  ![0, 128, v616.toNat]
def k1_off40 (i : grid1.Coords) (c0_i32_303 : BitVec 32) : Fin 3 → Nat :=
  let c0_341 : Index := 0#32
  let c192 : Index := 192#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v631 : Index := Scalar.indexCast v572
  ![0, 192, v631.toNat]
def k1_off41 (i : grid1.Coords) (c0_i32_303 : BitVec 32) : Fin 3 → Nat :=
  let c0_349 : Index := 0#32
  let c256_350 : Index := 256#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v646 : Index := Scalar.indexCast v572
  ![0, 256, v646.toNat]
def k1_off42 (i : grid1.Coords) (c0_i32_303 : BitVec 32) : Fin 3 → Nat :=
  let c0_358 : Index := 0#32
  let c320 : Index := 320#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v661 : Index := Scalar.indexCast v572
  ![0, 320, v661.toNat]
def k1_off43 (i : grid1.Coords) (c0_i32_303 : BitVec 32) : Fin 3 → Nat :=
  let c0_366 : Index := 0#32
  let c384_367 : Index := 384#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v676 : Index := Scalar.indexCast v572
  ![0, 384, v676.toNat]
def k1_off44 (i : grid1.Coords) (c0_i32_303 : BitVec 32) : Fin 3 → Nat :=
  let c0_375 : Index := 0#32
  let c448 : Index := 448#32
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let v567 : BitVec 32 := Scalar.addi v504 c0_i32_303
  let c0_i32_304 : BitVec 32 := 0#32
  let v568 : BitVec 1 := Scalar.cmpi .eq v567 c0_i32_304
  let c1_i32_305 : BitVec 32 := 1#32
  let v569 : BitVec 32 := Scalar.subi v567 c1_i32_305
  let v570 : BitVec 32 := Scalar.select v568 arg2 v569
  let c512_i32_306 : BitVec 32 := 512#32
  let v571 : BitVec 32 := Scalar.muli v570 c512_i32_306
  let v572 : BitVec 32 := v571
  let v691 : Index := Scalar.indexCast v572
  ![0, 448, v691.toNat]
def k1_mult20 (i : grid1.Coords) : BitVec 32 :=
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let c1_i32_383 : BitVec 32 := 1#32
  let v706 : BitVec 32 := Scalar.addi v504 c1_i32_383
  let c512_i32_384 : BitVec 32 := 512#32
  let v707 : BitVec 32 := Scalar.muli v706 c512_i32_384
  v707
def k1_mult21 (i : grid1.Coords) : BitVec 32 :=
  let c4_i32_258 : BitVec 32 := 4#32
  let arg2 : BitVec 32 := BitVec.ofNat 32 (i 2).val
  let c0_i32_252 : BitVec 32 := 0#32
  let v488 : BitVec 1 := Scalar.cmpi .sgt arg2 c0_i32_252
  let v489 : BitVec 32 := Scalar.extui v488
  let c0_i32_253 : BitVec 32 := 0#32
  let v490 : BitVec 1 := Scalar.cmpi .slt arg2 c0_i32_253
  let v491 : BitVec 32 := Scalar.extui v490
  let v492 : BitVec 32 := Scalar.subi v489 v491
  let c4_i32_251 : BitVec 32 := 4#32
  let c0_i32_254 : BitVec 32 := 0#32
  let v493 : BitVec 1 := Scalar.cmpi .sgt c4_i32_251 c0_i32_254
  let v494 : BitVec 32 := Scalar.extui v493
  let c0_i32_255 : BitVec 32 := 0#32
  let v495 : BitVec 1 := Scalar.cmpi .slt c4_i32_251 c0_i32_255
  let v496 : BitVec 32 := Scalar.extui v495
  let v497 : BitVec 32 := Scalar.subi v494 v496
  let v498 : BitVec 1 := Scalar.cmpi .ne v492 v497
  let v499 : BitVec 32 := Scalar.remsi arg2 c4_i32_251
  let c0_i32_256 : BitVec 32 := 0#32
  let v500 : BitVec 1 := Scalar.cmpi .ne v499 c0_i32_256
  let v501 : BitVec 1 := Scalar.andi v498 v500
  let v487 : BitVec 32 := Scalar.divsi arg2 c4_i32_251
  let c1_i32_257 : BitVec 32 := 1#32
  let v502 : BitVec 32 := Scalar.subi v487 c1_i32_257
  let v503 : BitVec 32 := Scalar.select v501 v502 v487
  let v504 : BitVec 32 := Scalar.muli c4_i32_258 v503
  let c1_i32_427 : BitVec 32 := 1#32
  let v768 : BitVec 32 := Scalar.addi v504 c1_i32_427
  let c0_i32_428 : BitVec 32 := 0#32
  let v769 : BitVec 1 := Scalar.cmpi .eq v768 c0_i32_428
  let c1_i32_429 : BitVec 32 := 1#32
  let v770 : BitVec 32 := Scalar.subi v768 c1_i32_429
  let v771 : BitVec 32 := Scalar.select v769 arg2 v770
  let c512_i32_430 : BitVec 32 := 512#32
  let v772 : BitVec 32 := Scalar.muli v771 c512_i32_430
  v772
def k1_cond2 (i : grid1.Coords) : BitVec 1 :=
  let arg2 : BitVec 32 := BitVec.ofNat 32 (i 2).val
  let c2_i32_191 : BitVec 32 := 2#32
  let c0_i32_192 : BitVec 32 := 0#32
  let v391 : BitVec 1 := Scalar.cmpi .eq c2_i32_191 c0_i32_192
  let c1_i32_193 : BitVec 32 := 1#32
  let v392 : BitVec 32 := Scalar.select v391 c1_i32_193 c2_i32_191
  let v393 : BitVec 32 := Scalar.remsi arg2 v392
  let c0_i32_195 : BitVec 32 := 0#32
  let v395 : BitVec 1 := Scalar.cmpi .slt v393 c0_i32_195
  let c0_i32_196 : BitVec 32 := 0#32
  let v396 : BitVec 1 := Scalar.cmpi .slt v392 c0_i32_196
  let v397 : BitVec 1 := Scalar.xori v395 v396
  let c0_i32_194 : BitVec 32 := 0#32
  let v394 : BitVec 1 := Scalar.cmpi .ne v393 c0_i32_194
  let v398 : BitVec 1 := Scalar.andi v397 v394
  let v399 : BitVec 32 := Scalar.addi v393 v392
  let v400 : BitVec 32 := Scalar.select v398 v399 v393
  let c1_i32_197 : BitVec 32 := 1#32
  let v401 : BitVec 1 := Scalar.cmpi .eq v400 c1_i32_197
  let v402 : BitVec 32 := Scalar.extui v401
  let c0_i32_198 : BitVec 32 := 0#32
  let v403 : BitVec 1 := Scalar.cmpi .ne v402 c0_i32_198
  v403

def k1_mult22 (i : grid1.Coords) : BitVec 32 :=
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 32 := Scalar.addi v390 c0_i32_251
  let c512_i32_252 : BitVec 32 := 512#32
  let v488 : BitVec 32 := Scalar.muli v487 c512_i32_252
  v488
def k1_off45 (i : grid1.Coords) : Fin 3 → Nat :=
  let c0_253 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 32 := Scalar.addi v390 c0_i32_251
  let c512_i32_252 : BitVec 32 := 512#32
  let v488 : BitVec 32 := Scalar.muli v487 c512_i32_252
  let v489 : BitVec 32 := v488
  let v490 : Index := Scalar.indexCast v489
  let c0_254 : Index := 0#32
  ![0, v490.toNat, 0]
def k1_off46 (i : grid1.Coords) : Fin 3 → Nat :=
  let c0_255 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 32 := Scalar.addi v390 c0_i32_251
  let c512_i32_252 : BitVec 32 := 512#32
  let v488 : BitVec 32 := Scalar.muli v487 c512_i32_252
  let v489 : BitVec 32 := v488
  let v493 : Index := Scalar.indexCast v489
  let c0_256 : Index := 0#32
  ![0, v493.toNat, 0]
def k1_off47 (i : grid1.Coords) : Fin 3 → Nat :=
  let c0_265 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 32 := Scalar.addi v390 c0_i32_251
  let c512_i32_252 : BitVec 32 := 512#32
  let v488 : BitVec 32 := Scalar.muli v487 c512_i32_252
  let v489 : BitVec 32 := v488
  let v507 : Index := Scalar.indexCast v489
  let c128_266 : Index := 128#32
  ![0, v507.toNat, 128]
def k1_off48 (i : grid1.Coords) : Fin 3 → Nat :=
  let c0_275 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 32 := Scalar.addi v390 c0_i32_251
  let c512_i32_252 : BitVec 32 := 512#32
  let v488 : BitVec 32 := Scalar.muli v487 c512_i32_252
  let v489 : BitVec 32 := v488
  let v521 : Index := Scalar.indexCast v489
  let c256_276 : Index := 256#32
  ![0, v521.toNat, 256]
def k1_off49 (i : grid1.Coords) : Fin 3 → Nat :=
  let c0_285 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 32 := Scalar.addi v390 c0_i32_251
  let c512_i32_252 : BitVec 32 := 512#32
  let v488 : BitVec 32 := Scalar.muli v487 c512_i32_252
  let v489 : BitVec 32 := v488
  let v535 : Index := Scalar.indexCast v489
  let c384_286 : Index := 384#32
  ![0, v535.toNat, 384]
def k1_mult23 (i : grid1.Coords) : BitVec 32 :=
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_295 : BitVec 32 := 0#32
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  v553
def k1_off50 (i : grid1.Coords) (c0_i32_295 : BitVec 32) : Fin 3 → Nat :=
  let c0_307 : Index := 0#32
  let c0_308 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v568 : Index := Scalar.indexCast v554
  ![0, 0, v568.toNat]
def k1_off51 (i : grid1.Coords) (c0_i32_295 : BitVec 32) : Fin 3 → Nat :=
  let c0_316 : Index := 0#32
  let c64 : Index := 64#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v583 : Index := Scalar.indexCast v554
  ![0, 64, v583.toNat]
def k1_off52 (i : grid1.Coords) (c0_i32_295 : BitVec 32) : Fin 3 → Nat :=
  let c0_324 : Index := 0#32
  let c128_325 : Index := 128#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v598 : Index := Scalar.indexCast v554
  ![0, 128, v598.toNat]
def k1_off53 (i : grid1.Coords) (c0_i32_295 : BitVec 32) : Fin 3 → Nat :=
  let c0_333 : Index := 0#32
  let c192 : Index := 192#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v613 : Index := Scalar.indexCast v554
  ![0, 192, v613.toNat]
def k1_off54 (i : grid1.Coords) (c0_i32_295 : BitVec 32) : Fin 3 → Nat :=
  let c0_341 : Index := 0#32
  let c256_342 : Index := 256#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v628 : Index := Scalar.indexCast v554
  ![0, 256, v628.toNat]
def k1_off55 (i : grid1.Coords) (c0_i32_295 : BitVec 32) : Fin 3 → Nat :=
  let c0_350 : Index := 0#32
  let c320 : Index := 320#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v643 : Index := Scalar.indexCast v554
  ![0, 320, v643.toNat]
def k1_off56 (i : grid1.Coords) (c0_i32_295 : BitVec 32) : Fin 3 → Nat :=
  let c0_358 : Index := 0#32
  let c384_359 : Index := 384#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v658 : Index := Scalar.indexCast v554
  ![0, 384, v658.toNat]
def k1_off57 (i : grid1.Coords) (c0_i32_295 : BitVec 32) : Fin 3 → Nat :=
  let c0_367 : Index := 0#32
  let c448 : Index := 448#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let v549 : BitVec 32 := Scalar.addi v390 c0_i32_295
  let c0_i32_296 : BitVec 32 := 0#32
  let v550 : BitVec 1 := Scalar.cmpi .eq v549 c0_i32_296
  let c1_i32_297 : BitVec 32 := 1#32
  let v551 : BitVec 32 := Scalar.subi v549 c1_i32_297
  let v552 : BitVec 32 := Scalar.select v550 arg2 v551
  let c512_i32_298 : BitVec 32 := 512#32
  let v553 : BitVec 32 := Scalar.muli v552 c512_i32_298
  let v554 : BitVec 32 := v553
  let v673 : Index := Scalar.indexCast v554
  ![0, 448, v673.toNat]
def k1_mult24 (i : grid1.Coords) : BitVec 32 :=
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c1_i32_375 : BitVec 32 := 1#32
  let v688 : BitVec 32 := Scalar.addi v390 c1_i32_375
  let c0_i32_376 : BitVec 32 := 0#32
  let v689 : BitVec 1 := Scalar.cmpi .eq v688 c0_i32_376
  let c1_i32_377 : BitVec 32 := 1#32
  let v690 : BitVec 32 := Scalar.subi v688 c1_i32_377
  let v691 : BitVec 32 := Scalar.select v689 arg2 v690
  let c512_i32_378 : BitVec 32 := 512#32
  let v692 : BitVec 32 := Scalar.muli v691 c512_i32_378
  v692
def k1_cond3 (i : grid1.Coords) : BitVec 1 :=
  let arg2 : BitVec 32 := BitVec.ofNat 32 (i 2).val
  let c2_i32_199 : BitVec 32 := 2#32
  let c0_i32_200 : BitVec 32 := 0#32
  let v404 : BitVec 1 := Scalar.cmpi .eq c2_i32_199 c0_i32_200
  let c1_i32_201 : BitVec 32 := 1#32
  let v405 : BitVec 32 := Scalar.select v404 c1_i32_201 c2_i32_199
  let v406 : BitVec 32 := Scalar.remsi arg2 v405
  let c0_i32_203 : BitVec 32 := 0#32
  let v408 : BitVec 1 := Scalar.cmpi .slt v406 c0_i32_203
  let c0_i32_204 : BitVec 32 := 0#32
  let v409 : BitVec 1 := Scalar.cmpi .slt v405 c0_i32_204
  let v410 : BitVec 1 := Scalar.xori v408 v409
  let c0_i32_202 : BitVec 32 := 0#32
  let v407 : BitVec 1 := Scalar.cmpi .ne v406 c0_i32_202
  let v411 : BitVec 1 := Scalar.andi v410 v407
  let v412 : BitVec 32 := Scalar.addi v406 v405
  let v413 : BitVec 32 := Scalar.select v411 v412 v406
  let c0_i32_205 : BitVec 32 := 0#32
  let v414 : BitVec 1 := Scalar.cmpi .eq v413 c0_i32_205
  let v415 : BitVec 32 := Scalar.extui v414
  let c0_i32_206 : BitVec 32 := 0#32
  let v416 : BitVec 1 := Scalar.cmpi .ne v415 c0_i32_206
  v416

def k1_mult25 (i : grid1.Coords) : BitVec 32 :=
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  v490
def k1_off58 (i : grid1.Coords) : Fin 3 → Nat :=
  let c0_262 : Index := 0#32
  let c0_263 : Index := 0#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v505 : Index := Scalar.indexCast v491
  ![0, 0, v505.toNat]
def k1_off59 (i : grid1.Coords) : Fin 3 → Nat :=
  let c0_271 : Index := 0#32
  let c64 : Index := 64#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v520 : Index := Scalar.indexCast v491
  ![0, 64, v520.toNat]
def k1_off60 (i : grid1.Coords) : Fin 3 → Nat :=
  let c0_279 : Index := 0#32
  let c128_280 : Index := 128#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v535 : Index := Scalar.indexCast v491
  ![0, 128, v535.toNat]
def k1_off61 (i : grid1.Coords) : Fin 3 → Nat :=
  let c0_288 : Index := 0#32
  let c192 : Index := 192#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v550 : Index := Scalar.indexCast v491
  ![0, 192, v550.toNat]
def k1_off62 (i : grid1.Coords) : Fin 3 → Nat :=
  let c0_296 : Index := 0#32
  let c256_297 : Index := 256#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v565 : Index := Scalar.indexCast v491
  ![0, 256, v565.toNat]
def k1_off63 (i : grid1.Coords) : Fin 3 → Nat :=
  let c0_305 : Index := 0#32
  let c320 : Index := 320#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v580 : Index := Scalar.indexCast v491
  ![0, 320, v580.toNat]
def k1_off64 (i : grid1.Coords) : Fin 3 → Nat :=
  let c0_313 : Index := 0#32
  let c384_314 : Index := 384#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v595 : Index := Scalar.indexCast v491
  ![0, 384, v595.toNat]
def k1_off65 (i : grid1.Coords) : Fin 3 → Nat :=
  let c0_322 : Index := 0#32
  let c448 : Index := 448#32
  let c2_i32_190 : BitVec 32 := 2#32
  let arg2 : BitVec 32 := BitVec.ofNat 32 (i 2).val
  let c0_i32_184 : BitVec 32 := 0#32
  let v374 : BitVec 1 := Scalar.cmpi .sgt arg2 c0_i32_184
  let v375 : BitVec 32 := Scalar.extui v374
  let c0_i32_185 : BitVec 32 := 0#32
  let v376 : BitVec 1 := Scalar.cmpi .slt arg2 c0_i32_185
  let v377 : BitVec 32 := Scalar.extui v376
  let v378 : BitVec 32 := Scalar.subi v375 v377
  let c2_i32_183 : BitVec 32 := 2#32
  let c0_i32_186 : BitVec 32 := 0#32
  let v379 : BitVec 1 := Scalar.cmpi .sgt c2_i32_183 c0_i32_186
  let v380 : BitVec 32 := Scalar.extui v379
  let c0_i32_187 : BitVec 32 := 0#32
  let v381 : BitVec 1 := Scalar.cmpi .slt c2_i32_183 c0_i32_187
  let v382 : BitVec 32 := Scalar.extui v381
  let v383 : BitVec 32 := Scalar.subi v380 v382
  let v384 : BitVec 1 := Scalar.cmpi .ne v378 v383
  let v385 : BitVec 32 := Scalar.remsi arg2 c2_i32_183
  let c0_i32_188 : BitVec 32 := 0#32
  let v386 : BitVec 1 := Scalar.cmpi .ne v385 c0_i32_188
  let v387 : BitVec 1 := Scalar.andi v384 v386
  let v373 : BitVec 32 := Scalar.divsi arg2 c2_i32_183
  let c1_i32_189 : BitVec 32 := 1#32
  let v388 : BitVec 32 := Scalar.subi v373 c1_i32_189
  let v389 : BitVec 32 := Scalar.select v387 v388 v373
  let v390 : BitVec 32 := Scalar.muli c2_i32_190 v389
  let c0_i32_251 : BitVec 32 := 0#32
  let v487 : BitVec 1 := Scalar.cmpi .eq v390 c0_i32_251
  let c1_i32_252 : BitVec 32 := 1#32
  let v488 : BitVec 32 := Scalar.subi v390 c1_i32_252
  let v489 : BitVec 32 := Scalar.select v487 arg2 v488
  let c512_i32_253 : BitVec 32 := 512#32
  let v490 : BitVec 32 := Scalar.muli v489 c512_i32_253
  let v491 : BitVec 32 := v490
  let v610 : Index := Scalar.indexCast v491
  ![0, 448, v610.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S1x8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, false]

abbrev stage1_2 : Fin 1 → Memref sig .tc .vmem S1x8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false, false]

abbrev stage1_3 : Fin 1 → Memref sig .tc .vmem S1x512x8192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, false]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "mask" => some ⊥
  | "neg_log2e" => some ((-((Real.log 2)⁻¹) : ℝ) : EReal)
  | "q_scale" => some (((Real.log 2)⁻¹ * (1 / 8) : ℝ) : EReal)
  | _ => none
-- ==== ReferenceIdeal.lean ====
abbrev S8x8192x1024 : Shape := ⟨3, ![8, 8192, 1024]⟩
abbrev S8x8192x16 : Shape := ⟨3, ![8, 8192, 16]⟩
abbrev S8x8192x16x64 : Shape := ⟨4, ![8, 8192, 16, 64]⟩
abbrev S_ : Shape := ⟨0, ![]⟩
abbrev S8x16x8192x8192 : Shape := ⟨4, ![8, 16, 8192, 8192]⟩
abbrev S8x16x8192 : Shape := ⟨3, ![8, 16, 8192]⟩
abbrev S8x16x8192x1 : Shape := ⟨4, ![8, 16, 8192, 1]⟩
abbrev S8x16x1x8192 : Shape := ⟨4, ![8, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x16x64x8192 : Shape := ⟨4, ![8, 16, 64, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x8192x16, .f32⟩
  | .hbm, ⟨4, _⟩ => ⟨S8x8192x16x64, .f32⟩
  | .hbm, ⟨5, _⟩ => ⟨S8x8192x16x64, .f32⟩
  | .hbm, ⟨6, _⟩ => ⟨S8x8192x16x64, .f32⟩
  | .hbm, ⟨7, _⟩ => ⟨S_, .f32⟩
  | .hbm, ⟨8, _⟩ => ⟨S_, .f32⟩
  | .hbm, ⟨9, _⟩ => ⟨S8x8192x16, .f32⟩
  | .hbm, ⟨10, _⟩ => ⟨S8x16x8192x8192, .f32⟩
  | .hbm, ⟨11, _⟩ => ⟨S_, .f32⟩
  | .hbm, ⟨12, _⟩ => ⟨S8x16x8192x8192, .f32⟩
  | .hbm, ⟨13, _⟩ => ⟨S8x16x8192x8192, .f32⟩
  | .hbm, ⟨14, _⟩ => ⟨S8x16x8192, .f32⟩
  | .hbm, ⟨15, _⟩ => ⟨S8x16x8192x1, .f32⟩
  | .hbm, ⟨16, _⟩ => ⟨S8x16x1x8192, .f32⟩
  | .hbm, ⟨17, _⟩ => ⟨S8x16x8192x8192, .f32⟩
  | .hbm, ⟨18, _⟩ => ⟨S8x16x8192x8192, .f32⟩
  | .hbm, ⟨19, _⟩ => ⟨S8x16x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8x16x8192x8192, .f32⟩
  | .hbm, ⟨27, _⟩ => ⟨S_, .f32⟩
  | .hbm, ⟨28, _⟩ => ⟨S_, .f32⟩
  | .hbm, ⟨29, _⟩ => ⟨S8x16x8192x8192, .i1⟩
  | .hbm, ⟨30, _⟩ => ⟨S8x16x8192x8192, .f32⟩
  | .hbm, ⟨31, _⟩ => ⟨S8x16x8192x8192, .f32⟩
  | .hbm, ⟨32, _⟩ => ⟨S_, .f32⟩
  | .hbm, ⟨33, _⟩ => ⟨S8x16x8192, .f32⟩
  | .hbm, ⟨34, _⟩ => ⟨S_, .f32⟩
  | .hbm, ⟨35, _⟩ => ⟨S8x16x8192, .f32⟩
  | .hbm, ⟨36, _⟩ => ⟨S8x16x8192, .f32⟩
  | .hbm, ⟨37, _⟩ => ⟨S8x16x8192x1, .f32⟩
  | .hbm, ⟨38, _⟩ => ⟨S8x16x8192x8192, .f32⟩
  | .hbm, ⟨39, _⟩ => ⟨S8x16x8192x8192, .f32⟩
  | .hbm, ⟨40, _⟩ => ⟨S8x16x8192x8192, .f32⟩
  | .hbm, ⟨41, _⟩ => ⟨S_, .f32⟩
  | .hbm, ⟨42, _⟩ => ⟨S8x16x8192, .f32⟩
  | .hbm, ⟨43, _⟩ => ⟨S8x16x8192x1, .f32⟩
  | .hbm, ⟨44, _⟩ => ⟨S8x16x8192x8192, .f32⟩
  | .hbm, ⟨45, _⟩ => ⟨S8x16x8192x8192, .f32⟩
  | .hbm, ⟨46, _⟩ => ⟨S8x16x64x8192, .f32⟩
  | .hbm, ⟨47, _⟩ => ⟨S8x8192x16x64, .f32⟩
  | .hbm, ⟨48, _⟩ => ⟨S8x8192x1024, .f32⟩
  | .hbm, ⟨49, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Inproj.lean ====
abbrev S8x8192x1024 : Shape := ⟨3, ![8, 8192, 1024]⟩
abbrev S1024 : Shape := ⟨1, ![1024]⟩
abbrev S1024x7184 : Shape := ⟨2, ![1024, 7184]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S65536x1024 : Shape := ⟨2, ![65536, 1024]⟩
abbrev S1x1024 : Shape := ⟨2, ![1, 1024]⟩
abbrev S16x1 : Shape := ⟨2, ![16, 1]⟩
abbrev S8x1024x8192 : Shape := ⟨3, ![8, 1024, 8192]⟩
abbrev S8x16x8192 : Shape := ⟨3, ![8, 16, 8192]⟩
abbrev S512x1024 : Shape := ⟨2, ![512, 1024]⟩
abbrev S1x1024x512 : Shape := ⟨3, ![1, 1024, 512]⟩
abbrev S1x16x512 : Shape := ⟨3, ![1, 16, 512]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x128 : Shape := ⟨2, ![256, 128]⟩
abbrev S128x256 : Shape := ⟨2, ![128, 256]⟩
abbrev S16x256 : Shape := ⟨2, ![16, 256]⟩
abbrev S1x1024x256 : Shape := ⟨3, ![1, 1024, 256]⟩
abbrev S1x16x256 : Shape := ⟨3, ![1, 16, 256]⟩

abbrev nBuf : Space → Nat
  | .hbm => 30
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1024x7184, .f32⟩
  | .hbm, ⟨4, _⟩ => ⟨S16, .f32⟩
  | .hbm, ⟨5, _⟩ => ⟨S1024x7184, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x16, .bf16⟩
  | .hbm, ⟨12, _⟩ => ⟨S1024x1024, .bf16⟩
  | .hbm, ⟨13, _⟩ => ⟨S1024x1024, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S65536x1024, .f32⟩
  | .hbm, ⟨18, _⟩ => ⟨S1x1024, .f32⟩
  | .hbm, ⟨19, _⟩ => ⟨S1x1024, .f32⟩
  | .hbm, ⟨20, _⟩ => ⟨S16x1, .f32⟩
  | .hbm, ⟨21, _⟩ => ⟨S65536x1024, .f32⟩
  | .hbm, ⟨22, _⟩ => ⟨S65536x1024, .f32⟩
  | .hbm, ⟨23, _⟩ => ⟨S8x1024x8192, .f32⟩
  | .hbm, ⟨24, _⟩ => ⟨S8x1024x8192, .f32⟩
  | .hbm, ⟨25, _⟩ => ⟨S8x16x8192, .f32⟩
  | .hbm, ⟨26, _⟩ => ⟨S65536x1024, .bf16⟩
  | .hbm, ⟨27, _⟩ => ⟨S65536x1024, .bf16⟩
  | .hbm, ⟨28, _⟩ => ⟨S65536x1024, .bf16⟩
  | .hbm, ⟨29, _⟩ => ⟨S8x1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S16x1, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x16x512, .f32⟩
  | .local _ .vmem, ⟨22, _⟩ => ⟨S1x16x512, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1x1024x512, .bf16⟩
  | .local _ .vmem, ⟨30, _⟩ => ⟨S1x1024x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev main_v14_6 : Ref sig .tc := ⟨.hbm, 27, rfl⟩
abbrev main_v14_7 : Ref sig .tc := ⟨.hbm, 28, rfl⟩
abbrev main_v14_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InprojReferenceIdeal.lean ====
abbrev S8x8192x1024 : Shape := ⟨3, ![8, 8192, 1024]⟩
abbrev S1024 : Shape := ⟨1, ![1024]⟩
abbrev S1024x7184 : Shape := ⟨2, ![1024, 7184]⟩
abbrev S16 : Shape := ⟨1, ![16]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x7184 : Shape := ⟨3, ![8, 8192, 7184]⟩
abbrev S8x8192x16 : Shape := ⟨3, ![8, 8192, 16]⟩
abbrev S1x1x16 : Shape := ⟨3, ![1, 1, 16]⟩
abbrev S65536x1024 : Shape := ⟨2, ![65536, 1024]⟩
abbrev S8x1024x8192 : Shape := ⟨3, ![8, 1024, 8192]⟩
abbrev S8x16x8192 : Shape := ⟨3, ![8, 16, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1024x7184, .f32⟩
  | .hbm, ⟨4, _⟩ => ⟨S16, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S8x8192x7184, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x16, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S_, .f32⟩
  | .hbm, ⟨46, _⟩ => ⟨S8x8192x1024, .f32⟩
  | .hbm, ⟨47, _⟩ => ⟨S8x8192x1024, .f32⟩
  | .hbm, ⟨48, _⟩ => ⟨S_, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S1x1x16, .f32⟩
  | .hbm, ⟨53, _⟩ => ⟨S8x8192x16, .f32⟩
  | .hbm, ⟨54, _⟩ => ⟨S8x8192x16, .f32⟩
  | .hbm, ⟨55, _⟩ => ⟨S8x8192x16, .f32⟩
  | .hbm, ⟨56, _⟩ => ⟨S_, .f32⟩
  | .hbm, ⟨57, _⟩ => ⟨S8x8192x16, .f32⟩
  | .hbm, ⟨58, _⟩ => ⟨S8x8192x16, .f32⟩
  | .hbm, ⟨59, _⟩ => ⟨S8x8192x16, .f32⟩
  | .hbm, ⟨60, _⟩ => ⟨S8x8192x16, .f32⟩
  | .hbm, ⟨61, _⟩ => ⟨S8x8192x16, .i1⟩
  | .hbm, ⟨62, _⟩ => ⟨S8x8192x16, .f32⟩
  | .hbm, ⟨63, _⟩ => ⟨S8x8192x16, .f32⟩
  | .hbm, ⟨64, _⟩ => ⟨S8x8192x16, .f32⟩
  | .hbm, ⟨65, _⟩ => ⟨S8x8192x16, .f32⟩
  | .hbm, ⟨66, _⟩ => ⟨S8x8192x16, .f32⟩
  | .hbm, ⟨67, _⟩ => ⟨S8x8192x16, .f32⟩
  | .hbm, ⟨68, _⟩ => ⟨S8x8192x16, .f32⟩
  | .hbm, ⟨69, _⟩ => ⟨S8x8192x16, .f32⟩
  | .hbm, ⟨70, _⟩ => ⟨S8x8192x16, .f32⟩
  | .hbm, ⟨71, _⟩ => ⟨S65536x1024, .f32⟩
  | .hbm, ⟨72, _⟩ => ⟨S65536x1024, .f32⟩
  | .hbm, ⟨73, _⟩ => ⟨S8x1024x8192, .f32⟩
  | .hbm, ⟨74, _⟩ => ⟨S8x1024x8192, .f32⟩
  | .hbm, ⟨75, _⟩ => ⟨S8x16x8192, .f32⟩
  | .hbm, ⟨76, _⟩ => ⟨S8x8192x1024, .f32⟩
  | .hbm, ⟨77, _⟩ => ⟨S8x8192x1024, .f32⟩
  | .hbm, ⟨78, _⟩ => ⟨S_, .f32⟩
  | .hbm, ⟨79, _⟩ => ⟨S8x8192x1024, .f32⟩
  | .hbm, ⟨80, _⟩ => ⟨S8x8192x1024, .f32⟩
  | .hbm, ⟨81, _⟩ => ⟨S_, .f32⟩
  | .hbm, ⟨82, _⟩ => ⟨S8x8192x1024, .f32⟩
  | .hbm, ⟨83, _⟩ => ⟨S8x8192x1024, .f32⟩
  | .hbm, ⟨84, _⟩ => ⟨S65536x1024, .f32⟩
  | .hbm, ⟨85, _⟩ => ⟨S65536x1024, .bf16⟩
  | .hbm, ⟨86, _⟩ => ⟨S8x8192x1024, .f32⟩
  | .hbm, ⟨87, _⟩ => ⟨S8x8192x1024, .f32⟩
  | .hbm, ⟨88, _⟩ => ⟨S_, .f32⟩
  | .hbm, ⟨89, _⟩ => ⟨S8x8192x1024, .f32⟩
  | .hbm, ⟨90, _⟩ => ⟨S8x8192x1024, .f32⟩
  | .hbm, ⟨91, _⟩ => ⟨S_, .f32⟩
  | .hbm, ⟨92, _⟩ => ⟨S8x8192x1024, .f32⟩
  | .hbm, ⟨93, _⟩ => ⟨S8x8192x1024, .f32⟩
  | .hbm, ⟨94, _⟩ => ⟨S65536x1024, .f32⟩
  | .hbm, ⟨95, _⟩ => ⟨S65536x1024, .bf16⟩
  | .hbm, ⟨96, _⟩ => ⟨S65536x1024, .f32⟩
  | .hbm, ⟨97, _⟩ => ⟨S65536x1024, .bf16⟩
  | .hbm, ⟨98, _⟩ => ⟨S8x1024x8192, .f32⟩
  | .hbm, ⟨99, _⟩ => ⟨S8x1024x8192, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Ffn.lean ====
abbrev S8x8192x1024 : Shape := ⟨3, ![8, 8192, 1024]⟩
abbrev S8x8192x256 : Shape := ⟨3, ![8, 8192, 256]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S8x2x2816 : Shape := ⟨3, ![8, 2, 2816]⟩
abbrev S1024x2816 : Shape := ⟨2, ![1024, 2816]⟩
abbrev S1x2816 : Shape := ⟨2, ![1, 2816]⟩
abbrev S1x1024 : Shape := ⟨2, ![1, 1024]⟩
abbrev S8x8x2816 : Shape := ⟨3, ![8, 8, 2816]⟩
abbrev S1x256x1024 : Shape := ⟨3, ![1, 256, 1024]⟩
abbrev S1x256x256 : Shape := ⟨3, ![1, 256, 256]⟩
abbrev S1x8x2816 : Shape := ⟨3, ![1, 8, 2816]⟩
abbrev S264x2816 : Shape := ⟨2, ![264, 2816]⟩
abbrev S8x2816 : Shape := ⟨2, ![8, 2816]⟩
abbrev S256x2816 : Shape := ⟨2, ![256, 2816]⟩
abbrev S256x256 : Shape := ⟨2, ![256, 256]⟩
abbrev S256 : Shape := ⟨1, ![256]⟩
abbrev S256x1 : Shape := ⟨2, ![256, 1]⟩

abbrev nBuf : Space → Nat
  | .hbm => 26
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .bf16⟩
  | .hbm, ⟨11, _⟩ => ⟨S_, .f32⟩
  | .hbm, ⟨12, _⟩ => ⟨S8x2x2816, .f32⟩
  | .hbm, ⟨13, _⟩ => ⟨S1024x2816, .bf16⟩
  | .hbm, ⟨14, _⟩ => ⟨S1024x2816, .bf16⟩
  | .hbm, ⟨15, _⟩ => ⟨S1x2816, .f32⟩
  | .hbm, ⟨16, _⟩ => ⟨S2816x1024, .bf16⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S1x1024, .f32⟩
  | .hbm, ⟨21, _⟩ => ⟨S_, .i32⟩
  | .hbm, ⟨22, _⟩ => ⟨S_, .f32⟩
  | .hbm, ⟨23, _⟩ => ⟨S8x8x2816, .f32⟩
  | .hbm, ⟨24, _⟩ => ⟨S8x8192x1024, .f32⟩
  | .hbm, ⟨25, _⟩ => ⟨S8x8x2816, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x8x2816, .f32⟩
  | .local _ .vmem, ⟨5, _⟩ => ⟨S1x8x2816, .f32⟩
  | .local _ .vmem, ⟨6, _⟩ => ⟨S1024x2816, .bf16⟩
  | .local _ .vmem, ⟨7, _⟩ => ⟨S1024x2816, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x8x2816, .f32⟩
  | .local _ .vmem, ⟨18, _⟩ => ⟨S1x8x2816, .f32⟩
  | .local _ .vmem, ⟨19, _⟩ => ⟨S264x2816, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnReferenceIdeal.lean ====
abbrev S8x8192x1024 : Shape := ⟨3, ![8, 8192, 1024]⟩
abbrev S8x8192x256 : Shape := ⟨3, ![8, 8192, 256]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S8x8192x5632 : Shape := ⟨3, ![8, 8192, 5632]⟩
abbrev S8x8192x2816 : Shape := ⟨3, ![8, 8192, 2816]⟩
abbrev S_ : Shape := ⟨0, ![]⟩
abbrev S8x2x2816 : Shape := ⟨3, ![8, 2, 2816]⟩
abbrev S8x8194x2816 : Shape := ⟨3, ![8, 8194, 2816]⟩
abbrev S1x2816 : Shape := ⟨2, ![1, 2816]⟩
abbrev S1x1x2816 : Shape := ⟨3, ![1, 1, 2816]⟩
abbrev S8x8192 : Shape := ⟨2, ![8, 8192]⟩
abbrev S8x8192x1 : Shape := ⟨3, ![8, 8192, 1]⟩
abbrev S1x1x1024 : Shape := ⟨3, ![1, 1, 1024]⟩
abbrev S8x8x2816 : Shape := ⟨3, ![8, 8, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8x8192x5632, .f32⟩
  | .hbm, ⟨11, _⟩ => ⟨S8x8192x2816, .f32⟩
  | .hbm, ⟨12, _⟩ => ⟨S8x8192x2816, .f32⟩
  | .hbm, ⟨13, _⟩ => ⟨S_, .f32⟩
  | .hbm, ⟨14, _⟩ => ⟨S8x2x2816, .f32⟩
  | .hbm, ⟨15, _⟩ => ⟨S8x8194x2816, .f32⟩
  | .hbm, ⟨16, _⟩ => ⟨S8x8192x2816, .f32⟩
  | .hbm, ⟨17, _⟩ => ⟨S1x2816, .f32⟩
  | .hbm, ⟨18, _⟩ => ⟨S2816, .f32⟩
  | .hbm, ⟨19, _⟩ => ⟨S1x1x2816, .f32⟩
  | .hbm, ⟨20, _⟩ => ⟨S8x8192x2816, .f32⟩
  | .hbm, ⟨21, _⟩ => ⟨S8x8192x2816, .f32⟩
  | .hbm, ⟨22, _⟩ => ⟨S8x8192x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S8x8192x2816, .f32⟩
  | .hbm, ⟨27, _⟩ => ⟨S8x8192x2816, .f32⟩
  | .hbm, ⟨28, _⟩ => ⟨S8x8192x2816, .f32⟩
  | .hbm, ⟨29, _⟩ => ⟨S8x8192x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S8x8192x2816, .f32⟩
  | .hbm, ⟨34, _⟩ => ⟨S8x8192x2816, .f32⟩
  | .hbm, ⟨35, _⟩ => ⟨S8x8192x2816, .f32⟩
  | .hbm, ⟨36, _⟩ => ⟨S1x1x2816, .f32⟩
  | .hbm, ⟨37, _⟩ => ⟨S8x8192x2816, .f32⟩
  | .hbm, ⟨38, _⟩ => ⟨S8x8192x2816, .f32⟩
  | .hbm, ⟨39, _⟩ => ⟨S8x8192x2816, .f32⟩
  | .hbm, ⟨40, _⟩ => ⟨S8x8192x2816, .f32⟩
  | .hbm, ⟨41, _⟩ => ⟨S_, .f32⟩
  | .hbm, ⟨42, _⟩ => ⟨S8x8192x2816, .f32⟩
  | .hbm, ⟨43, _⟩ => ⟨S8x8192x2816, .f32⟩
  | .hbm, ⟨44, _⟩ => ⟨S_, .f32⟩
  | .hbm, ⟨45, _⟩ => ⟨S8x8192x2816, .f32⟩
  | .hbm, ⟨46, _⟩ => ⟨S8x8192x2816, .f32⟩
  | .hbm, ⟨47, _⟩ => ⟨S8x8192x2816, .f32⟩
  | .hbm, ⟨48, _⟩ => ⟨S8x8192x2816, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S_, .f32⟩
  | .hbm, ⟨54, _⟩ => ⟨S8x8192x1024, .f32⟩
  | .hbm, ⟨55, _⟩ => ⟨S8x8192x1024, .f32⟩
  | .hbm, ⟨56, _⟩ => ⟨S_, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S_, .f32⟩
  | .hbm, ⟨62, _⟩ => ⟨S8x8192x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S_, .f32⟩
  | .hbm, ⟨76, _⟩ => ⟨S8x8192, .f32⟩
  | .hbm, ⟨77, _⟩ => ⟨S8x8192x1, .f32⟩
  | .hbm, ⟨78, _⟩ => ⟨S_, .f32⟩
  | .hbm, ⟨79, _⟩ => ⟨S8x8192x1, .f32⟩
  | .hbm, ⟨80, _⟩ => ⟨S8x8192x1, .f32⟩
  | .hbm, ⟨81, _⟩ => ⟨S8x8192x1024, .f32⟩
  | .hbm, ⟨82, _⟩ => ⟨S8x8192x1024, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S8x8192x1, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | .hbm, ⟨92, _⟩ => ⟨S1x1x1024, .f32⟩
  | .hbm, ⟨93, _⟩ => ⟨S8x8192x1024, .f32⟩
  | .hbm, ⟨94, _⟩ => ⟨S8x8192x1024, .f32⟩
  | .hbm, ⟨95, _⟩ => ⟨S8x8x2816, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Merge.lean ====
abbrev S8x8192x1024 : Shape := ⟨3, ![8, 8192, 1024]⟩
abbrev S1024 : Shape := ⟨1, ![1024]⟩
abbrev S65536x1024 : Shape := ⟨2, ![65536, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S8x8192x1024, .bf16⟩
  | .hbm, ⟨4, _⟩ => ⟨S8x8192x1024, .bf16⟩
  | .hbm, ⟨5, _⟩ => ⟨S65536x1024, .bf16⟩
  | .hbm, ⟨6, _⟩ => ⟨S65536x1024, .bf16⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S65536x1024, .f32⟩
  | .hbm, ⟨12, _⟩ => ⟨S1x1024, .f32⟩
  | .hbm, ⟨13, _⟩ => ⟨S1x1024, .f32⟩
  | .hbm, ⟨14, _⟩ => ⟨S65536x1024, .bf16⟩
  | .hbm, ⟨15, _⟩ => ⟨S65536x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S8x8192x1024 : Shape := ⟨3, ![8, 8192, 1024]⟩
abbrev S1024 : Shape := ⟨1, ![1024]⟩
abbrev S65536x1024 : Shape := ⟨2, ![65536, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S8x8192x1024, .bf16⟩
  | .hbm, ⟨4, _⟩ => ⟨S8x8192x1024, .bf16⟩
  | .hbm, ⟨5, _⟩ => ⟨S65536x1024, .bf16⟩
  | .hbm, ⟨6, _⟩ => ⟨S65536x1024, .bf16⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x8192x1024, .f32⟩
  | .hbm, ⟨33, _⟩ => ⟨S8x8192x1024, .f32⟩
  | .hbm, ⟨34, _⟩ => ⟨S1x1x1024, .f32⟩
  | .hbm, ⟨35, _⟩ => ⟨S8x8192x1024, .f32⟩
  | .hbm, ⟨36, _⟩ => ⟨S8x8192x1024, .f32⟩
  | .hbm, ⟨37, _⟩ => ⟨S1x1x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S65536x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S65536x1024, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S_, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x8192x1024, .f32⟩
  | .hbm, ⟨71, _⟩ => ⟨S8x8192x1024, .f32⟩
  | .hbm, ⟨72, _⟩ => ⟨S_, .f32⟩
  | .hbm, ⟨73, _⟩ => ⟨S8x8192x1, .f32⟩
  | .hbm, ⟨74, _⟩ => ⟨S8x8192x1, .f32⟩
  | .hbm, ⟨75, _⟩ => ⟨S8x8192x1, .f32⟩
  | .hbm, ⟨76, _⟩ => ⟨S8x8192x1024, .f32⟩
  | .hbm, ⟨77, _⟩ => ⟨S8x8192x1024, .f32⟩
  | .hbm, ⟨78, _⟩ => ⟨S1x1x1024, .f32⟩
  | .hbm, ⟨79, _⟩ => ⟨S8x8192x1024, .f32⟩
  | .hbm, ⟨80, _⟩ => ⟨S8x8192x1024, .f32⟩
  | .hbm, ⟨81, _⟩ => ⟨S1x1x1024, .f32⟩
  | .hbm, ⟨82, _⟩ => ⟨S8x8192x1024, .f32⟩
  | .hbm, ⟨83, _⟩ => ⟨S8x8192x1024, .f32⟩
  | .hbm, ⟨84, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== FfnSample.lean ====
abbrev S32x64x1024 : Shape := ⟨3, ![32, 64, 1024]⟩
abbrev S32x64x256 : Shape := ⟨3, ![32, 64, 256]⟩
abbrev S32x2x2816 : Shape := ⟨3, ![32, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S1024x2816 : Shape := ⟨2, ![1024, 2816]⟩
abbrev S1x2816 : Shape := ⟨2, ![1, 2816]⟩
abbrev S1x1024 : Shape := ⟨2, ![1, 1024]⟩
abbrev S_ : Shape := ⟨0, ![]⟩
abbrev S32x8x2816 : Shape := ⟨3, ![32, 8, 2816]⟩
abbrev S1x64x1024 : Shape := ⟨3, ![1, 64, 1024]⟩
abbrev S1x64x256 : Shape := ⟨3, ![1, 64, 256]⟩
abbrev S1x8x2816 : Shape := ⟨3, ![1, 8, 2816]⟩
abbrev S72x2816 : Shape := ⟨2, ![72, 2816]⟩
abbrev S8x2816 : Shape := ⟨2, ![8, 2816]⟩
abbrev S64x1024 : Shape := ⟨2, ![64, 1024]⟩
abbrev S64x2816 : Shape := ⟨2, ![64, 2816]⟩
abbrev S64x256 : Shape := ⟨2, ![64, 256]⟩
abbrev S64 : Shape := ⟨1, ![64]⟩
abbrev S64x1 : Shape := ⟨2, ![64, 1]⟩

abbrev nBuf : Space → Nat
  | .hbm => 25
  | .vmem => 20
  | .smem => 0
  | _ => 0

abbrev bufTy : (tb : Table) → Fin (tcTables nBuf tb) → BufTy
  | .hbm, ⟨0, _⟩ => ⟨S32x64x1024, .f32⟩
  | .hbm, ⟨1, _⟩ => ⟨S32x64x256, .f32⟩
  | .hbm, ⟨2, _⟩ => ⟨S32x2x2816, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5632, .bf16⟩
  | .hbm, ⟨12, _⟩ => ⟨S1024x2816, .bf16⟩
  | .hbm, ⟨13, _⟩ => ⟨S1024x2816, .bf16⟩
  | .hbm, ⟨14, _⟩ => ⟨S1x2816, .f32⟩
  | .hbm, ⟨15, _⟩ => ⟨S2816x1024, .bf16⟩
  | .hbm, ⟨16, _⟩ => ⟨S1024x1024, .bf16⟩
  | .hbm, ⟨17, _⟩ => ⟨S256x1024, .bf16⟩
  | .hbm, ⟨18, _⟩ => ⟨S1x1024, .f32⟩
  | .hbm, ⟨19, _⟩ => ⟨S1x1024, .f32⟩
  | .hbm, ⟨20, _⟩ => ⟨S_, .i32⟩
  | .hbm, ⟨21, _⟩ => ⟨S_, .f32⟩
  | .hbm, ⟨22, _⟩ => ⟨S32x8x2816, .f32⟩
  | .hbm, ⟨23, _⟩ => ⟨S32x64x1024, .f32⟩
  | .hbm, ⟨24, _⟩ => ⟨S32x8x2816, .f32⟩
  | .local _ .vmem, ⟨0, _⟩ => ⟨S1x64x1024, .f32⟩
  | .local _ .vmem, ⟨1, _⟩ => ⟨S1x64x1024, .f32⟩
  | .local _ .vmem, ⟨2, _⟩ => ⟨S1x64x256, .f32⟩
  | .local _ .vmem, ⟨3, _⟩ => ⟨S1x64x256, .f32⟩
  | .local _ .vmem, ⟨4, _⟩ => ⟨S1x8x2816, .f32⟩
  | .local _ .vmem, ⟨5, _⟩ => ⟨S1x8x2816, .f32⟩
  | .local _ .vmem, ⟨6, _⟩ => ⟨S1024x2816, .bf16⟩
  | .local _ .vmem, ⟨7, _⟩ => ⟨S1024x2816, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x8x2816, .f32⟩
  | .local _ .vmem, ⟨18, _⟩ => ⟨S1x8x2816, .f32⟩
  | .local _ .vmem, ⟨19, _⟩ => ⟨S72x2816, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnSampleReferenceIdeal.lean ====
abbrev S32x64x1024 : Shape := ⟨3, ![32, 64, 1024]⟩
abbrev S32x64x256 : Shape := ⟨3, ![32, 64, 256]⟩
abbrev S32x2x2816 : Shape := ⟨3, ![32, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S32x64x5632 : Shape := ⟨3, ![32, 64, 5632]⟩
abbrev S32x64x2816 : Shape := ⟨3, ![32, 64, 2816]⟩
abbrev S32x66x2816 : Shape := ⟨3, ![32, 66, 2816]⟩
abbrev S1x2816 : Shape := ⟨2, ![1, 2816]⟩
abbrev S1x1x2816 : Shape := ⟨3, ![1, 1, 2816]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x8x2816 : Shape := ⟨3, ![32, 8, 2816]⟩

abbrev nBuf : Space → Nat
  | .hbm => 95
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x256, .f32⟩
  | .hbm, ⟨2, _⟩ => ⟨S32x2x2816, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S32x64x5632, .f32⟩
  | .hbm, ⟨12, _⟩ => ⟨S32x64x2816, .f32⟩
  | .hbm, ⟨13, _⟩ => ⟨S32x64x2816, .f32⟩
  | .hbm, ⟨14, _⟩ => ⟨S32x66x2816, .f32⟩
  | .hbm, ⟨15, _⟩ => ⟨S32x64x2816, .f32⟩
  | .hbm, ⟨16, _⟩ => ⟨S1x2816, .f32⟩
  | .hbm, ⟨17, _⟩ => ⟨S2816, .f32⟩
  | .hbm, ⟨18, _⟩ => ⟨S1x1x2816, .f32⟩
  | .hbm, ⟨19, _⟩ => ⟨S32x64x2816, .f32⟩
  | .hbm, ⟨20, _⟩ => ⟨S32x64x2816, .f32⟩
  | .hbm, ⟨21, _⟩ => ⟨S32x64x2816, .f32⟩
  | .hbm, ⟨22, _⟩ => ⟨S1x2816, .f32⟩
  | .hbm, ⟨23, _⟩ => ⟨S2816, .f32⟩
  | .hbm, ⟨24, _⟩ => ⟨S1x1x2816, .f32⟩
  | .hbm, ⟨25, _⟩ => ⟨S32x64x2816, .f32⟩
  | .hbm, ⟨26, _⟩ => ⟨S32x64x2816, .f32⟩
  | .hbm, ⟨27, _⟩ => ⟨S32x64x2816, .f32⟩
  | .hbm, ⟨28, _⟩ => ⟨S32x64x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S32x64x2816, .f32⟩
  | .hbm, ⟨33, _⟩ => ⟨S32x64x2816, .f32⟩
  | .hbm, ⟨34, _⟩ => ⟨S32x64x2816, .f32⟩
  | .hbm, ⟨35, _⟩ => ⟨S1x1x2816, .f32⟩
  | .hbm, ⟨36, _⟩ => ⟨S32x64x2816, .f32⟩
  | .hbm, ⟨37, _⟩ => ⟨S32x64x2816, .f32⟩
  | .hbm, ⟨38, _⟩ => ⟨S32x64x2816, .f32⟩
  | .hbm, ⟨39, _⟩ => ⟨S32x64x2816, .f32⟩
  | .hbm, ⟨40, _⟩ => ⟨S_, .f32⟩
  | .hbm, ⟨41, _⟩ => ⟨S32x64x2816, .f32⟩
  | .hbm, ⟨42, _⟩ => ⟨S32x64x2816, .f32⟩
  | .hbm, ⟨43, _⟩ => ⟨S_, .f32⟩
  | .hbm, ⟨44, _⟩ => ⟨S32x64x2816, .f32⟩
  | .hbm, ⟨45, _⟩ => ⟨S32x64x2816, .f32⟩
  | .hbm, ⟨46, _⟩ => ⟨S32x64x2816, .f32⟩
  | .hbm, ⟨47, _⟩ => ⟨S32x64x2816, .f32⟩
  | .hbm, ⟨48, _⟩ => ⟨S32x64x1024, .f32⟩
  | .hbm, ⟨49, _⟩ => ⟨S32x64x1024, .f32⟩
  | .hbm, ⟨50, _⟩ => ⟨S32x64x1024, .f32⟩
  | .hbm, ⟨51, _⟩ => ⟨S32x64x1024, .f32⟩
  | .hbm, ⟨52, _⟩ => ⟨S_, .f32⟩
  | .hbm, ⟨53, _⟩ => ⟨S32x64x1024, .f32⟩
  | .hbm, ⟨54, _⟩ => ⟨S32x64x1024, .f32⟩
  | .hbm, ⟨55, _⟩ => ⟨S_, .f32⟩
  | .hbm, ⟨56, _⟩ => ⟨S32x64x1024, .f32⟩
  | .hbm, ⟨57, _⟩ => ⟨S32x64x1024, .f32⟩
  | .hbm, ⟨58, _⟩ => ⟨S32x64x1024, .f32⟩
  | .hbm, ⟨59, _⟩ => ⟨S32x64x1024, .f32⟩
  | .hbm, ⟨60, _⟩ => ⟨S_, .f32⟩
  | .hbm, ⟨61, _⟩ => ⟨S32x64x1024, .f32⟩
  | .hbm, ⟨62, _⟩ => ⟨S32x64x1024, .f32⟩
  | .hbm, ⟨63, _⟩ => ⟨S32x64x1024, .f32⟩
  | .hbm, ⟨64, _⟩ => ⟨S32x64x1024, .f32⟩
  | .hbm, ⟨65, _⟩ => ⟨S_, .f32⟩
  | .hbm, ⟨66, _⟩ => ⟨S32x64, .f32⟩
  | .hbm, ⟨67, _⟩ => ⟨S32x64x1, .f32⟩
  | .hbm, ⟨68, _⟩ => ⟨S_, .f32⟩
  | .hbm, ⟨69, _⟩ => ⟨S32x64x1, .f32⟩
  | .hbm, ⟨70, _⟩ => ⟨S32x64x1, .f32⟩
  | .hbm, ⟨71, _⟩ => ⟨S32x64x1024, .f32⟩
  | .hbm, ⟨72, _⟩ => ⟨S32x64x1024, .f32⟩
  | .hbm, ⟨73, _⟩ => ⟨S32x64x1024, .f32⟩
  | .hbm, ⟨74, _⟩ => ⟨S_, .f32⟩
  | .hbm, ⟨75, _⟩ => ⟨S32x64, .f32⟩
  | .hbm, ⟨76, _⟩ => ⟨S32x64x1, .f32⟩
  | .hbm, ⟨77, _⟩ => ⟨S_, .f32⟩
  | .hbm, ⟨78, _⟩ => ⟨S32x64x1, .f32⟩
  | .hbm, ⟨79, _⟩ => ⟨S32x64x1, .f32⟩
  | .hbm, ⟨80, _⟩ => ⟨S32x64x1024, .f32⟩
  | .hbm, ⟨81, _⟩ => ⟨S32x64x1024, .f32⟩
  | .hbm, ⟨82, _⟩ => ⟨S_, .f32⟩
  | .hbm, ⟨83, _⟩ => ⟨S32x64x1, .f32⟩
  | .hbm, ⟨84, _⟩ => ⟨S32x64x1, .f32⟩
  | .hbm, ⟨85, _⟩ => ⟨S32x64x1, .f32⟩
  | .hbm, ⟨86, _⟩ => ⟨S32x64x1024, .f32⟩
  | .hbm, ⟨87, _⟩ => ⟨S32x64x1024, .f32⟩
  | .hbm, ⟨88, _⟩ => ⟨S1x1x1024, .f32⟩
  | .hbm, ⟨89, _⟩ => ⟨S32x64x1024, .f32⟩
  | .hbm, ⟨90, _⟩ => ⟨S32x64x1024, .f32⟩
  | .hbm, ⟨91, _⟩ => ⟨S1x1x1024, .f32⟩
  | .hbm, ⟨92, _⟩ => ⟨S32x64x1024, .f32⟩
  | .hbm, ⟨93, _⟩ => ⟨S32x64x1024, .f32⟩
  | .hbm, ⟨94, _⟩ => ⟨S32x8x2816, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_1 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== InprojSample.lean ====
abbrev S32x64x1024 : Shape := ⟨3, ![32, 64, 1024]⟩
abbrev S1024 : Shape := ⟨1, ![1024]⟩
abbrev S1024x7184 : Shape := ⟨2, ![1024, 7184]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S2048x1024 : Shape := ⟨2, ![2048, 1024]⟩
abbrev S1x1024 : Shape := ⟨2, ![1, 1024]⟩
abbrev S16x1 : Shape := ⟨2, ![16, 1]⟩
abbrev S32x1024x64 : Shape := ⟨3, ![32, 1024, 64]⟩
abbrev S32x16x64 : Shape := ⟨3, ![32, 16, 64]⟩
abbrev S512x1024 : Shape := ⟨2, ![512, 1024]⟩
abbrev S8x1024x64 : Shape := ⟨3, ![8, 1024, 64]⟩
abbrev S8x16x64 : Shape := ⟨3, ![8, 16, 64]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x128 : Shape := ⟨2, ![256, 128]⟩
abbrev S128x256 : Shape := ⟨2, ![128, 256]⟩
abbrev S16x256 : Shape := ⟨2, ![16, 256]⟩
abbrev S1024x64 : Shape := ⟨2, ![1024, 64]⟩
abbrev S1x1024x64 : Shape := ⟨3, ![1, 1024, 64]⟩
abbrev S16x64 : Shape := ⟨2, ![16, 64]⟩
abbrev S1x16x64 : Shape := ⟨3, ![1, 16, 64]⟩

abbrev nBuf : Space → Nat
  | .hbm => 28
  | .vmem => 27
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024, .f32⟩
  | .hbm, ⟨3, _⟩ => ⟨S1024x7184, .f32⟩
  | .hbm, ⟨4, _⟩ => ⟨S16, .f32⟩
  | .hbm, ⟨5, _⟩ => ⟨S1024x7184, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x16, .bf16⟩
  | .hbm, ⟨12, _⟩ => ⟨S1024x1024, .bf16⟩
  | .hbm, ⟨13, _⟩ => ⟨S1024x1024, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S2048x1024, .f32⟩
  | .hbm, ⟨18, _⟩ => ⟨S1x1024, .f32⟩
  | .hbm, ⟨19, _⟩ => ⟨S1x1024, .f32⟩
  | .hbm, ⟨20, _⟩ => ⟨S16x1, .f32⟩
  | .hbm, ⟨21, _⟩ => ⟨S2048x1024, .f32⟩
  | .hbm, ⟨22, _⟩ => ⟨S2048x1024, .f32⟩
  | .hbm, ⟨23, _⟩ => ⟨S32x1024x64, .f32⟩
  | .hbm, ⟨24, _⟩ => ⟨S32x1024x64, .f32⟩
  | .hbm, ⟨25, _⟩ => ⟨S32x16x64, .f32⟩
  | .hbm, ⟨26, _⟩ => ⟨S2048x1024, .bf16⟩
  | .hbm, ⟨27, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S16x1, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024x64, .f32⟩
  | .local _ .vmem, ⟨18, _⟩ => ⟨S8x1024x64, .f32⟩
  | .local _ .vmem, ⟨19, _⟩ => ⟨S8x1024x64, .f32⟩
  | .local _ .vmem, ⟨20, _⟩ => ⟨S8x1024x64, .f32⟩
  | .local _ .vmem, ⟨21, _⟩ => ⟨S8x16x64, .f32⟩
  | .local _ .vmem, ⟨22, _⟩ => ⟨S8x16x64, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev main_v14_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x16x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojSampleReferenceIdeal.lean ====
abbrev S32x64x1024 : Shape := ⟨3, ![32, 64, 1024]⟩
abbrev S1024 : Shape := ⟨1, ![1024]⟩
abbrev S1024x7184 : Shape := ⟨2, ![1024, 7184]⟩
abbrev S16 : Shape := ⟨1, ![16]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x7184 : Shape := ⟨3, ![32, 64, 7184]⟩
abbrev S32x64x16 : Shape := ⟨3, ![32, 64, 16]⟩
abbrev S1x1x16 : Shape := ⟨3, ![1, 1, 16]⟩
abbrev S2048x1024 : Shape := ⟨2, ![2048, 1024]⟩
abbrev S32x1024x64 : Shape := ⟨3, ![32, 1024, 64]⟩
abbrev S32x16x64 : Shape := ⟨3, ![32, 16, 64]⟩

abbrev nBuf : Space → Nat
  | .hbm => 96
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024, .f32⟩
  | .hbm, ⟨3, _⟩ => ⟨S1024x7184, .f32⟩
  | .hbm, ⟨4, _⟩ => ⟨S16, .f32⟩
  | .hbm, ⟨5, _⟩ => ⟨S_, .f32⟩
  | .hbm, ⟨6, _⟩ => ⟨S32x64, .f32⟩
  | .hbm, ⟨7, _⟩ => ⟨S32x64x1, .f32⟩
  | .hbm, ⟨8, _⟩ => ⟨S_, .f32⟩
  | .hbm, ⟨9, _⟩ => ⟨S32x64x1, .f32⟩
  | .hbm, ⟨10, _⟩ => ⟨S32x64x1, .f32⟩
  | .hbm, ⟨11, _⟩ => ⟨S32x64x1024, .f32⟩
  | .hbm, ⟨12, _⟩ => ⟨S32x64x1024, .f32⟩
  | .hbm, ⟨13, _⟩ => ⟨S32x64x1024, .f32⟩
  | .hbm, ⟨14, _⟩ => ⟨S_, .f32⟩
  | .hbm, ⟨15, _⟩ => ⟨S32x64, .f32⟩
  | .hbm, ⟨16, _⟩ => ⟨S32x64x1, .f32⟩
  | .hbm, ⟨17, _⟩ => ⟨S_, .f32⟩
  | .hbm, ⟨18, _⟩ => ⟨S32x64x1, .f32⟩
  | .hbm, ⟨19, _⟩ => ⟨S32x64x1, .f32⟩
  | .hbm, ⟨20, _⟩ => ⟨S32x64x1024, .f32⟩
  | .hbm, ⟨21, _⟩ => ⟨S32x64x1024, .f32⟩
  | .hbm, ⟨22, _⟩ => ⟨S_, .f32⟩
  | .hbm, ⟨23, _⟩ => ⟨S32x64x1, .f32⟩
  | .hbm, ⟨24, _⟩ => ⟨S32x64x1, .f32⟩
  | .hbm, ⟨25, _⟩ => ⟨S32x64x1, .f32⟩
  | .hbm, ⟨26, _⟩ => ⟨S32x64x1024, .f32⟩
  | .hbm, ⟨27, _⟩ => ⟨S32x64x1024, .f32⟩
  | .hbm, ⟨28, _⟩ => ⟨S1x1x1024, .f32⟩
  | .hbm, ⟨29, _⟩ => ⟨S32x64x1024, .f32⟩
  | .hbm, ⟨30, _⟩ => ⟨S32x64x1024, .f32⟩
  | .hbm, ⟨31, _⟩ => ⟨S1x1x1024, .f32⟩
  | .hbm, ⟨32, _⟩ => ⟨S32x64x1024, .f32⟩
  | .hbm, ⟨33, _⟩ => ⟨S32x64x1024, .f32⟩
  | .hbm, ⟨34, _⟩ => ⟨S32x64x7184, .f32⟩
  | .hbm, ⟨35, _⟩ => ⟨S32x64x1024, .f32⟩
  | .hbm, ⟨36, _⟩ => ⟨S32x64x1024, .f32⟩
  | .hbm, ⟨37, _⟩ => ⟨S32x64x1024, .f32⟩
  | .hbm, ⟨38, _⟩ => ⟨S32x64x1024, .f32⟩
  | .hbm, ⟨39, _⟩ => ⟨S32x64x1024, .f32⟩
  | .hbm, ⟨40, _⟩ => ⟨S32x64x16, .f32⟩
  | .hbm, ⟨41, _⟩ => ⟨S32x64x1024, .f32⟩
  | .hbm, ⟨42, _⟩ => ⟨S32x64x1024, .f32⟩
  | .hbm, ⟨43, _⟩ => ⟨S32x64x1024, .f32⟩
  | .hbm, ⟨44, _⟩ => ⟨S32x64x1024, .f32⟩
  | .hbm, ⟨45, _⟩ => ⟨S_, .f32⟩
  | .hbm, ⟨46, _⟩ => ⟨S32x64x1024, .f32⟩
  | .hbm, ⟨47, _⟩ => ⟨S32x64x1024, .f32⟩
  | .hbm, ⟨48, _⟩ => ⟨S_, .f32⟩
  | .hbm, ⟨49, _⟩ => ⟨S32x64x1024, .f32⟩
  | .hbm, ⟨50, _⟩ => ⟨S32x64x1024, .f32⟩
  | .hbm, ⟨51, _⟩ => ⟨S32x64x1024, .f32⟩
  | .hbm, ⟨52, _⟩ => ⟨S1x1x16, .f32⟩
  | .hbm, ⟨53, _⟩ => ⟨S32x64x16, .f32⟩
  | .hbm, ⟨54, _⟩ => ⟨S32x64x16, .f32⟩
  | .hbm, ⟨55, _⟩ => ⟨S32x64x16, .f32⟩
  | .hbm, ⟨56, _⟩ => ⟨S_, .f32⟩
  | .hbm, ⟨57, _⟩ => ⟨S32x64x16, .f32⟩
  | .hbm, ⟨58, _⟩ => ⟨S32x64x16, .f32⟩
  | .hbm, ⟨59, _⟩ => ⟨S32x64x16, .f32⟩
  | .hbm, ⟨60, _⟩ => ⟨S32x64x16, .f32⟩
  | .hbm, ⟨61, _⟩ => ⟨S32x64x16, .i1⟩
  | .hbm, ⟨62, _⟩ => ⟨S32x64x16, .f32⟩
  | .hbm, ⟨63, _⟩ => ⟨S32x64x16, .f32⟩
  | .hbm, ⟨64, _⟩ => ⟨S32x64x16, .f32⟩
  | .hbm, ⟨65, _⟩ => ⟨S32x64x16, .f32⟩
  | .hbm, ⟨66, _⟩ => ⟨S32x64x16, .f32⟩
  | .hbm, ⟨67, _⟩ => ⟨S32x64x16, .f32⟩
  | .hbm, ⟨68, _⟩ => ⟨S32x64x16, .f32⟩
  | .hbm, ⟨69, _⟩ => ⟨S32x64x16, .f32⟩
  | .hbm, ⟨70, _⟩ => ⟨S32x64x16, .f32⟩
  | .hbm, ⟨71, _⟩ => ⟨S2048x1024, .f32⟩
  | .hbm, ⟨72, _⟩ => ⟨S2048x1024, .f32⟩
  | .hbm, ⟨73, _⟩ => ⟨S32x1024x64, .f32⟩
  | .hbm, ⟨74, _⟩ => ⟨S32x1024x64, .f32⟩
  | .hbm, ⟨75, _⟩ => ⟨S32x16x64, .f32⟩
  | .hbm, ⟨76, _⟩ => ⟨S32x64x1024, .f32⟩
  | .hbm, ⟨77, _⟩ => ⟨S32x64x1024, .f32⟩
  | .hbm, ⟨78, _⟩ => ⟨S_, .f32⟩
  | .hbm, ⟨79, _⟩ => ⟨S32x64x1024, .f32⟩
  | .hbm, ⟨80, _⟩ => ⟨S32x64x1024, .f32⟩
  | .hbm, ⟨81, _⟩ => ⟨S_, .f32⟩
  | .hbm, ⟨82, _⟩ => ⟨S32x64x1024, .f32⟩
  | .hbm, ⟨83, _⟩ => ⟨S32x64x1024, .f32⟩
  | .hbm, ⟨84, _⟩ => ⟨S2048x1024, .f32⟩
  | .hbm, ⟨85, _⟩ => ⟨S2048x1024, .bf16⟩
  | .hbm, ⟨86, _⟩ => ⟨S32x64x1024, .f32⟩
  | .hbm, ⟨87, _⟩ => ⟨S32x64x1024, .f32⟩
  | .hbm, ⟨88, _⟩ => ⟨S_, .f32⟩
  | .hbm, ⟨89, _⟩ => ⟨S32x64x1024, .f32⟩
  | .hbm, ⟨90, _⟩ => ⟨S32x64x1024, .f32⟩
  | .hbm, ⟨91, _⟩ => ⟨S_, .f32⟩
  | .hbm, ⟨92, _⟩ => ⟨S32x64x1024, .f32⟩
  | .hbm, ⟨93, _⟩ => ⟨S32x64x1024, .f32⟩
  | .hbm, ⟨94, _⟩ => ⟨S2048x1024, .f32⟩
  | .hbm, ⟨95, _⟩ => ⟨S2048x1024, .bf16⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Proof.ProjFrame.lean ====
/- The projection's frames, of words and of reals. -/
module

public import proofs.«01_k».proof.Defs
public import proofs.«01_k».proof.Proof.Gen.Inproj.Frame
public import proofs.«01_k».proof.Proof.Gen.InprojIdeal.Frame
public import proofs.«01_k».proof.Proof.Gen.InprojReferenceIdeal.Run
public import Idealize.ShloMosaic.Init

@[expose] public section

set_option maxRecDepth 16384

noncomputable section

namespace Cert.Proof.Proj

open Idealize.ShloMosaic Idealize.SL.Sem

theorem frame_InprojIdeal : Cert.quiescent_InprojIdeal := fun m g _ => Cert.InprojIdeal.Gen.frame (F := Ideal) m g

theorem frame_InprojReferenceIdeal : Cert.quiescent_InprojReferenceIdeal := fun m g _ =>
  (θ_run _ _ _).mono (fun r h => ⟨fun c => (h c).2.2.2.2.2.2.2.2.2, Idealize.ShloMosaic.sem_eq_zero_of_no_sems (by decide) r.2⟩) (Cert.InprojReferenceIdeal.Value.run (F := Ideal) m g)

theorem frame_Inproj : Cert.quiescent_Inproj := fun m g _ => Cert.Inproj.Gen.frame (F := Bits) m g

end Cert.Proof.Proj

end
-- ==== Proof.ProjRow.lean ====
/- The input projection's blocks computed by the kernel, at an index. -/
module

public import proofs.«01_k».proof.Proof.Gen.InprojIdeal.Skeleton
public import Idealize.ShloMosaic.Lib.Pointwise
public import Idealize.ShloMosaic.Lib.Tactic.CleanTypes

@[expose] public section

set_option maxRecDepth 16384

noncomputable section

namespace Cert.Proof.Proj

open Cert.InprojIdeal Cert.InprojIdeal.Gen
open Idealize.ShloMosaic

/-- A row's mean. -/
def mean (x : Fin 1024 → EReal) : EReal := Ideal.div (∑ e : Fin 1024, x e) (Ideal.ofBits .f32 0x44800000#32)

/-- A row normalized, scaled and shifted. -/
def lnorm (x g b : Fin 1024 → EReal) (e : Fin 1024) : EReal :=
  (x e - mean x) * Ideal.rsqrt (mean (fun d => (x d - mean x) * (x d - mean x)) + Ideal.ofBits .f32 0x3727C5AC#32) * g e + b e

/-- A row of features times a column of weights. -/
def prod (h w : Fin 1024 → EReal) : EReal := ∑ d : Fin 1024, h d * w d

/-- The logarithm of the logistic function, as both programs spell it. -/
def lsig (z : EReal) : EReal := -(max (-z) 0 + Ideal.log1p (Ideal.exp (-(FloatOps.absf (F := Ideal) (φ := .f32) (-z)))))

theorem pay7_at (x : Vec Ideal S256x1024 .f32) (g b : Vec Ideal S1x1024 .f32) (r : Fin 256) (e : Fin 1024) :
    k0_pay7 x g b (ix2 r e) = lnorm (fun d => x (ix2 r d)) (fun d => g (ix2 0 d)) (fun d => b (ix2 0 d)) e := by
  pointwise [k0_pay7, lnorm, mean]

theorem pay22_at (x : Vec Ideal S256x1024 .f32) (g b : Vec Ideal S1x1024 .f32) (r : Fin 256) (e : Fin 1024) :
    k0_pay22 (k0_pay21 x) g b (ix2 r e) = lnorm (fun d => x (ix2 r d)) (fun d => g (ix2 0 d)) (fun d => b (ix2 0 d)) e := by
  pointwise [k0_pay22, k0_pay21, lnorm, mean]

theorem pay9_at (h : FVec Ideal S256x1024 .bf16) (w : Vec Ideal S1024x1024 .bf16) (r : Fin 256) (e : Fin 1024) :
    k0_pay9 h w (ix2 r e) = prod (fun d => h (ix2 r d)) (fun d => w (ix2 d e)) := by
  pointwise [k0_pay9, prod]

/-- The kernel's spelling of the logarithm of the logistic function. -/
theorem lsig_eq (z : EReal) : (0 - if 0 - z ≠ 0 - z then 0 - z else max (0 - z) 0 + Ideal.log1p (Ideal.exp (0 - FloatOps.absf (F := Ideal) (φ := .f32) (0 - z))) : EReal) = lsig z := by
  rw [if_neg (fun h => h rfl)]
  simp only [zero_sub, lsig]

theorem pay13_at (h : FVec Ideal S256x1024 .bf16) (w : Vec Ideal S1024x128 .bf16) (f : Vec Ideal S16x1 .f32) (j : Fin 16) (r : Fin 256) :
    k0_pay13 h w f (ix2 j r) = lsig (prod (fun d => h (ix2 r d)) (fun d => w (ix2 d ⟨j.val, by omega⟩)) + f (ix2 j 0)) := by
  refine Eq.trans ?_ (lsig_eq _)
  pointwise [k0_pay13, prod]

theorem pay27_at (h : FVec Ideal S256x1024 .bf16) (w : Vec Ideal S1024x128 .bf16) (f : Vec Ideal S16x1 .f32) (j : Fin 16) (r : Fin 256) :
    k0_pay27 h w f (ix2 j r) = lsig (prod (fun d => h (ix2 r d)) (fun d => w (ix2 d ⟨j.val, by omega⟩)) + f (ix2 j 0)) := by
  refine Eq.trans ?_ (lsig_eq _)
  pointwise [k0_pay27, prod]

theorem pay5_at (h : FVec Ideal S256x1024 .bf16) (w : Vec Ideal S1024x1024 .bf16) (r : Fin 256) (e : Fin 1024) :
    k0_pay5 h w (ix2 r e) = Ideal.logistic (prod (fun d => h (ix2 r d)) (fun d => w (ix2 d e))) := by
  pointwise [k0_pay5, prod]

theorem pay6_at (h : FVec Ideal S256x1024 .bf16) (w : Vec Ideal S1024x1024 .bf16) (r : Fin 256) (e : Fin 1024) :
    k0_pay6 h w (ix2 r e) = Ideal.logistic (prod (fun d => h (ix2 r d)) (fun d => w (ix2 d e))) := by
  pointwise [k0_pay6, prod]

theorem pay19_at (h : FVec Ideal S256x1024 .bf16) (w : Vec Ideal S1024x1024 .bf16) (r : Fin 256) (e : Fin 1024) :
    k0_pay19 h w (ix2 r e) = Ideal.logistic (prod (fun d => h (ix2 r d)) (fun d => w (ix2 d e))) := by
  pointwise [k0_pay19, prod]

theorem pay20_at (h : FVec Ideal S256x1024 .bf16) (w : Vec Ideal S1024x1024 .bf16) (r : Fin 256) (e : Fin 1024) :
    k0_pay20 h w (ix2 r e) = Ideal.logistic (prod (fun d => h (ix2 r d)) (fun d => w (ix2 d e))) := by
  pointwise [k0_pay20, prod]

theorem pay17_at (h : FVec Ideal S256x1024 .bf16) (w : Vec Ideal S1024x1024 .bf16) (r : Fin 256) (e : Fin 1024) :
    k0_pay17 (k0_pay10 h w) (ix2 r e) = prod (fun d => h (ix2 r d)) (fun d => w (ix2 d e)) := by
  pointwise [k0_pay17, k0_pay10, prod]

theorem pay3_at (h : FVec Ideal S256x1024 .bf16) (w : Vec Ideal S1024x1024 .bf16) (r : Fin 256) (e : Fin 1024) :
    k0_pay3 (k0_pay25 h w) (ix2 r e) = prod (fun d => h (ix2 r d)) (fun d => w (ix2 d e)) := by
  pointwise [k0_pay3, k0_pay25, prod]

theorem pay14_at (h : FVec Ideal S256x1024 .bf16) (w : Vec Ideal S1024x1024 .bf16) (r : Fin 256) (e : Fin 1024) :
    k0_pay14 (k0_pay11 h w) (ix3 0 e r) = prod (fun d => h (ix2 r d)) (fun d => w (ix2 d e)) := by
  pointwise [k0_pay14, k0_pay11, k0_pay10, prod]

theorem pay28_at (h : FVec Ideal S256x1024 .bf16) (w : Vec Ideal S1024x1024 .bf16) (r : Fin 256) (e : Fin 1024) :
    k0_pay28 h w (ix3 0 e r) = prod (fun d => h (ix2 r d)) (fun d => w (ix2 d e)) := by
  pointwise [k0_pay28, k0_pay25, prod]

theorem pay15_at (h : FVec Ideal S256x1024 .bf16) (w : Vec Ideal S1024x1024 .bf16) (r : Fin 256) (e : Fin 1024) :
    k0_pay15 (k0_pay12 h w) (ix3 0 e r) = prod (fun d => h (ix2 r d)) (fun d => w (ix2 d e)) := by
  pointwise [k0_pay15, k0_pay12, prod]

theorem pay1_at (h : FVec Ideal S256x1024 .bf16) (w : Vec Ideal S1024x1024 .bf16) (r : Fin 256) (e : Fin 1024) :
    k0_pay1 (k0_pay26 h w) (ix3 0 e r) = prod (fun d => h (ix2 r d)) (fun d => w (ix2 d e)) := by
  pointwise [k0_pay1, k0_pay26, prod]

theorem pay18_at (h : FVec Ideal S256x1024 .bf16) (w : Vec Ideal S1024x1024 .bf16) (r : Fin 256) (e : Fin 1024) :
    k0_pay18 (k0_pay12 h w) (ix3 0 e r) = prod (fun d => h (ix2 r d)) (fun d => w (ix2 d e)) := by
  pointwise [k0_pay18, k0_pay12, prod]

theorem pay4_at (h : FVec Ideal S256x1024 .bf16) (w : Vec Ideal S1024x1024 .bf16) (r : Fin 256) (e : Fin 1024) :
    k0_pay4 (k0_pay26 h w) (ix3 0 e r) = prod (fun d => h (ix2 r d)) (fun d => w (ix2 d e)) := by
  pointwise [k0_pay4, k0_pay26, prod]

theorem pay16_at (z : FVec Ideal S16x256 .f32) (j : Fin 16) (r : Fin 256) : k0_pay16 z (ix3 0 j r) = z (ix2 j r) := by
  pointwise [k0_pay16]

theorem pay2_at (z : FVec Ideal S16x256 .f32) (j : Fin 16) (r : Fin 256) : k0_pay2 z (ix3 0 j r) = z (ix2 j r) := by
  pointwise [k0_pay2]

/-- A product gated by the logistic function of another, of one block of rows. -/
theorem pay8_eq (x : Vec Ideal S256x1024 .f32) (g b : Vec Ideal S1x1024 .f32) (wa wg : Vec Ideal S1024x1024 .bf16) (r : Fin 256) (e : Fin 1024) :
    k0_pay8 x g b wa wg (ix2 r e) = prod (fun d => k0_pay7 x g b (ix2 r d)) (fun d => wa (ix2 d e)) * Ideal.logistic (prod (fun d => k0_pay7 x g b (ix2 r d)) (fun d => wg (ix2 d e))) := by
  generalize hh : k0_pay7 x g b = h
  pointwise [k0_pay8, prod, hh]

theorem pay23_eq (x : FVec Ideal S256x1024 .f32) (g b : Vec Ideal S1x1024 .f32) (wa wg : Vec Ideal S1024x1024 .bf16) (r : Fin 256) (e : Fin 1024) :
    k0_pay23 x g b wa wg (ix2 r e) = prod (fun d => k0_pay22 x g b (ix2 r d)) (fun d => wa (ix2 d e)) * Ideal.logistic (prod (fun d => k0_pay22 x g b (ix2 r d)) (fun d => wg (ix2 d e))) := by
  generalize hh : k0_pay22 x g b = h
  pointwise [k0_pay23, prod, hh]

theorem pay24_eq (x : FVec Ideal S256x1024 .f32) (g b : Vec Ideal S1x1024 .f32) (w : Vec Ideal S1024x1024 .bf16) (r : Fin 256) (e : Fin 1024) :
    k0_pay24 x g b w (ix2 r e) = prod (fun d => k0_pay22 x g b (ix2 r d)) (fun d => w (ix2 d e)) := by
  generalize hh : k0_pay22 x g b = h
  pointwise [k0_pay24, prod, hh]

end Cert.Proof.Proj
-- ==== Proof.ProjBlock.lean ====
/- What the projection's body leaves in each staging buffer, at an index. -/
module

public import proofs.«01_k».proof.Proof.ProjRow
public import proofs.«01_k».proof.Proof.Gen.InprojIdeal.Frame
public import Idealize.ShloMosaic.Lib.Pipeline.ValueKit
public import Idealize.ShloMosaic.Lib.Pipeline.ReadBack

@[expose] public section

set_option maxRecDepth 16384

noncomputable section

namespace Cert.Proof.Proj

open Cert.InprojIdeal Cert.InprojIdeal.Gen
open Idealize.ShloMosaic

/-- A column of weights. -/
def colOf {n : ℕ} (w : Vec Ideal ⟨2, ![1024, n]⟩ .bf16) (j : Fin n) : Fin 1024 → EReal := fun d => w (ix2 d j)

/-- The normalized row of a block. -/
def feat (x0 : Vec Ideal S512x1024 .f32) (x1 x2 : Vec Ideal S1x1024 .f32) (r : Fin 512) : Fin 1024 → EReal :=
  lnorm (fun d => x0 (ix2 r d)) (fun d => x1 (ix2 0 d)) (fun d => x2 (ix2 0 d))

variable (x0 : Vec Ideal S512x1024 .f32) (x1 x2 : Vec Ideal S1x1024 .f32) (x3 x4 x5 x6 x7 : Vec Ideal S1024x1024 .bf16) (x8 : Vec Ideal S1024x128 .bf16) (x9 x10 : Vec Ideal S1024x1024 .bf16) (x11 : Vec Ideal S16x1 .f32)

theorem ldRow (x : Vec Ideal S1x1024 .f32) : View.ld x r0_1 = x := View.ld_unit_lit _ x (by decide)
theorem ldMat (x : Vec Ideal S1024x1024 .bf16) : View.ld x r0_2 = x := View.ld_unit_lit _ x (by decide)
theorem ldFor (x : Vec Ideal S1024x128 .bf16) : View.ld x r0_3 = x := View.ld_unit_lit _ x (by decide)
theorem ldBias (x : Vec Ideal S16x1 .f32) : View.ld x r0_4 = x := View.ld_unit_lit _ x (by decide)

theorem low_feat (r : Fin 256) : (fun e => k0_pay7 (View.ld x0 r0_0) x1 x2 (ix2 r e)) = feat x0 x1 x2 ⟨r.val, by omega⟩ := by
  funext e
  refine (pay7_at _ _ _ r e).trans ?_
  refine congrArg (fun f => lnorm f _ _ e) (funext fun d => ?_)
  pointwise

theorem high_feat (r : Fin 256) : (fun e => k0_pay22 (k0_pay21 (View.ld x0 r0_7)) x1 x2 (ix2 r e)) = feat x0 x1 x2 ⟨256 + r.val, by omega⟩ := by
  funext e
  refine (pay22_at _ _ _ r e).trans ?_
  refine congrArg (fun f => lnorm f _ _ e) (funext fun d => ?_)
  pointwise

theorem emb_low (r : Fin 256) (e : Fin 1024) : r0_0.emb (ix2 r e) = ix2 ⟨r.val, by omega⟩ e := by
  blk_ext

theorem emb_high (r : Fin 256) (e : Fin 1024) : r0_7.emb (ix2 r e) = ix2 ⟨256 + r.val, by omega⟩ e := by
  blk_ext

theorem emb_left (e : Fin 1024) (r : Fin 256) : r0_5.emb (ix3 0 e r) = ix3 0 e ⟨r.val, by omega⟩ := by
  blk_ext

theorem emb_right (e : Fin 1024) (r : Fin 256) : r0_8.emb (ix3 0 e r) = ix3 0 e ⟨256 + r.val, by omega⟩ := by
  blk_ext

theorem emb_left' (e : Fin 16) (r : Fin 256) : r0_6.emb (ix3 0 e r) = ix3 0 e ⟨r.val, by omega⟩ := by
  blk_ext

theorem emb_right' (e : Fin 16) (r : Fin 256) : r0_9.emb (ix3 0 e r) = ix3 0 e ⟨256 + r.val, by omega⟩ := by
  blk_ext

theorem rows2 (z : S256x1024.Idx) : z = ix2 (z 0) (z 1) := by
  funext a
  match a with
  | ⟨0, _⟩ => rfl
  | ⟨1, _⟩ => rfl

theorem rows3 (z : S1x1024x256.Idx) : z = ix3 0 (z 1) (z 2) := by
  funext a
  match a with
  | ⟨0, _⟩ => exact Subsingleton.elim (α := Fin 1) _ _
  | ⟨1, _⟩ => rfl
  | ⟨2, _⟩ => rfl

theorem rows3' (z : S1x16x256.Idx) : z = ix3 0 (z 1) (z 2) := by
  funext a
  match a with
  | ⟨0, _⟩ => exact Subsingleton.elim (α := Fin 1) _ _
  | ⟨1, _⟩ => rfl
  | ⟨2, _⟩ => rfl

/-- A product gated by the logistic function of another. -/
def gated (x0 : Vec Ideal S512x1024 .f32) (x1 x2 : Vec Ideal S1x1024 .f32) (wa wg : Vec Ideal S1024x1024 .bf16) (r : Fin 512) (e : Fin 1024) : EReal := prod (feat x0 x1 x2 r) (colOf wa e) * Ideal.logistic (prod (feat x0 x1 x2 r) (colOf wg e))

theorem out12_at (y : S512x1024.Idx) : out0_12 x0 x1 x2 x3 x4 x5 x6 x7 x8 x9 x10 x11 y = gated x0 x1 x2 x3 x4 (y 0) (y 1) := by
  unfold out0_12
  simp only [k0_pay31, ldRow, ldMat, ldFor, ldBias]
  refine View.canon_append_of_piecesOf (Val := Elt Ideal) (fun y : S512x1024.Idx => gated x0 x1 x2 x3 x4 (y 0) (y 1)) [] [_, _] ⟨fun z => ?_, fun z => ?_, trivial⟩ y (cover0_12 _ _ y)
  · obtain ⟨a, b, rfl⟩ : ∃ a b, z = ix2 a b := ⟨_, _, rows2 z⟩
    refine Eq.trans (b := gated x0 x1 x2 x3 x4 ⟨256 + a.val, by omega⟩ b) ?_ (congrArg (fun y : S512x1024.Idx => gated x0 x1 x2 x3 x4 (y 0) (y 1)) (emb_high a b)).symm
    refine (pay23_eq _ _ _ _ _ a b).trans ?_
    rw [high_feat]
    rfl
  · obtain ⟨a, b, rfl⟩ : ∃ a b, z = ix2 a b := ⟨_, _, rows2 z⟩
    refine Eq.trans (b := gated x0 x1 x2 x3 x4 ⟨a.val, by omega⟩ b) ?_ (congrArg (fun y : S512x1024.Idx => gated x0 x1 x2 x3 x4 (y 0) (y 1)) (emb_low a b)).symm
    refine (pay8_eq _ _ _ _ _ a b).trans ?_
    rw [low_feat]
    rfl

/-- A product. -/
def plain (x0 : Vec Ideal S512x1024 .f32) (x1 x2 : Vec Ideal S1x1024 .f32) (w : Vec Ideal S1024x1024 .bf16) (r : Fin 512) (e : Fin 1024) : EReal := prod (feat x0 x1 x2 r) (colOf w e)

theorem out13_at (y : S512x1024.Idx) : out0_13 x0 x1 x2 x3 x4 x5 x6 x7 x8 x9 x10 x11 y = plain x0 x1 x2 x5 (y 0) (y 1) := by
  unfold out0_13
  simp only [k0_pay31, k0_pay29, ldRow, ldMat, ldFor, ldBias]
  refine View.canon_append_of_piecesOf (Val := Elt Ideal) (fun y : S512x1024.Idx => plain x0 x1 x2 x5 (y 0) (y 1)) [] [_, _] ⟨fun z => ?_, fun z => ?_, trivial⟩ y (cover0_13 _ _ y)
  · obtain ⟨a, b, rfl⟩ : ∃ a b, z = ix2 a b := ⟨_, _, rows2 z⟩
    refine Eq.trans (b := plain x0 x1 x2 x5 ⟨256 + a.val, by omega⟩ b) ?_ (congrArg (fun y : S512x1024.Idx => plain x0 x1 x2 x5 (y 0) (y 1)) (emb_high a b)).symm
    refine (pay24_eq _ _ _ _ a b).trans ?_
    rw [high_feat]
    rfl
  · obtain ⟨a, b, rfl⟩ : ∃ a b, z = ix2 a b := ⟨_, _, rows2 z⟩
    refine Eq.trans (b := plain x0 x1 x2 x5 ⟨a.val, by omega⟩ b) ?_ (congrArg (fun y : S512x1024.Idx => plain x0 x1 x2 x5 (y 0) (y 1)) (emb_low a b)).symm
    refine (pay9_at _ _ a b).trans ?_
    rw [low_feat]
    rfl

theorem out14_at (y : S1x1024x512.Idx) : out0_14 x0 x1 x2 x3 x4 x5 x6 x7 x8 x9 x10 x11 y = plain x0 x1 x2 x6 (y 2) (y 1) := by
  unfold out0_14
  simp only [k0_pay32, k0_pay31, k0_pay29, ldRow, ldMat, ldFor, ldBias]
  refine View.canon_append_of_piecesOf (Val := Elt Ideal) (fun y : S1x1024x512.Idx => plain x0 x1 x2 x6 (y 2) (y 1)) [] [_, _] ⟨fun z => ?_, fun z => ?_, trivial⟩ y (cover0_14 _ _ y)
  · obtain ⟨a, b, rfl⟩ : ∃ a b, z = ix3 0 a b := ⟨_, _, rows3 z⟩
    refine Eq.trans (b := plain x0 x1 x2 x6 ⟨256 + b.val, by omega⟩ a) ?_ (congrArg (fun y : S1x1024x512.Idx => plain x0 x1 x2 x6 (y 2) (y 1)) (emb_right a b)).symm
    refine (pay28_at _ _ b a).trans ?_
    rw [high_feat]
    rfl
  · obtain ⟨a, b, rfl⟩ : ∃ a b, z = ix3 0 a b := ⟨_, _, rows3 z⟩
    refine Eq.trans (b := plain x0 x1 x2 x6 ⟨b.val, by omega⟩ a) ?_ (congrArg (fun y : S1x1024x512.Idx => plain x0 x1 x2 x6 (y 2) (y 1)) (emb_left a b)).symm
    refine (pay14_at _ _ b a).trans ?_
    rw [low_feat]
    rfl

theorem out15_at (y : S1x1024x512.Idx) : out0_15 x0 x1 x2 x3 x4 x5 x6 x7 x8 x9 x10 x11 y = plain x0 x1 x2 x7 (y 2) (y 1) := by
  unfold out0_15
  simp only [k0_pay33, k0_pay30, k0_pay32, k0_pay31, k0_pay29, ldRow, ldMat, ldFor, ldBias]
  refine View.canon_append_of_piecesOf (Val := Elt Ideal) (fun y : S1x1024x512.Idx => plain x0 x1 x2 x7 (y 2) (y 1)) [] [_, _] ⟨fun z => ?_, fun z => ?_, trivial⟩ y (cover0_15 _ _ y)
  · obtain ⟨a, b, rfl⟩ : ∃ a b, z = ix3 0 a b := ⟨_, _, rows3 z⟩
    refine Eq.trans (b := plain x0 x1 x2 x7 ⟨256 + b.val, by omega⟩ a) ?_ (congrArg (fun y : S1x1024x512.Idx => plain x0 x1 x2 x7 (y 2) (y 1)) (emb_right a b)).symm
    refine (pay1_at _ _ b a).trans ?_
    rw [high_feat]
    rfl
  · obtain ⟨a, b, rfl⟩ : ∃ a b, z = ix3 0 a b := ⟨_, _, rows3 z⟩
    refine Eq.trans (b := plain x0 x1 x2 x7 ⟨b.val, by omega⟩ a) ?_ (congrArg (fun y : S1x1024x512.Idx => plain x0 x1 x2 x7 (y 2) (y 1)) (emb_left a b)).symm
    refine (pay15_at _ _ b a).trans ?_
    rw [low_feat]
    rfl

/-- The logarithm of the logistic function of a product and an offset. -/
def forget (x0 : Vec Ideal S512x1024 .f32) (x1 x2 : Vec Ideal S1x1024 .f32) (w : Vec Ideal S1024x128 .bf16) (f : Vec Ideal S16x1 .f32) (r : Fin 512) (e : Fin 16) : EReal := lsig (prod (feat x0 x1 x2 r) (colOf w ⟨e.val, by omega⟩) + f (ix2 e 0))

theorem out16_at (y : S1x16x512.Idx) : out0_16 x0 x1 x2 x3 x4 x5 x6 x7 x8 x9 x10 x11 y = forget x0 x1 x2 x8 x11 (y 2) (y 1) := by
  unfold out0_16
  simp only [k0_pay32, k0_pay31, k0_pay29, ldRow, ldMat, ldFor, ldBias]
  refine View.canon_append_of_piecesOf (Val := Elt Ideal) (fun y : S1x16x512.Idx => forget x0 x1 x2 x8 x11 (y 2) (y 1)) [] [_, _] ⟨fun z => ?_, fun z => ?_, trivial⟩ y (cover0_16 _ _ y)
  · obtain ⟨a, b, rfl⟩ : ∃ a b, z = ix3 0 a b := ⟨_, _, rows3' z⟩
    refine Eq.trans (b := forget x0 x1 x2 x8 x11 ⟨256 + b.val, by omega⟩ a) ?_ (congrArg (fun y : S1x16x512.Idx => forget x0 x1 x2 x8 x11 (y 2) (y 1)) (emb_right' a b)).symm
    refine ((pay2_at _ a b).trans (pay27_at _ _ _ a b)).trans ?_
    rw [high_feat]
    rfl
  · obtain ⟨a, b, rfl⟩ : ∃ a b, z = ix3 0 a b := ⟨_, _, rows3' z⟩
    refine Eq.trans (b := forget x0 x1 x2 x8 x11 ⟨b.val, by omega⟩ a) ?_ (congrArg (fun y : S1x16x512.Idx => forget x0 x1 x2 x8 x11 (y 2) (y 1)) (emb_left' a b)).symm
    refine ((pay16_at _ a b).trans (pay13_at _ _ _ a b)).trans ?_
    rw [low_feat]
    rfl

/-- The logistic function of a product. -/
def gate (x0 : Vec Ideal S512x1024 .f32) (x1 x2 : Vec Ideal S1x1024 .f32) (w : Vec Ideal S1024x1024 .bf16) (r : Fin 512) (e : Fin 1024) : EReal := Ideal.logistic (prod (feat x0 x1 x2 r) (colOf w e))

theorem out17_at (y : S512x1024.Idx) : out0_17 x0 x1 x2 x3 x4 x5 x6 x7 x8 x9 x10 x11 y = gate x0 x1 x2 x9 (y 0) (y 1) := by
  unfold out0_17
  simp only [k0_pay32, k0_pay31, k0_pay29, ldRow, ldMat, ldFor, ldBias]
  refine View.canon_append_of_piecesOf (Val := Elt Ideal) (fun y : S512x1024.Idx => gate x0 x1 x2 x9 (y 0) (y 1)) [] [_, _] ⟨fun z => ?_, fun z => ?_, trivial⟩ y (cover0_17 _ _ y)
  · obtain ⟨a, b, rfl⟩ : ∃ a b, z = ix2 a b := ⟨_, _, rows2 z⟩
    refine Eq.trans (b := gate x0 x1 x2 x9 ⟨256 + a.val, by omega⟩ b) ?_ (congrArg (fun y : S512x1024.Idx => gate x0 x1 x2 x9 (y 0) (y 1)) (emb_high a b)).symm
    refine (pay5_at _ _ a b).trans ?_
    rw [high_feat]
    rfl
  · obtain ⟨a, b, rfl⟩ : ∃ a b, z = ix2 a b := ⟨_, _, rows2 z⟩
    refine Eq.trans (b := gate x0 x1 x2 x9 ⟨a.val, by omega⟩ b) ?_ (congrArg (fun y : S512x1024.Idx => gate x0 x1 x2 x9 (y 0) (y 1)) (emb_low a b)).symm
    refine (pay19_at _ _ a b).trans ?_
    rw [low_feat]
    rfl

theorem out18_at (y : S512x1024.Idx) : out0_18 x0 x1 x2 x3 x4 x5 x6 x7 x8 x9 x10 x11 y = gate x0 x1 x2 x10 (y 0) (y 1) := by
  unfold out0_18
  simp only [k0_pay32, k0_pay31, k0_pay29, ldRow, ldMat, ldFor, ldBias]
  refine View.canon_append_of_piecesOf (Val := Elt Ideal) (fun y : S512x1024.Idx => gate x0 x1 x2 x10 (y 0) (y 1)) [] [_, _] ⟨fun z => ?_, fun z => ?_, trivial⟩ y (cover0_18 _ _ y)
  · obtain ⟨a, b, rfl⟩ : ∃ a b, z = ix2 a b := ⟨_, _, rows2 z⟩
    refine Eq.trans (b := gate x0 x1 x2 x10 ⟨256 + a.val, by omega⟩ b) ?_ (congrArg (fun y : S512x1024.Idx => gate x0 x1 x2 x10 (y 0) (y 1)) (emb_high a b)).symm
    refine (pay6_at _ _ a b).trans ?_
    rw [high_feat]
    rfl
  · obtain ⟨a, b, rfl⟩ : ∃ a b, z = ix2 a b := ⟨_, _, rows2 z⟩
    refine Eq.trans (b := gate x0 x1 x2 x10 ⟨a.val, by omega⟩ b) ?_ (congrArg (fun y : S512x1024.Idx => gate x0 x1 x2 x10 (y 0) (y 1)) (emb_low a b)).symm
    refine (pay20_at _ _ a b).trans ?_
    rw [low_feat]
    rfl

theorem out19_at (y : S512x1024.Idx) : out0_19 x0 x1 x2 x3 x4 x5 x6 x7 x8 x9 x10 x11 y = plain x0 x1 x2 x6 (y 0) (y 1) := by
  unfold out0_19
  simp only [k0_pay32, k0_pay31, k0_pay29, ldRow, ldMat, ldFor, ldBias]
  refine View.canon_append_of_piecesOf (Val := Elt Ideal) (fun y : S512x1024.Idx => plain x0 x1 x2 x6 (y 0) (y 1)) [] [_, _] ⟨fun z => ?_, fun z => ?_, trivial⟩ y (cover0_19 _ _ y)
  · obtain ⟨a, b, rfl⟩ : ∃ a b, z = ix2 a b := ⟨_, _, rows2 z⟩
    refine Eq.trans (b := plain x0 x1 x2 x6 ⟨256 + a.val, by omega⟩ b) ?_ (congrArg (fun y : S512x1024.Idx => plain x0 x1 x2 x6 (y 0) (y 1)) (emb_high a b)).symm
    refine (pay3_at _ _ a b).trans ?_
    rw [high_feat]
    rfl
  · obtain ⟨a, b, rfl⟩ : ∃ a b, z = ix2 a b := ⟨_, _, rows2 z⟩
    refine Eq.trans (b := plain x0 x1 x2 x6 ⟨a.val, by omega⟩ b) ?_ (congrArg (fun y : S512x1024.Idx => plain x0 x1 x2 x6 (y 0) (y 1)) (emb_low a b)).symm
    refine (pay17_at _ _ a b).trans ?_
    rw [low_feat]
    rfl

theorem out20_at (y : S1x1024x512.Idx) : out0_20 x0 x1 x2 x3 x4 x5 x6 x7 x8 x9 x10 x11 y = plain x0 x1 x2 x7 (y 2) (y 1) := by
  unfold out0_20
  simp only [k0_pay33, k0_pay30, k0_pay32, k0_pay31, k0_pay29, ldRow, ldMat, ldFor, ldBias]
  refine View.canon_append_of_piecesOf (Val := Elt Ideal) (fun y : S1x1024x512.Idx => plain x0 x1 x2 x7 (y 2) (y 1)) [] [_, _] ⟨fun z => ?_, fun z => ?_, trivial⟩ y (cover0_20 _ _ y)
  · obtain ⟨a, b, rfl⟩ : ∃ a b, z = ix3 0 a b := ⟨_, _, rows3 z⟩
    refine Eq.trans (b := plain x0 x1 x2 x7 ⟨256 + b.val, by omega⟩ a) ?_ (congrArg (fun y : S1x1024x512.Idx => plain x0 x1 x2 x7 (y 2) (y 1)) (emb_right a b)).symm
    refine (pay4_at _ _ b a).trans ?_
    rw [high_feat]
    rfl
  · obtain ⟨a, b, rfl⟩ : ∃ a b, z = ix3 0 a b := ⟨_, _, rows3 z⟩
    refine Eq.trans (b := plain x0 x1 x2 x7 ⟨b.val, by omega⟩ a) ?_ (congrArg (fun y : S1x1024x512.Idx => plain x0 x1 x2 x7 (y 2) (y 1)) (emb_left a b)).symm
    refine (pay18_at _ _ b a).trans ?_
    rw [low_feat]
    rfl

end Cert.Proof.Proj
-- ==== Proof.ProjHost.lean ====
/- The arrays the projection's region reads, at an index. -/
module

public import proofs.«01_k».proof.Proof.ProjBlock
public import Idealize.ShloMosaic.Lib.Pipeline.Covers
public import Idealize.ShloMosaic.Lib.StableHlo.ReadAt

@[expose] public section

set_option maxRecDepth 16384

noncomputable section

namespace Cert.Proof.Proj

open Cert.InprojIdeal Cert.InprojIdeal.Gen
open Idealize.ShloMosaic
open Idealize.ShloMosaic.TcCoe
open Idealize.SL.Sem

variable (m : (ℓ : Loc nD τ sig) → Buf (Elt Ideal) ℓ) (c : Dev nD)

theorem arr_x (R : Fin 65536) (d : Fin 1024) : Gen.V m c main_v10 (ix2 R d) = m ((c.tc : Thread nD τ).loc main_arg0) (ix3 ⟨R.val / 8192, by omega⟩ ⟨R.val % 8192, by omega⟩ d) := by
  unfold_abbrev_sides
  after_reads_at

theorem arr_g (d : Fin 1024) : Gen.V m c main_v11 (ix2 0 d) = m ((c.tc : Thread nD τ).loc main_arg1) (ix1 d) := by
  unfold_abbrev_sides
  after_reads_at

theorem arr_b (d : Fin 1024) : Gen.V m c main_v12 (ix2 0 d) = m ((c.tc : Thread nD τ).loc main_arg2) (ix1 d) := by
  unfold_abbrev_sides
  after_reads_at

theorem arr_o (h : Fin 16) : Gen.V m c main_v13 (ix2 h 0) = m ((c.tc : Thread nD τ).loc main_arg4) (ix1 h) := by
  unfold_abbrev_sides
  after_reads_at

theorem arr_f (d : Fin 1024) (e : Fin 16) : Gen.V m c main_v9 (ix2 d ⟨e.val, by omega⟩) = m ((c.tc : Thread nD τ).loc main_arg3) (ix2 d ⟨5120 + e.val, by omega⟩) := by
  unfold_abbrev_sides
  after_reads_at

theorem arr_w1 (d e : Fin 1024) : Gen.V m c main_v1 (ix2 d e) = m ((c.tc : Thread nD τ).loc main_arg3) (ix2 d ⟨e.val, by omega⟩) := by
  unfold_abbrev_sides
  after_reads_at

theorem arr_w2 (d e : Fin 1024) : Gen.V m c main_v2 (ix2 d e) = m ((c.tc : Thread nD τ).loc main_arg3) (ix2 d ⟨1024 + e.val, by omega⟩) := by
  unfold_abbrev_sides
  after_reads_at

theorem arr_w3 (d e : Fin 1024) : Gen.V m c main_v3 (ix2 d e) = m ((c.tc : Thread nD τ).loc main_arg3) (ix2 d ⟨2048 + e.val, by omega⟩) := by
  unfold_abbrev_sides
  after_reads_at

theorem arr_w4 (d e : Fin 1024) : Gen.V m c main_v4 (ix2 d e) = m ((c.tc : Thread nD τ).loc main_arg3) (ix2 d ⟨3072 + e.val, by omega⟩) := by
  unfold_abbrev_sides
  after_reads_at

theorem arr_w5 (d e : Fin 1024) : Gen.V m c main_v5 (ix2 d e) = m ((c.tc : Thread nD τ).loc main_arg3) (ix2 d ⟨4096 + e.val, by omega⟩) := by
  unfold_abbrev_sides
  after_reads_at

theorem arr_w7 (d e : Fin 1024) : Gen.V m c main_v7 (ix2 d e) = m ((c.tc : Thread nD τ).loc main_arg3) (ix2 d ⟨5136 + e.val, by omega⟩) := by
  unfold_abbrev_sides
  after_reads_at

theorem arr_w8 (d e : Fin 1024) : Gen.V m c main_v8 (ix2 d e) = m ((c.tc : Thread nD τ).loc main_arg3) (ix2 d ⟨6160 + e.val, by omega⟩) := by
  unfold_abbrev_sides
  after_reads_at

/-! ## The blocks -/

theorem lt0 (t : Fin cfg0.N) : (grid0.coords t 0).val < 128 := (grid0.coords t 0).isLt

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![(grid0.coords t 0).val, 0] := (by decide +kernel : ∀ t : Fin grid0.N, _)
theorem idx13 : ∀ t : Fin cfg0.N, win0_13.index t = ![(grid0.coords t 0).val, 0] := (by decide +kernel : ∀ t : Fin grid0.N, _)
theorem idx17 : ∀ t : Fin cfg0.N, win0_17.index t = ![(grid0.coords t 0).val, 0] := (by decide +kernel : ∀ t : Fin grid0.N, _)
theorem idx18 : ∀ t : Fin cfg0.N, win0_18.index t = ![(grid0.coords t 0).val, 0] := (by decide +kernel : ∀ t : Fin grid0.N, _)
theorem idx19 : ∀ t : Fin cfg0.N, win0_19.index t = ![(grid0.coords t 0).val, 0] := (by decide +kernel : ∀ t : Fin grid0.N, _)
theorem idx14 : ∀ t : Fin cfg0.N, win0_14.index t = ![(grid0.coords t 0).val / 16, 0, (grid0.coords t 0).val % 16] := (by decide +kernel : ∀ t : Fin grid0.N, _)
theorem idx15 : ∀ t : Fin cfg0.N, win0_15.index t = ![(grid0.coords t 0).val / 16, 0, (grid0.coords t 0).val % 16] := (by decide +kernel : ∀ t : Fin grid0.N, _)
theorem idx16 : ∀ t : Fin cfg0.N, win0_16.index t = ![(grid0.coords t 0).val / 16, 0, (grid0.coords t 0).val % 16] := (by decide +kernel : ∀ t : Fin grid0.N, _)
theorem idx20 : ∀ t : Fin cfg0.N, win0_20.index t = ![(grid0.coords t 0).val / 16, 0, (grid0.coords t 0).val % 16] := (by decide +kernel : ∀ t : Fin grid0.N, _)

/-- A row's batch entry and position. -/
def batch (t : Fin cfg0.N) (r : Fin 512) : Fin 8 := ⟨(512 * (grid0.coords t 0).val + r.val) / 8192, by have := lt0 t; omega⟩
def place (t : Fin cfg0.N) (r : Fin 512) : Fin 8192 := ⟨(512 * (grid0.coords t 0).val + r.val) % 8192, by omega⟩

theorem xBlk_at (t : Fin cfg0.N) (r : Fin 512) (d : Fin 1024) :
    iblk m c 0 t (ix2 r d) = m ((c.tc : Thread nD τ).loc main_arg0) (ix3 (batch t r) (place t r) d) := by
  have h := lt0 t
  unfold iblk
  blk_simp
  refine (congrArg (Gen.V m c main_v10) (?_ : _ = ix2 ⟨512 * (grid0.coords t 0).val + r.val, by omega⟩ d)).trans (arr_x m c _ d)
  blk_ext [idx0 t]

theorem gBlk_at (t : Fin cfg0.N) (d : Fin 1024) : iblk m c 1 t (ix2 0 d) = m ((c.tc : Thread nD τ).loc main_arg1) (ix1 d) := by
  unfold iblk
  blk_simp
  refine (congrArg (Gen.V m c main_v11) (?_ : _ = ix2 0 d)).trans (arr_g m c d)
  blk_ext [idx1 t]

theorem bBlk_at (t : Fin cfg0.N) (d : Fin 1024) : iblk m c 2 t (ix2 0 d) = m ((c.tc : Thread nD τ).loc main_arg2) (ix1 d) := by
  unfold iblk
  blk_simp
  refine (congrArg (Gen.V m c main_v12) (?_ : _ = ix2 0 d)).trans (arr_b m c d)
  blk_ext [idx2 t]

theorem fBlk_at (t : Fin cfg0.N) (d : Fin 1024) (e : Fin 16) : iblk m c 8 t (ix2 d ⟨e.val, by omega⟩) = m ((c.tc : Thread nD τ).loc main_arg3) (ix2 d ⟨5120 + e.val, by omega⟩) := by
  unfold iblk
  blk_simp
  refine (congrArg (Gen.V m c main_v9) (?_ : _ = ix2 d ⟨e.val, by omega⟩)).trans (arr_f m c d e)
  blk_ext [idx8 t]

theorem oBlk_at (t : Fin cfg0.N) (e : Fin 16) : iblk m c 11 t (ix2 e 0) = m ((c.tc : Thread nD τ).loc main_arg4) (ix1 e) := by
  unfold iblk
  blk_simp
  refine (congrArg (Gen.V m c main_v13) (?_ : _ = ix2 e 0)).trans (arr_o m c e)
  blk_ext [idx11 t]

theorem wBlk3_at (t : Fin cfg0.N) (d e : Fin 1024) : iblk m c 3 t (ix2 d e) = m ((c.tc : Thread nD τ).loc main_arg3) (ix2 d ⟨e.val, by omega⟩) := by
  unfold iblk
  blk_simp
  refine (congrArg (Gen.V m c main_v1) (?_ : _ = ix2 d e)).trans (arr_w1 m c d e)
  blk_ext [idx3 t]

theorem wBlk4_at (t : Fin cfg0.N) (d e : Fin 1024) : iblk m c 4 t (ix2 d e) = m ((c.tc : Thread nD τ).loc main_arg3) (ix2 d ⟨1024 + e.val, by omega⟩) := by
  unfold iblk
  blk_simp
  refine (congrArg (Gen.V m c main_v2) (?_ : _ = ix2 d e)).trans (arr_w2 m c d e)
  blk_ext [idx4 t]

theorem wBlk5_at (t : Fin cfg0.N) (d e : Fin 1024) : iblk m c 5 t (ix2 d e) = m ((c.tc : Thread nD τ).loc main_arg3) (ix2 d ⟨2048 + e.val, by omega⟩) := by
  unfold iblk
  blk_simp
  refine (congrArg (Gen.V m c main_v3) (?_ : _ = ix2 d e)).trans (arr_w3 m c d e)
  blk_ext [idx5 t]

theorem wBlk6_at (t : Fin cfg0.N) (d e : Fin 1024) : iblk m c 6 t (ix2 d e) = m ((c.tc : Thread nD τ).loc main_arg3) (ix2 d ⟨3072 + e.val, by omega⟩) := by
  unfold iblk
  blk_simp
  refine (congrArg (Gen.V m c main_v4) (?_ : _ = ix2 d e)).trans (arr_w4 m c d e)
  blk_ext [idx6 t]

theorem wBlk7_at (t : Fin cfg0.N) (d e : Fin 1024) : iblk m c 7 t (ix2 d e) = m ((c.tc : Thread nD τ).loc main_arg3) (ix2 d ⟨4096 + e.val, by omega⟩) := by
  unfold iblk
  blk_simp
  refine (congrArg (Gen.V m c main_v5) (?_ : _ = ix2 d e)).trans (arr_w5 m c d e)
  blk_ext [idx7 t]

theorem wBlk9_at (t : Fin cfg0.N) (d e : Fin 1024) : iblk m c 9 t (ix2 d e) = m ((c.tc : Thread nD τ).loc main_arg3) (ix2 d ⟨5136 + e.val, by omega⟩) := by
  unfold iblk
  blk_simp
  refine (congrArg (Gen.V m c main_v7) (?_ : _ = ix2 d e)).trans (arr_w7 m c d e)
  blk_ext [idx9 t]

theorem wBlk10_at (t : Fin cfg0.N) (d e : Fin 1024) : iblk m c 10 t (ix2 d e) = m ((c.tc : Thread nD τ).loc main_arg3) (ix2 d ⟨6160 + e.val, by omega⟩) := by
  unfold iblk
  blk_simp
  refine (congrArg (Gen.V m c main_v8) (?_ : _ = ix2 d e)).trans (arr_w8 m c d e)
  blk_ext [idx10 t]

end Cert.Proof.Proj
-- ==== Proof.ProjArrays.lean ====
/- The arrays the projection's region leaves. -/
module

public import proofs.«01_k».proof.Proof.ProjHost

@[expose] public section

set_option maxRecDepth 16384

noncomputable section

namespace Cert.Proof.Proj

open Cert.InprojIdeal Cert.InprojIdeal.Gen
open Idealize.ShloMosaic
open Idealize.ShloMosaic.TcCoe
open Idealize.SL.Sem

section Values

variable (X : FVec Ideal S8x8192x1024 .f32) (g b : FVec Ideal S1024 .f32) (W : FVec Ideal S1024x7184 .f32) (f : FVec Ideal S16 .f32)

/-- A normalized row. -/
def normed (n : Fin 8) (t : Fin 8192) : Fin 1024 → EReal := lnorm (fun d => X (ix3 n t d)) (fun d => g (ix1 d)) (fun d => b (ix1 d))

/-- Its projection on a column. -/
def zed (n : Fin 8) (t : Fin 8192) (j : Fin 7184) : EReal := prod (normed X g b n t) fun d => W (ix2 d j)

/-- The gated linear unit. -/
def uVal (n : Fin 8) (t : Fin 8192) (e : Fin 1024) : EReal := zed X g b W n t ⟨e.val, by omega⟩ * Ideal.logistic (zed X g b W n t ⟨1024 + e.val, by omega⟩)

/-- Some columns of the projection. -/
def zVal (o : ℕ) (ho : o + 1024 ≤ 7184) (n : Fin 8) (t : Fin 8192) (e : Fin 1024) : EReal := zed X g b W n t ⟨o + e.val, by omega⟩

/-- A gate. -/
def gVal (o : ℕ) (ho : o + 1024 ≤ 7184) (n : Fin 8) (t : Fin 8192) (e : Fin 1024) : EReal := Ideal.logistic (zed X g b W n t ⟨o + e.val, by omega⟩)

/-- The logarithm of the forget gate. -/
def fVal (n : Fin 8) (t : Fin 8192) (h : Fin 16) : EReal := lsig (zed X g b W n t ⟨5120 + h.val, by omega⟩ + f (ix1 h))

end Values

/-- A value of every position and feature, as rows. -/
def rowsOf (v : Fin 8 → Fin 8192 → Fin 1024 → EReal) (j : S65536x1024.Idx) : EReal :=
  v ⟨(j 0).val / 8192, by have h : (j 0).val < 65536 := (j 0).isLt; omega⟩ ⟨(j 0).val % 8192, by omega⟩ (j 1)

/-- A value of every position and feature, the positions last. -/
def lastOf (v : Fin 8 → Fin 8192 → Fin 1024 → EReal) (j : S8x1024x8192.Idx) : EReal := v (j 0) (j 2) (j 1)

/-- A value of every position and head, the positions last. -/
def headsOf (v : Fin 8 → Fin 8192 → Fin 16 → EReal) (j : S8x16x8192.Idx) : EReal := v (j 0) (j 2) (j 1)

variable (m : (ℓ : Loc nD τ sig) → Buf (Elt Ideal) ℓ) (c : Dev nD)

/-- The arguments. -/
abbrev aX : FVec Ideal S8x8192x1024 .f32 := m ((c.tc : Thread nD τ).loc main_arg0)
abbrev aG : FVec Ideal S1024 .f32 := m ((c.tc : Thread nD τ).loc main_arg1)
abbrev aB : FVec Ideal S1024 .f32 := m ((c.tc : Thread nD τ).loc main_arg2)
abbrev aW : FVec Ideal S1024x7184 .f32 := m ((c.tc : Thread nD τ).loc main_arg3)
abbrev aF : FVec Ideal S16 .f32 := m ((c.tc : Thread nD τ).loc main_arg4)

theorem feat_at (t : Fin cfg0.N) (r : Fin 512) : feat (iblk m c 0 t) (iblk m c 1 t) (iblk m c 2 t) r = normed (aX m c) (aG m c) (aB m c) (batch t r) (place t r) := by
  unfold feat normed
  rw [show (fun d => iblk m c 0 t (ix2 r d)) = fun d => aX m c (ix3 (batch t r) (place t r) d) from funext fun d => xBlk_at m c t r d,
    show (fun d => iblk m c 1 t (ix2 0 d)) = fun d => aG m c (ix1 d) from funext fun d => gBlk_at m c t d,
    show (fun d => iblk m c 2 t (ix2 0 d)) = fun d => aB m c (ix1 d) from funext fun d => bBlk_at m c t d]

theorem col3_at (t : Fin cfg0.N) (e : Fin 1024) : colOf (iblk m c 3 t) e = fun d => aW m c (ix2 d ⟨e.val, by omega⟩) := funext fun d => wBlk3_at m c t d e

theorem col4_at (t : Fin cfg0.N) (e : Fin 1024) : colOf (iblk m c 4 t) e = fun d => aW m c (ix2 d ⟨1024 + e.val, by omega⟩) := funext fun d => wBlk4_at m c t d e

theorem col5_at (t : Fin cfg0.N) (e : Fin 1024) : colOf (iblk m c 5 t) e = fun d => aW m c (ix2 d ⟨2048 + e.val, by omega⟩) := funext fun d => wBlk5_at m c t d e

theorem col6_at (t : Fin cfg0.N) (e : Fin 1024) : colOf (iblk m c 6 t) e = fun d => aW m c (ix2 d ⟨3072 + e.val, by omega⟩) := funext fun d => wBlk6_at m c t d e

theorem col7_at (t : Fin cfg0.N) (e : Fin 1024) : colOf (iblk m c 7 t) e = fun d => aW m c (ix2 d ⟨4096 + e.val, by omega⟩) := funext fun d => wBlk7_at m c t d e

theorem col9_at (t : Fin cfg0.N) (e : Fin 1024) : colOf (iblk m c 9 t) e = fun d => aW m c (ix2 d ⟨5136 + e.val, by omega⟩) := funext fun d => wBlk9_at m c t d e

theorem col10_at (t : Fin cfg0.N) (e : Fin 1024) : colOf (iblk m c 10 t) e = fun d => aW m c (ix2 d ⟨6160 + e.val, by omega⟩) := funext fun d => wBlk10_at m c t d e

theorem col8_at (t : Fin cfg0.N) (e : Fin 16) : colOf (iblk m c 8 t) ⟨e.val, by omega⟩ = fun d => aW m c (ix2 d ⟨5120 + e.val, by omega⟩) := funext fun d => fBlk_at m c t d e

theorem gated_at (t : Fin cfg0.N) (r : Fin 512) (e : Fin 1024) : gated (iblk m c 0 t) (iblk m c 1 t) (iblk m c 2 t) (iblk m c 3 t) (iblk m c 4 t) r e = uVal (aX m c) (aG m c) (aB m c) (aW m c) (batch t r) (place t r) e := by
  unfold gated
  rw [feat_at, col3_at, col4_at]
  rfl

theorem forget_at (t : Fin cfg0.N) (r : Fin 512) (e : Fin 16) : forget (iblk m c 0 t) (iblk m c 1 t) (iblk m c 2 t) (iblk m c 8 t) (iblk m c 11 t) r e = fVal (aX m c) (aG m c) (aB m c) (aW m c) (aF m c) (batch t r) (place t r) e := by
  unfold forget
  rw [feat_at, col8_at, oBlk_at]
  rfl

theorem plain5_at (t : Fin cfg0.N) (r : Fin 512) (e : Fin 1024) : plain (iblk m c 0 t) (iblk m c 1 t) (iblk m c 2 t) (iblk m c 5 t) r e = zVal (aX m c) (aG m c) (aB m c) (aW m c) 2048 (by decide) (batch t r) (place t r) e := by
  unfold plain
  rw [feat_at, col5_at]
  rfl

theorem plain6_at (t : Fin cfg0.N) (r : Fin 512) (e : Fin 1024) : plain (iblk m c 0 t) (iblk m c 1 t) (iblk m c 2 t) (iblk m c 6 t) r e = zVal (aX m c) (aG m c) (aB m c) (aW m c) 3072 (by decide) (batch t r) (place t r) e := by
  unfold plain
  rw [feat_at, col6_at]
  rfl

theorem plain7_at (t : Fin cfg0.N) (r : Fin 512) (e : Fin 1024) : plain (iblk m c 0 t) (iblk m c 1 t) (iblk m c 2 t) (iblk m c 7 t) r e = zVal (aX m c) (aG m c) (aB m c) (aW m c) 4096 (by decide) (batch t r) (place t r) e := by
  unfold plain
  rw [feat_at, col7_at]
  rfl

theorem gate9_at (t : Fin cfg0.N) (r : Fin 512) (e : Fin 1024) : gate (iblk m c 0 t) (iblk m c 1 t) (iblk m c 2 t) (iblk m c 9 t) r e = gVal (aX m c) (aG m c) (aB m c) (aW m c) 5136 (by decide) (batch t r) (place t r) e := by
  unfold gate
  rw [feat_at, col9_at]
  rfl

theorem gate10_at (t : Fin cfg0.N) (r : Fin 512) (e : Fin 1024) : gate (iblk m c 0 t) (iblk m c 1 t) (iblk m c 2 t) (iblk m c 10 t) r e = gVal (aX m c) (aG m c) (aB m c) (aW m c) 6160 (by decide) (batch t r) (place t r) e := by
  unfold gate
  rw [feat_at, col10_at]
  rfl

/-- A row of a block, among all rows. -/
theorem rows_place (v : Fin 8 → Fin 8192 → Fin 1024 → EReal) (t : Fin cfg0.N) (r : Fin 512) (e : Fin 1024) :
    v (batch t r) (place t r) e = rowsOf v (ix2 ⟨512 * (grid0.coords t 0).val + r.val, by have := lt0 t; omega⟩ e) := rfl

theorem batch_eq (t : Fin cfg0.N) (r : Fin 512) : batch t r = ⟨(grid0.coords t 0).val / 16, by have := lt0 t; omega⟩ := Fin.ext (by
  show (512 * (grid0.coords t 0).val + r.val) / 8192 = (grid0.coords t 0).val / 16
  omega)

theorem place_eq (t : Fin cfg0.N) (r : Fin 512) : place t r = ⟨512 * ((grid0.coords t 0).val % 16) + r.val, by omega⟩ := Fin.ext (by
  show (512 * (grid0.coords t 0).val + r.val) % 8192 = 512 * ((grid0.coords t 0).val % 16) + r.val
  omega)

theorem last_place (v : Fin 8 → Fin 8192 → Fin 1024 → EReal) (t : Fin cfg0.N) (r : Fin 512) (e : Fin 1024) :
    v (batch t r) (place t r) e = lastOf v (ix3 ⟨(grid0.coords t 0).val / 16, by have := lt0 t; omega⟩ e ⟨512 * ((grid0.coords t 0).val % 16) + r.val, by omega⟩) := by
  rw [batch_eq, place_eq]
  rfl

theorem heads_place (v : Fin 8 → Fin 8192 → Fin 16 → EReal) (t : Fin cfg0.N) (r : Fin 512) (e : Fin 16) :
    v (batch t r) (place t r) e = headsOf v (ix3 ⟨(grid0.coords t 0).val / 16, by have := lt0 t; omega⟩ e ⟨512 * ((grid0.coords t 0).val % 16) + r.val, by omega⟩) := by
  rw [batch_eq, place_eq]
  rfl

theorem arr12_eq : (dats m 0 c).arrAt 12 cfg0.N = rowsOf (uVal (aX m c) (aG m c) (aB m c) (aW m c)) := by
  refine (dats m 0 c).arrAt_eq_of_covers 12 _ (by decide +kernel) fun t hf y => ?_
  blk_simp
  refine (congrFun (after0_12 m c t) y).trans ?_
  refine (out12_at _ _ _ _ _ _ _ _ _ _ _ _ y).trans ?_
  refine (gated_at m c t (y 0) (y 1)).trans ?_
  refine (rows_place _ t (y 0) (y 1)).trans ?_
  refine congrArg (rowsOf _) ?_
  blk_ext [idx12 t]

theorem arr13_eq : (dats m 0 c).arrAt 13 cfg0.N = rowsOf (zVal (aX m c) (aG m c) (aB m c) (aW m c) 2048 (by decide)) := by
  refine (dats m 0 c).arrAt_eq_of_covers 13 _ (by decide +kernel) fun t hf y => ?_
  blk_simp
  refine (congrFun (after0_13 m c t) y).trans ?_
  refine (out13_at _ _ _ _ _ _ _ _ _ _ _ _ y).trans ?_
  refine (plain5_at m c t (y 0) (y 1)).trans ?_
  refine (rows_place _ t (y 0) (y 1)).trans ?_
  refine congrArg (rowsOf _) ?_
  blk_ext [idx13 t]

theorem arr14_eq : (dats m 0 c).arrAt 14 cfg0.N = lastOf (zVal (aX m c) (aG m c) (aB m c) (aW m c) 3072 (by decide)) := by
  refine (dats m 0 c).arrAt_eq_of_covers 14 _ (by decide +kernel) fun t hf y => ?_
  blk_simp
  refine (congrFun (after0_14 m c t) y).trans ?_
  refine (out14_at _ _ _ _ _ _ _ _ _ _ _ _ y).trans ?_
  refine (plain6_at m c t (y 2) (y 1)).trans ?_
  refine (last_place _ t (y 2) (y 1)).trans ?_
  refine congrArg (lastOf _) ?_
  blk_ext [idx14 t]

theorem arr15_eq : (dats m 0 c).arrAt 15 cfg0.N = lastOf (zVal (aX m c) (aG m c) (aB m c) (aW m c) 4096 (by decide)) := by
  refine (dats m 0 c).arrAt_eq_of_covers 15 _ (by decide +kernel) fun t hf y => ?_
  blk_simp
  refine (congrFun (after0_15 m c t) y).trans ?_
  refine (out15_at _ _ _ _ _ _ _ _ _ _ _ _ y).trans ?_
  refine (plain7_at m c t (y 2) (y 1)).trans ?_
  refine (last_place _ t (y 2) (y 1)).trans ?_
  refine congrArg (lastOf _) ?_
  blk_ext [idx15 t]

theorem arr16_eq : (dats m 0 c).arrAt 16 cfg0.N = headsOf (fVal (aX m c) (aG m c) (aB m c) (aW m c) (aF m c)) := by
  refine (dats m 0 c).arrAt_eq_of_covers 16 _ (by decide +kernel) fun t hf y => ?_
  blk_simp
  refine (congrFun (after0_16 m c t) y).trans ?_
  refine (out16_at _ _ _ _ _ _ _ _ _ _ _ _ y).trans ?_
  refine (forget_at m c t (y 2) (y 1)).trans ?_
  refine (heads_place _ t (y 2) (y 1)).trans ?_
  refine congrArg (headsOf _) ?_
  blk_ext [idx16 t]

theorem arr17_eq : (dats m 0 c).arrAt 17 cfg0.N = rowsOf (gVal (aX m c) (aG m c) (aB m c) (aW m c) 5136 (by decide)) := by
  refine (dats m 0 c).arrAt_eq_of_covers 17 _ (by decide +kernel) fun t hf y => ?_
  blk_simp
  refine (congrFun (after0_17 m c t) y).trans ?_
  refine (out17_at _ _ _ _ _ _ _ _ _ _ _ _ y).trans ?_
  refine (gate9_at m c t (y 0) (y 1)).trans ?_
  refine (rows_place _ t (y 0) (y 1)).trans ?_
  refine congrArg (rowsOf _) ?_
  blk_ext [idx17 t]

theorem arr18_eq : (dats m 0 c).arrAt 18 cfg0.N = rowsOf (gVal (aX m c) (aG m c) (aB m c) (aW m c) 6160 (by decide)) := by
  refine (dats m 0 c).arrAt_eq_of_covers 18 _ (by decide +kernel) fun t hf y => ?_
  blk_simp
  refine (congrFun (after0_18 m c t) y).trans ?_
  refine (out18_at _ _ _ _ _ _ _ _ _ _ _ _ y).trans ?_
  refine (gate10_at m c t (y 0) (y 1)).trans ?_
  refine (rows_place _ t (y 0) (y 1)).trans ?_
  refine congrArg (rowsOf _) ?_
  blk_ext [idx18 t]

theorem arr19_eq : (dats m 0 c).arrAt 19 cfg0.N = rowsOf (zVal (aX m c) (aG m c) (aB m c) (aW m c) 3072 (by decide)) := by
  refine (dats m 0 c).arrAt_eq_of_covers 19 _ (by decide +kernel) fun t hf y => ?_
  blk_simp
  refine (congrFun (after0_19 m c t) y).trans ?_
  refine (out19_at _ _ _ _ _ _ _ _ _ _ _ _ y).trans ?_
  refine (plain6_at m c t (y 0) (y 1)).trans ?_
  refine (rows_place _ t (y 0) (y 1)).trans ?_
  refine congrArg (rowsOf _) ?_
  blk_ext [idx19 t]

theorem arr20_eq : (dats m 0 c).arrAt 20 cfg0.N = lastOf (zVal (aX m c) (aG m c) (aB m c) (aW m c) 4096 (by decide)) := by
  refine (dats m 0 c).arrAt_eq_of_covers 20 _ (by decide +kernel) fun t hf y => ?_
  blk_simp
  refine (congrFun (after0_20 m c t) y).trans ?_
  refine (out20_at _ _ _ _ _ _ _ _ _ _ _ _ y).trans ?_
  refine (plain7_at m c t (y 2) (y 1)).trans ?_
  refine (last_place _ t (y 2) (y 1)).trans ?_
  refine congrArg (lastOf _) ?_
  blk_ext [idx20 t]

end Cert.Proof.Proj
-- ==== Proof.ProjRef.lean ====
/- The projection's reference, read at an index. -/
module

public import proofs.«01_k».proof.Proof.ProjArrays
public import proofs.«01_k».proof.Proof.Gen.InprojReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.ProjRef

open Cert.InprojReferenceIdeal Cert.InprojReferenceIdeal.Gen Cert.InprojReferenceIdeal.Value Idealize.ShloMosaic Idealize.ShloMosaic.TcCoe Idealize.SL.Sem
open Cert.Proof.Proj (mean lnorm prod lsig normed zed uVal zVal gVal fVal rowsOf lastOf headsOf)

/-- The means of the rows, one column. -/
def means (x : FVec Ideal S8x8192x1024 .f32) : FVec Ideal S8x8192x1 .f32 :=
  Host.divf (broadcastInDim S8x8192x1 ![0, 1] bcast_S8x8192_S8x8192x1_0_1 (Host.reduceAdd x (constant S_ .f32 0x00000000#32) reducesTo_S8x8192x1024_S8x8192_d2 h_S_)) (broadcastInDim S8x8192x1 ![] bcast_S_S8x8192x1 (constant S_ .f32 0x44800000#32))

/-- The rows less their means. -/
def centred (x : FVec Ideal S8x8192x1024 .f32) : FVec Ideal S8x8192x1024 .f32 :=
  subf x (broadcastInDim S8x8192x1024 ![0, 1, 2] bcast_S8x8192x1_S8x8192x1024_0_1_2 (means x))

/-- A vector of features at every position. -/
def spread (g : FVec Ideal S1024 .f32) : FVec Ideal S8x8192x1024 .f32 :=
  broadcastInDim S8x8192x1024 ![0, 1, 2] bcast_S1x1x1024_S8x8192x1024_0_1_2 (broadcastInDim S1x1x1024 ![2] bcast_S1024_S1x1x1024_2 g)

/-- The normalized rows. -/
def hid (x : FVec Ideal S8x8192x1024 .f32) (g b : FVec Ideal S1024 .f32) : FVec Ideal S8x8192x1024 .f32 :=
  addf (mulf (mulf (centred x) (broadcastInDim S8x8192x1024 ![0, 1, 2] bcast_S8x8192x1_S8x8192x1024_0_1_2 (Host.rsqrt (addf (means (mulf (centred x) (centred x))) (broadcastInDim S8x8192x1 ![] bcast_S_S8x8192x1 (constant S_ .f32 0x3727C5AC#32)))))) (spread g)) (spread b)

/-- Their projection. -/
def zs (x : FVec Ideal S8x8192x1024 .f32) (g b : FVec Ideal S1024 .f32) (w : FVec Ideal S1024x7184 .f32) : FVec Ideal S8x8192x7184 .f32 :=
  Host.dotGeneral dot_S8x8192x1024_S1024x7184_S8x8192x7184_2_0_01_1_n_n none (hid x g b) w

theorem means_apply (x : FVec Ideal S8x8192x1024 .f32) (n : Fin 8) (t : Fin 8192) : means x (ix3 n t 0) = mean fun d => x (ix3 n t d) := by
  pointwise [means, mean]

theorem centred_apply (x : FVec Ideal S8x8192x1024 .f32) (n : Fin 8) (t : Fin 8192) (e : Fin 1024) : centred x (ix3 n t e) = x (ix3 n t e) - mean fun d => x (ix3 n t d) := by
  have h := means_apply x n t
  generalize hm : means x = u at h
  rw [← h]
  pointwise [centred, hm]

theorem spread_apply (g : FVec Ideal S1024 .f32) (n : Fin 8) (t : Fin 8192) (e : Fin 1024) : spread g (ix3 n t e) = g (ix1 e) := by
  pointwise [spread]

theorem hid_apply (x : FVec Ideal S8x8192x1024 .f32) (g b : FVec Ideal S1024 .f32) (n : Fin 8) (t : Fin 8192) (e : Fin 1024) :
    hid x g b (ix3 n t e) = normed x g b n t e := by
  have h1 := centred_apply x n t e
  have h2 : means (mulf (centred x) (centred x)) (ix3 n t 0) = mean fun d => (x (ix3 n t d) - mean fun d => x (ix3 n t d)) * (x (ix3 n t d) - mean fun d => x (ix3 n t d)) := by
    refine (means_apply _ n t).trans (congrArg mean (funext fun d => ?_))
    have h := centred_apply x n t d
    generalize centred x = u at h ⊢
    rw [← h]
    pointwise
  have h3 := spread_apply g n t e
  have h4 := spread_apply b n t e
  unfold normed lnorm hid
  beta_reduce
  rw [← h1, ← h2, ← h3, ← h4]
  generalize means (mulf (centred x) (centred x)) = v
  generalize centred x = u
  generalize spread g = p
  generalize spread b = q
  pointwise

theorem zs_apply (x : FVec Ideal S8x8192x1024 .f32) (g b : FVec Ideal S1024 .f32) (w : FVec Ideal S1024x7184 .f32) (n : Fin 8) (t : Fin 8192) (j : Fin 7184) :
    zs x g b w (ix3 n t j) = zed x g b w n t j := by
  unfold zed
  rw [show normed x g b n t = fun d => hid x g b (ix3 n t d) from funext fun d => (hid_apply x g b n t d).symm]
  unfold zs
  generalize hid x g b = h
  pointwise [prod]

/-- One over one plus the exponential of the negative. -/
def sig (z : FVec Ideal S8x8192x1024 .f32) : FVec Ideal S8x8192x1024 .f32 :=
  Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf z)))

/-- The logits of the forget gate, negated. -/
def neg (z : FVec Ideal S8x8192x7184 .f32) (f : FVec Ideal S16 .f32) : FVec Ideal S8x8192x16 .f32 :=
  Host.negf (addf (extractStridedSlice S8x8192x16 ![0, 0, 5120] z slices_S8x8192x7184_S8x8192x16_0_0_5120) (broadcastInDim S8x8192x16 ![0, 1, 2] bcast_S1x1x16_S8x8192x16_0_1_2 (broadcastInDim S1x1x16 ![2] bcast_S16_S1x1x16_2 f)))

/-- Zero at every head. -/
def nul : FVec Ideal S8x8192x16 .f32 := broadcastInDim S8x8192x16 ![] bcast_S_S8x8192x16 (constant S_ .f32 0x00000000#32)

/-- The negated logarithm of one plus the exponential. -/
def logs (y : FVec Ideal S8x8192x16 .f32) : FVec Ideal S8x16x8192 .f32 :=
  transpose S8x16x8192 [0, 2, 1] (Host.negf (select (cmpf .une (subf y nul) (subf y nul)) (addf y nul) (addf (maximumf y nul) (Host.log1p (Host.exp (Host.negf (Host.absf (subf y nul)))))))) transposes_S8x8192x16_S8x16x8192_0_2_1

theorem sig_apply (z : FVec Ideal S8x8192x1024 .f32) (n : Fin 8) (t : Fin 8192) (e : Fin 1024) : sig z (ix3 n t e) = Ideal.logistic (z (ix3 n t e)) := by
  refine Eq.trans (b := Ideal.div (Ideal.ofBits .f32 0x3F800000#32) (Ideal.ofBits .f32 0x3F800000#32 + Ideal.exp (-(z (ix3 n t e))))) ?_ (by rw [Ideal.ofBits_one_f32]; rfl)
  pointwise [sig]

theorem neg_apply (z : FVec Ideal S8x8192x7184 .f32) (f : FVec Ideal S16 .f32) (n : Fin 8) (t : Fin 8192) (h : Fin 16) :
    neg z f (ix3 n t h) = -(z (ix3 n t ⟨5120 + h.val, by omega⟩) + f (ix1 h)) := by
  pointwise [neg]

theorem lsig_eq' (z : EReal) : (-(if -z ≠ -z then -z else max (-z) 0 + Ideal.log1p (Ideal.exp (-(FloatOps.absf (F := Ideal) (φ := .f32) (-z)))) : EReal)) = lsig z := by
  rw [if_neg (fun h => h rfl)]
  rfl

theorem logs_apply (y : FVec Ideal S8x8192x16 .f32) (z : EReal) (n : Fin 8) (t : Fin 8192) (h : Fin 16) (hy : y (ix3 n t h) = -z) : logs y (ix3 n h t) = lsig z := by
  refine Eq.trans ?_ (lsig_eq' z)
  rw [← hy]
  pointwise [logs, nul]

theorem cut0 (x : FVec Ideal S8x8192x1024 .f32) (g b : FVec Ideal S1024 .f32) (w : FVec Ideal S1024x7184 .f32) (n : Fin 8) (t : Fin 8192) (e : Fin 1024) :
    (extractStridedSlice S8x8192x1024 ![0, 0, 0] (zs x g b w) slices_S8x8192x7184_S8x8192x1024_0_0_0 : FVec Ideal S8x8192x1024 .f32) (ix3 n t e) = zed x g b w n t ⟨e.val, by omega⟩ := by
  rw [← zs_apply]
  generalize zs x g b w = z
  pointwise

theorem cutAt (x : FVec Ideal S8x8192x1024 .f32) (g b : FVec Ideal S1024 .f32) (w : FVec Ideal S1024x7184 .f32) (o : ℕ) (h : S8x8192x7184.Slices ![0, 0, o] S8x8192x1024) (ho : o + 1024 ≤ 7184) (n : Fin 8) (t : Fin 8192) (e : Fin 1024) :
    (extractStridedSlice S8x8192x1024 ![0, 0, o] (zs x g b w) h : FVec Ideal S8x8192x1024 .f32) (ix3 n t e) = zed x g b w n t ⟨o + e.val, by omega⟩ := by
  rw [← zs_apply]
  generalize zs x g b w = z
  pointwise

theorem gVal_eq (x : FVec Ideal S8x8192x1024 .f32) (g b : FVec Ideal S1024 .f32) (w : FVec Ideal S1024x7184 .f32) (o : ℕ) (ho : o + 1024 ≤ 7184) (n : Fin 8) (t : Fin 8192) (e : Fin 1024) :
    gVal x g b w o ho n t e = Ideal.logistic (zed x g b w n t ⟨o + e.val, by omega⟩) := rfl

theorem narrow_eq {s : Shape} (a : FVec Ideal s .f32) : truncf .bf16 a bitsLt_bf16_f32 = (a : s.Idx → EReal) := rfl

theorem rows_apply (a : FVec Ideal S8x8192x1024 .f32) (v : Fin 8 → Fin 8192 → Fin 1024 → EReal) (h : ∀ n t e, a (ix3 n t e) = v n t e) :
    (shapeCast S65536x1024 a shapeCasts_S8x8192x1024_S65536x1024 : FVec Ideal S65536x1024 .f32) = rowsOf v := by
  funext j
  obtain ⟨r, e, rfl⟩ : ∃ (r : Fin 65536) (e : Fin 1024), j = ix2 r e := ⟨j 0, j 1, by
    funext i
    match i with
    | ⟨0, _⟩ => rfl
    | ⟨1, _⟩ => rfl⟩
  refine Eq.trans ?_ (h ⟨r.val / 8192, by omega⟩ ⟨r.val % 8192, by omega⟩ e)
  pointwise

theorem last_apply (a : FVec Ideal S8x8192x1024 .f32) (v : Fin 8 → Fin 8192 → Fin 1024 → EReal) (h : ∀ n t e, a (ix3 n t e) = v n t e) :
    (transpose S8x1024x8192 [0, 2, 1] a transposes_S8x8192x1024_S8x1024x8192_0_2_1 : FVec Ideal S8x1024x8192 .f32) = lastOf v := by
  funext j
  obtain ⟨n, e, t, rfl⟩ : ∃ (n : Fin 8) (e : Fin 1024) (t : Fin 8192), j = ix3 n e t := ⟨j 0, j 1, j 2, by
    funext i
    match i with
    | ⟨0, _⟩ => rfl
    | ⟨1, _⟩ => rfl
    | ⟨2, _⟩ => rfl⟩
  refine Eq.trans ?_ (h n t e)
  pointwise

/-- The gated linear unit. -/
def resU (x : FVec Ideal S8x8192x1024 .f32) (g b : FVec Ideal S1024 .f32) (w : FVec Ideal S1024x7184 .f32) : FVec Ideal S65536x1024 .f32 :=
  shapeCast _ (mulf (extractStridedSlice S8x8192x1024 ![0, 0, 0] (zs x g b w) slices_S8x8192x7184_S8x8192x1024_0_0_0) (sig (extractStridedSlice S8x8192x1024 ![0, 0, 1024] (zs x g b w) slices_S8x8192x7184_S8x8192x1024_0_0_1024))) shapeCasts_S8x8192x1024_S65536x1024

theorem resU_eq (x : FVec Ideal S8x8192x1024 .f32) (g b : FVec Ideal S1024 .f32) (w : FVec Ideal S1024x7184 .f32) : resU x g b w = rowsOf (uVal x g b w) :=
  rows_apply _ _ fun n t e => by
    unfold uVal
    rw [← cut0, ← cutAt x g b w 1024 slices_S8x8192x7184_S8x8192x1024_0_0_1024 (by decide), ← sig_apply]
    rfl

/-- The queries. -/
def resQ (x : FVec Ideal S8x8192x1024 .f32) (g b : FVec Ideal S1024 .f32) (w : FVec Ideal S1024x7184 .f32) : FVec Ideal S65536x1024 .f32 :=
  shapeCast _ (extractStridedSlice S8x8192x1024 ![0, 0, 2048] (zs x g b w) slices_S8x8192x7184_S8x8192x1024_0_0_2048) shapeCasts_S8x8192x1024_S65536x1024

theorem resQ_eq (x : FVec Ideal S8x8192x1024 .f32) (g b : FVec Ideal S1024 .f32) (w : FVec Ideal S1024x7184 .f32) : resQ x g b w = rowsOf (zVal x g b w 2048 (by decide)) :=
  rows_apply _ _ (cutAt x g b w 2048 slices_S8x8192x7184_S8x8192x1024_0_0_2048 (by decide))

/-- The keys. -/
def resK (x : FVec Ideal S8x8192x1024 .f32) (g b : FVec Ideal S1024 .f32) (w : FVec Ideal S1024x7184 .f32) : FVec Ideal S8x1024x8192 .f32 :=
  transpose S8x1024x8192 [0, 2, 1] (extractStridedSlice S8x8192x1024 ![0, 0, 3072] (zs x g b w) slices_S8x8192x7184_S8x8192x1024_0_0_3072) transposes_S8x8192x1024_S8x1024x8192_0_2_1

theorem resK_eq (x : FVec Ideal S8x8192x1024 .f32) (g b : FVec Ideal S1024 .f32) (w : FVec Ideal S1024x7184 .f32) : resK x g b w = lastOf (zVal x g b w 3072 (by decide)) :=
  last_apply _ _ (cutAt x g b w 3072 slices_S8x8192x7184_S8x8192x1024_0_0_3072 (by decide))

/-- The values. -/
def resV (x : FVec Ideal S8x8192x1024 .f32) (g b : FVec Ideal S1024 .f32) (w : FVec Ideal S1024x7184 .f32) : FVec Ideal S8x1024x8192 .f32 :=
  transpose S8x1024x8192 [0, 2, 1] (extractStridedSlice S8x8192x1024 ![0, 0, 4096] (zs x g b w) slices_S8x8192x7184_S8x8192x1024_0_0_4096) transposes_S8x8192x1024_S8x1024x8192_0_2_1

theorem resV_eq (x : FVec Ideal S8x8192x1024 .f32) (g b : FVec Ideal S1024 .f32) (w : FVec Ideal S1024x7184 .f32) : resV x g b w = lastOf (zVal x g b w 4096 (by decide)) :=
  last_apply _ _ (cutAt x g b w 4096 slices_S8x8192x7184_S8x8192x1024_0_0_4096 (by decide))

/-- The logarithms of the forget gates. -/
def resF (x : FVec Ideal S8x8192x1024 .f32) (g b : FVec Ideal S1024 .f32) (w : FVec Ideal S1024x7184 .f32) (f : FVec Ideal S16 .f32) : FVec Ideal S8x16x8192 .f32 :=
  logs (neg (zs x g b w) f)

theorem resF_eq (x : FVec Ideal S8x8192x1024 .f32) (g b : FVec Ideal S1024 .f32) (w : FVec Ideal S1024x7184 .f32) (f : FVec Ideal S16 .f32) : resF x g b w f = headsOf (fVal x g b w f) :=
  by
    funext j
    obtain ⟨n, h, t, rfl⟩ : ∃ (n : Fin 8) (h : Fin 16) (t : Fin 8192), j = ix3 n h t := ⟨j 0, j 1, j 2, by
      funext i
      match i with
      | ⟨0, _⟩ => rfl
      | ⟨1, _⟩ => rfl
      | ⟨2, _⟩ => rfl⟩
    refine logs_apply _ _ n t h ((neg_apply _ f n t h).trans ?_)
    rw [zs_apply]
    rfl

/-- The gates of the convolution. -/
def resC (x : FVec Ideal S8x8192x1024 .f32) (g b : FVec Ideal S1024 .f32) (w : FVec Ideal S1024x7184 .f32) : FVec Ideal S65536x1024 .bf16 :=
  truncf .bf16 (shapeCast _ (sig (extractStridedSlice S8x8192x1024 ![0, 0, 5136] (zs x g b w) slices_S8x8192x7184_S8x8192x1024_0_0_5136)) shapeCasts_S8x8192x1024_S65536x1024) bitsLt_bf16_f32

theorem resC_eq (x : FVec Ideal S8x8192x1024 .f32) (g b : FVec Ideal S1024 .f32) (w : FVec Ideal S1024x7184 .f32) : resC x g b w = rowsOf (gVal x g b w 5136 (by decide)) :=
  by
    have h := rows_apply (sig (extractStridedSlice S8x8192x1024 ![0, 0, 5136] (zs x g b w) slices_S8x8192x7184_S8x8192x1024_0_0_5136)) (gVal x g b w 5136 (by decide)) fun n t e => by
      rw [sig_apply, cutAt x g b w 5136 slices_S8x8192x7184_S8x8192x1024_0_0_5136 (by decide), gVal_eq]
    unfold resC
    rw [h]
    rfl

/-- The gates of the attention. -/
def resA (x : FVec Ideal S8x8192x1024 .f32) (g b : FVec Ideal S1024 .f32) (w : FVec Ideal S1024x7184 .f32) : FVec Ideal S65536x1024 .bf16 :=
  truncf .bf16 (shapeCast _ (sig (extractStridedSlice S8x8192x1024 ![0, 0, 6160] (zs x g b w) slices_S8x8192x7184_S8x8192x1024_0_0_6160)) shapeCasts_S8x8192x1024_S65536x1024) bitsLt_bf16_f32

theorem resA_eq (x : FVec Ideal S8x8192x1024 .f32) (g b : FVec Ideal S1024 .f32) (w : FVec Ideal S1024x7184 .f32) : resA x g b w = rowsOf (gVal x g b w 6160 (by decide)) :=
  by
    have h := rows_apply (sig (extractStridedSlice S8x8192x1024 ![0, 0, 6160] (zs x g b w) slices_S8x8192x7184_S8x8192x1024_0_0_6160)) (gVal x g b w 6160 (by decide)) fun n t e => by
      rw [sig_apply, cutAt x g b w 6160 slices_S8x8192x7184_S8x8192x1024_0_0_6160 (by decide), gVal_eq]
    unfold resA
    rw [h]
    rfl

/-- The keys, narrowed. -/
def resKb (x : FVec Ideal S8x8192x1024 .f32) (g b : FVec Ideal S1024 .f32) (w : FVec Ideal S1024x7184 .f32) : FVec Ideal S65536x1024 .bf16 :=
  truncf .bf16 (shapeCast _ (extractStridedSlice S8x8192x1024 ![0, 0, 3072] (zs x g b w) slices_S8x8192x7184_S8x8192x1024_0_0_3072) shapeCasts_S8x8192x1024_S65536x1024) bitsLt_bf16_f32

theorem resKb_eq (x : FVec Ideal S8x8192x1024 .f32) (g b : FVec Ideal S1024 .f32) (w : FVec Ideal S1024x7184 .f32) : resKb x g b w = rowsOf (zVal x g b w 3072 (by decide)) :=
  rows_apply _ _ (cutAt x g b w 3072 slices_S8x8192x7184_S8x8192x1024_0_0_3072 (by decide))

/-- The values, narrowed. -/
def resVb (x : FVec Ideal S8x8192x1024 .f32) (g b : FVec Ideal S1024 .f32) (w : FVec Ideal S1024x7184 .f32) : FVec Ideal S8x1024x8192 .bf16 :=
  truncf .bf16 (transpose S8x1024x8192 [0, 2, 1] (extractStridedSlice S8x8192x1024 ![0, 0, 4096] (zs x g b w) slices_S8x8192x7184_S8x8192x1024_0_0_4096) transposes_S8x8192x1024_S8x1024x8192_0_2_1) bitsLt_bf16_f32

theorem resVb_eq (x : FVec Ideal S8x8192x1024 .f32) (g b : FVec Ideal S1024 .f32) (w : FVec Ideal S1024x7184 .f32) : resVb x g b w = lastOf (zVal x g b w 4096 (by decide)) :=
  last_apply _ _ (cutAt x g b w 4096 slices_S8x8192x7184_S8x8192x1024_0_0_4096 (by decide))

end Cert.Proof.ProjRef
-- ==== Proof.ProjValue.lean ====
/- The projection's results: the kernel's and the reference's are the same arrays. -/
module

public import proofs.«01_k».proof.Defs
public import proofs.«01_k».proof.Proof.ProjArrays
public import proofs.«01_k».proof.Proof.ProjRef
public import proofs.«01_k».proof.Proof.Gen.InprojIdeal.Value
public import proofs.«01_k».proof.Proof.Gen.InprojReferenceIdeal.Run

@[expose] public section

set_option maxRecDepth 16384

noncomputable section

namespace Cert.Proof.Proj

open Idealize.ShloMosaic Idealize.SL.Sem
open Cert.Proof.ProjRef

section

open Cert.InprojReferenceIdeal

variable (m' : (ℓ : Loc nD τ sig) → Buf (Elt Ideal) ℓ) (c : Dev nD)

/-- The reference's arguments. -/
abbrev bX : FVec Ideal S8x8192x1024 .f32 := m' ((c.tc : Thread nD τ).loc main_arg0)
abbrev bG : FVec Ideal S1024 .f32 := m' ((c.tc : Thread nD τ).loc main_arg1)
abbrev bB : FVec Ideal S1024 .f32 := m' ((c.tc : Thread nD τ).loc main_arg2)
abbrev bW : FVec Ideal S1024x7184 .f32 := m' ((c.tc : Thread nD τ).loc main_arg3)
abbrev bF : FVec Ideal S16 .f32 := m' ((c.tc : Thread nD τ).loc main_arg4)

end

set_option maxHeartbeats 2000000 in
/-- At each device the nine arrays the launch leaves are the nine the reference computes. -/
theorem algebraic_inproj : Cert.algebraic_InprojIdeal_InprojReferenceIdeal := fun m g m' g' _ ha =>
  ⟨fun c => (Cert.InprojIdeal.Gen.dats m 0 c).arrAt 12 Cert.InprojIdeal.cfg0.N, fun c => (Cert.InprojIdeal.Gen.dats m 0 c).arrAt 13 Cert.InprojIdeal.cfg0.N,
    fun c => (Cert.InprojIdeal.Gen.dats m 0 c).arrAt 14 Cert.InprojIdeal.cfg0.N, fun c => (Cert.InprojIdeal.Gen.dats m 0 c).arrAt 15 Cert.InprojIdeal.cfg0.N,
    fun c => (Cert.InprojIdeal.Gen.dats m 0 c).arrAt 16 Cert.InprojIdeal.cfg0.N, fun c => (Cert.InprojIdeal.Gen.dats m 0 c).arrAt 17 Cert.InprojIdeal.cfg0.N,
    fun c => (Cert.InprojIdeal.Gen.dats m 0 c).arrAt 18 Cert.InprojIdeal.cfg0.N, fun c => (Cert.InprojIdeal.Gen.dats m 0 c).arrAt 19 Cert.InprojIdeal.cfg0.N,
    fun c => (Cert.InprojIdeal.Gen.dats m 0 c).arrAt 20 Cert.InprojIdeal.cfg0.N,
    Cert.InprojIdeal.Value.run_blocks m g,
    (θ_run _ _ _).mono (fun r h c => by
      obtain ⟨a0, a1, a2, a3, a4⟩ := ha c
      obtain ⟨h0, h1, h2, h3, h4, h5, h6, h7, h8, hr⟩ := h c
      refine ⟨h0.trans ?_, h1.trans ?_, h2.trans ?_, h3.trans ?_, h4.trans ?_, h5.trans ?_, h6.trans ?_, h7.trans ?_, h8.trans ?_, hr⟩
      · refine Eq.trans (b := resU (bX m' c) (bG m' c) (bB m' c) (bW m' c)) rfl ?_
        rw [show bX m' c = _ from a0, show bG m' c = _ from a1, show bB m' c = _ from a2, show bW m' c = _ from a3]
        exact (resU_eq _ _ _ _).trans (arr12_eq m c).symm
      · refine Eq.trans (b := resQ (bX m' c) (bG m' c) (bB m' c) (bW m' c)) rfl ?_
        rw [show bX m' c = _ from a0, show bG m' c = _ from a1, show bB m' c = _ from a2, show bW m' c = _ from a3]
        exact (resQ_eq _ _ _ _).trans (arr13_eq m c).symm
      · refine Eq.trans (b := resK (bX m' c) (bG m' c) (bB m' c) (bW m' c)) rfl ?_
        rw [show bX m' c = _ from a0, show bG m' c = _ from a1, show bB m' c = _ from a2, show bW m' c = _ from a3]
        exact (resK_eq _ _ _ _).trans (arr14_eq m c).symm
      · refine Eq.trans (b := resV (bX m' c) (bG m' c) (bB m' c) (bW m' c)) rfl ?_
        rw [show bX m' c = _ from a0, show bG m' c = _ from a1, show bB m' c = _ from a2, show bW m' c = _ from a3]
        exact (resV_eq _ _ _ _).trans (arr15_eq m c).symm
      · refine Eq.trans (b := resF (bX m' c) (bG m' c) (bB m' c) (bW m' c) (bF m' c)) rfl ?_
        rw [show bX m' c = _ from a0, show bG m' c = _ from a1, show bB m' c = _ from a2, show bW m' c = _ from a3, show bF m' c = _ from a4]
        exact (resF_eq _ _ _ _ _).trans (arr16_eq m c).symm
      · refine Eq.trans (b := resC (bX m' c) (bG m' c) (bB m' c) (bW m' c)) rfl ?_
        rw [show bX m' c = _ from a0, show bG m' c = _ from a1, show bB m' c = _ from a2, show bW m' c = _ from a3]
        exact (resC_eq _ _ _ _).trans (arr17_eq m c).symm
      · refine Eq.trans (b := resA (bX m' c) (bG m' c) (bB m' c) (bW m' c)) rfl ?_
        rw [show bX m' c = _ from a0, show bG m' c = _ from a1, show bB m' c = _ from a2, show bW m' c = _ from a3]
        exact (resA_eq _ _ _ _).trans (arr18_eq m c).symm
      · refine Eq.trans (b := resKb (bX m' c) (bG m' c) (bB m' c) (bW m' c)) rfl ?_
        rw [show bX m' c = _ from a0, show bG m' c = _ from a1, show bB m' c = _ from a2, show bW m' c = _ from a3]
        exact (resKb_eq _ _ _ _).trans (arr19_eq m c).symm
      · refine Eq.trans (b := resVb (bX m' c) (bG m' c) (bB m' c) (bW m' c)) rfl ?_
        rw [show bX m' c = _ from a0, show bG m' c = _ from a1, show bB m' c = _ from a2, show bW m' c = _ from a3]
        exact (resVb_eq _ _ _ _).trans (arr20_eq m c).symm)
      (Cert.InprojReferenceIdeal.Value.run (F := Ideal) m' g')⟩

end Cert.Proof.Proj

end
-- ==== Proof.FfnFrame.lean ====
/- The feed-forward block's frames, of words and of reals. -/
module

public import proofs.«01_k».proof.Defs
public import proofs.«01_k».proof.Proof.Gen.Ffn.Frame
public import proofs.«01_k».proof.Proof.Gen.FfnIdeal.Frame
public import proofs.«01_k».proof.Proof.Gen.FfnReferenceIdeal.Run
public import Idealize.ShloMosaic.Init

@[expose] public section

set_option maxRecDepth 16384

noncomputable section

namespace Cert.Proof.Ffn

open Idealize.ShloMosaic Idealize.SL.Sem

theorem frame_FfnIdeal : Cert.quiescent_FfnIdeal := fun m g _ => Cert.FfnIdeal.Gen.frame (F := Ideal) m g

theorem frame_FfnReferenceIdeal : Cert.quiescent_FfnReferenceIdeal := fun m g _ =>
  (θ_run _ _ _).mono (fun r h => ⟨fun c => (h c).2.2, Idealize.ShloMosaic.sem_eq_zero_of_no_sems (by decide) r.2⟩) (Cert.FfnReferenceIdeal.Value.run (F := Ideal) m g)

theorem frame_Ffn : Cert.quiescent_Ffn := fun m g _ => Cert.Ffn.Gen.frame (F := Bits) m g

end Cert.Proof.Ffn

end
-- ==== Proof.FfnRow.lean ====
/- The feed-forward block's rows computed by the kernel, at an index. -/
module

public import proofs.«01_k».proof.Proof.ProjRow
public import proofs.«01_k».proof.Proof.Gen.FfnIdeal.Skeleton
public import Idealize.ShloMosaic.Lib.Pointwise
public import Idealize.ShloMosaic.Lib.Tactic.CleanTypes

@[expose] public section

set_option maxRecDepth 16384

noncomputable section

namespace Cert.Proof.Ffn

open Cert.FfnIdeal Cert.FfnIdeal.Gen
open Idealize.ShloMosaic
open Cert.Proof.Proj (mean lnorm)

/-- A row times a column. -/
def dots {n : ℕ} (x w : Fin n → EReal) : EReal := ∑ d : Fin n, x d * w d

/-- The convolution over three positions. -/
def mix (b w0 w1 w2 a0 a1 a2 : EReal) : EReal := b + w0 * a0 + w1 * a1 + w2 * a2

/-- The gated product of one unit. -/
def unit (a q : EReal) : EReal := a * Ideal.logistic a * q

/-- A row before its norm: the scaled input, the gated units through the down projection, and the gated embedding. -/
def blend (x : Fin 1024 → EReal) (p : Fin 256 → EReal) (a : Fin 2816 → EReal) (wq : Fin 2816 → Fin 1024 → EReal) (wd : Fin 1024 → Fin 2816 → EReal) (wg : Fin 1024 → Fin 1024 → EReal) (wp : Fin 1024 → Fin 256 → EReal) (e : Fin 1024) : EReal :=
  Ideal.ofBits .f32 0x3F9837F0#32 * x e + dots (fun f => unit (a f) (dots x (wq f))) (wd e) + Ideal.logistic (dots x (wg e)) * dots p (wp e)

theorem pay2_at (h : Vec Ideal S1x8x2816 .f32) (r : Fin 8) (e : Fin 2816) : k0_pay2 h (ix2 r e) = h (ix3 0 r e) := by
  pointwise [k0_pay2]

theorem pay3_at (h : Vec Ideal S8x2816 .f32) (r : Fin 8) (e : Fin 2816) : k0_pay3 h (ix2 r e) = h (ix2 r e) := by
  pointwise [k0_pay3]

theorem pay7_at (h : Vec Ideal S8x2816 .f32) (r : Fin 8) (e : Fin 2816) : k0_pay7 h (ix3 0 r e) = h (ix2 r e) := by
  pointwise [k0_pay7]

theorem pay6_at (x : Vec Ideal S1x256x1024 .f32) (w : Vec Ideal S1024x2816 .bf16) (r : Fin 256) (e : Fin 2816) :
    k0_pay6 x w (ix2 r e) = dots (fun d => x (ix3 0 r d)) (fun d => w (ix2 d e)) := by
  pointwise [k0_pay6, k0_pay5, k0_pay4, dots]

theorem pay1_at (z : FVec Ideal S256x1024 .f32) (g b : FVec Ideal S1x1024 .f32) (r : Fin 256) (e : Fin 1024) :
    k0_pay1 z (k0_pay10 g) b (ix3 0 r e) = lnorm (fun d => z (ix2 r d)) (fun d => g (ix2 0 d)) (fun d => b (ix2 0 d)) e := by
  pointwise [k0_pay1, k0_pay10, lnorm, mean]

theorem pay9_at (x : Vec Ideal S1x256x1024 .f32) (b w0 w1 w2 : Vec Ideal S1x2816 .f32) (a0 a1 a2 : Vec Ideal S256x2816 .f32)
    (wq : Vec Ideal S1024x2816 .bf16) (wd : Vec Ideal S2816x1024 .bf16) (wg : Vec Ideal S1024x1024 .bf16) (p : Vec Ideal S1x256x256 .f32) (wp : Vec Ideal S256x1024 .bf16)
    (r : Fin 256) (e : Fin 1024) :
    k0_pay9 (k0_pay4 x) (k0_pay5 x) (k0_pay8 b w0 a0) w1 a1 w2 a2 wq wd wg p wp (ix2 r e)
      = blend (fun d => x (ix3 0 r d)) (fun d => p (ix3 0 r d)) (fun f => mix (b (ix2 0 f)) (w0 (ix2 0 f)) (w1 (ix2 0 f)) (w2 (ix2 0 f)) (a0 (ix2 r f)) (a1 (ix2 r f)) (a2 (ix2 r f)))
          (fun f d => wq (ix2 d f)) (fun e f => wd (ix2 f e)) (fun e d => wg (ix2 d e)) (fun e d => wp (ix2 d e)) e := by
  pointwise [k0_pay9, k0_pay8, k0_pay5, k0_pay4, blend, unit, mix, dots]

end Cert.Proof.Ffn
-- ==== Proof.FfnHost.lean ====
/- The arrays the feed-forward region reads, and its blocks, at an index. -/
module

public import proofs.«01_k».proof.Proof.FfnRow
public import proofs.«01_k».proof.Proof.Gen.FfnIdeal.Frame
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section

set_option maxRecDepth 16384

noncomputable section

namespace Cert.Proof.Ffn

open Cert.FfnIdeal Cert.FfnIdeal.Gen
open Idealize.ShloMosaic
open Idealize.ShloMosaic.TcCoe
open Idealize.SL.Sem

variable (m : (ℓ : Loc nD τ sig) → Buf (Elt Ideal) ℓ) (c : Dev nD)

theorem arr_wa (d : Fin 1024) (f : Fin 2816) : Gen.V m c main_v2 (ix2 d f) = m ((c.tc : Thread nD τ).loc main_arg2) (ix2 d ⟨f.val, by omega⟩) := by
  unfold_abbrev_sides
  after_reads_at

theorem arr_wb (d : Fin 1024) (f : Fin 2816) : Gen.V m c main_v3 (ix2 d f) = m ((c.tc : Thread nD τ).loc main_arg2) (ix2 d ⟨2816 + f.val, by omega⟩) := by
  unfold_abbrev_sides
  after_reads_at

theorem arr_db (f : Fin 2816) : Gen.V m c main_v4 (ix2 0 f) = m ((c.tc : Thread nD τ).loc main_arg4) (ix1 f) := by
  unfold_abbrev_sides
  after_reads_at

theorem arr_wd (f : Fin 2816) (e : Fin 1024) : Gen.V m c main_v5 (ix2 f e) = m ((c.tc : Thread nD τ).loc main_arg5) (ix2 f e) := by
  unfold_abbrev_sides
  after_reads_at

theorem arr_wg (d e : Fin 1024) : Gen.V m c main_v6 (ix2 d e) = m ((c.tc : Thread nD τ).loc main_arg7) (ix2 d e) := by
  unfold_abbrev_sides
  after_reads_at

theorem arr_wp (d : Fin 256) (e : Fin 1024) : Gen.V m c main_v7 (ix2 d e) = m ((c.tc : Thread nD τ).loc main_arg6) (ix2 d e) := by
  unfold_abbrev_sides
  after_reads_at

theorem arr_g (e : Fin 1024) : Gen.V m c main_v8 (ix2 0 e) = m ((c.tc : Thread nD τ).loc main_arg8) (ix1 e) := by
  unfold_abbrev_sides
  after_reads_at

theorem arr_b (e : Fin 1024) : Gen.V m c main_v9 (ix2 0 e) = m ((c.tc : Thread nD τ).loc main_arg9) (ix1 e) := by
  unfold_abbrev_sides
  after_reads_at

theorem arr_h (n : Fin 8) (q : Fin 8) (f : Fin 2816) : Gen.V m c main_v10 (ix3 n q f) = (0 : EReal) := by
  refine Eq.trans (b := if h : 6 ≤ q.val ∧ q.val - 6 < 2 then (0 : EReal) else FloatOps.sitofp (F := Ideal) .f32 0#32) ?_ ?_
  · unfold_abbrev_sides
    after_reads_at
  · split
    · rfl
    · show (((0#32 : BitVec 32).toInt : ℝ) : EReal) = 0
      simp

/-! ## The blocks -/

theorem lt0 (t : Fin cfg0.N) : t.val < 256 := lt_of_lt_of_eq t.isLt N_0

theorem idx0 : ∀ t : Fin cfg0.N, win0_0.index t = ![t.val / 32, t.val % 32, 0] := (by decide +kernel : ∀ t : Fin grid0.N, _)
theorem idx1 : ∀ t : Fin cfg0.N, win0_1.index t = ![t.val / 32, t.val % 32, 0] := (by decide +kernel : ∀ t : Fin grid0.N, _)
theorem idx2 : ∀ t : Fin cfg0.N, win0_2.index t = ![t.val / 32, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val / 32, t.val % 32, 0] := (by decide +kernel : ∀ t : Fin grid0.N, _)
theorem idx13 : ∀ t : Fin cfg0.N, win0_13.index t = ![t.val / 32, 0, 0] := (by decide +kernel : ∀ t : Fin grid0.N, _)

/-- A block's batch entry, and the position of one of its rows. -/
def batch (t : Fin cfg0.N) : Fin 8 := ⟨t.val / 32, by have := lt0 t; omega⟩
def place (t : Fin cfg0.N) (r : Fin 256) : Fin 8192 := ⟨256 * (t.val % 32) + r.val, by omega⟩

theorem xBlk_at (t : Fin cfg0.N) (r : Fin 256) (d : Fin 1024) : iblk m c 0 t (ix3 0 r d) = m ((c.tc : Thread nD τ).loc main_arg0) (ix3 (batch t) (place t r) d) := by
  unfold iblk
  blk_simp
  refine congrArg (m ((c.tc : Thread nD τ).loc main_arg0)) (?_ : _ = ix3 (batch t) (place t r) d)
  blk_ext [idx0 t, batch, place]

theorem pBlk_at (t : Fin cfg0.N) (r : Fin 256) (d : Fin 256) : iblk m c 1 t (ix3 0 r d) = m ((c.tc : Thread nD τ).loc main_arg1) (ix3 (batch t) (place t r) d) := by
  unfold iblk
  blk_simp
  refine congrArg (m ((c.tc : Thread nD τ).loc main_arg1)) (?_ : _ = ix3 (batch t) (place t r) d)
  blk_ext [idx1 t, batch, place]

theorem hBlk_at (t : Fin cfg0.N) (q : Fin 8) (f : Fin 2816) : iblk m c 2 t (ix3 0 q f) = (0 : EReal) := by
  unfold iblk
  blk_simp
  refine (congrArg (Gen.V m c main_v10) (?_ : _ = ix3 (batch t) q f)).trans (arr_h m c _ q f)
  blk_ext [idx2 t, batch]

theorem waBlk_at (t : Fin cfg0.N) (d : Fin 1024) (f : Fin 2816) : iblk m c 3 t (ix2 d f) = m ((c.tc : Thread nD τ).loc main_arg2) (ix2 d ⟨f.val, by omega⟩) := by
  unfold iblk
  blk_simp
  refine (congrArg (Gen.V m c main_v2) (?_ : _ = ix2 d f)).trans (arr_wa m c d f)
  blk_ext [idx3 t]

theorem wbBlk_at (t : Fin cfg0.N) (d : Fin 1024) (f : Fin 2816) : iblk m c 4 t (ix2 d f) = m ((c.tc : Thread nD τ).loc main_arg2) (ix2 d ⟨2816 + f.val, by omega⟩) := by
  unfold iblk
  blk_simp
  refine (congrArg (Gen.V m c main_v3) (?_ : _ = ix2 d f)).trans (arr_wb m c d f)
  blk_ext [idx4 t]

theorem dwBlk_at (t : Fin cfg0.N) (k : Fin 3) (f : Fin 2816) : iblk m c 5 t (ix2 k f) = m ((c.tc : Thread nD τ).loc main_arg3) (ix2 k f) := by
  unfold iblk
  blk_simp
  refine congrArg (m ((c.tc : Thread nD τ).loc main_arg3)) (?_ : _ = ix2 k f)
  blk_ext [idx5 t]

theorem dbBlk_at (t : Fin cfg0.N) (f : Fin 2816) : iblk m c 6 t (ix2 0 f) = m ((c.tc : Thread nD τ).loc main_arg4) (ix1 f) := by
  unfold iblk
  blk_simp
  refine (congrArg (Gen.V m c main_v4) (?_ : _ = ix2 0 f)).trans (arr_db m c f)
  blk_ext [idx6 t]

theorem wdBlk_at (t : Fin cfg0.N) (f : Fin 2816) (e : Fin 1024) : iblk m c 7 t (ix2 f e) = m ((c.tc : Thread nD τ).loc main_arg5) (ix2 f e) := by
  unfold iblk
  blk_simp
  refine (congrArg (Gen.V m c main_v5) (?_ : _ = ix2 f e)).trans (arr_wd m c f e)
  blk_ext [idx7 t]

theorem wgBlk_at (t : Fin cfg0.N) (d e : Fin 1024) : iblk m c 8 t (ix2 d e) = m ((c.tc : Thread nD τ).loc main_arg7) (ix2 d e) := by
  unfold iblk
  blk_simp
  refine (congrArg (Gen.V m c main_v6) (?_ : _ = ix2 d e)).trans (arr_wg m c d e)
  blk_ext [idx8 t]

theorem wpBlk_at (t : Fin cfg0.N) (d : Fin 256) (e : Fin 1024) : iblk m c 9 t (ix2 d e) = m ((c.tc : Thread nD τ).loc main_arg6) (ix2 d e) := by
  unfold iblk
  blk_simp
  refine (congrArg (Gen.V m c main_v7) (?_ : _ = ix2 d e)).trans (arr_wp m c d e)
  blk_ext [idx9 t]

theorem gBlk_at (t : Fin cfg0.N) (e : Fin 1024) : iblk m c 10 t (ix2 0 e) = m ((c.tc : Thread nD τ).loc main_arg8) (ix1 e) := by
  unfold iblk
  blk_simp
  refine (congrArg (Gen.V m c main_v8) (?_ : _ = ix2 0 e)).trans (arr_g m c e)
  blk_ext [idx10 t]

theorem bBlk_at (t : Fin cfg0.N) (e : Fin 1024) : iblk m c 11 t (ix2 0 e) = m ((c.tc : Thread nD τ).loc main_arg9) (ix1 e) := by
  unfold iblk
  blk_simp
  refine (congrArg (Gen.V m c main_v9) (?_ : _ = ix2 0 e)).trans (arr_b m c e)
  blk_ext [idx11 t]

end Cert.Proof.Ffn
-- ==== Proof.FfnScratch.lean ====
/- What the feed-forward body leaves at each point: the carried rows, the last rows, and the result's block. -/
module

public import proofs.«01_k».proof.Proof.FfnHost

@[expose] public section

set_option maxRecDepth 16384

noncomputable section

namespace Cert.Proof.Ffn

open Cert.FfnIdeal Cert.FfnIdeal.Gen
open Idealize.ShloMosaic
open Idealize.ShloMosaic.TcCoe
open Idealize.SL.Sem
open Cert.Proof.Proj (mean lnorm)

section Values

variable (X : FVec Ideal S8x8192x1024 .f32) (P : FVec Ideal S8x8192x256 .f32) (W : FVec Ideal S1024x5632 .f32) (dw : FVec Ideal S3x2816 .f32) (db : FVec Ideal S2816 .f32)
  (wd : FVec Ideal S2816x1024 .f32) (wp : FVec Ideal S256x1024 .f32) (wg : FVec Ideal S1024x1024 .f32) (g b : FVec Ideal S1024 .f32)

/-- The up projection that the convolution reads. -/
def aVal (n : Fin 8) (s : Fin 8192) (f : Fin 2816) : EReal := dots (fun d => X (ix3 n s d)) (fun d => W (ix2 d ⟨f.val, by omega⟩))

/-- The same with eight rows of zeros before it. -/
def past (n : Fin 8) (s : ℕ) (f : Fin 2816) : EReal := if h : 8 ≤ s ∧ s < 8200 then aVal X W n ⟨s - 8, by omega⟩ f else 0

/-- The convolution. -/
def convVal (n : Fin 8) (s : Fin 8192) (f : Fin 2816) : EReal :=
  mix (db (ix1 f)) (dw (ix2 0 f)) (dw (ix2 1 f)) (dw (ix2 2 f)) (past X W n (s.val + 6) f) (past X W n (s.val + 7) f) (past X W n (s.val + 8) f)

/-- A row before its norm. -/
def rowVal (n : Fin 8) (s : Fin 8192) : Fin 1024 → EReal :=
  blend (fun d => X (ix3 n s d)) (fun d => P (ix3 n s d)) (convVal X W dw db n s) (fun f d => W (ix2 d ⟨2816 + f.val, by omega⟩)) (fun e f => wd (ix2 f e)) (fun e d => wg (ix2 d e)) (fun e d => wp (ix2 d e))

/-- The result. -/
def yVal (n : Fin 8) (s : Fin 8192) (e : Fin 1024) : EReal := lnorm (rowVal X P W dw db wd wp wg n s) (fun d => g (ix1 d)) (fun d => b (ix1 d)) e

theorem past_shift (n : Fin 8) (s : Fin 8192) (f : Fin 2816) : past X W n (s.val + 8) f = aVal X W n s f := by
  unfold past
  rw [dif_pos (by omega)]
  rfl

end Values

variable (m : (ℓ : Loc nD τ sig) → Buf (Elt Ideal) ℓ) (c : Dev nD)

/-- The arguments. -/
abbrev aX : FVec Ideal S8x8192x1024 .f32 := m ((c.tc : Thread nD τ).loc main_arg0)
abbrev aP : FVec Ideal S8x8192x256 .f32 := m ((c.tc : Thread nD τ).loc main_arg1)
abbrev aW : FVec Ideal S1024x5632 .f32 := m ((c.tc : Thread nD τ).loc main_arg2)
abbrev aDw : FVec Ideal S3x2816 .f32 := m ((c.tc : Thread nD τ).loc main_arg3)
abbrev aDb : FVec Ideal S2816 .f32 := m ((c.tc : Thread nD τ).loc main_arg4)
abbrev aWd : FVec Ideal S2816x1024 .f32 := m ((c.tc : Thread nD τ).loc main_arg5)
abbrev aWp : FVec Ideal S256x1024 .f32 := m ((c.tc : Thread nD τ).loc main_arg6)
abbrev aWg : FVec Ideal S1024x1024 .f32 := m ((c.tc : Thread nD τ).loc main_arg7)
abbrev aG : FVec Ideal S1024 .f32 := m ((c.tc : Thread nD τ).loc main_arg8)
abbrev aB : FVec Ideal S1024 .f32 := m ((c.tc : Thread nD τ).loc main_arg9)

theorem pairs (z : S264x2816.Idx) : z = ix2 (z 0) (z 1) := by
  funext a
  match a with
  | ⟨0, _⟩ => rfl
  | ⟨1, _⟩ => rfl

theorem pairs256 (z : S256x2816.Idx) : z = ix2 (z 0) (z 1) := by
  funext a
  match a with
  | ⟨0, _⟩ => rfl
  | ⟨1, _⟩ => rfl

theorem pairs8 (z : S8x2816.Idx) : z = ix2 (z 0) (z 1) := by
  funext a
  match a with
  | ⟨0, _⟩ => rfl
  | ⟨1, _⟩ => rfl

/-- Eight rows and 256 rows below them, as one array. -/
theorem stacked (u : Vec Ideal S256x2816 .f32) (v : Vec Ideal S8x2816 .f32) (G : S264x2816.Idx → EReal)
    (hu : ∀ (r : Fin 256) (f : Fin 2816), u (ix2 r f) = G (ix2 ⟨8 + r.val, by omega⟩ f)) (hv : ∀ (r : Fin 8) (f : Fin 2816), v (ix2 r f) = G (ix2 ⟨r.val, by omega⟩ f)) :
    View.canon (Val := Elt Ideal) (e := .f32) [⟨Rect.unit ![8, 0] ![256, 2816] inb_S264x2816_S256x2816_8_0, u⟩, ⟨Rect.unit ![0, 0] ![8, 2816] inb_S264x2816_S8x2816_0_0, v⟩] = G := by
  funext y
  refine View.canon_append_of_piecesOf (Val := Elt Ideal) (e := .f32) G [] [_, _] ⟨fun z => ?_, fun z => ?_, trivial⟩ y ?_
  · obtain ⟨a, b, rfl⟩ : ∃ (a : Fin 256) (b : Fin 2816), z = ix2 a b := ⟨_, _, pairs256 z⟩
    refine (hu a b).trans (congrArg G ?_)
    blk_ext
  · obtain ⟨a, b, rfl⟩ : ∃ (a : Fin 8) (b : Fin 2816), z = ix2 a b := ⟨_, _, pairs8 z⟩
    refine (hv a b).trans (congrArg G ?_)
    blk_ext
  · have h0 : (y 0).val < 264 := (y 0).isLt
    have h1 : (y 1).val < 2816 := (y 1).isLt
    by_cases h : (y 0).val < 8
    · refine ⟨_, List.mem_cons_of_mem _ (List.mem_cons_self ..), ?_⟩
      rw [Rect.mem_set_unit]
      intro a
      match a with
      | ⟨0, _⟩ => exact ⟨Nat.zero_le _, by show (y 0).val < 0 + 8; omega⟩
      | ⟨1, _⟩ => exact ⟨Nat.zero_le _, by show (y 1).val < 0 + 2816; omega⟩
    · refine ⟨_, List.mem_cons_self .., ?_⟩
      rw [Rect.mem_set_unit]
      intro a
      match a with
      | ⟨0, _⟩ => exact ⟨by show 8 ≤ (y 0).val; omega, by show (y 0).val < 8 + 256; omega⟩
      | ⟨1, _⟩ => exact ⟨Nat.zero_le _, by show (y 1).val < 0 + 2816; omega⟩

/-- The rows the body holds at a point: the last eight of the point before (zeros at a prompt's first), and the point's own. -/
def held (t : Fin cfg0.N) (y : S264x2816.Idx) : EReal := past (aX m c) (aW m c) (batch t) (256 * (t.val % 32) + (y 0).val) (y 1)

theorem own_at (t : Fin cfg0.N) (r : Fin 256) (f : Fin 2816) : k0_pay6 (iblk m c 0 t) (iblk m c 3 t) (ix2 r f) = held m c t (ix2 ⟨8 + r.val, by omega⟩ f) := by
  refine (pay6_at _ _ r f).trans ?_
  refine Eq.trans (b := aVal (aX m c) (aW m c) (batch t) (place t r) f) ?_ ?_
  · unfold aVal
    refine congr (congrArg dots (funext fun d => ?_)) (funext fun d => ?_)
    · exact xBlk_at m c t r d
    · exact waBlk_at m c t d f
  · refine (past_shift _ _ _ _ _).symm.trans ?_
    unfold held
    refine congrArg (fun s => past (aX m c) (aW m c) (batch t) s f) ?_
    show 256 * (t.val % 32) + r.val + 8 = 256 * (t.val % 32) + (8 + r.val)
    omega

theorem first_at (t : Fin cfg0.N) (h0 : t.val % 32 = 0) (q : Fin 8) (f : Fin 2816) : k0_pay2 (iblk m c 2 t) (ix2 q f) = held m c t (ix2 ⟨q.val, by omega⟩ f) := by
  refine (pay2_at _ q f).trans ((hBlk_at m c t q f).trans ?_)
  unfold held past
  rw [dif_neg]
  show ¬(8 ≤ 256 * (t.val % 32) + q.val ∧ _)
  omega

theorem firstHeld (t : Fin cfg0.N) (h0 : t.val % 32 = 0) :
    View.canon (Val := Elt Ideal) (e := .f32) [⟨Rect.unit ![8, 0] ![256, 2816] inb_S264x2816_S256x2816_8_0, k0_pay6 (iblk m c 0 t) (iblk m c 3 t)⟩,
      ⟨Rect.unit ![0, 0] ![8, 2816] inb_S264x2816_S8x2816_0_0, k0_pay2 (iblk m c 2 t)⟩] = held m c t :=
  stacked _ _ _ (own_at m c t) (first_at m c t h0)

theorem ldLast (z : Vec Ideal S264x2816 .f32) (q : Fin 8) (f : Fin 2816) :
    View.ld z (Rect.unit ![256, 0] ![8, 2816] inb_S264x2816_S8x2816_256_0) (ix2 q f) = z (ix2 ⟨256 + q.val, by omega⟩ f) := by
  pointwise

theorem next_at (t s : Fin cfg0.N) (hs : s.val + 1 = t.val) (h0 : ¬t.val % 32 = 0) (z : Vec Ideal S264x2816 .f32) (hz : z = held m c s) (q : Fin 8) (f : Fin 2816) :
    k0_pay3 (View.ld z (Rect.unit ![256, 0] ![8, 2816] inb_S264x2816_S8x2816_256_0)) (ix2 q f) = held m c t (ix2 ⟨q.val, by omega⟩ f) := by
  subst hz
  refine (pay3_at _ q f).trans ?_
  refine Eq.trans (b := held m c s (ix2 ⟨256 + q.val, by omega⟩ f)) (ldLast _ q f) ?_
  unfold held
  have e : batch s = batch t := Fin.ext (by show s.val / 32 = t.val / 32; omega)
  rw [e]
  refine congrArg (fun s => past (aX m c) (aW m c) (batch t) s f) ?_
  show 256 * (s.val % 32) + (256 + q.val) = 256 * (t.val % 32) + q.val
  omega

theorem nextHeld (t s : Fin cfg0.N) (hs : s.val + 1 = t.val) (h0 : ¬t.val % 32 = 0) (z : Vec Ideal S264x2816 .f32) (hz : z = held m c s) :
    View.canon (Val := Elt Ideal) (e := .f32) [⟨Rect.unit ![8, 0] ![256, 2816] inb_S264x2816_S256x2816_8_0, k0_pay6 (iblk m c 0 t) (iblk m c 3 t)⟩,
      ⟨Rect.unit ![0, 0] ![8, 2816] inb_S264x2816_S8x2816_0_0, k0_pay3 (View.ld z (Rect.unit ![256, 0] ![8, 2816] inb_S264x2816_S8x2816_256_0))⟩] = held m c t :=
  stacked _ _ _ (own_at m c t) (next_at m c t s hs h0 z hz)

/-- What a point leaves in the scratch is what it holds. -/
theorem scratch_eq : ∀ (n : ℕ) (h : n < cfg0.N), (outsAt0 m c n h).2.2 = held m c ⟨n, h⟩
  | 0, h => by
    rw [outsAt0_A m c ⟨0, h⟩ rfl (by show ¬1 ≤ 0 % 32; omega)]
    dsimp only
    frame_out
    exact firstHeld m c ⟨0, h⟩ rfl
  | n + 1, h => by
    by_cases h0 : (n + 1) % 32 = 0
    · rw [outsAt0_A m c ⟨n + 1, h⟩ h0 (by show ¬1 ≤ (n + 1) % 32; omega)]
      dsimp only
      frame_out
      exact firstHeld m c ⟨n + 1, h⟩ h0
    · rw [outsAt0_B m c ⟨n + 1, h⟩ h0 (by show 1 ≤ (n + 1) % 32; omega)]
      dsimp only
      frame_out
      simp only [read_unread_whole]
      exact nextHeld m c ⟨n + 1, h⟩ ⟨n, Nat.lt_of_succ_lt h⟩ rfl h0 _ (scratch_eq n _)

end Cert.Proof.Ffn
-- ==== Proof.FfnArrays.lean ====
/- The arrays the feed-forward region leaves. -/
module

public import proofs.«01_k».proof.Proof.FfnScratch

@[expose] public section

set_option maxRecDepth 16384

noncomputable section

namespace Cert.Proof.Ffn

open Cert.FfnIdeal Cert.FfnIdeal.Gen
open Idealize.ShloMosaic
open Idealize.ShloMosaic.TcCoe
open Idealize.SL.Sem
open Cert.Proof.Proj (mean lnorm)

variable (m : (ℓ : Loc nD τ sig) → Buf (Elt Ideal) ℓ) (c : Dev nD)

/-- The rows the loads take of what is held. -/
abbrev rows6 : Rect S264x2816 := Rect.unit ![6, 0] ![256, 2816] inb_S264x2816_S256x2816_6_0
abbrev rows7 : Rect S264x2816 := Rect.unit ![7, 0] ![256, 2816] inb_S264x2816_S256x2816_7_0
abbrev rowsLast : Rect S264x2816 := Rect.unit ![256, 0] ![8, 2816] inb_S264x2816_S8x2816_256_0

theorem ldRows6 (z : Vec Ideal S264x2816 .f32) (r : Fin 256) (f : Fin 2816) : View.ld z rows6 (ix2 r f) = z (ix2 ⟨6 + r.val, by omega⟩ f) := by
  pointwise

theorem ldRows7 (z : Vec Ideal S264x2816 .f32) (r : Fin 256) (f : Fin 2816) : View.ld z rows7 (ix2 r f) = z (ix2 ⟨7 + r.val, by omega⟩ f) := by
  pointwise

theorem heldFrom6 (t : Fin cfg0.N) (L : List (View.Piece (Elt Ideal) S264x2816 .f32)) (hL : View.canon L = held m c t) (r : Fin 256) (f : Fin 2816) :
    (View.whole cc0_scratch0).readCov L rows6.toLoadRect (ix2 r f) = past (aX m c) (aW m c) (batch t) ((place t r).val + 6) f := by
  rw [View.readCov_eq_canon', hL]
  refine Eq.trans (b := View.ld (held m c t) rows6 (ix2 r f)) rfl ((ldRows6 _ r f).trans ?_)
  unfold held
  refine congrArg (fun s => past (aX m c) (aW m c) (batch t) s f) ?_
  show 256 * (t.val % 32) + (6 + r.val) = 256 * (t.val % 32) + r.val + 6
  omega

theorem heldFrom7 (t : Fin cfg0.N) (L : List (View.Piece (Elt Ideal) S264x2816 .f32)) (hL : View.canon L = held m c t) (r : Fin 256) (f : Fin 2816) :
    (View.whole cc0_scratch0).readCov L rows7.toLoadRect (ix2 r f) = past (aX m c) (aW m c) (batch t) ((place t r).val + 7) f := by
  rw [View.readCov_eq_canon', hL]
  refine Eq.trans (b := View.ld (held m c t) rows7 (ix2 r f)) rfl ((ldRows7 _ r f).trans ?_)
  unfold held
  refine congrArg (fun s => past (aX m c) (aW m c) (batch t) s f) ?_
  show 256 * (t.val % 32) + (7 + r.val) = 256 * (t.val % 32) + r.val + 7
  omega

theorem heldLast (t : Fin cfg0.N) (L : List (View.Piece (Elt Ideal) S264x2816 .f32)) (hL : View.canon L = held m c t) (q : Fin 8) (f : Fin 2816) :
    (View.whole cc0_scratch0).readCov L rowsLast.toLoadRect (ix2 q f) = held m c t (ix2 ⟨256 + q.val, by omega⟩ f) := by
  rw [View.readCov_eq_canon', hL]
  exact Eq.trans (b := View.ld (held m c t) rowsLast (ix2 q f)) rfl (ldLast _ q f)

theorem own_past (t : Fin cfg0.N) (r : Fin 256) (f : Fin 2816) : k0_pay6 (iblk m c 0 t) (iblk m c 3 t) (ix2 r f) = past (aX m c) (aW m c) (batch t) ((place t r).val + 8) f := by
  refine (own_at m c t r f).trans ?_
  unfold held
  refine congrArg (fun s => past (aX m c) (aW m c) (batch t) s f) ?_
  show 256 * (t.val % 32) + (8 + r.val) = 256 * (t.val % 32) + r.val + 8
  omega

theorem ldTap0 (z : Vec Ideal S3x2816 .f32) (f : Fin 2816) : View.ld z (Rect.unit ![0, 0] ![1, 2816] inb_S3x2816_S1x2816_0_0) (ix2 0 f) = z (ix2 0 f) := by
  pointwise

theorem ldTap1 (z : Vec Ideal S3x2816 .f32) (f : Fin 2816) : View.ld z (Rect.unit ![1, 0] ![1, 2816] inb_S3x2816_S1x2816_1_0) (ix2 0 f) = z (ix2 1 f) := by
  pointwise

theorem ldTap2 (z : Vec Ideal S3x2816 .f32) (f : Fin 2816) : View.ld z (Rect.unit ![2, 0] ![1, 2816] inb_S3x2816_S1x2816_2_0) (ix2 0 f) = z (ix2 2 f) := by
  pointwise

/-- A row of the result's block, from the rows held. -/
theorem row_at (t : Fin cfg0.N) (L : List (View.Piece (Elt Ideal) S264x2816 .f32)) (hL : View.canon L = held m c t) (r : Fin 256) (e : Fin 1024) :
    k0_pay1 (k0_pay9 (k0_pay4 (iblk m c 0 t)) (k0_pay5 (iblk m c 0 t))
        (k0_pay8 (iblk m c 6 t) (View.ld (iblk m c 5 t) (Rect.unit ![0, 0] ![1, 2816] inb_S3x2816_S1x2816_0_0))
          ((View.whole cc0_scratch0).readCov L rows6.toLoadRect))
        (View.ld (iblk m c 5 t) (Rect.unit ![1, 0] ![1, 2816] inb_S3x2816_S1x2816_1_0))
        ((View.whole cc0_scratch0).readCov L rows7.toLoadRect)
        (View.ld (iblk m c 5 t) (Rect.unit ![2, 0] ![1, 2816] inb_S3x2816_S1x2816_2_0))
        (k0_pay6 (iblk m c 0 t) (iblk m c 3 t)) (iblk m c 4 t) (iblk m c 7 t) (iblk m c 8 t) (iblk m c 1 t) (iblk m c 9 t))
      (k0_pay10 (iblk m c 10 t)) (iblk m c 11 t) (ix3 0 r e)
      = yVal (aX m c) (aP m c) (aW m c) (aDw m c) (aDb m c) (aWd m c) (aWp m c) (aWg m c) (aG m c) (aB m c) (batch t) (place t r) e := by
  refine (pay1_at _ _ _ r e).trans ?_
  unfold yVal
  refine congrFun (congr (congr (congrArg lnorm (funext fun d => ?_)) (funext fun d => gBlk_at m c t d)) (funext fun d => bBlk_at m c t d)) e
  refine (pay9_at _ _ _ _ _ _ _ _ _ _ _ _ _ r d).trans ?_
  unfold rowVal
  refine congrFun (congr (congr (congr (congr (congr (congr (congrArg blend (funext fun d => xBlk_at m c t r d)) (funext fun d => pBlk_at m c t r d)) (funext fun f => ?_))
    (funext fun f => funext fun d => wbBlk_at m c t d f)) (funext fun e => funext fun f => wdBlk_at m c t f e)) (funext fun e => funext fun d => wgBlk_at m c t d e)) (funext fun e => funext fun d => wpBlk_at m c t d e)) d
  unfold convVal
  rw [heldFrom6 m c t L hL r f, heldFrom7 m c t L hL r f, own_past m c t r f, ldTap0, ldTap1, ldTap2, dbBlk_at, dwBlk_at, dwBlk_at, dwBlk_at]

/-- The last rows the body hands on. -/
theorem tail_at (t : Fin cfg0.N) (L : List (View.Piece (Elt Ideal) S264x2816 .f32)) (hL : View.canon L = held m c t) (h31 : t.val % 32 = 31) (q : Fin 8) (f : Fin 2816) :
    k0_pay7 ((View.whole cc0_scratch0).readCov L rowsLast.toLoadRect) (ix3 0 q f)
      = aVal (aX m c) (aW m c) (batch t) ⟨8184 + q.val, by omega⟩ f := by
  refine (pay7_at _ q f).trans ((heldLast m c t L hL q f).trans ?_)
  refine Eq.trans ?_ (past_shift _ _ _ _ _)
  unfold held
  refine congrArg (fun s => past (aX m c) (aW m c) (batch t) s f) ?_
  show 256 * (t.val % 32) + (256 + q.val) = 8184 + q.val + 8
  omega

theorem rows256 (z : S1x256x1024.Idx) : z = ix3 0 (z 1) (z 2) := by
  funext a
  match a with
  | ⟨0, _⟩ => exact Subsingleton.elim (α := Fin 1) _ _
  | ⟨1, _⟩ => rfl
  | ⟨2, _⟩ => rfl

theorem rows8 (z : S1x8x2816.Idx) : z = ix3 0 (z 1) (z 2) := by
  funext a
  match a with
  | ⟨0, _⟩ => exact Subsingleton.elim (α := Fin 1) _ _
  | ⟨1, _⟩ => rfl
  | ⟨2, _⟩ => rfl

theorem y_at (t : Fin cfg0.N) (r : Fin 256) (e : Fin 1024) : (outsAt0 m c t.val t.isLt).1 (ix3 0 r e) = yVal (aX m c) (aP m c) (aW m c) (aDw m c) (aDb m c) (aWd m c) (aWp m c) (aWg m c) (aG m c) (aB m c) (batch t) (place t r) e := by
  by_cases h0 : t.val % 32 = 0
  · rw [outsAt0_A m c t h0 (by omega)]
    dsimp only
    frame_open
    simp (disch := decide) only [↓ View.readCov_skip, ↓ View.readCov_cons_toLoadRect, ↓ View.readCov_fill]
    frame_out
    exact row_at m c t _ (firstHeld m c t h0) r e
  · rw [outsAt0_B m c t h0 (by omega)]
    dsimp only
    frame_open
    simp (disch := decide) only [↓ View.readCov_skip, ↓ View.readCov_cons_toLoadRect, ↓ View.readCov_fill]
    frame_out
    simp only [read_unread_whole]
    exact row_at m c t _ (nextHeld m c t ⟨t.val - 1, by omega⟩ (by show t.val - 1 + 1 = t.val; omega) h0 _ (scratch_eq m c _ _)) r e

theorem last_at (t : Fin cfg0.N) (h31 : t.val % 32 = 31) (q : Fin 8) (f : Fin 2816) : (outsAt0 m c t.val t.isLt).2.1 (ix3 0 q f) = aVal (aX m c) (aW m c) (batch t) ⟨8184 + q.val, by omega⟩ f := by
  have h0 : ¬t.val % 32 = 0 := by omega
  rw [outsAt0_B m c t h0 (by omega)]
  dsimp only
  frame_open
  simp (disch := decide) only [↓ View.readCov_skip, ↓ View.readCov_cons_toLoadRect, ↓ View.readCov_fill]
  frame_out
  simp only [read_unread_whole]
  exact tail_at m c t _ (nextHeld m c t ⟨t.val - 1, by omega⟩ (by show t.val - 1 + 1 = t.val; omega) h0 _ (scratch_eq m c _ _)) h31 q f

/-- A value of every position and feature, as an array. -/
def whole (v : Fin 8 → Fin 8192 → Fin 1024 → EReal) (j : S8x8192x1024.Idx) : EReal := v (j 0) (j 1) (j 2)

/-- The last eight rows of a value, as an array. -/
def lasts (v : Fin 8 → Fin 8192 → Fin 2816 → EReal) (j : S8x8x2816.Idx) : EReal := v (j 0) ⟨8184 + (j 1).val, by have h : (j 1).val < 8 := (j 1).isLt; omega⟩ (j 2)

theorem arr12_eq : (dats m 0 c).arrAt 12 cfg0.N = whole (yVal (aX m c) (aP m c) (aW m c) (aDw m c) (aDb m c) (aWd m c) (aWp m c) (aWg m c) (aG m c) (aB m c)) := by
  refine (dats m 0 c).arrAt_eq_of_covers 12 _ (by decide +kernel) fun t hf y => ?_
  blk_simp
  refine (congrFun (after0_12 m c t) y).trans ?_
  obtain ⟨r, e, rfl⟩ : ∃ (r : Fin 256) (e : Fin 1024), y = ix3 0 r e := ⟨_, _, rows256 y⟩
  refine (y_at m c t r e).trans ?_
  refine Eq.trans (b := whole (yVal (aX m c) (aP m c) (aW m c) (aDw m c) (aDb m c) (aWd m c) (aWp m c) (aWg m c) (aG m c) (aB m c)) (ix3 (batch t) (place t r) e)) rfl ?_
  refine congrArg (whole _) ?_
  blk_ext [idx12 t, batch, place]

theorem arr13_eq : (dats m 0 c).arrAt 13 cfg0.N = lasts (aVal (aX m c) (aW m c)) := by
  refine (dats m 0 c).arrAt_eq_of_covers 13 _ (by decide +kernel) fun t hf y => ?_
  blk_simp
  refine (congrFun (after0_13 m c t) y).trans ?_
  obtain ⟨q, f, rfl⟩ : ∃ (q : Fin 8) (f : Fin 2816), y = ix3 0 q f := ⟨_, _, rows8 y⟩
  refine (last_at m c t ((flush0_13 t).mp hf) q f).trans ?_
  refine Eq.trans (b := lasts (aVal (aX m c) (aW m c)) (ix3 (batch t) q f)) rfl ?_
  refine congrArg (lasts _) ?_
  blk_ext [idx13 t, batch]

end Cert.Proof.Ffn
-- ==== Proof.FfnRef.lean ====
/- The feed-forward block's reference, read at an index. -/
module

public import proofs.«01_k».proof.Proof.FfnArrays
public import proofs.«01_k».proof.Proof.ProjRef
public import proofs.«01_k».proof.Proof.Gen.FfnReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.FfnRef

open Cert.FfnReferenceIdeal Cert.FfnReferenceIdeal.Gen Cert.FfnReferenceIdeal.Value Idealize.ShloMosaic Idealize.ShloMosaic.TcCoe Idealize.SL.Sem
open Cert.Proof.Proj (mean lnorm normed)
open Cert.Proof.ProjRef (hid hid_apply sig sig_apply)
open Cert.Proof.Ffn (dots mix blend aVal past past_shift convVal rowVal yVal whole lasts)

/-- The up projection. -/
def ups (x : FVec Ideal S8x8192x1024 .f32) (w : FVec Ideal S1024x5632 .f32) : FVec Ideal S8x8192x5632 .f32 :=
  Host.dotGeneral dot_S8x8192x1024_S1024x5632_S8x8192x5632_2_0_01_1_n_n none x w

/-- Its half that is convolved. -/
def inner (x : FVec Ideal S8x8192x1024 .f32) (w : FVec Ideal S1024x5632 .f32) : FVec Ideal S8x8192x2816 .f32 :=
  extractStridedSlice S8x8192x2816 ![0, 0, 0] (ups x w) slices_S8x8192x5632_S8x8192x2816_0_0_0

/-- Its half that gates. -/
def gates (x : FVec Ideal S8x8192x1024 .f32) (w : FVec Ideal S1024x5632 .f32) : FVec Ideal S8x8192x2816 .f32 :=
  extractStridedSlice S8x8192x2816 ![0, 0, 2816] (ups x w) slices_S8x8192x5632_S8x8192x2816_0_0_2816

/-- Two rows of zeros, then the rows. -/
def padded (a : FVec Ideal S8x8192x2816 .f32) : FVec Ideal S8x8194x2816 .f32 :=
  concatenate S8x8194x2816 1 [⟨S8x2x2816, broadcastInDim S8x2x2816 ![] bcast_S_S8x2x2816 (constant (F := Ideal) S_ .f32 0x00000000#32)⟩, ⟨S8x8192x2816, a⟩] concatenates_S8x2x2816_S8x8192x2816_S8x8194x2816_d1

/-- A vector of units at every position. -/
def every (v : FVec Ideal S2816 .f32) : FVec Ideal S8x8192x2816 .f32 :=
  broadcastInDim S8x8192x2816 ![0, 1, 2] bcast_S1x1x2816_S8x8192x2816_0_1_2 (broadcastInDim S1x1x2816 ![2] bcast_S2816_S1x1x2816_2 v)

def tap0 (p : FVec Ideal S8x8194x2816 .f32) (dw : FVec Ideal S3x2816 .f32) : FVec Ideal S8x8192x2816 .f32 :=
  mulf (extractStridedSlice S8x8192x2816 ![0, 0, 0] p slices_S8x8194x2816_S8x8192x2816_0_0_0) (every (shapeCast S2816 (extractStridedSlice S1x2816 ![0, 0] dw slices_S3x2816_S1x2816_0_0) shapeCasts_S1x2816_S2816))

def tap1 (p : FVec Ideal S8x8194x2816 .f32) (dw : FVec Ideal S3x2816 .f32) : FVec Ideal S8x8192x2816 .f32 :=
  mulf (extractStridedSlice S8x8192x2816 ![0, 1, 0] p slices_S8x8194x2816_S8x8192x2816_0_1_0) (every (shapeCast S2816 (extractStridedSlice S1x2816 ![1, 0] dw slices_S3x2816_S1x2816_1_0) shapeCasts_S1x2816_S2816))

def tap2 (p : FVec Ideal S8x8194x2816 .f32) (dw : FVec Ideal S3x2816 .f32) : FVec Ideal S8x8192x2816 .f32 :=
  mulf (extractStridedSlice S8x8192x2816 ![0, 2, 0] p slices_S8x8194x2816_S8x8192x2816_0_2_0) (every (shapeCast S2816 (extractStridedSlice S1x2816 ![2, 0] dw slices_S3x2816_S1x2816_2_0) shapeCasts_S1x2816_S2816))

/-- The convolution. -/
def conv (p : FVec Ideal S8x8194x2816 .f32) (dw : FVec Ideal S3x2816 .f32) (db : FVec Ideal S2816 .f32) : FVec Ideal S8x8192x2816 .f32 :=
  addf (addf (addf (tap0 p dw) (tap1 p dw)) (tap2 p dw)) (every db)

/-- One over one plus the exponential of the negative, at the units. -/
def sigU (z : FVec Ideal S8x8192x2816 .f32) : FVec Ideal S8x8192x2816 .f32 :=
  Host.divf (broadcastInDim S8x8192x2816 ![] bcast_S_S8x8192x2816 (constant S_ .f32 0x3F800000#32)) (addf (broadcastInDim S8x8192x2816 ![] bcast_S_S8x8192x2816 (constant S_ .f32 0x3F800000#32)) (Host.exp (Host.negf z)))

/-- The gated units. -/
def units (v q : FVec Ideal S8x8192x2816 .f32) : FVec Ideal S8x8192x2816 .f32 := mulf (mulf v (sigU v)) q

/-- The down projection. -/
def down (u : FVec Ideal S8x8192x2816 .f32) (wd : FVec Ideal S2816x1024 .f32) : FVec Ideal S8x8192x1024 .f32 :=
  Host.dotGeneral dot_S8x8192x2816_S2816x1024_S8x8192x1024_2_0_01_1_n_n none u wd

/-- The embedding's gate before its sigmoid. -/
def gateIn (x : FVec Ideal S8x8192x1024 .f32) (wg : FVec Ideal S1024x1024 .f32) : FVec Ideal S8x8192x1024 .f32 :=
  Host.dotGeneral dot_S8x8192x1024_S1024x1024_S8x8192x1024_2_0_01_1_n_n none x wg

/-- The embedding's projection. -/
def emb (p : FVec Ideal S8x8192x256 .f32) (wp : FVec Ideal S256x1024 .f32) : FVec Ideal S8x8192x1024 .f32 :=
  Host.dotGeneral dot_S8x8192x256_S256x1024_S8x8192x1024_2_0_01_1_n_n none p wp

/-- The sum before the norm. -/
def total (x d s e : FVec Ideal S8x8192x1024 .f32) : FVec Ideal S8x8192x1024 .f32 :=
  addf (addf (mulf (broadcastInDim S8x8192x1024 ![] bcast_S_S8x8192x1024 (constant S_ .f32 0x3F9837F0#32)) x) d) (mulf s e)

theorem inner_apply (x : FVec Ideal S8x8192x1024 .f32) (w : FVec Ideal S1024x5632 .f32) (n : Fin 8) (s : Fin 8192) (f : Fin 2816) :
    inner x w (ix3 n s f) = aVal x w n s f := by
  pointwise [inner, ups, aVal, dots]

theorem gates_apply (x : FVec Ideal S8x8192x1024 .f32) (w : FVec Ideal S1024x5632 .f32) (n : Fin 8) (s : Fin 8192) (f : Fin 2816) :
    gates x w (ix3 n s f) = dots (fun d => x (ix3 n s d)) (fun d => w (ix2 d ⟨2816 + f.val, by omega⟩)) := by
  pointwise [gates, ups, dots]

theorem padded_apply (a : FVec Ideal S8x8192x2816 .f32) (n : Fin 8) (s : Fin 8194) (f : Fin 2816) :
    padded a (ix3 n s f) = if h : s.val < 2 then (0 : EReal) else a (ix3 n ⟨s.val - 2, by omega⟩ f) := by
  pointwise [padded]

theorem padded_past (x : FVec Ideal S8x8192x1024 .f32) (w : FVec Ideal S1024x5632 .f32) (n : Fin 8) (s : Fin 8194) (f : Fin 2816) :
    padded (inner x w) (ix3 n s f) = past x w n (s.val + 6) f := by
  refine (padded_apply _ n s f).trans ?_
  unfold past
  by_cases h : s.val < 2
  · rw [dif_pos h, dif_neg (by omega)]
  · rw [dif_neg h, dif_pos (by omega)]
    refine (inner_apply x w n _ f).trans (congrArg (fun s => aVal x w n s f) (Fin.ext ?_))
    show s.val - 2 = s.val + 6 - 8
    omega

theorem tap0_apply (p : FVec Ideal S8x8194x2816 .f32) (dw : FVec Ideal S3x2816 .f32) (n : Fin 8) (s : Fin 8192) (f : Fin 2816) :
    tap0 p dw (ix3 n s f) = p (ix3 n ⟨s.val, by omega⟩ f) * dw (ix2 0 f) := by
  pointwise [tap0, every]

theorem tap1_apply (p : FVec Ideal S8x8194x2816 .f32) (dw : FVec Ideal S3x2816 .f32) (n : Fin 8) (s : Fin 8192) (f : Fin 2816) :
    tap1 p dw (ix3 n s f) = p (ix3 n ⟨1 + s.val, by omega⟩ f) * dw (ix2 1 f) := by
  pointwise [tap1, every]

theorem tap2_apply (p : FVec Ideal S8x8194x2816 .f32) (dw : FVec Ideal S3x2816 .f32) (n : Fin 8) (s : Fin 8192) (f : Fin 2816) :
    tap2 p dw (ix3 n s f) = p (ix3 n ⟨2 + s.val, by omega⟩ f) * dw (ix2 2 f) := by
  pointwise [tap2, every]

theorem every_apply (v : FVec Ideal S2816 .f32) (n : Fin 8) (s : Fin 8192) (f : Fin 2816) : every v (ix3 n s f) = v (ix1 f) := by
  pointwise [every]

theorem conv_apply (x : FVec Ideal S8x8192x1024 .f32) (w : FVec Ideal S1024x5632 .f32) (dw : FVec Ideal S3x2816 .f32) (db : FVec Ideal S2816 .f32) (n : Fin 8) (s : Fin 8192) (f : Fin 2816) :
    conv (padded (inner x w)) dw db (ix3 n s f) = convVal x w dw db n s f := by
  have h0 := tap0_apply (padded (inner x w)) dw n s f
  have h1 := tap1_apply (padded (inner x w)) dw n s f
  have h2 := tap2_apply (padded (inner x w)) dw n s f
  rw [padded_past] at h0 h1 h2
  have h3 := every_apply db n s f
  refine Eq.trans (b := tap0 (padded (inner x w)) dw (ix3 n s f) + tap1 (padded (inner x w)) dw (ix3 n s f) + tap2 (padded (inner x w)) dw (ix3 n s f) + every db (ix3 n s f)) rfl ?_
  rw [h0, h1, h2, h3]
  unfold convVal mix
  have e1 : 1 + s.val + 6 = s.val + 7 := by omega
  have e2 : 2 + s.val + 6 = s.val + 8 := by omega
  show past x w n (s.val + 6) f * _ + past x w n (1 + s.val + 6) f * _ + past x w n (2 + s.val + 6) f * _ + _ = _
  rw [e1, e2, add_comm, ← add_assoc, ← add_assoc, mul_comm (past x w n (s.val + 6) f), mul_comm (past x w n (s.val + 7) f), mul_comm (past x w n (s.val + 8) f)]

theorem sigU_apply (z : FVec Ideal S8x8192x2816 .f32) (n : Fin 8) (t : Fin 8192) (f : Fin 2816) : sigU z (ix3 n t f) = Ideal.logistic (z (ix3 n t f)) := by
  refine Eq.trans (b := Ideal.div (Ideal.ofBits .f32 0x3F800000#32) (Ideal.ofBits .f32 0x3F800000#32 + Ideal.exp (-(z (ix3 n t f))))) ?_ (by rw [Ideal.ofBits_one_f32]; rfl)
  pointwise [sigU]

theorem units_apply (v q : FVec Ideal S8x8192x2816 .f32) (n : Fin 8) (t : Fin 8192) (f : Fin 2816) :
    units v q (ix3 n t f) = Cert.Proof.Ffn.unit (v (ix3 n t f)) (q (ix3 n t f)) :=
  Eq.trans (b := v (ix3 n t f) * sigU v (ix3 n t f) * q (ix3 n t f)) rfl (by rw [sigU_apply]; rfl)

theorem down_apply (u : FVec Ideal S8x8192x2816 .f32) (wd : FVec Ideal S2816x1024 .f32) (n : Fin 8) (t : Fin 8192) (e : Fin 1024) :
    down u wd (ix3 n t e) = dots (fun f => u (ix3 n t f)) (fun f => wd (ix2 f e)) := by
  pointwise [down, dots]

theorem gateIn_apply (x : FVec Ideal S8x8192x1024 .f32) (wg : FVec Ideal S1024x1024 .f32) (n : Fin 8) (t : Fin 8192) (e : Fin 1024) :
    gateIn x wg (ix3 n t e) = dots (fun d => x (ix3 n t d)) (fun d => wg (ix2 d e)) := by
  pointwise [gateIn, dots]

theorem emb_apply (p : FVec Ideal S8x8192x256 .f32) (wp : FVec Ideal S256x1024 .f32) (n : Fin 8) (t : Fin 8192) (e : Fin 1024) :
    emb p wp (ix3 n t e) = dots (fun d => p (ix3 n t d)) (fun d => wp (ix2 d e)) := by
  pointwise [emb, dots]

theorem total_apply (x d s e : FVec Ideal S8x8192x1024 .f32) (n : Fin 8) (t : Fin 8192) (j : Fin 1024) :
    total x d s e (ix3 n t j) = Ideal.ofBits .f32 0x3F9837F0#32 * x (ix3 n t j) + d (ix3 n t j) + s (ix3 n t j) * e (ix3 n t j) := by
  pointwise [total]

/-- The rows before the norm. -/
def rows (x : FVec Ideal S8x8192x1024 .f32) (p : FVec Ideal S8x8192x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) : FVec Ideal S8x8192x1024 .f32 :=
  total x (down (units (conv (padded (inner x w)) dw db) (gates x w)) wd) (sig (gateIn x wg)) (emb p wp)

theorem rows_apply (x : FVec Ideal S8x8192x1024 .f32) (p : FVec Ideal S8x8192x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) (n : Fin 8) (t : Fin 8192) (e : Fin 1024) :
    rows x p w dw db wd wp wg (ix3 n t e) = rowVal x p w dw db wd wp wg n t e := by
  have h1 : down (units (conv (padded (inner x w)) dw db) (gates x w)) wd (ix3 n t e)
      = dots (fun f => Cert.Proof.Ffn.unit (convVal x w dw db n t f) (dots (fun d => x (ix3 n t d)) (fun d => w (ix2 d ⟨2816 + f.val, by omega⟩)))) (fun f => wd (ix2 f e)) := by
    refine (down_apply _ wd n t e).trans (congrFun (congrArg dots (funext fun f => ?_)) _)
    rw [units_apply, conv_apply, gates_apply]
  have h2 : sig (gateIn x wg) (ix3 n t e) = Ideal.logistic (dots (fun d => x (ix3 n t d)) (fun d => wg (ix2 d e))) :=
    (sig_apply _ n t e).trans (congrArg Ideal.logistic (gateIn_apply x wg n t e))
  have h3 := emb_apply p wp n t e
  refine (total_apply _ _ _ _ n t e).trans ?_
  rw [h1, h2, h3]
  rfl

/-- The first result. -/
def resY (x : FVec Ideal S8x8192x1024 .f32) (p : FVec Ideal S8x8192x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) (g b : FVec Ideal S1024 .f32) : FVec Ideal S8x8192x1024 .f32 :=
  hid (rows x p w dw db wd wp wg) g b

theorem resY_eq (x : FVec Ideal S8x8192x1024 .f32) (p : FVec Ideal S8x8192x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) (g b : FVec Ideal S1024 .f32) :
    resY x p w dw db wd wp wg g b = whole (yVal x p w dw db wd wp wg g b) := by
  funext j
  obtain ⟨n, t, e, rfl⟩ : ∃ (n : Fin 8) (t : Fin 8192) (e : Fin 1024), j = ix3 n t e := ⟨j 0, j 1, j 2, by
    funext a
    match a with
    | ⟨0, _⟩ => rfl
    | ⟨1, _⟩ => rfl
    | ⟨2, _⟩ => rfl⟩
  refine (hid_apply _ g b n t e).trans ?_
  refine Eq.trans (b := lnorm (fun d => rows x p w dw db wd wp wg (ix3 n t d)) (fun d => g (ix1 d)) (fun d => b (ix1 d)) e) rfl ?_
  rw [show (fun d => rows x p w dw db wd wp wg (ix3 n t d)) = rowVal x p w dw db wd wp wg n t from funext fun d => rows_apply x p w dw db wd wp wg n t d]
  rfl

/-- The second result. -/
def resT (x : FVec Ideal S8x8192x1024 .f32) (w : FVec Ideal S1024x5632 .f32) : FVec Ideal S8x8x2816 .f32 :=
  extractStridedSlice S8x8x2816 ![0, 8184, 0] (inner x w) slices_S8x8192x2816_S8x8x2816_0_8184_0

theorem cut_apply (a : FVec Ideal S8x8192x2816 .f32) (n : Fin 8) (q : Fin 8) (f : Fin 2816) :
    extractStridedSlice S8x8x2816 ![0, 8184, 0] a slices_S8x8192x2816_S8x8x2816_0_8184_0 (ix3 n q f) = a (ix3 n ⟨8184 + q.val, by omega⟩ f) := by
  pointwise

theorem resT_eq (x : FVec Ideal S8x8192x1024 .f32) (w : FVec Ideal S1024x5632 .f32) : resT x w = lasts (aVal x w) := by
  funext j
  obtain ⟨n, q, f, rfl⟩ : ∃ (n : Fin 8) (q : Fin 8) (f : Fin 2816), j = ix3 n q f := ⟨j 0, j 1, j 2, by
    funext a
    match a with
    | ⟨0, _⟩ => rfl
    | ⟨1, _⟩ => rfl
    | ⟨2, _⟩ => rfl⟩
  exact (cut_apply _ n q f).trans (inner_apply x w n _ f)

end Cert.Proof.FfnRef
-- ==== Proof.FfnValue.lean ====
/- The feed-forward block's results: the kernel's and the reference's are the same arrays. -/
module

public import proofs.«01_k».proof.Defs
public import proofs.«01_k».proof.Proof.FfnArrays
public import proofs.«01_k».proof.Proof.FfnRef
public import proofs.«01_k».proof.Proof.Gen.FfnIdeal.Value
public import proofs.«01_k».proof.Proof.Gen.FfnReferenceIdeal.Run

@[expose] public section

set_option maxRecDepth 16384

noncomputable section

namespace Cert.Proof.Ffn

open Idealize.ShloMosaic Idealize.SL.Sem
open Cert.Proof.FfnRef

set_option maxHeartbeats 2000000 in
/-- At each device the two arrays the launch leaves are the two the reference computes. -/
theorem algebraic_ffn : Cert.algebraic_FfnIdeal_FfnReferenceIdeal := fun m g m' g' _ ha =>
  ⟨fun c => (Cert.FfnIdeal.Gen.dats m 0 c).arrAt 12 Cert.FfnIdeal.cfg0.N, fun c => (Cert.FfnIdeal.Gen.dats m 0 c).arrAt 13 Cert.FfnIdeal.cfg0.N,
    Cert.FfnIdeal.Value.run_blocks m g,
    (θ_run _ _ _).mono (fun r h c => by
      obtain ⟨a0, a1, a2, a3, a4, a5, a6, a7, a8, a9⟩ := ha c
      obtain ⟨h0, h1, hr⟩ := h c
      refine ⟨h0.trans ?_, h1.trans ?_, hr⟩
      · refine Eq.trans (b := resY (m' ((c.tc : Thread Cert.FfnReferenceIdeal.nD Cert.FfnReferenceIdeal.τ).loc Cert.FfnReferenceIdeal.main_arg0)) (m' ((c.tc : Thread Cert.FfnReferenceIdeal.nD Cert.FfnReferenceIdeal.τ).loc Cert.FfnReferenceIdeal.main_arg1)) (m' ((c.tc : Thread Cert.FfnReferenceIdeal.nD Cert.FfnReferenceIdeal.τ).loc Cert.FfnReferenceIdeal.main_arg2)) (m' ((c.tc : Thread Cert.FfnReferenceIdeal.nD Cert.FfnReferenceIdeal.τ).loc Cert.FfnReferenceIdeal.main_arg3)) (m' ((c.tc : Thread Cert.FfnReferenceIdeal.nD Cert.FfnReferenceIdeal.τ).loc Cert.FfnReferenceIdeal.main_arg4)) (m' ((c.tc : Thread Cert.FfnReferenceIdeal.nD Cert.FfnReferenceIdeal.τ).loc Cert.FfnReferenceIdeal.main_arg5)) (m' ((c.tc : Thread Cert.FfnReferenceIdeal.nD Cert.FfnReferenceIdeal.τ).loc Cert.FfnReferenceIdeal.main_arg6)) (m' ((c.tc : Thread Cert.FfnReferenceIdeal.nD Cert.FfnReferenceIdeal.τ).loc Cert.FfnReferenceIdeal.main_arg7)) (m' ((c.tc : Thread Cert.FfnReferenceIdeal.nD Cert.FfnReferenceIdeal.τ).loc Cert.FfnReferenceIdeal.main_arg8)) (m' ((c.tc : Thread Cert.FfnReferenceIdeal.nD Cert.FfnReferenceIdeal.τ).loc Cert.FfnReferenceIdeal.main_arg9))) rfl ?_
        rw [a0, a1, a2, a3, a4, a5, a6, a7, a8, a9]
        exact (resY_eq _ _ _ _ _ _ _ _ _ _).trans (arr12_eq m c).symm
      · refine Eq.trans (b := resT (m' ((c.tc : Thread Cert.FfnReferenceIdeal.nD Cert.FfnReferenceIdeal.τ).loc Cert.FfnReferenceIdeal.main_arg0)) (m' ((c.tc : Thread Cert.FfnReferenceIdeal.nD Cert.FfnReferenceIdeal.τ).loc Cert.FfnReferenceIdeal.main_arg2))) rfl ?_
        rw [a0, a2]
        exact (resT_eq _ _).trans (arr13_eq m c).symm)
      (Cert.FfnReferenceIdeal.Value.run (F := Ideal) m' g')⟩

end Cert.Proof.Ffn

end
-- ==== Proof.MergeFrame.lean ====
/- The merge's frames, of words and of reals. -/
module

public import proofs.«01_k».proof.Defs
public import proofs.«01_k».proof.Proof.Gen.Merge.Frame
public import proofs.«01_k».proof.Proof.Gen.MergeIdeal.Frame
public import proofs.«01_k».proof.Proof.Gen.MergeReferenceIdeal.Run
public import Idealize.ShloMosaic.Init

@[expose] public section

set_option maxRecDepth 16384

noncomputable section

namespace Cert.Proof.Merge

open Idealize.ShloMosaic Idealize.SL.Sem

theorem frame_MergeIdeal : Cert.quiescent_MergeIdeal := fun m g _ => Cert.MergeIdeal.Gen.frame (F := Ideal) m g

theorem frame_MergeReferenceIdeal : Cert.quiescent_MergeReferenceIdeal := fun m g _ =>
  (θ_run _ _ _).mono (fun r h => ⟨fun c => (h c).2, Idealize.ShloMosaic.sem_eq_zero_of_no_sems (by decide) r.2⟩) (Cert.MergeReferenceIdeal.Value.run (F := Ideal) m g)

theorem frame_Merge : Cert.quiescent_Merge := fun m g _ => Cert.Merge.Gen.frame (F := Bits) m g

end Cert.Proof.Merge

end
-- ==== Proof.MergeRow.lean ====
/- The merge's rows computed by the kernel, at an index. -/
module

public import proofs.«01_k».proof.Proof.ProjRow
public import proofs.«01_k».proof.Proof.Gen.MergeIdeal.Skeleton
public import Idealize.ShloMosaic.Lib.Pointwise
public import Idealize.ShloMosaic.Lib.Tactic.CleanTypes

@[expose] public section

set_option maxRecDepth 16384

noncomputable section

namespace Cert.Proof.Merge

open Cert.MergeIdeal Cert.MergeIdeal.Gen
open Idealize.ShloMosaic
open Cert.Proof.Proj (mean lnorm prod)

/-- The gated branches of a row: the convolution's and the attention's through its projection. -/
def mixed (cv o gc ga : Fin 1024 → EReal) (wa : Fin 1024 → Fin 1024 → EReal) (j : Fin 1024) : EReal := gc j * cv j + ga j * prod o (wa j)

/-- A row before its norm: the scaled residual and the output projection. -/
def joined (h q : Fin 1024 → EReal) (wo : Fin 1024 → Fin 1024 → EReal) (e : Fin 1024) : EReal := Ideal.ofBits .f32 0x3F9837F0#32 * h e + prod q (wo e)

theorem pay2_at (x : Vec Ideal S256x1024 .f32) (g b : Vec Ideal S1x1024 .f32) (r : Fin 256) (e : Fin 1024) :
    k0_pay2 x g b (ix2 r e) = lnorm (fun d => x (ix2 r d)) (fun d => g (ix2 0 d)) (fun d => b (ix2 0 d)) e := by
  pointwise [k0_pay2, lnorm, mean]

theorem pay8_at (x : Vec Ideal S256x1024 .f32) (g b : Vec Ideal S1x1024 .f32) (r : Fin 256) (e : Fin 1024) :
    k0_pay8 (k0_pay6 x) (k0_pay7 g) b (ix2 r e) = lnorm (fun d => x (ix2 r d)) (fun d => g (ix2 0 d)) (fun d => b (ix2 0 d)) e := by
  pointwise [k0_pay8, k0_pay7, k0_pay6, lnorm, mean]

theorem pay3_at (o : Vec Ideal S256x1024 .bf16) (w : Vec Ideal S1024x1024 .bf16) (r : Fin 256) (e : Fin 1024) :
    k0_pay3 o w (ix2 r e) = prod (fun d => o (ix2 r d)) (fun d => w (ix2 d e)) := by
  pointwise [k0_pay3, prod]

theorem pay4_at (gc cv : Vec Ideal S256x1024 .bf16) (r : Fin 256) (e : Fin 1024) : k0_pay4 gc cv (ix2 r e) = gc (ix2 r e) * cv (ix2 r e) := by
  pointwise [k0_pay4]

theorem pay9_at (o : Vec Ideal S256x1024 .bf16) (w : Vec Ideal S1024x1024 .bf16) (gc cv ga : Vec Ideal S256x1024 .bf16) (r : Fin 256) (e : Fin 1024) :
    k0_pay9 o w gc cv ga (ix2 r e) = mixed (fun d => cv (ix2 r d)) (fun d => o (ix2 r d)) (fun d => gc (ix2 r d)) (fun d => ga (ix2 r d)) (fun j d => w (ix2 d j)) e := by
  pointwise [k0_pay9, mixed, prod]

theorem pay1_at (h : FVec Ideal S256x1024 .f32) (q : FVec Ideal S256x1024 .bf16) (w : Vec Ideal S1024x1024 .bf16) (g b : Vec Ideal S1x1024 .f32) (r : Fin 256) (e : Fin 1024) :
    k0_pay1 h q (k0_pay10 w) g b (ix2 r e) = lnorm (joined (fun d => h (ix2 r d)) (fun d => q (ix2 r d)) (fun e d => w (ix2 d e))) (fun d => g (ix2 0 d)) (fun d => b (ix2 0 d)) e := by
  pointwise [k0_pay1, k0_pay10, lnorm, mean, joined, prod]

theorem pay5_at (h a q : FVec Ideal S256x1024 .f32) (ga : Vec Ideal S256x1024 .bf16) (w : Vec Ideal S1024x1024 .bf16) (g b : Vec Ideal S1x1024 .f32) (r : Fin 256) (e : Fin 1024) :
    k0_pay5 h a q ga w g b (ix2 r e) = lnorm (joined (fun d => h (ix2 r d)) (fun d => q (ix2 r d) + ga (ix2 r d) * a (ix2 r d)) (fun e d => w (ix2 d e))) (fun d => g (ix2 0 d)) (fun d => b (ix2 0 d)) e := by
  pointwise [k0_pay5, lnorm, mean, joined, prod]

end Cert.Proof.Merge
-- ==== Proof.MergeBlock.lean ====
/- What the merge's body leaves in its staging buffer, at an index. -/
module

public import proofs.«01_k».proof.Proof.MergeRow
public import proofs.«01_k».proof.Proof.Gen.MergeIdeal.Frame
public import Idealize.ShloMosaic.Lib.Pipeline.ValueKit
public import Idealize.ShloMosaic.Lib.Pipeline.ReadBack

@[expose] public section

set_option maxRecDepth 16384

noncomputable section

namespace Cert.Proof.Merge

open Cert.MergeIdeal Cert.MergeIdeal.Gen
open Idealize.ShloMosaic
open Cert.Proof.Proj (mean lnorm prod)

variable (x0 : Vec Ideal S512x1024 .f32) (x1 x2 : Vec Ideal S1x1024 .f32) (x3 x4 x5 x6 : Vec Ideal S512x1024 .bf16) (x7 x8 : Vec Ideal S1024x1024 .bf16) (x9 x10 : Vec Ideal S1x1024 .f32)

/-- A row of the block. -/
def blockRow (r : Fin 512) (e : Fin 1024) : EReal :=
  lnorm (joined (lnorm (fun d => x0 (ix2 r d)) (fun d => x1 (ix2 0 d)) (fun d => x2 (ix2 0 d)))
    (mixed (fun d => x3 (ix2 r d)) (fun d => x4 (ix2 r d)) (fun d => x5 (ix2 r d)) (fun d => x6 (ix2 r d)) (fun j d => x7 (ix2 d j)))
    (fun e d => x8 (ix2 d e))) (fun d => x9 (ix2 0 d)) (fun d => x10 (ix2 0 d)) e

theorem ldRow (x : Vec Ideal S1x1024 .f32) : View.ld x r0_1 = x := View.ld_unit_lit _ x (by decide)
theorem ldMat (x : Vec Ideal S1024x1024 .bf16) : View.ld x r0_2 = x := View.ld_unit_lit _ x (by decide)

theorem ldLow (x : Vec Ideal S512x1024 .f32) (r : Fin 256) (d : Fin 1024) : View.ld x r0_0 (ix2 r d) = x (ix2 ⟨r.val, by omega⟩ d) := by
  pointwise

theorem ldHigh (x : Vec Ideal S512x1024 .f32) (r : Fin 256) (d : Fin 1024) : View.ld x r0_3 (ix2 r d) = x (ix2 ⟨256 + r.val, by omega⟩ d) := by
  pointwise

theorem ldLow' (x : Vec Ideal S512x1024 .bf16) (r : Fin 256) (d : Fin 1024) : View.ld x r0_0 (ix2 r d) = x (ix2 ⟨r.val, by omega⟩ d) := by
  pointwise

theorem ldHigh' (x : Vec Ideal S512x1024 .bf16) (r : Fin 256) (d : Fin 1024) : View.ld x r0_3 (ix2 r d) = x (ix2 ⟨256 + r.val, by omega⟩ d) := by
  pointwise

theorem emb_low (r : Fin 256) (e : Fin 1024) : r0_0.emb (ix2 r e) = ix2 ⟨r.val, by omega⟩ e := by
  blk_ext

theorem emb_high (r : Fin 256) (e : Fin 1024) : r0_3.emb (ix2 r e) = ix2 ⟨256 + r.val, by omega⟩ e := by
  blk_ext

theorem rows2 (z : S256x1024.Idx) : z = ix2 (z 0) (z 1) := by
  funext a
  match a with
  | ⟨0, _⟩ => rfl
  | ⟨1, _⟩ => rfl

theorem low_row (r : Fin 256) (e : Fin 1024) :
    k0_pay5 (k0_pay2 (View.ld x0 r0_0) x1 x2) (k0_pay3 (View.ld x4 r0_0) x7) (k0_pay4 (View.ld x5 r0_0) (View.ld x3 r0_0)) (View.ld x6 r0_0) x8 x9 x10 (ix2 r e)
      = blockRow x0 x1 x2 x3 x4 x5 x6 x7 x8 x9 x10 ⟨r.val, by omega⟩ e := by
  refine (pay5_at _ _ _ _ _ _ _ r e).trans ?_
  unfold blockRow
  refine congrFun (congrFun (congrFun (congrArg lnorm (congrFun (congr (congrArg joined (funext fun d => ?_)) (funext fun d => ?_)) _)) _) _) e
  · refine (pay2_at _ _ _ r d).trans ?_
    refine congrFun (congrFun (congrFun (congrArg lnorm (funext fun d => ldLow x0 r d)) _) _) d
  · rw [pay3_at, pay4_at, ldLow', ldLow', ldLow', show (fun d => View.ld x4 r0_0 (ix2 r d)) = fun d => x4 (ix2 ⟨r.val, by omega⟩ d) from funext fun d => ldLow' x4 r d]
    rfl

theorem high_row (r : Fin 256) (e : Fin 1024) :
    k0_pay1 (k0_pay8 (k0_pay6 (View.ld x0 r0_3)) (k0_pay7 x1) x2) (k0_pay9 (View.ld x4 r0_3) x7 (View.ld x5 r0_3) (View.ld x3 r0_3) (View.ld x6 r0_3)) (k0_pay10 x8) x9 x10 (ix2 r e)
      = blockRow x0 x1 x2 x3 x4 x5 x6 x7 x8 x9 x10 ⟨256 + r.val, by omega⟩ e := by
  refine (pay1_at _ _ _ _ _ r e).trans ?_
  unfold blockRow
  refine congrFun (congrFun (congrFun (congrArg lnorm (congrFun (congr (congrArg joined (funext fun d => ?_)) (funext fun d => ?_)) _)) _) _) e
  · refine (pay8_at _ _ _ r d).trans ?_
    refine congrFun (congrFun (congrFun (congrArg lnorm (funext fun d => ldHigh x0 r d)) _) _) d
  · refine (pay9_at _ _ _ _ _ r d).trans ?_
    rw [show (fun d => View.ld x3 r0_3 (ix2 r d)) = fun d => x3 (ix2 ⟨256 + r.val, by omega⟩ d) from funext fun d => ldHigh' x3 r d,
      show (fun d => View.ld x4 r0_3 (ix2 r d)) = fun d => x4 (ix2 ⟨256 + r.val, by omega⟩ d) from funext fun d => ldHigh' x4 r d,
      show (fun d => View.ld x5 r0_3 (ix2 r d)) = fun d => x5 (ix2 ⟨256 + r.val, by omega⟩ d) from funext fun d => ldHigh' x5 r d,
      show (fun d => View.ld x6 r0_3 (ix2 r d)) = fun d => x6 (ix2 ⟨256 + r.val, by omega⟩ d) from funext fun d => ldHigh' x6 r d]

theorem out11_at (y : S512x1024.Idx) : out0_11 x0 x1 x2 x3 x4 x5 x6 x7 x8 x9 x10 y = blockRow x0 x1 x2 x3 x4 x5 x6 x7 x8 x9 x10 (y 0) (y 1) := by
  unfold out0_11
  simp only [ldRow, ldMat]
  refine View.canon_append_of_piecesOf (Val := Elt Ideal) (e := .f32) (fun y : S512x1024.Idx => blockRow x0 x1 x2 x3 x4 x5 x6 x7 x8 x9 x10 (y 0) (y 1)) [] [_, _] ⟨fun z => ?_, fun z => ?_, trivial⟩ y (cover0_11 _ _ y)
  · obtain ⟨a, b, rfl⟩ : ∃ a b, z = ix2 a b := ⟨_, _, rows2 z⟩
    refine Eq.trans (b := blockRow x0 x1 x2 x3 x4 x5 x6 x7 x8 x9 x10 ⟨256 + a.val, by omega⟩ b) ?_ (congrArg (fun y : S512x1024.Idx => blockRow x0 x1 x2 x3 x4 x5 x6 x7 x8 x9 x10 (y 0) (y 1)) (emb_high a b)).symm
    exact high_row x0 x1 x2 x3 x4 x5 x6 x7 x8 x9 x10 a b
  · obtain ⟨a, b, rfl⟩ : ∃ a b, z = ix2 a b := ⟨_, _, rows2 z⟩
    refine Eq.trans (b := blockRow x0 x1 x2 x3 x4 x5 x6 x7 x8 x9 x10 ⟨a.val, by omega⟩ b) ?_ (congrArg (fun y : S512x1024.Idx => blockRow x0 x1 x2 x3 x4 x5 x6 x7 x8 x9 x10 (y 0) (y 1)) (emb_low a b)).symm
    exact low_row x0 x1 x2 x3 x4 x5 x6 x7 x8 x9 x10 a b

end Cert.Proof.Merge
-- ==== Proof.MergeHost.lean ====
/- The arrays the merge's region reads, and its blocks, at an index. -/
module

public import proofs.«01_k».proof.Proof.MergeBlock
public import Idealize.ShloMosaic.Lib.Pipeline.Covers
public import Idealize.ShloMosaic.Lib.StableHlo.ReadAt

@[expose] public section

set_option maxRecDepth 16384

noncomputable section

namespace Cert.Proof.Merge

open Cert.MergeIdeal Cert.MergeIdeal.Gen
open Idealize.ShloMosaic
open Idealize.ShloMosaic.TcCoe
open Idealize.SL.Sem

variable (m : (ℓ : Loc nD τ sig) → Buf (Elt Ideal) ℓ) (c : Dev nD)

theorem arr_x (R : Fin 65536) (d : Fin 1024) : Gen.V m c main_v0 (ix2 R d) = m ((c.tc : Thread nD τ).loc main_arg0) (ix3 ⟨R.val / 8192, by omega⟩ ⟨R.val % 8192, by omega⟩ d) := by
  unfold_abbrev_sides
  after_reads_at

theorem arr_cv (R : Fin 65536) (d : Fin 1024) : Gen.V m c main_v3 (ix2 R d) = m ((c.tc : Thread nD τ).loc main_arg3) (ix3 ⟨R.val / 8192, by omega⟩ ⟨R.val % 8192, by omega⟩ d) := by
  unfold_abbrev_sides
  after_reads_at

theorem arr_at (R : Fin 65536) (d : Fin 1024) : Gen.V m c main_v4 (ix2 R d) = m ((c.tc : Thread nD τ).loc main_arg4) (ix3 ⟨R.val / 8192, by omega⟩ ⟨R.val % 8192, by omega⟩ d) := by
  unfold_abbrev_sides
  after_reads_at

theorem arr_g0 (d : Fin 1024) : Gen.V m c main_v1 (ix2 0 d) = m ((c.tc : Thread nD τ).loc main_arg1) (ix1 d) := by
  unfold_abbrev_sides
  after_reads_at

theorem arr_b0 (d : Fin 1024) : Gen.V m c main_v2 (ix2 0 d) = m ((c.tc : Thread nD τ).loc main_arg2) (ix1 d) := by
  unfold_abbrev_sides
  after_reads_at

theorem arr_g1 (d : Fin 1024) : Gen.V m c main_v7 (ix2 0 d) = m ((c.tc : Thread nD τ).loc main_arg9) (ix1 d) := by
  unfold_abbrev_sides
  after_reads_at

theorem arr_b1 (d : Fin 1024) : Gen.V m c main_v8 (ix2 0 d) = m ((c.tc : Thread nD τ).loc main_arg10) (ix1 d) := by
  unfold_abbrev_sides
  after_reads_at

theorem arr_wa (d e : Fin 1024) : Gen.V m c main_v5 (ix2 d e) = m ((c.tc : Thread nD τ).loc main_arg7) (ix2 d e) := by
  unfold_abbrev_sides
  after_reads_at

theorem arr_wo (d e : Fin 1024) : Gen.V m c main_v6 (ix2 d e) = m ((c.tc : Thread nD τ).loc main_arg8) (ix2 d e) := by
  unfold_abbrev_sides
  after_reads_at

/-! ## The blocks -/

theorem lt0 (t : Fin cfg0.N) : (grid0.coords t 0).val < 128 := (grid0.coords t 0).isLt

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(grid0.coords t 0).val, 0] := (by decide +kernel : ∀ t : Fin grid0.N, _)

/-- A row's batch entry and position. -/
def batch (t : Fin cfg0.N) (r : Fin 512) : Fin 8 := ⟨(512 * (grid0.coords t 0).val + r.val) / 8192, by have := lt0 t; omega⟩
def place (t : Fin cfg0.N) (r : Fin 512) : Fin 8192 := ⟨(512 * (grid0.coords t 0).val + r.val) % 8192, by omega⟩

/-- The row of a batch entry's position among all rows. -/
def flat (n : Fin 8) (t : Fin 8192) : Fin 65536 := ⟨8192 * n.val + t.val, by omega⟩

theorem flat_at (t : Fin cfg0.N) (r : Fin 512) : flat (batch t r) (place t r) = ⟨512 * (grid0.coords t 0).val + r.val, by have := lt0 t; omega⟩ :=
  Fin.ext (by
    show 8192 * ((512 * (grid0.coords t 0).val + r.val) / 8192) + (512 * (grid0.coords t 0).val + r.val) % 8192 = 512 * (grid0.coords t 0).val + r.val
    omega)

theorem xBlk_at (t : Fin cfg0.N) (r : Fin 512) (d : Fin 1024) : iblk m c 0 t (ix2 r d) = m ((c.tc : Thread nD τ).loc main_arg0) (ix3 (batch t r) (place t r) d) := by
  have h := lt0 t
  unfold iblk
  blk_simp
  refine (congrArg (Gen.V m c main_v0) (?_ : _ = ix2 ⟨512 * (grid0.coords t 0).val + r.val, by omega⟩ d)).trans (arr_x m c _ d)
  blk_ext [idx0 t]

theorem cvBlk_at (t : Fin cfg0.N) (r : Fin 512) (d : Fin 1024) : iblk m c 3 t (ix2 r d) = m ((c.tc : Thread nD τ).loc main_arg3) (ix3 (batch t r) (place t r) d) := by
  have h := lt0 t
  unfold iblk
  blk_simp
  refine (congrArg (Gen.V m c main_v3) (?_ : _ = ix2 ⟨512 * (grid0.coords t 0).val + r.val, by omega⟩ d)).trans (arr_cv m c _ d)
  blk_ext [idx3 t]

theorem atBlk_at (t : Fin cfg0.N) (r : Fin 512) (d : Fin 1024) : iblk m c 4 t (ix2 r d) = m ((c.tc : Thread nD τ).loc main_arg4) (ix3 (batch t r) (place t r) d) := by
  have h := lt0 t
  unfold iblk
  blk_simp
  refine (congrArg (Gen.V m c main_v4) (?_ : _ = ix2 ⟨512 * (grid0.coords t 0).val + r.val, by omega⟩ d)).trans (arr_at m c _ d)
  blk_ext [idx4 t]

theorem gcBlk_at (t : Fin cfg0.N) (r : Fin 512) (d : Fin 1024) : iblk m c 5 t (ix2 r d) = m ((c.tc : Thread nD τ).loc main_arg5) (ix2 (flat (batch t r) (place t r)) d) := by
  have h := lt0 t
  rw [flat_at]
  unfold iblk
  blk_simp
  refine congrArg (m ((c.tc : Thread nD τ).loc main_arg5)) (?_ : _ = ix2 ⟨512 * (grid0.coords t 0).val + r.val, by omega⟩ d)
  blk_ext [idx5 t]

theorem gaBlk_at (t : Fin cfg0.N) (r : Fin 512) (d : Fin 1024) : iblk m c 6 t (ix2 r d) = m ((c.tc : Thread nD τ).loc main_arg6) (ix2 (flat (batch t r) (place t r)) d) := by
  have h := lt0 t
  rw [flat_at]
  unfold iblk
  blk_simp
  refine congrArg (m ((c.tc : Thread nD τ).loc main_arg6)) (?_ : _ = ix2 ⟨512 * (grid0.coords t 0).val + r.val, by omega⟩ d)
  blk_ext [idx6 t]

theorem g0Blk_at (t : Fin cfg0.N) (d : Fin 1024) : iblk m c 1 t (ix2 0 d) = m ((c.tc : Thread nD τ).loc main_arg1) (ix1 d) := by
  unfold iblk
  blk_simp
  refine (congrArg (Gen.V m c main_v1) (?_ : _ = ix2 0 d)).trans (arr_g0 m c d)
  blk_ext [idx1 t]

theorem b0Blk_at (t : Fin cfg0.N) (d : Fin 1024) : iblk m c 2 t (ix2 0 d) = m ((c.tc : Thread nD τ).loc main_arg2) (ix1 d) := by
  unfold iblk
  blk_simp
  refine (congrArg (Gen.V m c main_v2) (?_ : _ = ix2 0 d)).trans (arr_b0 m c d)
  blk_ext [idx2 t]

theorem g1Blk_at (t : Fin cfg0.N) (d : Fin 1024) : iblk m c 9 t (ix2 0 d) = m ((c.tc : Thread nD τ).loc main_arg9) (ix1 d) := by
  unfold iblk
  blk_simp
  refine (congrArg (Gen.V m c main_v7) (?_ : _ = ix2 0 d)).trans (arr_g1 m c d)
  blk_ext [idx9 t]

theorem b1Blk_at (t : Fin cfg0.N) (d : Fin 1024) : iblk m c 10 t (ix2 0 d) = m ((c.tc : Thread nD τ).loc main_arg10) (ix1 d) := by
  unfold iblk
  blk_simp
  refine (congrArg (Gen.V m c main_v8) (?_ : _ = ix2 0 d)).trans (arr_b1 m c d)
  blk_ext [idx10 t]

theorem waBlk_at (t : Fin cfg0.N) (d e : Fin 1024) : iblk m c 7 t (ix2 d e) = m ((c.tc : Thread nD τ).loc main_arg7) (ix2 d e) := by
  unfold iblk
  blk_simp
  refine (congrArg (Gen.V m c main_v5) (?_ : _ = ix2 d e)).trans (arr_wa m c d e)
  blk_ext [idx7 t]

theorem woBlk_at (t : Fin cfg0.N) (d e : Fin 1024) : iblk m c 8 t (ix2 d e) = m ((c.tc : Thread nD τ).loc main_arg8) (ix2 d e) := by
  unfold iblk
  blk_simp
  refine (congrArg (Gen.V m c main_v6) (?_ : _ = ix2 d e)).trans (arr_wo m c d e)
  blk_ext [idx8 t]

end Cert.Proof.Merge
-- ==== Proof.MergeArrays.lean ====
/- The array the merge's region leaves. -/
module

public import proofs.«01_k».proof.Proof.ProjArrays
public import proofs.«01_k».proof.Proof.MergeHost

@[expose] public section

set_option maxRecDepth 16384

noncomputable section

namespace Cert.Proof.Merge

open Cert.MergeIdeal Cert.MergeIdeal.Gen
open Idealize.ShloMosaic
open Idealize.ShloMosaic.TcCoe
open Idealize.SL.Sem
open Cert.Proof.Proj (mean lnorm prod normed rowsOf)

section Values

variable (X : FVec Ideal S8x8192x1024 .f32) (g b : FVec Ideal S1024 .f32) (CV AT : FVec Ideal S8x8192x1024 .bf16) (GC GA : FVec Ideal S65536x1024 .bf16)
  (WA WO : FVec Ideal S1024x1024 .f32) (g' b' : FVec Ideal S1024 .f32)

/-- The gated branches of a position. -/
def mixVal (n : Fin 8) (t : Fin 8192) : Fin 1024 → EReal :=
  mixed (fun d => CV (ix3 n t d)) (fun d => AT (ix3 n t d)) (fun d => GC (ix2 (flat n t) d)) (fun d => GA (ix2 (flat n t) d)) (fun j d => WA (ix2 d j))

/-- The merge at a position before its norm. -/
def sumVal (n : Fin 8) (t : Fin 8192) : Fin 1024 → EReal := joined (normed X g b n t) (mixVal CV AT GC GA WA n t) (fun e d => WO (ix2 d e))

/-- The merge at a position. -/
def mVal (n : Fin 8) (t : Fin 8192) : Fin 1024 → EReal := lnorm (sumVal X g b CV AT GC GA WA WO n t) (fun d => g' (ix1 d)) (fun d => b' (ix1 d))

end Values

variable (m : (ℓ : Loc nD τ sig) → Buf (Elt Ideal) ℓ) (c : Dev nD)

/-- The merge of the arguments. -/
def mArgs : Fin 8 → Fin 8192 → Fin 1024 → EReal :=
  mVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem blockRow_at (t : Fin cfg0.N) (r : Fin 512) (e : Fin 1024) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) r e
      = mArgs m c (batch t r) (place t r) e := by
  unfold blockRow
  rw [show (fun d : Fin 1024 => iblk m c 0 t (ix2 r d)) = fun d => m ((c.tc : Thread nD τ).loc main_arg0) (ix3 (batch t r) (place t r) d) from funext fun d => xBlk_at m c t r d,
    show (fun d : Fin 1024 => iblk m c 1 t (ix2 0 d)) = fun d => m ((c.tc : Thread nD τ).loc main_arg1) (ix1 d) from funext fun d => g0Blk_at m c t d,
    show (fun d : Fin 1024 => iblk m c 2 t (ix2 0 d)) = fun d => m ((c.tc : Thread nD τ).loc main_arg2) (ix1 d) from funext fun d => b0Blk_at m c t d,
    show (fun d : Fin 1024 => iblk m c 3 t (ix2 r d)) = fun d => m ((c.tc : Thread nD τ).loc main_arg3) (ix3 (batch t r) (place t r) d) from funext fun d => cvBlk_at m c t r d,
    show (fun d : Fin 1024 => iblk m c 4 t (ix2 r d)) = fun d => m ((c.tc : Thread nD τ).loc main_arg4) (ix3 (batch t r) (place t r) d) from funext fun d => atBlk_at m c t r d,
    show (fun d : Fin 1024 => iblk m c 5 t (ix2 r d)) = fun d => m ((c.tc : Thread nD τ).loc main_arg5) (ix2 (flat (batch t r) (place t r)) d) from funext fun d => gcBlk_at m c t r d,
    show (fun d : Fin 1024 => iblk m c 6 t (ix2 r d)) = fun d => m ((c.tc : Thread nD τ).loc main_arg6) (ix2 (flat (batch t r) (place t r)) d) from funext fun d => gaBlk_at m c t r d,
    show (fun d : Fin 1024 => iblk m c 9 t (ix2 0 d)) = fun d => m ((c.tc : Thread nD τ).loc main_arg9) (ix1 d) from funext fun d => g1Blk_at m c t d,
    show (fun d : Fin 1024 => iblk m c 10 t (ix2 0 d)) = fun d => m ((c.tc : Thread nD τ).loc main_arg10) (ix1 d) from funext fun d => b1Blk_at m c t d,
    show (fun (j d : Fin 1024) => iblk m c 7 t (ix2 d j)) = fun j d => m ((c.tc : Thread nD τ).loc main_arg7) (ix2 d j) from funext fun j => funext fun d => waBlk_at m c t d j,
    show (fun (j d : Fin 1024) => iblk m c 8 t (ix2 d j)) = fun j d => m ((c.tc : Thread nD τ).loc main_arg8) (ix2 d j) from funext fun j => funext fun d => woBlk_at m c t d j]
  rfl

theorem rows_place (v : Fin 8 → Fin 8192 → Fin 1024 → EReal) (t : Fin cfg0.N) (r : Fin 512) (e : Fin 1024) :
    v (batch t r) (place t r) e = rowsOf v (ix2 (⟨512 * (grid0.coords t 0).val + r.val, by have := lt0 t; omega⟩ : Fin 65536) e) := rfl

theorem arr11_eq : (dats m 0 c).arrAt 11 cfg0.N = rowsOf (mArgs m c) := by
  refine (dats m 0 c).arrAt_eq_of_covers 11 _ (by decide +kernel) fun t hf y => ?_
  blk_simp
  refine (congrFun (after0_11 m c t) y).trans ?_
  refine (out11_at _ _ _ _ _ _ _ _ _ _ _ y).trans ?_
  refine (blockRow_at m c t (y 0) (y 1)).trans ?_
  refine (rows_place _ t (y 0) (y 1)).trans ?_
  refine congrArg (rowsOf _) ?_
  blk_ext [idx11 t]

end Cert.Proof.Merge
-- ==== Proof.MergeRef.lean ====
/- The merge's reference, read at an index. -/
module

public import proofs.«01_k».proof.Proof.MergeArrays
public import proofs.«01_k».proof.Proof.ProjRef
public import proofs.«01_k».proof.Proof.Gen.MergeReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.MergeRef

open Cert.MergeReferenceIdeal Cert.MergeReferenceIdeal.Gen Cert.MergeReferenceIdeal.Value Idealize.ShloMosaic Idealize.ShloMosaic.TcCoe Idealize.SL.Sem
open Cert.Proof.Proj (mean lnorm prod normed rowsOf)
open Cert.Proof.ProjRef (hid hid_apply rows_apply)
open Cert.Proof.Merge (mixed joined flat mixVal sumVal mVal)

/-- A projection of every position. -/
def proj (a : FVec Ideal S8x8192x1024 .f32) (w : FVec Ideal S1024x1024 .f32) : FVec Ideal S8x8192x1024 .f32 :=
  Host.dotGeneral dot_S8x8192x1024_S1024x1024_S8x8192x1024_2_0_01_1_n_n none a w

/-- The rows of a gate, by batch entry and position. -/
def spread (a : FVec Ideal S65536x1024 .bf16) : FVec Ideal S8x8192x1024 .f32 :=
  shapeCast S8x8192x1024 (extf .f32 a bitsLt_bf16_f32) shapeCasts_S65536x1024_S8x8192x1024

/-- The gated branches. -/
def branches (cv p : FVec Ideal S8x8192x1024 .f32) (gc ga : FVec Ideal S8x8192x1024 .f32) : FVec Ideal S8x8192x1024 .f32 :=
  addf (mulf gc cv) (mulf ga p)

/-- The sum before the last norm. -/
def total (h p : FVec Ideal S8x8192x1024 .f32) : FVec Ideal S8x8192x1024 .f32 :=
  addf (mulf (broadcastInDim S8x8192x1024 ![] bcast_S_S8x8192x1024 (constant S_ .f32 0x3F9837F0#32)) h) p

theorem proj_apply (a : FVec Ideal S8x8192x1024 .f32) (w : FVec Ideal S1024x1024 .f32) (n : Fin 8) (t : Fin 8192) (e : Fin 1024) :
    proj a w (ix3 n t e) = prod (fun d => a (ix3 n t d)) (fun d => w (ix2 d e)) := by
  pointwise [proj, prod]

theorem spread_apply (a : FVec Ideal S65536x1024 .bf16) (n : Fin 8) (t : Fin 8192) (e : Fin 1024) : spread a (ix3 n t e) = a (ix2 (flat n t) e) := by
  refine Eq.trans (b := a (ix2 ⟨n.val * 8192 + t.val, by omega⟩ e)) ?_ (congrArg (fun r => a (ix2 r e)) (Fin.ext ?_))
  · pointwise [spread]
  · show n.val * 8192 + t.val = 8192 * n.val + t.val
    omega

theorem total_apply (h p : FVec Ideal S8x8192x1024 .f32) (n : Fin 8) (t : Fin 8192) (e : Fin 1024) :
    total h p (ix3 n t e) = Ideal.ofBits .f32 0x3F9837F0#32 * h (ix3 n t e) + p (ix3 n t e) := by
  pointwise [total]

variable (x : FVec Ideal S8x8192x1024 .f32) (g b : FVec Ideal S1024 .f32) (cv o : FVec Ideal S8x8192x1024 .bf16) (gc ga : FVec Ideal S65536x1024 .bf16)
  (wa wo : FVec Ideal S1024x1024 .f32) (g' b' : FVec Ideal S1024 .f32)

/-- The gated branches of the arguments. -/
def mixR : FVec Ideal S8x8192x1024 .f32 := branches (extf .f32 cv bitsLt_bf16_f32) (proj (extf .f32 o bitsLt_bf16_f32) wa) (spread gc) (spread ga)

theorem mixR_apply (n : Fin 8) (t : Fin 8192) (j : Fin 1024) : mixR cv o gc ga wa (ix3 n t j) = mixVal cv o gc ga wa n t j := by
  refine Eq.trans (b := spread gc (ix3 n t j) * cv (ix3 n t j) + spread ga (ix3 n t j) * proj (extf .f32 o bitsLt_bf16_f32) wa (ix3 n t j)) rfl ?_
  rw [spread_apply, spread_apply, proj_apply]
  rfl

/-- The rows before the last norm. -/
def sumR : FVec Ideal S8x8192x1024 .f32 := total (hid x g b) (proj (mixR cv o gc ga wa) wo)

theorem sumR_apply (n : Fin 8) (t : Fin 8192) (e : Fin 1024) : sumR x g b cv o gc ga wa wo (ix3 n t e) = sumVal x g b cv o gc ga wa wo n t e := by
  refine (total_apply _ _ n t e).trans ?_
  have h1 := hid_apply x g b n t e
  have h2 : proj (mixR cv o gc ga wa) wo (ix3 n t e) = prod (mixVal cv o gc ga wa n t) (fun d => wo (ix2 d e)) :=
    (proj_apply _ wo n t e).trans (congrFun (congrArg prod (funext fun j => mixR_apply cv o gc ga wa n t j)) _)
  rw [h2]
  exact congrArg (fun q : EReal => Ideal.ofBits .f32 0x3F9837F0#32 * q + prod (mixVal cv o gc ga wa n t) (fun d => wo (ix2 d e))) h1

/-- The result. -/
def resM : FVec Ideal S65536x1024 .f32 := shapeCast S65536x1024 (hid (sumR x g b cv o gc ga wa wo) g' b') shapeCasts_S8x8192x1024_S65536x1024

theorem resM_eq : resM x g b cv o gc ga wa wo g' b' = rowsOf (mVal x g b cv o gc ga wa wo g' b') := by
  refine rows_apply _ _ fun n t e => ?_
  refine (hid_apply _ g' b' n t e).trans ?_
  refine Eq.trans (b := lnorm (fun d => sumR x g b cv o gc ga wa wo (ix3 n t d)) (fun d => g' (ix1 d)) (fun d => b' (ix1 d)) e) rfl ?_
  rw [show (fun d => sumR x g b cv o gc ga wa wo (ix3 n t d)) = sumVal x g b cv o gc ga wa wo n t from funext fun d => sumR_apply x g b cv o gc ga wa wo n t d]
  rfl

end Cert.Proof.MergeRef
-- ==== Proof.MergeValue.lean ====
/- The merge's result: the kernel's and the reference's are the same array. -/
module

public import proofs.«01_k».proof.Defs
public import proofs.«01_k».proof.Proof.MergeArrays
public import proofs.«01_k».proof.Proof.MergeRef
public import proofs.«01_k».proof.Proof.Gen.MergeIdeal.Value
public import proofs.«01_k».proof.Proof.Gen.MergeReferenceIdeal.Run

@[expose] public section

set_option maxRecDepth 16384

noncomputable section

namespace Cert.Proof.Merge

open Idealize.ShloMosaic Idealize.SL.Sem
open Cert.Proof.MergeRef

set_option maxHeartbeats 2000000 in
/-- At each device the array the launch leaves is the one the reference computes. -/
theorem algebraic_merge : Cert.algebraic_MergeIdeal_MergeReferenceIdeal := fun m g m' g' _ ha =>
  ⟨fun c => (Cert.MergeIdeal.Gen.dats m 0 c).arrAt 11 Cert.MergeIdeal.cfg0.N,
    Cert.MergeIdeal.Value.run_blocks m g,
    (θ_run _ _ _).mono (fun r h c => by
      obtain ⟨a0, a1, a2, a3, a4, a5, a6, a7, a8, a9, a10⟩ := ha c
      obtain ⟨h0, hr⟩ := h c
      refine ⟨h0.trans ?_, hr⟩
      refine Eq.trans (b := resM (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8)) (m' ((c.tc : Thread Cert.MergeReferenceIdeal.nD Cert.MergeReferenceIdeal.τ).loc Cert.MergeReferenceIdeal.main_arg9)) (m' ((c.tc : Thread Cert.MergeReferenceIdeal.nD Cert.MergeReferenceIdeal.τ).loc Cert.MergeReferenceIdeal.main_arg10))) rfl ?_
      rw [a0, a1, a2, a3, a4, a5, a6, a7, a8, a9, a10]
      exact (resM_eq _ _ _ _ _ _ _ _ _ _ _).trans (arr11_eq m c).symm)
      (Cert.MergeReferenceIdeal.Value.run (F := Ideal) m' g')⟩

end Cert.Proof.Merge

end
-- ==== Proof.FfnSampleFrame.lean ====
/- The feed-forward block's frames at the sample's shapes, of words and of reals. -/
module

public import proofs.«01_k».proof.Defs
public import proofs.«01_k».proof.Proof.Gen.FfnSample.Frame
public import proofs.«01_k».proof.Proof.Gen.FfnSampleIdeal.Frame
public import proofs.«01_k».proof.Proof.Gen.FfnSampleReferenceIdeal.Run
public import Idealize.ShloMosaic.Init

@[expose] public section

set_option maxRecDepth 16384

noncomputable section

namespace Cert.Proof.FfnSample

open Idealize.ShloMosaic Idealize.SL.Sem

theorem frame_FfnSampleIdeal : Cert.quiescent_FfnSampleIdeal := fun m g _ => Cert.FfnSampleIdeal.Gen.frame (F := Ideal) m g

theorem frame_FfnSampleReferenceIdeal : Cert.quiescent_FfnSampleReferenceIdeal := fun m g _ =>
  (θ_run _ _ _).mono (fun r h => ⟨fun c => (h c).2.2, Idealize.ShloMosaic.sem_eq_zero_of_no_sems (by decide) r.2⟩) (Cert.FfnSampleReferenceIdeal.Value.run (F := Ideal) m g)

theorem frame_FfnSample : Cert.quiescent_FfnSample := fun m g _ => Cert.FfnSample.Gen.frame (F := Bits) m g

end Cert.Proof.FfnSample

end
-- ==== Proof.FfnSampleRow.lean ====
/- The feed-forward rows at the sample's shapes, at an index. -/
module

public import proofs.«01_k».proof.Proof.FfnRow
public import proofs.«01_k».proof.Proof.Gen.FfnSampleIdeal.Skeleton
public import Idealize.ShloMosaic.Lib.Pointwise
public import Idealize.ShloMosaic.Lib.Tactic.CleanTypes

@[expose] public section

set_option maxRecDepth 16384

noncomputable section

namespace Cert.Proof.FfnSample

open Cert.FfnSampleIdeal Cert.FfnSampleIdeal.Gen
open Idealize.ShloMosaic
open Cert.Proof.Proj (mean lnorm)
open Cert.Proof.Ffn (dots mix unit blend)

theorem pay2_at (h : Vec Ideal S1x8x2816 .f32) (r : Fin 8) (e : Fin 2816) : k0_pay2 h (ix2 r e) = h (ix3 0 r e) := by
  pointwise [k0_pay2]

theorem pay7_at (h : Vec Ideal S8x2816 .f32) (r : Fin 8) (e : Fin 2816) : k0_pay7 h (ix3 0 r e) = h (ix2 r e) := by
  pointwise [k0_pay7]

theorem pay6_at (x : Vec Ideal S1x64x1024 .f32) (w : Vec Ideal S1024x2816 .bf16) (r : Fin 64) (e : Fin 2816) :
    k0_pay6 x w (ix2 r e) = dots (fun d => x (ix3 0 r d)) (fun d => w (ix2 d e)) := by
  pointwise [k0_pay6, k0_pay5, k0_pay4, dots]

theorem pay1_at (z : FVec Ideal S64x1024 .f32) (g b : FVec Ideal S1x1024 .f32) (r : Fin 64) (e : Fin 1024) :
    k0_pay1 z (k0_pay10 g) b (ix3 0 r e) = lnorm (fun d => z (ix2 r d)) (fun d => g (ix2 0 d)) (fun d => b (ix2 0 d)) e := by
  pointwise [k0_pay1, k0_pay10, lnorm, mean]

theorem pay9_at (x : Vec Ideal S1x64x1024 .f32) (b w0 w1 w2 : Vec Ideal S1x2816 .f32) (a0 a1 a2 : Vec Ideal S64x2816 .f32)
    (wq : Vec Ideal S1024x2816 .bf16) (wd : Vec Ideal S2816x1024 .bf16) (wg : Vec Ideal S1024x1024 .bf16) (p : Vec Ideal S1x64x256 .f32) (wp : Vec Ideal S256x1024 .bf16)
    (r : Fin 64) (e : Fin 1024) :
    k0_pay9 (k0_pay4 x) (k0_pay5 x) (k0_pay8 b w0 a0) w1 a1 w2 a2 wq wd wg p wp (ix2 r e)
      = blend (fun d => x (ix3 0 r d)) (fun d => p (ix3 0 r d)) (fun f => mix (b (ix2 0 f)) (w0 (ix2 0 f)) (w1 (ix2 0 f)) (w2 (ix2 0 f)) (a0 (ix2 r f)) (a1 (ix2 r f)) (a2 (ix2 r f)))
          (fun f d => wq (ix2 d f)) (fun e f => wd (ix2 f e)) (fun e d => wg (ix2 d e)) (fun e d => wp (ix2 d e)) e := by
  pointwise [k0_pay9, k0_pay8, k0_pay5, k0_pay4, blend, unit, mix, dots]

end Cert.Proof.FfnSample
-- ==== Proof.FfnSampleHost.lean ====
/- The arrays the sample's feed-forward region reads, and its blocks, at an index. -/
module

public import proofs.«01_k».proof.Proof.FfnSampleRow
public import proofs.«01_k».proof.Proof.Gen.FfnSampleIdeal.Frame
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section

set_option maxRecDepth 16384

noncomputable section

namespace Cert.Proof.FfnSample

open Cert.FfnSampleIdeal Cert.FfnSampleIdeal.Gen
open Idealize.ShloMosaic
open Idealize.ShloMosaic.TcCoe
open Idealize.SL.Sem

variable (m : (ℓ : Loc nD τ sig) → Buf (Elt Ideal) ℓ) (c : Dev nD)

theorem arr_wa (d : Fin 1024) (f : Fin 2816) : Gen.V m c main_v1 (ix2 d f) = m ((c.tc : Thread nD τ).loc main_arg3) (ix2 d ⟨f.val, by omega⟩) := by
  unfold_abbrev_sides
  after_reads_at

theorem arr_wb (d : Fin 1024) (f : Fin 2816) : Gen.V m c main_v2 (ix2 d f) = m ((c.tc : Thread nD τ).loc main_arg3) (ix2 d ⟨2816 + f.val, by omega⟩) := by
  unfold_abbrev_sides
  after_reads_at

theorem arr_db (f : Fin 2816) : Gen.V m c main_v3 (ix2 0 f) = m ((c.tc : Thread nD τ).loc main_arg5) (ix1 f) := by
  unfold_abbrev_sides
  after_reads_at

theorem arr_wd (f : Fin 2816) (e : Fin 1024) : Gen.V m c main_v4 (ix2 f e) = m ((c.tc : Thread nD τ).loc main_arg6) (ix2 f e) := by
  unfold_abbrev_sides
  after_reads_at

theorem arr_wg (d e : Fin 1024) : Gen.V m c main_v5 (ix2 d e) = m ((c.tc : Thread nD τ).loc main_arg8) (ix2 d e) := by
  unfold_abbrev_sides
  after_reads_at

theorem arr_wp (d : Fin 256) (e : Fin 1024) : Gen.V m c main_v6 (ix2 d e) = m ((c.tc : Thread nD τ).loc main_arg7) (ix2 d e) := by
  unfold_abbrev_sides
  after_reads_at

theorem arr_g (e : Fin 1024) : Gen.V m c main_v7 (ix2 0 e) = m ((c.tc : Thread nD τ).loc main_arg9) (ix1 e) := by
  unfold_abbrev_sides
  after_reads_at

theorem arr_b (e : Fin 1024) : Gen.V m c main_v8 (ix2 0 e) = m ((c.tc : Thread nD τ).loc main_arg10) (ix1 e) := by
  unfold_abbrev_sides
  after_reads_at

theorem arr_h (n : Fin 32) (q : Fin 8) (f : Fin 2816) (hq : 6 ≤ q.val) : Gen.V m c main_v9 (ix3 n q f) = m ((c.tc : Thread nD τ).loc main_arg2) (ix3 n ⟨q.val - 6, by omega⟩ f) := by
  refine Eq.trans (b := if h : 6 ≤ q.val ∧ q.val - 6 < 2 then m ((c.tc : Thread nD τ).loc main_arg2) (ix3 n ⟨q.val - 6, by omega⟩ f) else FloatOps.sitofp (F := Ideal) .f32 0#32) ?_ ?_
  · unfold_abbrev_sides
    after_reads_at
  · rw [dif_pos (by omega)]

/-! ## The blocks -/

theorem lt0 (t : Fin cfg0.N) : t.val < 32 := lt_of_lt_of_eq t.isLt N_0

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0, 0] := (by decide +kernel : ∀ t : Fin grid0.N, _)
theorem idx13 : ∀ t : Fin cfg0.N, win0_13.index t = ![t.val, 0, 0] := (by decide +kernel : ∀ t : Fin grid0.N, _)

/-- A block's batch entry. -/
def batch (t : Fin cfg0.N) : Fin 32 := ⟨t.val, lt0 t⟩

theorem xBlk_at (t : Fin cfg0.N) (r : Fin 64) (d : Fin 1024) : iblk m c 0 t (ix3 0 r d) = m ((c.tc : Thread nD τ).loc main_arg0) (ix3 (batch t) r d) := by
  unfold iblk
  blk_simp
  refine congrArg (m ((c.tc : Thread nD τ).loc main_arg0)) (?_ : _ = ix3 (batch t) r d)
  blk_ext [idx0 t, batch]

theorem pBlk_at (t : Fin cfg0.N) (r : Fin 64) (d : Fin 256) : iblk m c 1 t (ix3 0 r d) = m ((c.tc : Thread nD τ).loc main_arg1) (ix3 (batch t) r d) := by
  unfold iblk
  blk_simp
  refine congrArg (m ((c.tc : Thread nD τ).loc main_arg1)) (?_ : _ = ix3 (batch t) r d)
  blk_ext [idx1 t, batch]

theorem hBlk_at (t : Fin cfg0.N) (q : Fin 8) (f : Fin 2816) (hq : 6 ≤ q.val) : iblk m c 2 t (ix3 0 q f) = m ((c.tc : Thread nD τ).loc main_arg2) (ix3 (batch t) ⟨q.val - 6, by omega⟩ f) := by
  unfold iblk
  blk_simp
  refine (congrArg (Gen.V m c main_v9) (?_ : _ = ix3 (batch t) q f)).trans (arr_h m c _ q f hq)
  blk_ext [idx2 t, batch]

theorem waBlk_at (t : Fin cfg0.N) (d : Fin 1024) (f : Fin 2816) : iblk m c 3 t (ix2 d f) = m ((c.tc : Thread nD τ).loc main_arg3) (ix2 d ⟨f.val, by omega⟩) := by
  unfold iblk
  blk_simp
  refine (congrArg (Gen.V m c main_v1) (?_ : _ = ix2 d f)).trans (arr_wa m c d f)
  blk_ext [idx3 t]

theorem wbBlk_at (t : Fin cfg0.N) (d : Fin 1024) (f : Fin 2816) : iblk m c 4 t (ix2 d f) = m ((c.tc : Thread nD τ).loc main_arg3) (ix2 d ⟨2816 + f.val, by omega⟩) := by
  unfold iblk
  blk_simp
  refine (congrArg (Gen.V m c main_v2) (?_ : _ = ix2 d f)).trans (arr_wb m c d f)
  blk_ext [idx4 t]

theorem dwBlk_at (t : Fin cfg0.N) (k : Fin 3) (f : Fin 2816) : iblk m c 5 t (ix2 k f) = m ((c.tc : Thread nD τ).loc main_arg4) (ix2 k f) := by
  unfold iblk
  blk_simp
  refine congrArg (m ((c.tc : Thread nD τ).loc main_arg4)) (?_ : _ = ix2 k f)
  blk_ext [idx5 t]

theorem dbBlk_at (t : Fin cfg0.N) (f : Fin 2816) : iblk m c 6 t (ix2 0 f) = m ((c.tc : Thread nD τ).loc main_arg5) (ix1 f) := by
  unfold iblk
  blk_simp
  refine (congrArg (Gen.V m c main_v3) (?_ : _ = ix2 0 f)).trans (arr_db m c f)
  blk_ext [idx6 t]

theorem wdBlk_at (t : Fin cfg0.N) (f : Fin 2816) (e : Fin 1024) : iblk m c 7 t (ix2 f e) = m ((c.tc : Thread nD τ).loc main_arg6) (ix2 f e) := by
  unfold iblk
  blk_simp
  refine (congrArg (Gen.V m c main_v4) (?_ : _ = ix2 f e)).trans (arr_wd m c f e)
  blk_ext [idx7 t]

theorem wgBlk_at (t : Fin cfg0.N) (d e : Fin 1024) : iblk m c 8 t (ix2 d e) = m ((c.tc : Thread nD τ).loc main_arg8) (ix2 d e) := by
  unfold iblk
  blk_simp
  refine (congrArg (Gen.V m c main_v5) (?_ : _ = ix2 d e)).trans (arr_wg m c d e)
  blk_ext [idx8 t]

theorem wpBlk_at (t : Fin cfg0.N) (d : Fin 256) (e : Fin 1024) : iblk m c 9 t (ix2 d e) = m ((c.tc : Thread nD τ).loc main_arg7) (ix2 d e) := by
  unfold iblk
  blk_simp
  refine (congrArg (Gen.V m c main_v6) (?_ : _ = ix2 d e)).trans (arr_wp m c d e)
  blk_ext [idx9 t]

theorem gBlk_at (t : Fin cfg0.N) (e : Fin 1024) : iblk m c 10 t (ix2 0 e) = m ((c.tc : Thread nD τ).loc main_arg9) (ix1 e) := by
  unfold iblk
  blk_simp
  refine (congrArg (Gen.V m c main_v7) (?_ : _ = ix2 0 e)).trans (arr_g m c e)
  blk_ext [idx10 t]

theorem bBlk_at (t : Fin cfg0.N) (e : Fin 1024) : iblk m c 11 t (ix2 0 e) = m ((c.tc : Thread nD τ).loc main_arg10) (ix1 e) := by
  unfold iblk
  blk_simp
  refine (congrArg (Gen.V m c main_v8) (?_ : _ = ix2 0 e)).trans (arr_b m c e)
  blk_ext [idx11 t]

end Cert.Proof.FfnSample
-- ==== Proof.FfnSampleArrays.lean ====
/- The arrays the sample's feed-forward region leaves. -/
module

public import proofs.«01_k».proof.Proof.FfnSampleHost

@[expose] public section

set_option maxRecDepth 16384

noncomputable section

namespace Cert.Proof.FfnSample

open Cert.FfnSampleIdeal Cert.FfnSampleIdeal.Gen
open Idealize.ShloMosaic
open Idealize.ShloMosaic.TcCoe
open Idealize.SL.Sem
open Cert.Proof.Proj (mean lnorm)
open Cert.Proof.Ffn (dots mix unit blend)

section Values

variable (X : FVec Ideal S32x64x1024 .f32) (H : FVec Ideal S32x2x2816 .f32) (P : FVec Ideal S32x64x256 .f32) (W : FVec Ideal S1024x5632 .f32) (dw : FVec Ideal S3x2816 .f32) (db : FVec Ideal S2816 .f32)
  (wd : FVec Ideal S2816x1024 .f32) (wp : FVec Ideal S256x1024 .f32) (wg : FVec Ideal S1024x1024 .f32) (g b : FVec Ideal S1024 .f32)

/-- The up projection that the convolution reads. -/
def aVal (n : Fin 32) (s : Fin 64) (f : Fin 2816) : EReal := dots (fun d => X (ix3 n s d)) (fun d => W (ix2 d ⟨f.val, by omega⟩))

/-- The same with the history's two rows before it, from the sixth place on. -/
def past (n : Fin 32) (s : ℕ) (f : Fin 2816) : EReal :=
  if h : 8 ≤ s ∧ s < 72 then aVal X W n ⟨s - 8, by omega⟩ f else if h : 6 ≤ s ∧ s < 8 then H (ix3 n ⟨s - 6, by omega⟩ f) else 0

/-- The convolution. -/
def convVal (n : Fin 32) (s : Fin 64) (f : Fin 2816) : EReal :=
  mix (db (ix1 f)) (dw (ix2 0 f)) (dw (ix2 1 f)) (dw (ix2 2 f)) (past X H W n (s.val + 6) f) (past X H W n (s.val + 7) f) (past X H W n (s.val + 8) f)

/-- A row before its norm. -/
def rowVal (n : Fin 32) (s : Fin 64) : Fin 1024 → EReal :=
  blend (fun d => X (ix3 n s d)) (fun d => P (ix3 n s d)) (convVal X H W dw db n s) (fun f d => W (ix2 d ⟨2816 + f.val, by omega⟩)) (fun e f => wd (ix2 f e)) (fun e d => wg (ix2 d e)) (fun e d => wp (ix2 d e))

/-- The result. -/
def yVal (n : Fin 32) (s : Fin 64) (e : Fin 1024) : EReal := lnorm (rowVal X H P W dw db wd wp wg n s) (fun d => g (ix1 d)) (fun d => b (ix1 d)) e

theorem past_shift (n : Fin 32) (s : Fin 64) (f : Fin 2816) : past X H W n (s.val + 8) f = aVal X W n s f := by
  unfold past
  rw [dif_pos (by omega)]
  rfl

end Values

variable (m : (ℓ : Loc nD τ sig) → Buf (Elt Ideal) ℓ) (c : Dev nD)

/-- The arguments. -/
abbrev aX : FVec Ideal S32x64x1024 .f32 := m ((c.tc : Thread nD τ).loc main_arg0)
abbrev aH : FVec Ideal S32x2x2816 .f32 := m ((c.tc : Thread nD τ).loc main_arg2)
abbrev aP : FVec Ideal S32x64x256 .f32 := m ((c.tc : Thread nD τ).loc main_arg1)
abbrev aW : FVec Ideal S1024x5632 .f32 := m ((c.tc : Thread nD τ).loc main_arg3)
abbrev aDw : FVec Ideal S3x2816 .f32 := m ((c.tc : Thread nD τ).loc main_arg4)
abbrev aDb : FVec Ideal S2816 .f32 := m ((c.tc : Thread nD τ).loc main_arg5)
abbrev aWd : FVec Ideal S2816x1024 .f32 := m ((c.tc : Thread nD τ).loc main_arg6)
abbrev aWp : FVec Ideal S256x1024 .f32 := m ((c.tc : Thread nD τ).loc main_arg7)
abbrev aWg : FVec Ideal S1024x1024 .f32 := m ((c.tc : Thread nD τ).loc main_arg8)
abbrev aG : FVec Ideal S1024 .f32 := m ((c.tc : Thread nD τ).loc main_arg9)
abbrev aB : FVec Ideal S1024 .f32 := m ((c.tc : Thread nD τ).loc main_arg10)

theorem pairs (z : S72x2816.Idx) : z = ix2 (z 0) (z 1) := by
  funext a
  match a with
  | ⟨0, _⟩ => rfl
  | ⟨1, _⟩ => rfl

theorem pairs64 (z : S64x2816.Idx) : z = ix2 (z 0) (z 1) := by
  funext a
  match a with
  | ⟨0, _⟩ => rfl
  | ⟨1, _⟩ => rfl

theorem pairs8 (z : S8x2816.Idx) : z = ix2 (z 0) (z 1) := by
  funext a
  match a with
  | ⟨0, _⟩ => rfl
  | ⟨1, _⟩ => rfl

/-- Eight rows and 64 rows below them, as one array. -/
theorem stacked (u : Vec Ideal S64x2816 .f32) (v : Vec Ideal S8x2816 .f32) (G : S72x2816.Idx → EReal)
    (hu : ∀ (r : Fin 64) (f : Fin 2816), u (ix2 r f) = G (ix2 ⟨8 + r.val, by omega⟩ f)) (hv : ∀ (r : Fin 8) (f : Fin 2816), v (ix2 r f) = G (ix2 ⟨r.val, by omega⟩ f)) :
    View.canon (Val := Elt Ideal) (e := .f32) [⟨Rect.unit ![8, 0] ![64, 2816] inb_S72x2816_S64x2816_8_0, u⟩, ⟨Rect.unit ![0, 0] ![8, 2816] inb_S72x2816_S8x2816_0_0, v⟩] = G := by
  funext y
  refine View.canon_append_of_piecesOf (Val := Elt Ideal) (e := .f32) G [] [_, _] ⟨fun z => ?_, fun z => ?_, trivial⟩ y ?_
  · obtain ⟨a, b, rfl⟩ : ∃ (a : Fin 64) (b : Fin 2816), z = ix2 a b := ⟨_, _, pairs64 z⟩
    refine (hu a b).trans (congrArg G ?_)
    blk_ext
  · obtain ⟨a, b, rfl⟩ : ∃ (a : Fin 8) (b : Fin 2816), z = ix2 a b := ⟨_, _, pairs8 z⟩
    refine (hv a b).trans (congrArg G ?_)
    blk_ext
  · have h0 : (y 0).val < 72 := (y 0).isLt
    have h1 : (y 1).val < 2816 := (y 1).isLt
    by_cases h : (y 0).val < 8
    · refine ⟨_, List.mem_cons_of_mem _ (List.mem_cons_self ..), ?_⟩
      rw [Rect.mem_set_unit]
      intro a
      match a with
      | ⟨0, _⟩ => exact ⟨Nat.zero_le _, by show (y 0).val < 0 + 8; omega⟩
      | ⟨1, _⟩ => exact ⟨Nat.zero_le _, by show (y 1).val < 0 + 2816; omega⟩
    · refine ⟨_, List.mem_cons_self .., ?_⟩
      rw [Rect.mem_set_unit]
      intro a
      match a with
      | ⟨0, _⟩ => exact ⟨by show 8 ≤ (y 0).val; omega, by show (y 0).val < 8 + 64; omega⟩
      | ⟨1, _⟩ => exact ⟨Nat.zero_le _, by show (y 1).val < 0 + 2816; omega⟩

/-- The rows the body holds at a point. -/
def held (t : Fin cfg0.N) : Vec Ideal S72x2816 .f32 :=
  View.canon (Val := Elt Ideal) (e := .f32) [⟨Rect.unit ![8, 0] ![64, 2816] inb_S72x2816_S64x2816_8_0, k0_pay6 (iblk m c 0 t) (iblk m c 3 t)⟩,
    ⟨Rect.unit ![0, 0] ![8, 2816] inb_S72x2816_S8x2816_0_0, k0_pay2 (iblk m c 2 t)⟩]

/-- Eight rows, and the rows of a value below them. -/
def under (v : Vec Ideal S8x2816 .f32) (u : Vec Ideal S64x2816 .f32) (s : Fin 72) (f : Fin 2816) : EReal :=
  if h : s.val < 8 then v (ix2 ⟨s.val, h⟩ f) else u (ix2 ⟨s.val - 8, by omega⟩ f)

theorem held_eq (t : Fin cfg0.N) : held m c t = fun y : S72x2816.Idx => under (k0_pay2 (iblk m c 2 t)) (k0_pay6 (iblk m c 0 t) (iblk m c 3 t)) (y 0) (y 1) := by
  refine stacked _ _ _ (fun r f => ?_) (fun r f => ?_)
  · refine Eq.trans ?_ (dif_neg (show ¬8 + r.val < 8 by omega)).symm
    exact congrArg (fun s => k0_pay6 (iblk m c 0 t) (iblk m c 3 t) (ix2 s f)) (Fin.ext (by show r.val = 8 + r.val - 8; omega))
  · show k0_pay2 (iblk m c 2 t) (ix2 r f) = under _ _ ⟨r.val, _⟩ f
    unfold under
    rw [dif_pos (show r.val < 8 from r.isLt)]

theorem own_at (t : Fin cfg0.N) (r : Fin 64) (f : Fin 2816) : k0_pay6 (iblk m c 0 t) (iblk m c 3 t) (ix2 r f) = aVal (aX m c) (aW m c) (batch t) r f := by
  refine (pay6_at _ _ r f).trans ?_
  unfold aVal
  refine congr (congrArg dots (funext fun d => ?_)) (funext fun d => ?_)
  · exact xBlk_at m c t r d
  · exact waBlk_at m c t d f

/-- From the sixth row on the rows held are the history's and the point's own. -/
theorem held_at (t : Fin cfg0.N) (s : Fin 72) (hs : 6 ≤ s.val) (f : Fin 2816) : held m c t (ix2 s f) = past (aX m c) (aH m c) (aW m c) (batch t) s.val f := by
  rw [held_eq]
  show under _ _ s f = _
  unfold under past
  by_cases h : s.val < 8
  · rw [dif_pos h, dif_neg (by omega), dif_pos (by omega)]
    exact (pay2_at _ _ f).trans (hBlk_at m c t ⟨s.val, h⟩ f hs)
  · rw [dif_neg h, dif_pos (by omega)]
    exact own_at m c t _ f

/-- The rows the loads take of what is held. -/
abbrev rows6 : Rect S72x2816 := Rect.unit ![6, 0] ![64, 2816] inb_S72x2816_S64x2816_6_0
abbrev rows7 : Rect S72x2816 := Rect.unit ![7, 0] ![64, 2816] inb_S72x2816_S64x2816_7_0
abbrev rowsLast : Rect S72x2816 := Rect.unit ![64, 0] ![8, 2816] inb_S72x2816_S8x2816_64_0

theorem ldRows6 (z : Vec Ideal S72x2816 .f32) (r : Fin 64) (f : Fin 2816) : View.ld z rows6 (ix2 r f) = z (ix2 ⟨6 + r.val, by omega⟩ f) := by
  pointwise

theorem ldRows7 (z : Vec Ideal S72x2816 .f32) (r : Fin 64) (f : Fin 2816) : View.ld z rows7 (ix2 r f) = z (ix2 ⟨7 + r.val, by omega⟩ f) := by
  pointwise

theorem ldLast (z : Vec Ideal S72x2816 .f32) (q : Fin 8) (f : Fin 2816) : View.ld z rowsLast (ix2 q f) = z (ix2 ⟨64 + q.val, by omega⟩ f) := by
  pointwise

theorem heldFrom6 (t : Fin cfg0.N) (L : List (View.Piece (Elt Ideal) S72x2816 .f32)) (hL : View.canon L = held m c t) (r : Fin 64) (f : Fin 2816) :
    (View.whole cc0_scratch0).readCov L rows6.toLoadRect (ix2 r f) = past (aX m c) (aH m c) (aW m c) (batch t) (r.val + 6) f := by
  rw [View.readCov_eq_canon', hL]
  refine Eq.trans (b := View.ld (held m c t) rows6 (ix2 r f)) rfl ((ldRows6 _ r f).trans ((held_at m c t _ (by show 6 ≤ 6 + r.val; omega) f).trans ?_))
  exact congrArg (fun s => past (aX m c) (aH m c) (aW m c) (batch t) s f) (Nat.add_comm 6 r.val)

theorem heldFrom7 (t : Fin cfg0.N) (L : List (View.Piece (Elt Ideal) S72x2816 .f32)) (hL : View.canon L = held m c t) (r : Fin 64) (f : Fin 2816) :
    (View.whole cc0_scratch0).readCov L rows7.toLoadRect (ix2 r f) = past (aX m c) (aH m c) (aW m c) (batch t) (r.val + 7) f := by
  rw [View.readCov_eq_canon', hL]
  refine Eq.trans (b := View.ld (held m c t) rows7 (ix2 r f)) rfl ((ldRows7 _ r f).trans ((held_at m c t _ (by show 6 ≤ 7 + r.val; omega) f).trans ?_))
  exact congrArg (fun s => past (aX m c) (aH m c) (aW m c) (batch t) s f) (Nat.add_comm 7 r.val)

theorem heldLast (t : Fin cfg0.N) (L : List (View.Piece (Elt Ideal) S72x2816 .f32)) (hL : View.canon L = held m c t) (q : Fin 8) (f : Fin 2816) :
    (View.whole cc0_scratch0).readCov L rowsLast.toLoadRect (ix2 q f) = aVal (aX m c) (aW m c) (batch t) ⟨56 + q.val, by omega⟩ f := by
  rw [View.readCov_eq_canon', hL]
  refine Eq.trans (b := View.ld (held m c t) rowsLast (ix2 q f)) rfl ((ldLast _ q f).trans ((held_at m c t _ (by show 6 ≤ 64 + q.val; omega) f).trans ?_))
  refine Eq.trans ?_ (past_shift (aX m c) (aH m c) (aW m c) _ _ _)
  refine congrArg (fun s => past (aX m c) (aH m c) (aW m c) (batch t) s f) ?_
  show 64 + q.val = 56 + q.val + 8
  omega

theorem own_past (t : Fin cfg0.N) (r : Fin 64) (f : Fin 2816) : k0_pay6 (iblk m c 0 t) (iblk m c 3 t) (ix2 r f) = past (aX m c) (aH m c) (aW m c) (batch t) (r.val + 8) f :=
  (own_at m c t r f).trans (past_shift (aX m c) (aH m c) (aW m c) _ _ _).symm

theorem ldTap0 (z : Vec Ideal S3x2816 .f32) (f : Fin 2816) : View.ld z (Rect.unit ![0, 0] ![1, 2816] inb_S3x2816_S1x2816_0_0) (ix2 0 f) = z (ix2 0 f) := by
  pointwise

theorem ldTap1 (z : Vec Ideal S3x2816 .f32) (f : Fin 2816) : View.ld z (Rect.unit ![1, 0] ![1, 2816] inb_S3x2816_S1x2816_1_0) (ix2 0 f) = z (ix2 1 f) := by
  pointwise

theorem ldTap2 (z : Vec Ideal S3x2816 .f32) (f : Fin 2816) : View.ld z (Rect.unit ![2, 0] ![1, 2816] inb_S3x2816_S1x2816_2_0) (ix2 0 f) = z (ix2 2 f) := by
  pointwise

/-- A row of the result's block, from the rows held. -/
theorem row_at (t : Fin cfg0.N) (L : List (View.Piece (Elt Ideal) S72x2816 .f32)) (hL : View.canon L = held m c t) (r : Fin 64) (e : Fin 1024) :
    k0_pay1 (k0_pay9 (k0_pay4 (iblk m c 0 t)) (k0_pay5 (iblk m c 0 t))
        (k0_pay8 (iblk m c 6 t) (View.ld (iblk m c 5 t) (Rect.unit ![0, 0] ![1, 2816] inb_S3x2816_S1x2816_0_0))
          ((View.whole cc0_scratch0).readCov L rows6.toLoadRect))
        (View.ld (iblk m c 5 t) (Rect.unit ![1, 0] ![1, 2816] inb_S3x2816_S1x2816_1_0))
        ((View.whole cc0_scratch0).readCov L rows7.toLoadRect)
        (View.ld (iblk m c 5 t) (Rect.unit ![2, 0] ![1, 2816] inb_S3x2816_S1x2816_2_0))
        (k0_pay6 (iblk m c 0 t) (iblk m c 3 t)) (iblk m c 4 t) (iblk m c 7 t) (iblk m c 8 t) (iblk m c 1 t) (iblk m c 9 t))
      (k0_pay10 (iblk m c 10 t)) (iblk m c 11 t) (ix3 0 r e)
      = yVal (aX m c) (aH m c) (aP m c) (aW m c) (aDw m c) (aDb m c) (aWd m c) (aWp m c) (aWg m c) (aG m c) (aB m c) (batch t) r e := by
  refine (pay1_at _ _ _ r e).trans ?_
  unfold yVal
  refine congrFun (congr (congr (congrArg lnorm (funext fun d => ?_)) (funext fun d => gBlk_at m c t d)) (funext fun d => bBlk_at m c t d)) e
  refine (pay9_at _ _ _ _ _ _ _ _ _ _ _ _ _ r d).trans ?_
  unfold rowVal
  refine congrFun (congr (congr (congr (congr (congr (congr (congrArg blend (funext fun d => xBlk_at m c t r d)) (funext fun d => pBlk_at m c t r d)) (funext fun f => ?_))
    (funext fun f => funext fun d => wbBlk_at m c t d f)) (funext fun e => funext fun f => wdBlk_at m c t f e)) (funext fun e => funext fun d => wgBlk_at m c t d e)) (funext fun e => funext fun d => wpBlk_at m c t d e)) d
  unfold convVal
  rw [heldFrom6 m c t L hL r f, heldFrom7 m c t L hL r f, own_past m c t r f, ldTap0, ldTap1, ldTap2, dbBlk_at, dwBlk_at, dwBlk_at, dwBlk_at]

theorem rows64 (z : S1x64x1024.Idx) : z = ix3 0 (z 1) (z 2) := by
  funext a
  match a with
  | ⟨0, _⟩ => exact Subsingleton.elim (α := Fin 1) _ _
  | ⟨1, _⟩ => rfl
  | ⟨2, _⟩ => rfl

theorem rows8 (z : S1x8x2816.Idx) : z = ix3 0 (z 1) (z 2) := by
  funext a
  match a with
  | ⟨0, _⟩ => exact Subsingleton.elim (α := Fin 1) _ _
  | ⟨1, _⟩ => rfl
  | ⟨2, _⟩ => rfl

theorem y_at (t : Fin cfg0.N) (r : Fin 64) (e : Fin 1024) : (outsAt0 m c t).1 (ix3 0 r e) = yVal (aX m c) (aH m c) (aP m c) (aW m c) (aDw m c) (aDb m c) (aWd m c) (aWp m c) (aWg m c) (aG m c) (aB m c) (batch t) r e := by
  unfold outsAt0
  dsimp only
  frame_open
  simp (disch := decide) only [↓ View.readCov_skip, ↓ View.readCov_cons_toLoadRect, ↓ View.readCov_fill]
  frame_out
  exact row_at m c t _ rfl r e

theorem last_at (t : Fin cfg0.N) (q : Fin 8) (f : Fin 2816) : (outsAt0 m c t).2 (ix3 0 q f) = aVal (aX m c) (aW m c) (batch t) ⟨56 + q.val, by omega⟩ f := by
  unfold outsAt0
  dsimp only
  frame_open
  simp (disch := decide) only [↓ View.readCov_skip, ↓ View.readCov_cons_toLoadRect, ↓ View.readCov_fill]
  frame_out
  exact (pay7_at _ q f).trans (heldLast m c t _ rfl q f)

/-- A value of every position and feature, as an array. -/
def whole (v : Fin 32 → Fin 64 → Fin 1024 → EReal) (j : S32x64x1024.Idx) : EReal := v (j 0) (j 1) (j 2)

/-- The last eight rows of a value, as an array. -/
def lasts (v : Fin 32 → Fin 64 → Fin 2816 → EReal) (j : S32x8x2816.Idx) : EReal := v (j 0) ⟨56 + (j 1).val, by have h : (j 1).val < 8 := (j 1).isLt; omega⟩ (j 2)

theorem arr12_eq : (dats m 0 c).arrAt 12 cfg0.N = whole (yVal (aX m c) (aH m c) (aP m c) (aW m c) (aDw m c) (aDb m c) (aWd m c) (aWp m c) (aWg m c) (aG m c) (aB m c)) := by
  refine (dats m 0 c).arrAt_eq_of_covers 12 _ (by decide +kernel) fun t hf y => ?_
  blk_simp
  refine (congrFun (after0_12 m c t) y).trans ?_
  obtain ⟨r, e, rfl⟩ : ∃ (r : Fin 64) (e : Fin 1024), y = ix3 0 r e := ⟨_, _, rows64 y⟩
  refine (y_at m c t r e).trans ?_
  refine Eq.trans (b := whole (yVal (aX m c) (aH m c) (aP m c) (aW m c) (aDw m c) (aDb m c) (aWd m c) (aWp m c) (aWg m c) (aG m c) (aB m c)) (ix3 (batch t) r e)) rfl ?_
  refine congrArg (whole _) ?_
  blk_ext [idx12 t, batch]

theorem arr13_eq : (dats m 0 c).arrAt 13 cfg0.N = lasts (aVal (aX m c) (aW m c)) := by
  refine (dats m 0 c).arrAt_eq_of_covers 13 _ (by decide +kernel) fun t hf y => ?_
  blk_simp
  refine (congrFun (after0_13 m c t) y).trans ?_
  obtain ⟨q, f, rfl⟩ : ∃ (q : Fin 8) (f : Fin 2816), y = ix3 0 q f := ⟨_, _, rows8 y⟩
  refine (last_at m c t q f).trans ?_
  refine Eq.trans (b := lasts (aVal (aX m c) (aW m c)) (ix3 (batch t) q f)) rfl ?_
  refine congrArg (lasts _) ?_
  blk_ext [idx13 t, batch]

end Cert.Proof.FfnSample
-- ==== Proof.SampleRef.lean ====
/- The reference's layer norm and sigmoid at the sample's shapes, at an index. -/
module

public import proofs.«01_k».proof.Proof.ProjRow
public import proofs.«01_k».proof.Proof.Gen.FfnSampleReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.SampleRef

open Cert.FfnSampleReferenceIdeal Cert.FfnSampleReferenceIdeal.Gen Idealize.ShloMosaic Idealize.ShloMosaic.TcCoe Idealize.SL.Sem
open Cert.Proof.Proj (mean lnorm)

/-- The means of the rows, one column. -/
def means (x : FVec Ideal S32x64x1024 .f32) : FVec Ideal S32x64x1 .f32 :=
  Host.divf (broadcastInDim S32x64x1 ![0, 1] bcast_S32x64_S32x64x1_0_1 (Host.reduceAdd x (constant S_ .f32 0x00000000#32) reducesTo_S32x64x1024_S32x64_d2 h_S_)) (broadcastInDim S32x64x1 ![] bcast_S_S32x64x1 (constant S_ .f32 0x44800000#32))

/-- The rows less their means. -/
def centred (x : FVec Ideal S32x64x1024 .f32) : FVec Ideal S32x64x1024 .f32 :=
  subf x (broadcastInDim S32x64x1024 ![0, 1, 2] bcast_S32x64x1_S32x64x1024_0_1_2 (means x))

/-- A vector of features at every position. -/
def spread (g : FVec Ideal S1024 .f32) : FVec Ideal S32x64x1024 .f32 :=
  broadcastInDim S32x64x1024 ![0, 1, 2] bcast_S1x1x1024_S32x64x1024_0_1_2 (broadcastInDim S1x1x1024 ![2] bcast_S1024_S1x1x1024_2 g)

/-- The normalized rows. -/
def hid (x : FVec Ideal S32x64x1024 .f32) (g b : FVec Ideal S1024 .f32) : FVec Ideal S32x64x1024 .f32 :=
  addf (mulf (mulf (centred x) (broadcastInDim S32x64x1024 ![0, 1, 2] bcast_S32x64x1_S32x64x1024_0_1_2 (Host.rsqrt (addf (means (mulf (centred x) (centred x))) (broadcastInDim S32x64x1 ![] bcast_S_S32x64x1 (constant S_ .f32 0x3727C5AC#32)))))) (spread g)) (spread b)

theorem means_apply (x : FVec Ideal S32x64x1024 .f32) (n : Fin 32) (t : Fin 64) : means x (ix3 n t 0) = mean fun d => x (ix3 n t d) := by
  pointwise [means, mean]

theorem centred_apply (x : FVec Ideal S32x64x1024 .f32) (n : Fin 32) (t : Fin 64) (e : Fin 1024) : centred x (ix3 n t e) = x (ix3 n t e) - mean fun d => x (ix3 n t d) := by
  have h := means_apply x n t
  generalize hm : means x = u at h
  rw [← h]
  pointwise [centred, hm]

theorem spread_apply (g : FVec Ideal S1024 .f32) (n : Fin 32) (t : Fin 64) (e : Fin 1024) : spread g (ix3 n t e) = g (ix1 e) := by
  pointwise [spread]

theorem hid_apply (x : FVec Ideal S32x64x1024 .f32) (g b : FVec Ideal S1024 .f32) (n : Fin 32) (t : Fin 64) (e : Fin 1024) :
    hid x g b (ix3 n t e) = lnorm (fun d => x (ix3 n t d)) (fun d => g (ix1 d)) (fun d => b (ix1 d)) e := by
  have h1 := centred_apply x n t e
  have h2 : means (mulf (centred x) (centred x)) (ix3 n t 0) = mean fun d => (x (ix3 n t d) - mean fun d => x (ix3 n t d)) * (x (ix3 n t d) - mean fun d => x (ix3 n t d)) := by
    refine (means_apply _ n t).trans (congrArg mean (funext fun d => ?_))
    have h := centred_apply x n t d
    generalize centred x = u at h ⊢
    rw [← h]
    pointwise
  have h3 := spread_apply g n t e
  have h4 := spread_apply b n t e
  unfold lnorm hid
  beta_reduce
  rw [← h1, ← h2, ← h3, ← h4]
  generalize means (mulf (centred x) (centred x)) = v
  generalize centred x = u
  generalize spread g = p
  generalize spread b = q
  pointwise

/-- One over one plus the exponential of the negative. -/
def sig (z : FVec Ideal S32x64x1024 .f32) : FVec Ideal S32x64x1024 .f32 :=
  Host.divf (broadcastInDim S32x64x1024 ![] bcast_S_S32x64x1024 (constant S_ .f32 0x3F800000#32)) (addf (broadcastInDim S32x64x1024 ![] bcast_S_S32x64x1024 (constant S_ .f32 0x3F800000#32)) (Host.exp (Host.negf z)))

theorem sig_apply (z : FVec Ideal S32x64x1024 .f32) (n : Fin 32) (t : Fin 64) (e : Fin 1024) : sig z (ix3 n t e) = Ideal.logistic (z (ix3 n t e)) := by
  refine Eq.trans (b := Ideal.div (Ideal.ofBits .f32 0x3F800000#32) (Ideal.ofBits .f32 0x3F800000#32 + Ideal.exp (-(z (ix3 n t e))))) ?_ (by rw [Ideal.ofBits_one_f32]; rfl)
  pointwise [sig]

end Cert.Proof.SampleRef
-- ==== Proof.FfnSampleRef.lean ====
/- The feed-forward block's reference at the sample's shapes, read at an index. -/
module

public import proofs.«01_k».proof.Proof.FfnSampleArrays
public import proofs.«01_k».proof.Proof.SampleRef
public import proofs.«01_k».proof.Proof.Gen.FfnSampleReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.FfnSampleRef

open Cert.FfnSampleReferenceIdeal Cert.FfnSampleReferenceIdeal.Gen Cert.FfnSampleReferenceIdeal.Value Idealize.ShloMosaic Idealize.ShloMosaic.TcCoe Idealize.SL.Sem
open Cert.Proof.Proj (mean lnorm)
open Cert.Proof.SampleRef (hid hid_apply sig sig_apply)
open Cert.Proof.Ffn (dots mix blend)
open Cert.Proof.FfnSample (aVal past past_shift convVal rowVal yVal whole lasts)

/-- The up projection. -/
def ups (x : FVec Ideal S32x64x1024 .f32) (w : FVec Ideal S1024x5632 .f32) : FVec Ideal S32x64x5632 .f32 :=
  Host.dotGeneral dot_S32x64x1024_S1024x5632_S32x64x5632_2_0_01_1_n_n none x w

/-- Its half that is convolved. -/
def inner (x : FVec Ideal S32x64x1024 .f32) (w : FVec Ideal S1024x5632 .f32) : FVec Ideal S32x64x2816 .f32 :=
  extractStridedSlice S32x64x2816 ![0, 0, 0] (ups x w) slices_S32x64x5632_S32x64x2816_0_0_0

/-- Its half that gates. -/
def gates (x : FVec Ideal S32x64x1024 .f32) (w : FVec Ideal S1024x5632 .f32) : FVec Ideal S32x64x2816 .f32 :=
  extractStridedSlice S32x64x2816 ![0, 0, 2816] (ups x w) slices_S32x64x5632_S32x64x2816_0_0_2816

/-- The history's two rows, then the rows. -/
def padded (h : FVec Ideal S32x2x2816 .f32) (a : FVec Ideal S32x64x2816 .f32) : FVec Ideal S32x66x2816 .f32 :=
  concatenate S32x66x2816 1 [⟨S32x2x2816, h⟩, ⟨S32x64x2816, a⟩] concatenates_S32x2x2816_S32x64x2816_S32x66x2816_d1

/-- A vector of units at every position. -/
def every (v : FVec Ideal S2816 .f32) : FVec Ideal S32x64x2816 .f32 :=
  broadcastInDim S32x64x2816 ![0, 1, 2] bcast_S1x1x2816_S32x64x2816_0_1_2 (broadcastInDim S1x1x2816 ![2] bcast_S2816_S1x1x2816_2 v)

def tap0 (p : FVec Ideal S32x66x2816 .f32) (dw : FVec Ideal S3x2816 .f32) : FVec Ideal S32x64x2816 .f32 :=
  mulf (extractStridedSlice S32x64x2816 ![0, 0, 0] p slices_S32x66x2816_S32x64x2816_0_0_0) (every (shapeCast S2816 (extractStridedSlice S1x2816 ![0, 0] dw slices_S3x2816_S1x2816_0_0) shapeCasts_S1x2816_S2816))

def tap1 (p : FVec Ideal S32x66x2816 .f32) (dw : FVec Ideal S3x2816 .f32) : FVec Ideal S32x64x2816 .f32 :=
  mulf (extractStridedSlice S32x64x2816 ![0, 1, 0] p slices_S32x66x2816_S32x64x2816_0_1_0) (every (shapeCast S2816 (extractStridedSlice S1x2816 ![1, 0] dw slices_S3x2816_S1x2816_1_0) shapeCasts_S1x2816_S2816))

def tap2 (p : FVec Ideal S32x66x2816 .f32) (dw : FVec Ideal S3x2816 .f32) : FVec Ideal S32x64x2816 .f32 :=
  mulf (extractStridedSlice S32x64x2816 ![0, 2, 0] p slices_S32x66x2816_S32x64x2816_0_2_0) (every (shapeCast S2816 (extractStridedSlice S1x2816 ![2, 0] dw slices_S3x2816_S1x2816_2_0) shapeCasts_S1x2816_S2816))

/-- The convolution. -/
def conv (p : FVec Ideal S32x66x2816 .f32) (dw : FVec Ideal S3x2816 .f32) (db : FVec Ideal S2816 .f32) : FVec Ideal S32x64x2816 .f32 :=
  addf (addf (addf (tap0 p dw) (tap1 p dw)) (tap2 p dw)) (every db)

/-- One over one plus the exponential of the negative, at the units. -/
def sigU (z : FVec Ideal S32x64x2816 .f32) : FVec Ideal S32x64x2816 .f32 :=
  Host.divf (broadcastInDim S32x64x2816 ![] bcast_S_S32x64x2816 (constant S_ .f32 0x3F800000#32)) (addf (broadcastInDim S32x64x2816 ![] bcast_S_S32x64x2816 (constant S_ .f32 0x3F800000#32)) (Host.exp (Host.negf z)))

/-- The gated units. -/
def units (v q : FVec Ideal S32x64x2816 .f32) : FVec Ideal S32x64x2816 .f32 := mulf (mulf v (sigU v)) q

/-- The down projection. -/
def down (u : FVec Ideal S32x64x2816 .f32) (wd : FVec Ideal S2816x1024 .f32) : FVec Ideal S32x64x1024 .f32 :=
  Host.dotGeneral dot_S32x64x2816_S2816x1024_S32x64x1024_2_0_01_1_n_n none u wd

/-- The embedding's gate before its sigmoid. -/
def gateIn (x : FVec Ideal S32x64x1024 .f32) (wg : FVec Ideal S1024x1024 .f32) : FVec Ideal S32x64x1024 .f32 :=
  Host.dotGeneral dot_S32x64x1024_S1024x1024_S32x64x1024_2_0_01_1_n_n none x wg

/-- The embedding's projection. -/
def emb (p : FVec Ideal S32x64x256 .f32) (wp : FVec Ideal S256x1024 .f32) : FVec Ideal S32x64x1024 .f32 :=
  Host.dotGeneral dot_S32x64x256_S256x1024_S32x64x1024_2_0_01_1_n_n none p wp

/-- The sum before the norm. -/
def total (x d s e : FVec Ideal S32x64x1024 .f32) : FVec Ideal S32x64x1024 .f32 :=
  addf (addf (mulf (broadcastInDim S32x64x1024 ![] bcast_S_S32x64x1024 (constant S_ .f32 0x3F9837F0#32)) x) d) (mulf s e)

theorem inner_apply (x : FVec Ideal S32x64x1024 .f32) (w : FVec Ideal S1024x5632 .f32) (n : Fin 32) (s : Fin 64) (f : Fin 2816) :
    inner x w (ix3 n s f) = aVal x w n s f := by
  pointwise [inner, ups, aVal, dots]

theorem gates_apply (x : FVec Ideal S32x64x1024 .f32) (w : FVec Ideal S1024x5632 .f32) (n : Fin 32) (s : Fin 64) (f : Fin 2816) :
    gates x w (ix3 n s f) = dots (fun d => x (ix3 n s d)) (fun d => w (ix2 d ⟨2816 + f.val, by omega⟩)) := by
  pointwise [gates, ups, dots]

theorem padded_apply (h : FVec Ideal S32x2x2816 .f32) (a : FVec Ideal S32x64x2816 .f32) (n : Fin 32) (s : Fin 66) (f : Fin 2816) :
    padded h a (ix3 n s f) = if q : s.val < 2 then h (ix3 n ⟨s.val, by omega⟩ f) else a (ix3 n ⟨s.val - 2, by omega⟩ f) := by
  pointwise [padded]

theorem padded_past (h : FVec Ideal S32x2x2816 .f32) (x : FVec Ideal S32x64x1024 .f32) (w : FVec Ideal S1024x5632 .f32) (n : Fin 32) (s : Fin 66) (f : Fin 2816) :
    padded h (inner x w) (ix3 n s f) = past x h w n (s.val + 6) f := by
  refine (padded_apply h _ n s f).trans ?_
  unfold past
  by_cases q : s.val < 2
  · rw [dif_pos q, dif_neg (by omega), dif_pos (by omega)]
    refine congrArg (fun r => h (ix3 n r f)) (Fin.ext ?_)
    show s.val = s.val + 6 - 6
    omega
  · rw [dif_neg q, dif_pos (by omega)]
    refine (inner_apply x w n _ f).trans (congrArg (fun s => aVal x w n s f) (Fin.ext ?_))
    show s.val - 2 = s.val + 6 - 8
    omega

theorem tap0_apply (p : FVec Ideal S32x66x2816 .f32) (dw : FVec Ideal S3x2816 .f32) (n : Fin 32) (s : Fin 64) (f : Fin 2816) :
    tap0 p dw (ix3 n s f) = p (ix3 n ⟨s.val, by omega⟩ f) * dw (ix2 0 f) := by
  pointwise [tap0, every]

theorem tap1_apply (p : FVec Ideal S32x66x2816 .f32) (dw : FVec Ideal S3x2816 .f32) (n : Fin 32) (s : Fin 64) (f : Fin 2816) :
    tap1 p dw (ix3 n s f) = p (ix3 n ⟨1 + s.val, by omega⟩ f) * dw (ix2 1 f) := by
  pointwise [tap1, every]

theorem tap2_apply (p : FVec Ideal S32x66x2816 .f32) (dw : FVec Ideal S3x2816 .f32) (n : Fin 32) (s : Fin 64) (f : Fin 2816) :
    tap2 p dw (ix3 n s f) = p (ix3 n ⟨2 + s.val, by omega⟩ f) * dw (ix2 2 f) := by
  pointwise [tap2, every]

theorem every_apply (v : FVec Ideal S2816 .f32) (n : Fin 32) (s : Fin 64) (f : Fin 2816) : every v (ix3 n s f) = v (ix1 f) := by
  pointwise [every]

theorem conv_apply (x : FVec Ideal S32x64x1024 .f32) (h : FVec Ideal S32x2x2816 .f32) (w : FVec Ideal S1024x5632 .f32) (dw : FVec Ideal S3x2816 .f32) (db : FVec Ideal S2816 .f32) (n : Fin 32) (s : Fin 64) (f : Fin 2816) :
    conv (padded h (inner x w)) dw db (ix3 n s f) = convVal x h w dw db n s f := by
  have h0 := tap0_apply (padded h (inner x w)) dw n s f
  have h1 := tap1_apply (padded h (inner x w)) dw n s f
  have h2 := tap2_apply (padded h (inner x w)) dw n s f
  rw [padded_past] at h0 h1 h2
  have h3 := every_apply db n s f
  refine Eq.trans (b := tap0 (padded h (inner x w)) dw (ix3 n s f) + tap1 (padded h (inner x w)) dw (ix3 n s f) + tap2 (padded h (inner x w)) dw (ix3 n s f) + every db (ix3 n s f)) rfl ?_
  rw [h0, h1, h2, h3]
  unfold convVal mix
  have e1 : 1 + s.val + 6 = s.val + 7 := by omega
  have e2 : 2 + s.val + 6 = s.val + 8 := by omega
  show past x h w n (s.val + 6) f * _ + past x h w n (1 + s.val + 6) f * _ + past x h w n (2 + s.val + 6) f * _ + _ = _
  rw [e1, e2, add_comm, ← add_assoc, ← add_assoc, mul_comm (past x h w n (s.val + 6) f), mul_comm (past x h w n (s.val + 7) f), mul_comm (past x h w n (s.val + 8) f)]

theorem sigU_apply (z : FVec Ideal S32x64x2816 .f32) (n : Fin 32) (t : Fin 64) (f : Fin 2816) : sigU z (ix3 n t f) = Ideal.logistic (z (ix3 n t f)) := by
  refine Eq.trans (b := Ideal.div (Ideal.ofBits .f32 0x3F800000#32) (Ideal.ofBits .f32 0x3F800000#32 + Ideal.exp (-(z (ix3 n t f))))) ?_ (by rw [Ideal.ofBits_one_f32]; rfl)
  pointwise [sigU]

theorem units_apply (v q : FVec Ideal S32x64x2816 .f32) (n : Fin 32) (t : Fin 64) (f : Fin 2816) :
    units v q (ix3 n t f) = Cert.Proof.Ffn.unit (v (ix3 n t f)) (q (ix3 n t f)) :=
  Eq.trans (b := v (ix3 n t f) * sigU v (ix3 n t f) * q (ix3 n t f)) rfl (by rw [sigU_apply]; rfl)

theorem down_apply (u : FVec Ideal S32x64x2816 .f32) (wd : FVec Ideal S2816x1024 .f32) (n : Fin 32) (t : Fin 64) (e : Fin 1024) :
    down u wd (ix3 n t e) = dots (fun f => u (ix3 n t f)) (fun f => wd (ix2 f e)) := by
  pointwise [down, dots]

theorem gateIn_apply (x : FVec Ideal S32x64x1024 .f32) (wg : FVec Ideal S1024x1024 .f32) (n : Fin 32) (t : Fin 64) (e : Fin 1024) :
    gateIn x wg (ix3 n t e) = dots (fun d => x (ix3 n t d)) (fun d => wg (ix2 d e)) := by
  pointwise [gateIn, dots]

theorem emb_apply (p : FVec Ideal S32x64x256 .f32) (wp : FVec Ideal S256x1024 .f32) (n : Fin 32) (t : Fin 64) (e : Fin 1024) :
    emb p wp (ix3 n t e) = dots (fun d => p (ix3 n t d)) (fun d => wp (ix2 d e)) := by
  pointwise [emb, dots]

theorem total_apply (x d s e : FVec Ideal S32x64x1024 .f32) (n : Fin 32) (t : Fin 64) (j : Fin 1024) :
    total x d s e (ix3 n t j) = Ideal.ofBits .f32 0x3F9837F0#32 * x (ix3 n t j) + d (ix3 n t j) + s (ix3 n t j) * e (ix3 n t j) := by
  pointwise [total]

/-- The rows before the norm. -/
def rows (x : FVec Ideal S32x64x1024 .f32) (h : FVec Ideal S32x2x2816 .f32) (p : FVec Ideal S32x64x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) : FVec Ideal S32x64x1024 .f32 :=
  total x (down (units (conv (padded h (inner x w)) dw db) (gates x w)) wd) (sig (gateIn x wg)) (emb p wp)

theorem rows_apply (x : FVec Ideal S32x64x1024 .f32) (h : FVec Ideal S32x2x2816 .f32) (p : FVec Ideal S32x64x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) (n : Fin 32) (t : Fin 64) (e : Fin 1024) :
    rows x h p w dw db wd wp wg (ix3 n t e) = rowVal x h p w dw db wd wp wg n t e := by
  have h1 : down (units (conv (padded h (inner x w)) dw db) (gates x w)) wd (ix3 n t e)
      = dots (fun f => Cert.Proof.Ffn.unit (convVal x h w dw db n t f) (dots (fun d => x (ix3 n t d)) (fun d => w (ix2 d ⟨2816 + f.val, by omega⟩)))) (fun f => wd (ix2 f e)) := by
    refine (down_apply _ wd n t e).trans (congrFun (congrArg dots (funext fun f => ?_)) _)
    rw [units_apply, conv_apply, gates_apply]
  have h2 : sig (gateIn x wg) (ix3 n t e) = Ideal.logistic (dots (fun d => x (ix3 n t d)) (fun d => wg (ix2 d e))) :=
    (sig_apply _ n t e).trans (congrArg Ideal.logistic (gateIn_apply x wg n t e))
  have h3 := emb_apply p wp n t e
  refine (total_apply _ _ _ _ n t e).trans ?_
  rw [h1, h2, h3]
  rfl

/-- The first result. -/
def resY (x : FVec Ideal S32x64x1024 .f32) (h : FVec Ideal S32x2x2816 .f32) (p : FVec Ideal S32x64x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) (g b : FVec Ideal S1024 .f32) : FVec Ideal S32x64x1024 .f32 :=
  hid (rows x h p w dw db wd wp wg) g b

theorem resY_eq (x : FVec Ideal S32x64x1024 .f32) (h : FVec Ideal S32x2x2816 .f32) (p : FVec Ideal S32x64x256 .f32) (w : FVec Ideal S1024x5632 .f32) (dw : FVec Ideal S3x2816 .f32) (db : FVec Ideal S2816 .f32)
    (wd : FVec Ideal S2816x1024 .f32) (wp : FVec Ideal S256x1024 .f32) (wg : FVec Ideal S1024x1024 .f32) (g b : FVec Ideal S1024 .f32) :
    resY x h p w dw db wd wp wg g b = whole (yVal x h p w dw db wd wp wg g b) := by
  funext j
  obtain ⟨n, t, e, rfl⟩ : ∃ (n : Fin 32) (t : Fin 64) (e : Fin 1024), j = ix3 n t e := ⟨j 0, j 1, j 2, by
    funext a
    match a with
    | ⟨0, _⟩ => rfl
    | ⟨1, _⟩ => rfl
    | ⟨2, _⟩ => rfl⟩
  refine (hid_apply _ g b n t e).trans ?_
  refine Eq.trans (b := lnorm (fun d => rows x h p w dw db wd wp wg (ix3 n t d)) (fun d => g (ix1 d)) (fun d => b (ix1 d)) e) rfl ?_
  rw [show (fun d => rows x h p w dw db wd wp wg (ix3 n t d)) = rowVal x h p w dw db wd wp wg n t from funext fun d => rows_apply x h p w dw db wd wp wg n t d]
  rfl

/-- The second result. -/
def resT (x : FVec Ideal S32x64x1024 .f32) (w : FVec Ideal S1024x5632 .f32) : FVec Ideal S32x8x2816 .f32 :=
  extractStridedSlice S32x8x2816 ![0, 56, 0] (inner x w) slices_S32x64x2816_S32x8x2816_0_56_0

theorem cut_apply (a : FVec Ideal S32x64x2816 .f32) (n : Fin 32) (q : Fin 8) (f : Fin 2816) :
    extractStridedSlice S32x8x2816 ![0, 56, 0] a slices_S32x64x2816_S32x8x2816_0_56_0 (ix3 n q f) = a (ix3 n ⟨56 + q.val, by omega⟩ f) := by
  pointwise

theorem resT_eq (x : FVec Ideal S32x64x1024 .f32) (w : FVec Ideal S1024x5632 .f32) : resT x w = lasts (aVal x w) := by
  funext j
  obtain ⟨n, q, f, rfl⟩ : ∃ (n : Fin 32) (q : Fin 8) (f : Fin 2816), j = ix3 n q f := ⟨j 0, j 1, j 2, by
    funext a
    match a with
    | ⟨0, _⟩ => rfl
    | ⟨1, _⟩ => rfl
    | ⟨2, _⟩ => rfl⟩
  exact (cut_apply _ n q f).trans (inner_apply x w n _ f)

end Cert.Proof.FfnSampleRef
-- ==== Proof.FfnSampleValue.lean ====
/- The feed-forward block's results at the sample's shapes: the kernel's and the reference's are the same arrays. -/
module

public import proofs.«01_k».proof.Defs
public import proofs.«01_k».proof.Proof.FfnSampleArrays
public import proofs.«01_k».proof.Proof.FfnSampleRef
public import proofs.«01_k».proof.Proof.Gen.FfnSampleIdeal.Value
public import proofs.«01_k».proof.Proof.Gen.FfnSampleReferenceIdeal.Run

@[expose] public section

set_option maxRecDepth 16384

noncomputable section

namespace Cert.Proof.FfnSample

open Idealize.ShloMosaic Idealize.SL.Sem
open Cert.Proof.FfnSampleRef

set_option maxHeartbeats 2000000 in
/-- At each device the two arrays the launch leaves are the two the reference computes. -/
theorem algebraic_ffn_sample : Cert.algebraic_FfnSampleIdeal_FfnSampleReferenceIdeal := fun m g m' g' _ ha =>
  ⟨fun c => (Cert.FfnSampleIdeal.Gen.dats m 0 c).arrAt 12 Cert.FfnSampleIdeal.cfg0.N, fun c => (Cert.FfnSampleIdeal.Gen.dats m 0 c).arrAt 13 Cert.FfnSampleIdeal.cfg0.N,
    Cert.FfnSampleIdeal.Value.run_blocks m g,
    (θ_run _ _ _).mono (fun r h c => by
      obtain ⟨a0, a1, a2, a3, a4, a5, a6, a7, a8, a9, a10⟩ := ha c
      obtain ⟨h0, h1, hr⟩ := h c
      refine ⟨h0.trans ?_, h1.trans ?_, hr⟩
      · refine Eq.trans (b := resY (m' ((c.tc : Thread Cert.FfnSampleReferenceIdeal.nD Cert.FfnSampleReferenceIdeal.τ).loc Cert.FfnSampleReferenceIdeal.main_arg0)) (m' ((c.tc : Thread Cert.FfnSampleReferenceIdeal.nD Cert.FfnSampleReferenceIdeal.τ).loc Cert.FfnSampleReferenceIdeal.main_arg2)) (m' ((c.tc : Thread Cert.FfnSampleReferenceIdeal.nD Cert.FfnSampleReferenceIdeal.τ).loc Cert.FfnSampleReferenceIdeal.main_arg1)) (m' ((c.tc : Thread Cert.FfnSampleReferenceIdeal.nD Cert.FfnSampleReferenceIdeal.τ).loc Cert.FfnSampleReferenceIdeal.main_arg3)) (m' ((c.tc : Thread Cert.FfnSampleReferenceIdeal.nD Cert.FfnSampleReferenceIdeal.τ).loc Cert.FfnSampleReferenceIdeal.main_arg4)) (m' ((c.tc : Thread Cert.FfnSampleReferenceIdeal.nD Cert.FfnSampleReferenceIdeal.τ).loc Cert.FfnSampleReferenceIdeal.main_arg5)) (m' ((c.tc : Thread Cert.FfnSampleReferenceIdeal.nD Cert.FfnSampleReferenceIdeal.τ).loc Cert.FfnSampleReferenceIdeal.main_arg6)) (m' ((c.tc : Thread Cert.FfnSampleReferenceIdeal.nD Cert.FfnSampleReferenceIdeal.τ).loc Cert.FfnSampleReferenceIdeal.main_arg7)) (m' ((c.tc : Thread Cert.FfnSampleReferenceIdeal.nD Cert.FfnSampleReferenceIdeal.τ).loc Cert.FfnSampleReferenceIdeal.main_arg8)) (m' ((c.tc : Thread Cert.FfnSampleReferenceIdeal.nD Cert.FfnSampleReferenceIdeal.τ).loc Cert.FfnSampleReferenceIdeal.main_arg9)) (m' ((c.tc : Thread Cert.FfnSampleReferenceIdeal.nD Cert.FfnSampleReferenceIdeal.τ).loc Cert.FfnSampleReferenceIdeal.main_arg10))) rfl ?_
        rw [a0, a1, a2, a3, a4, a5, a6, a7, a8, a9, a10]
        exact (resY_eq _ _ _ _ _ _ _ _ _ _ _).trans (arr12_eq m c).symm
      · refine Eq.trans (b := resT (m' ((c.tc : Thread Cert.FfnSampleReferenceIdeal.nD Cert.FfnSampleReferenceIdeal.τ).loc Cert.FfnSampleReferenceIdeal.main_arg0)) (m' ((c.tc : Thread Cert.FfnSampleReferenceIdeal.nD Cert.FfnSampleReferenceIdeal.τ).loc Cert.FfnSampleReferenceIdeal.main_arg3))) rfl ?_
        rw [a0, a3]
        exact (resT_eq _ _).trans (arr13_eq m c).symm)
      (Cert.FfnSampleReferenceIdeal.Value.run (F := Ideal) m' g')⟩

end Cert.Proof.FfnSample

end
-- ==== Proof.ProjSampleFrame.lean ====
/- The projection's frames at the sample's shapes, of words and of reals. -/
module

public import proofs.«01_k».proof.Defs
public import proofs.«01_k».proof.Proof.Gen.InprojSample.Frame
public import proofs.«01_k».proof.Proof.Gen.InprojSampleIdeal.Frame
public import proofs.«01_k».proof.Proof.Gen.InprojSampleReferenceIdeal.Run
public import Idealize.ShloMosaic.Init

@[expose] public section

set_option maxRecDepth 16384

noncomputable section

namespace Cert.Proof.ProjSample

open Idealize.ShloMosaic Idealize.SL.Sem

theorem frame_InprojSampleIdeal : Cert.quiescent_InprojSampleIdeal := fun m g _ => Cert.InprojSampleIdeal.Gen.frame (F := Ideal) m g

theorem frame_InprojSampleReferenceIdeal : Cert.quiescent_InprojSampleReferenceIdeal := fun m g _ =>
  (θ_run _ _ _).mono (fun r h => ⟨fun c => (h c).2.2.2.2.2.2.2, Idealize.ShloMosaic.sem_eq_zero_of_no_sems (by decide) r.2⟩) (Cert.InprojSampleReferenceIdeal.Value.run (F := Ideal) m g)

theorem frame_InprojSample : Cert.quiescent_InprojSample := fun m g _ => Cert.InprojSample.Gen.frame (F := Bits) m g

end Cert.Proof.ProjSample

end
-- ==== Proof.ProjSampleBlock.lean ====
/- What the projection's body leaves in each staging buffer at the sample's shapes: four of the seven as for the prompt, the
   other three in pieces of one stream each. -/
module

public import proofs.«01_k».proof.Proof.ProjBlock
public import proofs.«01_k».proof.Proof.Gen.InprojSampleIdeal.Frame

@[expose] public section

set_option maxRecDepth 16384

noncomputable section

namespace Cert.Proof.ProjSample

open Cert.InprojSampleIdeal Cert.InprojSampleIdeal.Gen
open Idealize.ShloMosaic
open Cert.Proof.Proj (prod lsig feat colOf gated plain forget gate)

variable (x0 : Vec Ideal S512x1024 .f32) (x1 x2 : Vec Ideal S1x1024 .f32) (x3 x4 x5 x6 x7 : Vec Ideal S1024x1024 .bf16) (x8 : Vec Ideal S1024x128 .bf16) (x9 x10 : Vec Ideal S1024x1024 .bf16) (x11 : Vec Ideal S16x1 .f32)

theorem out12_at (y : S512x1024.Idx) : out0_12 x0 x1 x2 x3 x4 x5 x6 x7 x8 x9 x10 x11 y = gated x0 x1 x2 x3 x4 (y 0) (y 1) := Proj.out12_at x0 x1 x2 x3 x4 x5 x6 x7 x8 x9 x10 x11 y
theorem out13_at (y : S512x1024.Idx) : out0_13 x0 x1 x2 x3 x4 x5 x6 x7 x8 x9 x10 x11 y = plain x0 x1 x2 x5 (y 0) (y 1) := Proj.out13_at x0 x1 x2 x3 x4 x5 x6 x7 x8 x9 x10 x11 y
theorem out17_at (y : S512x1024.Idx) : out0_17 x0 x1 x2 x3 x4 x5 x6 x7 x8 x9 x10 x11 y = gate x0 x1 x2 x9 (y 0) (y 1) := Proj.out17_at x0 x1 x2 x3 x4 x5 x6 x7 x8 x9 x10 x11 y
theorem out18_at (y : S512x1024.Idx) : out0_18 x0 x1 x2 x3 x4 x5 x6 x7 x8 x9 x10 x11 y = gate x0 x1 x2 x10 (y 0) (y 1) := Proj.out18_at x0 x1 x2 x3 x4 x5 x6 x7 x8 x9 x10 x11 y

theorem cut0 (z : FVec Ideal S1024x256 .f32) (e : Fin 1024) (r : Fin 64) : k0_pay9 z (ix3 0 e r) = z (ix2 e ⟨r.val, by omega⟩) := by
  pointwise [k0_pay9]

theorem cut1 (z : FVec Ideal S1024x256 .f32) (e : Fin 1024) (r : Fin 64) : k0_pay12 z (ix3 0 e r) = z (ix2 e ⟨64 + r.val, by omega⟩) := by
  pointwise [k0_pay12]

theorem cut2 (z : FVec Ideal S1024x256 .f32) (e : Fin 1024) (r : Fin 64) : k0_pay15 z (ix3 0 e r) = z (ix2 e ⟨128 + r.val, by omega⟩) := by
  pointwise [k0_pay15]

theorem cut3 (z : FVec Ideal S1024x256 .f32) (e : Fin 1024) (r : Fin 64) : k0_pay18 z (ix3 0 e r) = z (ix2 e ⟨192 + r.val, by omega⟩) := by
  pointwise [k0_pay18]

theorem part0 (z : FVec Ideal S16x256 .f32) (e : Fin 16) (r : Fin 64) : k0_pay10 z (ix3 0 e r) = z (ix2 e ⟨r.val, by omega⟩) := by
  pointwise [k0_pay10]

theorem part1 (z : FVec Ideal S16x256 .f32) (e : Fin 16) (r : Fin 64) : k0_pay13 z (ix3 0 e r) = z (ix2 e ⟨64 + r.val, by omega⟩) := by
  pointwise [k0_pay13]

theorem part2 (z : FVec Ideal S16x256 .f32) (e : Fin 16) (r : Fin 64) : k0_pay16 z (ix3 0 e r) = z (ix2 e ⟨128 + r.val, by omega⟩) := by
  pointwise [k0_pay16]

theorem part3 (z : FVec Ideal S16x256 .f32) (e : Fin 16) (r : Fin 64) : k0_pay19 z (ix3 0 e r) = z (ix2 e ⟨192 + r.val, by omega⟩) := by
  pointwise [k0_pay19]

theorem emb0 (e : Fin 1024) (r : Fin 64) : r0_5.emb (ix3 0 e r) = ix3 0 e r := by blk_ext
theorem emb1 (e : Fin 1024) (r : Fin 64) : r0_7.emb (ix3 0 e r) = ix3 1 e r := by blk_ext
theorem emb2 (e : Fin 1024) (r : Fin 64) : r0_9.emb (ix3 0 e r) = ix3 2 e r := by blk_ext
theorem emb3 (e : Fin 1024) (r : Fin 64) : r0_11.emb (ix3 0 e r) = ix3 3 e r := by blk_ext
theorem emb4 (e : Fin 1024) (r : Fin 64) : r0_14.emb (ix3 0 e r) = ix3 4 e r := by blk_ext
theorem emb5 (e : Fin 1024) (r : Fin 64) : r0_16.emb (ix3 0 e r) = ix3 5 e r := by blk_ext
theorem emb6 (e : Fin 1024) (r : Fin 64) : r0_18.emb (ix3 0 e r) = ix3 6 e r := by blk_ext
theorem emb7 (e : Fin 1024) (r : Fin 64) : r0_20.emb (ix3 0 e r) = ix3 7 e r := by blk_ext
theorem row0 (e : Fin 16) (r : Fin 64) : r0_6.emb (ix3 0 e r) = ix3 0 e r := by blk_ext
theorem row1 (e : Fin 16) (r : Fin 64) : r0_8.emb (ix3 0 e r) = ix3 1 e r := by blk_ext
theorem row2 (e : Fin 16) (r : Fin 64) : r0_10.emb (ix3 0 e r) = ix3 2 e r := by blk_ext
theorem row3 (e : Fin 16) (r : Fin 64) : r0_12.emb (ix3 0 e r) = ix3 3 e r := by blk_ext
theorem row4 (e : Fin 16) (r : Fin 64) : r0_15.emb (ix3 0 e r) = ix3 4 e r := by blk_ext
theorem row5 (e : Fin 16) (r : Fin 64) : r0_17.emb (ix3 0 e r) = ix3 5 e r := by blk_ext
theorem row6 (e : Fin 16) (r : Fin 64) : r0_19.emb (ix3 0 e r) = ix3 6 e r := by blk_ext
theorem row7 (e : Fin 16) (r : Fin 64) : r0_21.emb (ix3 0 e r) = ix3 7 e r := by blk_ext

/-- Values of every row, the rows of one stream at a time and last. -/
def streams {n : ℕ} (f : Fin 512 → Fin n → EReal) (s : Fin 8) (e : Fin n) (r : Fin 64) : EReal := f ⟨64 * s.val + r.val, by omega⟩ e

/-- The same at an index of a block. -/
abbrev at1024 (f : Fin 512 → Fin 1024 → EReal) (y : S8x1024x64.Idx) : EReal := streams f (y 0) (y 1) (y 2)
abbrev at16 (f : Fin 512 → Fin 16 → EReal) (y : S8x16x64.Idx) : EReal := streams f (y 0) (y 1) (y 2)

/-- One piece of such values, read from one half of the rows. -/
theorem piece {n : ℕ} (f : Fin 512 → Fin n → EReal) (s : Fin 8) (e : Fin n) (r : Fin 64) (q : Fin 512) (u v : EReal) (hv : v = streams f s e r) (h : u = f q e) (hq : q.val = 64 * s.val + r.val) : u = v := by
  rw [h, hv]
  exact congrArg (fun q => f q e) (Fin.ext hq)

theorem idx_of {n : ℕ} (z : (⟨3, ![1, n, 64]⟩ : Shape).Idx) : z = ix3 0 (z 1) (z 2) := by
  funext a
  match a with
  | ⟨0, _⟩ => exact Subsingleton.elim (α := Fin 1) _ _
  | ⟨1, _⟩ => rfl
  | ⟨2, _⟩ => rfl

/-- Eight pieces, each one stream's, of two halves of rows. -/
theorem eight (f : Fin 512 → Fin 1024 → EReal) (zl zh : FVec Ideal S1024x256 .f32)
    (hl : ∀ (e : Fin 1024) (r : Fin 256), zl (ix2 e r) = f ⟨r.val, by omega⟩ e) (hh : ∀ (e : Fin 1024) (r : Fin 256), zh (ix2 e r) = f ⟨256 + r.val, by omega⟩ e) (y : S8x1024x64.Idx) :
    View.canon (Val := Elt Ideal) (e := .f32) [⟨r0_20, k0_pay39 zh⟩, ⟨r0_18, k0_pay35 zh⟩, ⟨r0_16, k0_pay32 zh⟩, ⟨r0_14, k0_pay29 zh⟩, ⟨r0_11, k0_pay18 zl⟩, ⟨r0_9, k0_pay15 zl⟩, ⟨r0_7, k0_pay12 zl⟩, ⟨r0_5, k0_pay9 zl⟩] y = streams f (y 0) (y 1) (y 2) := by
  refine View.canon_append_of_piecesOf (Val := Elt Ideal) (at1024 f) [] [_, _, _, _, _, _, _, _] ⟨fun z => ?_, fun z => ?_, fun z => ?_, fun z => ?_, fun z => ?_, fun z => ?_, fun z => ?_, fun z => ?_, trivial⟩ y (cover0_15 _ _ _ _ _ _ _ _ y) <;>
  (obtain ⟨a, b, rfl⟩ : ∃ a b, z = ix3 0 a b := ⟨_, _, idx_of z⟩)
  · exact piece f 7 a b _ _ _ (congrArg (at1024 f) (emb7 a b)) ((cut3 zh a b).trans (hh a _)) (show 256 + (192 + b.val) = 64 * 7 + b.val by omega)
  · exact piece f 6 a b _ _ _ (congrArg (at1024 f) (emb6 a b)) ((cut2 zh a b).trans (hh a _)) (show 256 + (128 + b.val) = 64 * 6 + b.val by omega)
  · exact piece f 5 a b _ _ _ (congrArg (at1024 f) (emb5 a b)) ((cut1 zh a b).trans (hh a _)) (show 256 + (64 + b.val) = 64 * 5 + b.val by omega)
  · exact piece f 4 a b _ _ _ (congrArg (at1024 f) (emb4 a b)) ((cut0 zh a b).trans (hh a _)) (show 256 + b.val = 64 * 4 + b.val by omega)
  · exact piece f 3 a b _ _ _ (congrArg (at1024 f) (emb3 a b)) ((cut3 zl a b).trans (hl a _)) (show 192 + b.val = 64 * 3 + b.val by omega)
  · exact piece f 2 a b _ _ _ (congrArg (at1024 f) (emb2 a b)) ((cut2 zl a b).trans (hl a _)) (show 128 + b.val = 64 * 2 + b.val by omega)
  · exact piece f 1 a b _ _ _ (congrArg (at1024 f) (emb1 a b)) ((cut1 zl a b).trans (hl a _)) (show 64 + b.val = 64 * 1 + b.val by omega)
  · exact piece f 0 a b _ _ _ (congrArg (at1024 f) (emb0 a b)) ((cut0 zl a b).trans (hl a _)) (show b.val = 64 * 0 + b.val by omega)

/-- The same of the heads. -/
theorem eight' (f : Fin 512 → Fin 16 → EReal) (zl zh : FVec Ideal S16x256 .f32)
    (hl : ∀ (e : Fin 16) (r : Fin 256), zl (ix2 e r) = f ⟨r.val, by omega⟩ e) (hh : ∀ (e : Fin 16) (r : Fin 256), zh (ix2 e r) = f ⟨256 + r.val, by omega⟩ e) (y : S8x16x64.Idx) :
    View.canon (Val := Elt Ideal) (e := .f32) [⟨r0_21, k0_pay40 zh⟩, ⟨r0_19, k0_pay37 (k0_pay36 zh)⟩, ⟨r0_17, k0_pay33 zh⟩, ⟨r0_15, k0_pay30 zh⟩, ⟨r0_12, k0_pay19 zl⟩, ⟨r0_10, k0_pay16 zl⟩, ⟨r0_8, k0_pay13 zl⟩, ⟨r0_6, k0_pay10 zl⟩] y = streams f (y 0) (y 1) (y 2) := by
  refine View.canon_append_of_piecesOf (Val := Elt Ideal) (at16 f) [] [_, _, _, _, _, _, _, _] ⟨fun z => ?_, fun z => ?_, fun z => ?_, fun z => ?_, fun z => ?_, fun z => ?_, fun z => ?_, fun z => ?_, trivial⟩ y (cover0_16 _ _ _ _ _ _ _ _ y) <;>
  (obtain ⟨a, b, rfl⟩ : ∃ a b, z = ix3 0 a b := ⟨_, _, idx_of z⟩)
  · exact piece f 7 a b _ _ _ (congrArg (at16 f) (row7 a b)) ((part3 zh a b).trans (hh a _)) (show 256 + (192 + b.val) = 64 * 7 + b.val by omega)
  · exact piece f 6 a b _ _ _ (congrArg (at16 f) (row6 a b)) ((part2 zh a b).trans (hh a _)) (show 256 + (128 + b.val) = 64 * 6 + b.val by omega)
  · exact piece f 5 a b _ _ _ (congrArg (at16 f) (row5 a b)) ((part1 zh a b).trans (hh a _)) (show 256 + (64 + b.val) = 64 * 5 + b.val by omega)
  · exact piece f 4 a b _ _ _ (congrArg (at16 f) (row4 a b)) ((part0 zh a b).trans (hh a _)) (show 256 + b.val = 64 * 4 + b.val by omega)
  · exact piece f 3 a b _ _ _ (congrArg (at16 f) (row3 a b)) ((part3 zl a b).trans (hl a _)) (show 192 + b.val = 64 * 3 + b.val by omega)
  · exact piece f 2 a b _ _ _ (congrArg (at16 f) (row2 a b)) ((part2 zl a b).trans (hl a _)) (show 128 + b.val = 64 * 2 + b.val by omega)
  · exact piece f 1 a b _ _ _ (congrArg (at16 f) (row1 a b)) ((part1 zl a b).trans (hl a _)) (show 64 + b.val = 64 * 1 + b.val by omega)
  · exact piece f 0 a b _ _ _ (congrArg (at16 f) (row0 a b)) ((part0 zl a b).trans (hl a _)) (show b.val = 64 * 0 + b.val by omega)

theorem pay4_at (h : FVec Ideal S256x1024 .bf16) (w : Vec Ideal S1024x1024 .bf16) (e : Fin 1024) (r : Fin 256) :
    k0_pay4 h w (ix2 e r) = prod (fun d => h (ix2 r d)) (fun d => w (ix2 d e)) := by
  pointwise [k0_pay4, prod]

/-- The product of a block's first rows, by features. -/
theorem low_at (w : Vec Ideal S1024x1024 .bf16) (e : Fin 1024) (r : Fin 256) :
    k0_pay4 (k0_pay1 (View.ld x0 r0_0) (View.ld x1 r0_1) (View.ld x2 r0_1)) (View.ld w r0_2) (ix2 e r) = plain x0 x1 x2 w ⟨r.val, by omega⟩ e := by
  rw [Proj.ldRow, Proj.ldRow, Proj.ldMat]
  refine (pay4_at _ _ e r).trans ?_
  exact congrArg (fun h => prod h (colOf w e)) (Proj.low_feat x0 x1 x2 r)

/-- The product of its last rows. -/
theorem high_at (w : Vec Ideal S1024x1024 .bf16) (e : Fin 1024) (r : Fin 256) :
    k0_pay4 (k0_pay22 (View.ld x0 r0_13) (View.ld x1 r0_1) (View.ld x2 r0_1)) (View.ld w r0_2) (ix2 e r) = plain x0 x1 x2 w ⟨256 + r.val, by omega⟩ e := by
  rw [Proj.ldRow, Proj.ldRow, Proj.ldMat]
  refine (pay4_at _ _ e r).trans ?_
  exact congrArg (fun h => prod h (colOf w e)) (Proj.high_feat x0 x1 x2 r)

theorem out14_at (y : S8x1024x64.Idx) : out0_14 x0 x1 x2 x3 x4 x5 x6 x7 x8 x9 x10 x11 y = streams (plain x0 x1 x2 x6) (y 0) (y 1) (y 2) :=
  eight (plain x0 x1 x2 x6) _ _ (low_at x0 x1 x2 x6) (high_at x0 x1 x2 x6) y

theorem out15_at (y : S8x1024x64.Idx) : out0_15 x0 x1 x2 x3 x4 x5 x6 x7 x8 x9 x10 x11 y = streams (plain x0 x1 x2 x7) (y 0) (y 1) (y 2) :=
  eight (plain x0 x1 x2 x7) _ _ (low_at x0 x1 x2 x7) (high_at x0 x1 x2 x7) y

theorem low_forget (e : Fin 16) (r : Fin 256) :
    k0_pay6 (k0_pay1 (View.ld x0 r0_0) (View.ld x1 r0_1) (View.ld x2 r0_1)) (View.ld x8 r0_3) (View.ld x11 r0_4) (ix2 e r) = forget x0 x1 x2 x8 x11 ⟨r.val, by omega⟩ e := by
  rw [Proj.ldRow, Proj.ldRow, Proj.ldFor, Proj.ldBias]
  refine (Proj.pay13_at _ _ _ e r).trans ?_
  exact congrArg (fun h => lsig (prod h (colOf x8 ⟨e.val, by omega⟩) + x11 (ix2 e 0))) (Proj.low_feat x0 x1 x2 r)

theorem high_forget (e : Fin 16) (r : Fin 256) :
    k0_pay27 (k0_pay22 (View.ld x0 r0_13) (View.ld x1 r0_1) (View.ld x2 r0_1)) (View.ld x8 r0_3) (View.ld x11 r0_4) (ix2 e r) = forget x0 x1 x2 x8 x11 ⟨256 + r.val, by omega⟩ e := by
  rw [Proj.ldRow, Proj.ldRow, Proj.ldFor, Proj.ldBias]
  refine (Proj.pay27_at _ _ _ e r).trans ?_
  exact congrArg (fun h => lsig (prod h (colOf x8 ⟨e.val, by omega⟩) + x11 (ix2 e 0))) (Proj.high_feat x0 x1 x2 r)

theorem out16_at (y : S8x16x64.Idx) : out0_16 x0 x1 x2 x3 x4 x5 x6 x7 x8 x9 x10 x11 y = streams (forget x0 x1 x2 x8 x11) (y 0) (y 1) (y 2) :=
  eight' (forget x0 x1 x2 x8 x11) _ _ (low_forget x0 x1 x2 x8 x11) (high_forget x0 x1 x2 x8 x11) y

end Cert.Proof.ProjSample
-- ==== Proof.ProjSampleHost.lean ====
/- The arrays the projection's region reads at the sample's shapes, at an index. -/
module

public import proofs.«01_k».proof.Proof.ProjSampleBlock
public import Idealize.ShloMosaic.Lib.Pipeline.Covers
public import Idealize.ShloMosaic.Lib.StableHlo.ReadAt

@[expose] public section

set_option maxRecDepth 16384

noncomputable section

namespace Cert.Proof.ProjSample

open Cert.InprojSampleIdeal Cert.InprojSampleIdeal.Gen
open Idealize.ShloMosaic
open Idealize.ShloMosaic.TcCoe
open Idealize.SL.Sem

variable (m : (ℓ : Loc nD τ sig) → Buf (Elt Ideal) ℓ) (c : Dev nD)

theorem arr_x (R : Fin 2048) (d : Fin 1024) : Gen.V m c main_v10 (ix2 R d) = m ((c.tc : Thread nD τ).loc main_arg0) (ix3 ⟨R.val / 64, by omega⟩ ⟨R.val % 64, by omega⟩ d) := by
  unfold_abbrev_sides
  after_reads_at

theorem arr_g (d : Fin 1024) : Gen.V m c main_v11 (ix2 0 d) = m ((c.tc : Thread nD τ).loc main_arg1) (ix1 d) := by
  unfold_abbrev_sides
  after_reads_at

theorem arr_b (d : Fin 1024) : Gen.V m c main_v12 (ix2 0 d) = m ((c.tc : Thread nD τ).loc main_arg2) (ix1 d) := by
  unfold_abbrev_sides
  after_reads_at

theorem arr_o (h : Fin 16) : Gen.V m c main_v13 (ix2 h 0) = m ((c.tc : Thread nD τ).loc main_arg4) (ix1 h) := by
  unfold_abbrev_sides
  after_reads_at

theorem arr_f (d : Fin 1024) (e : Fin 16) : Gen.V m c main_v9 (ix2 d ⟨e.val, by omega⟩) = m ((c.tc : Thread nD τ).loc main_arg3) (ix2 d ⟨5120 + e.val, by omega⟩) := by
  unfold_abbrev_sides
  after_reads_at

theorem arr_w1 (d e : Fin 1024) : Gen.V m c main_v1 (ix2 d e) = m ((c.tc : Thread nD τ).loc main_arg3) (ix2 d ⟨e.val, by omega⟩) := by
  unfold_abbrev_sides
  after_reads_at

theorem arr_w2 (d e : Fin 1024) : Gen.V m c main_v2 (ix2 d e) = m ((c.tc : Thread nD τ).loc main_arg3) (ix2 d ⟨1024 + e.val, by omega⟩) := by
  unfold_abbrev_sides
  after_reads_at

theorem arr_w3 (d e : Fin 1024) : Gen.V m c main_v3 (ix2 d e) = m ((c.tc : Thread nD τ).loc main_arg3) (ix2 d ⟨2048 + e.val, by omega⟩) := by
  unfold_abbrev_sides
  after_reads_at

theorem arr_w4 (d e : Fin 1024) : Gen.V m c main_v4 (ix2 d e) = m ((c.tc : Thread nD τ).loc main_arg3) (ix2 d ⟨3072 + e.val, by omega⟩) := by
  unfold_abbrev_sides
  after_reads_at

theorem arr_w5 (d e : Fin 1024) : Gen.V m c main_v5 (ix2 d e) = m ((c.tc : Thread nD τ).loc main_arg3) (ix2 d ⟨4096 + e.val, by omega⟩) := by
  unfold_abbrev_sides
  after_reads_at

theorem arr_w7 (d e : Fin 1024) : Gen.V m c main_v7 (ix2 d e) = m ((c.tc : Thread nD τ).loc main_arg3) (ix2 d ⟨5136 + e.val, by omega⟩) := by
  unfold_abbrev_sides
  after_reads_at

theorem arr_w8 (d e : Fin 1024) : Gen.V m c main_v8 (ix2 d e) = m ((c.tc : Thread nD τ).loc main_arg3) (ix2 d ⟨6160 + e.val, by omega⟩) := by
  unfold_abbrev_sides
  after_reads_at

/-! ## The blocks -/

theorem lt0 (t : Fin cfg0.N) : (grid0.coords t 0).val < 4 := (grid0.coords t 0).isLt

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![(grid0.coords t 0).val, 0] := (by decide +kernel : ∀ t : Fin grid0.N, _)
theorem idx13 : ∀ t : Fin cfg0.N, win0_13.index t = ![(grid0.coords t 0).val, 0] := (by decide +kernel : ∀ t : Fin grid0.N, _)
theorem idx17 : ∀ t : Fin cfg0.N, win0_17.index t = ![(grid0.coords t 0).val, 0] := (by decide +kernel : ∀ t : Fin grid0.N, _)
theorem idx18 : ∀ t : Fin cfg0.N, win0_18.index t = ![(grid0.coords t 0).val, 0] := (by decide +kernel : ∀ t : Fin grid0.N, _)
theorem idx14 : ∀ t : Fin cfg0.N, win0_14.index t = ![(grid0.coords t 0).val, 0, 0] := (by decide +kernel : ∀ t : Fin grid0.N, _)
theorem idx15 : ∀ t : Fin cfg0.N, win0_15.index t = ![(grid0.coords t 0).val, 0, 0] := (by decide +kernel : ∀ t : Fin grid0.N, _)
theorem idx16 : ∀ t : Fin cfg0.N, win0_16.index t = ![(grid0.coords t 0).val, 0, 0] := (by decide +kernel : ∀ t : Fin grid0.N, _)

/-- A row's batch entry and position. -/
def batch (t : Fin cfg0.N) (r : Fin 512) : Fin 32 := ⟨(512 * (grid0.coords t 0).val + r.val) / 64, by have := lt0 t; omega⟩
def place (t : Fin cfg0.N) (r : Fin 512) : Fin 64 := ⟨(512 * (grid0.coords t 0).val + r.val) % 64, by omega⟩

theorem xBlk_at (t : Fin cfg0.N) (r : Fin 512) (d : Fin 1024) :
    iblk m c 0 t (ix2 r d) = m ((c.tc : Thread nD τ).loc main_arg0) (ix3 (batch t r) (place t r) d) := by
  have h := lt0 t
  unfold iblk
  blk_simp
  refine (congrArg (Gen.V m c main_v10) (?_ : _ = ix2 ⟨512 * (grid0.coords t 0).val + r.val, by omega⟩ d)).trans (arr_x m c _ d)
  blk_ext [idx0 t]

theorem gBlk_at (t : Fin cfg0.N) (d : Fin 1024) : iblk m c 1 t (ix2 0 d) = m ((c.tc : Thread nD τ).loc main_arg1) (ix1 d) := by
  unfold iblk
  blk_simp
  refine (congrArg (Gen.V m c main_v11) (?_ : _ = ix2 0 d)).trans (arr_g m c d)
  blk_ext [idx1 t]

theorem bBlk_at (t : Fin cfg0.N) (d : Fin 1024) : iblk m c 2 t (ix2 0 d) = m ((c.tc : Thread nD τ).loc main_arg2) (ix1 d) := by
  unfold iblk
  blk_simp
  refine (congrArg (Gen.V m c main_v12) (?_ : _ = ix2 0 d)).trans (arr_b m c d)
  blk_ext [idx2 t]

theorem fBlk_at (t : Fin cfg0.N) (d : Fin 1024) (e : Fin 16) : iblk m c 8 t (ix2 d ⟨e.val, by omega⟩) = m ((c.tc : Thread nD τ).loc main_arg3) (ix2 d ⟨5120 + e.val, by omega⟩) := by
  unfold iblk
  blk_simp
  refine (congrArg (Gen.V m c main_v9) (?_ : _ = ix2 d ⟨e.val, by omega⟩)).trans (arr_f m c d e)
  blk_ext [idx8 t]

theorem oBlk_at (t : Fin cfg0.N) (e : Fin 16) : iblk m c 11 t (ix2 e 0) = m ((c.tc : Thread nD τ).loc main_arg4) (ix1 e) := by
  unfold iblk
  blk_simp
  refine (congrArg (Gen.V m c main_v13) (?_ : _ = ix2 e 0)).trans (arr_o m c e)
  blk_ext [idx11 t]

theorem wBlk3_at (t : Fin cfg0.N) (d e : Fin 1024) : iblk m c 3 t (ix2 d e) = m ((c.tc : Thread nD τ).loc main_arg3) (ix2 d ⟨e.val, by omega⟩) := by
  unfold iblk
  blk_simp
  refine (congrArg (Gen.V m c main_v1) (?_ : _ = ix2 d e)).trans (arr_w1 m c d e)
  blk_ext [idx3 t]

theorem wBlk4_at (t : Fin cfg0.N) (d e : Fin 1024) : iblk m c 4 t (ix2 d e) = m ((c.tc : Thread nD τ).loc main_arg3) (ix2 d ⟨1024 + e.val, by omega⟩) := by
  unfold iblk
  blk_simp
  refine (congrArg (Gen.V m c main_v2) (?_ : _ = ix2 d e)).trans (arr_w2 m c d e)
  blk_ext [idx4 t]

theorem wBlk5_at (t : Fin cfg0.N) (d e : Fin 1024) : iblk m c 5 t (ix2 d e) = m ((c.tc : Thread nD τ).loc main_arg3) (ix2 d ⟨2048 + e.val, by omega⟩) := by
  unfold iblk
  blk_simp
  refine (congrArg (Gen.V m c main_v3) (?_ : _ = ix2 d e)).trans (arr_w3 m c d e)
  blk_ext [idx5 t]

theorem wBlk6_at (t : Fin cfg0.N) (d e : Fin 1024) : iblk m c 6 t (ix2 d e) = m ((c.tc : Thread nD τ).loc main_arg3) (ix2 d ⟨3072 + e.val, by omega⟩) := by
  unfold iblk
  blk_simp
  refine (congrArg (Gen.V m c main_v4) (?_ : _ = ix2 d e)).trans (arr_w4 m c d e)
  blk_ext [idx6 t]

theorem wBlk7_at (t : Fin cfg0.N) (d e : Fin 1024) : iblk m c 7 t (ix2 d e) = m ((c.tc : Thread nD τ).loc main_arg3) (ix2 d ⟨4096 + e.val, by omega⟩) := by
  unfold iblk
  blk_simp
  refine (congrArg (Gen.V m c main_v5) (?_ : _ = ix2 d e)).trans (arr_w5 m c d e)
  blk_ext [idx7 t]

theorem wBlk9_at (t : Fin cfg0.N) (d e : Fin 1024) : iblk m c 9 t (ix2 d e) = m ((c.tc : Thread nD τ).loc main_arg3) (ix2 d ⟨5136 + e.val, by omega⟩) := by
  unfold iblk
  blk_simp
  refine (congrArg (Gen.V m c main_v7) (?_ : _ = ix2 d e)).trans (arr_w7 m c d e)
  blk_ext [idx9 t]

theorem wBlk10_at (t : Fin cfg0.N) (d e : Fin 1024) : iblk m c 10 t (ix2 d e) = m ((c.tc : Thread nD τ).loc main_arg3) (ix2 d ⟨6160 + e.val, by omega⟩) := by
  unfold iblk
  blk_simp
  refine (congrArg (Gen.V m c main_v8) (?_ : _ = ix2 d e)).trans (arr_w8 m c d e)
  blk_ext [idx10 t]

end Cert.Proof.ProjSample
-- ==== Proof.ProjSampleArrays.lean ====
/- The arrays the projection's region leaves at the sample's shapes. -/
module

public import proofs.«01_k».proof.Proof.ProjSampleHost

@[expose] public section

set_option maxRecDepth 16384

noncomputable section

namespace Cert.Proof.ProjSample

open Cert.InprojSampleIdeal Cert.InprojSampleIdeal.Gen
open Idealize.ShloMosaic
open Idealize.ShloMosaic.TcCoe
open Idealize.SL.Sem
open Cert.Proof.Proj (lnorm prod lsig feat colOf gated plain forget gate)

section Values

variable (X : FVec Ideal S32x64x1024 .f32) (g b : FVec Ideal S1024 .f32) (W : FVec Ideal S1024x7184 .f32) (f : FVec Ideal S16 .f32)

/-- A normalized row. -/
def normed (n : Fin 32) (t : Fin 64) : Fin 1024 → EReal := lnorm (fun d => X (ix3 n t d)) (fun d => g (ix1 d)) (fun d => b (ix1 d))

/-- Its projection on a column. -/
def zed (n : Fin 32) (t : Fin 64) (j : Fin 7184) : EReal := prod (normed X g b n t) fun d => W (ix2 d j)

/-- The gated linear unit. -/
def uVal (n : Fin 32) (t : Fin 64) (e : Fin 1024) : EReal := zed X g b W n t ⟨e.val, by omega⟩ * Ideal.logistic (zed X g b W n t ⟨1024 + e.val, by omega⟩)

/-- Some columns of the projection. -/
def zVal (o : ℕ) (ho : o + 1024 ≤ 7184) (n : Fin 32) (t : Fin 64) (e : Fin 1024) : EReal := zed X g b W n t ⟨o + e.val, by omega⟩

/-- A gate. -/
def gVal (o : ℕ) (ho : o + 1024 ≤ 7184) (n : Fin 32) (t : Fin 64) (e : Fin 1024) : EReal := Ideal.logistic (zed X g b W n t ⟨o + e.val, by omega⟩)

/-- The logarithm of the forget gate. -/
def fVal (n : Fin 32) (t : Fin 64) (h : Fin 16) : EReal := lsig (zed X g b W n t ⟨5120 + h.val, by omega⟩ + f (ix1 h))

end Values

/-- A value of every position and feature, as rows. -/
def rowsOf (v : Fin 32 → Fin 64 → Fin 1024 → EReal) (j : S2048x1024.Idx) : EReal :=
  v ⟨(j 0).val / 64, by have h : (j 0).val < 2048 := (j 0).isLt; omega⟩ ⟨(j 0).val % 64, by omega⟩ (j 1)

/-- A value of every position and feature (or head), the positions last. -/
def lastOf {k : ℕ} (v : Fin 32 → Fin 64 → Fin k → EReal) (j : (⟨3, ![32, k, 64]⟩ : Shape).Idx) : EReal := v (j 0) (j 2) (j 1)

variable (m : (ℓ : Loc nD τ sig) → Buf (Elt Ideal) ℓ) (c : Dev nD)

/-- The arguments. -/
abbrev aX : FVec Ideal S32x64x1024 .f32 := m ((c.tc : Thread nD τ).loc main_arg0)
abbrev aG : FVec Ideal S1024 .f32 := m ((c.tc : Thread nD τ).loc main_arg1)
abbrev aB : FVec Ideal S1024 .f32 := m ((c.tc : Thread nD τ).loc main_arg2)
abbrev aW : FVec Ideal S1024x7184 .f32 := m ((c.tc : Thread nD τ).loc main_arg3)
abbrev aF : FVec Ideal S16 .f32 := m ((c.tc : Thread nD τ).loc main_arg4)

theorem feat_at (t : Fin cfg0.N) (r : Fin 512) : feat (iblk m c 0 t) (iblk m c 1 t) (iblk m c 2 t) r = normed (aX m c) (aG m c) (aB m c) (batch t r) (place t r) := by
  unfold feat normed
  rw [show (fun d => iblk m c 0 t (ix2 r d)) = fun d => aX m c (ix3 (batch t r) (place t r) d) from funext fun d => xBlk_at m c t r d,
    show (fun d => iblk m c 1 t (ix2 0 d)) = fun d => aG m c (ix1 d) from funext fun d => gBlk_at m c t d,
    show (fun d => iblk m c 2 t (ix2 0 d)) = fun d => aB m c (ix1 d) from funext fun d => bBlk_at m c t d]

/-- A row's product with a column that is the weight's. -/
theorem prod_at (t : Fin cfg0.N) (r : Fin 512) (w : Fin 1024 → EReal) (j : Fin 7184) (hw : ∀ d, w d = aW m c (ix2 d j)) :
    prod (feat (iblk m c 0 t) (iblk m c 1 t) (iblk m c 2 t) r) w = zed (aX m c) (aG m c) (aB m c) (aW m c) (batch t r) (place t r) j := by
  rw [feat_at, funext hw]
  rfl

theorem gated_at (t : Fin cfg0.N) (r : Fin 512) (e : Fin 1024) : gated (iblk m c 0 t) (iblk m c 1 t) (iblk m c 2 t) (iblk m c 3 t) (iblk m c 4 t) r e = uVal (aX m c) (aG m c) (aB m c) (aW m c) (batch t r) (place t r) e :=
  congrArg₂ (fun p q => p * Ideal.logistic q) (prod_at m c t r _ _ fun d => wBlk3_at m c t d e) (prod_at m c t r _ _ fun d => wBlk4_at m c t d e)

theorem forget_at (t : Fin cfg0.N) (r : Fin 512) (e : Fin 16) : forget (iblk m c 0 t) (iblk m c 1 t) (iblk m c 2 t) (iblk m c 8 t) (iblk m c 11 t) r e = fVal (aX m c) (aG m c) (aB m c) (aW m c) (aF m c) (batch t r) (place t r) e :=
  congrArg₂ (fun p q => lsig (p + q)) (prod_at m c t r _ _ fun d => fBlk_at m c t d e) (oBlk_at m c t e)

/-- A row of a block, among all rows. -/
theorem rows_place (v : Fin 32 → Fin 64 → Fin 1024 → EReal) (t : Fin cfg0.N) (r : Fin 512) (e : Fin 1024) :
    v (batch t r) (place t r) e = rowsOf v (ix2 ⟨512 * (grid0.coords t 0).val + r.val, by have := lt0 t; omega⟩ e) := rfl

/-- A position of a stream of a block, among all streams. -/
theorem last_place {k : ℕ} (v : Fin 32 → Fin 64 → Fin k → EReal) (t : Fin cfg0.N) (s : Fin 8) (e : Fin k) (r : Fin 64) :
    streams (fun r e => v (batch t r) (place t r) e) s e r = lastOf v (ix3 ⟨8 * (grid0.coords t 0).val + s.val, by have := lt0 t; omega⟩ e r) := by
  refine congrArg₂ (fun n p => v n p e) (Fin.ext ?_) (Fin.ext ?_)
  · show (512 * (grid0.coords t 0).val + (64 * s.val + r.val)) / 64 = 8 * (grid0.coords t 0).val + s.val
    omega
  · show (512 * (grid0.coords t 0).val + (64 * s.val + r.val)) % 64 = r.val
    omega

theorem arr12_eq : (dats m 0 c).arrAt 12 cfg0.N = rowsOf (uVal (aX m c) (aG m c) (aB m c) (aW m c)) := by
  refine (dats m 0 c).arrAt_eq_of_covers 12 _ (by decide +kernel) fun t hf y => ?_
  blk_simp
  refine (congrFun (after0_12 m c t) y).trans ?_
  refine (out12_at _ _ _ _ _ _ _ _ _ _ _ _ y).trans ?_
  refine (gated_at m c t (y 0) (y 1)).trans ?_
  refine (rows_place _ t (y 0) (y 1)).trans ?_
  refine congrArg (rowsOf _) ?_
  blk_ext [idx12 t]

theorem arr13_eq : (dats m 0 c).arrAt 13 cfg0.N = rowsOf (zVal (aX m c) (aG m c) (aB m c) (aW m c) 2048 (by decide)) := by
  refine (dats m 0 c).arrAt_eq_of_covers 13 _ (by decide +kernel) fun t hf y => ?_
  blk_simp
  refine (congrFun (after0_13 m c t) y).trans ?_
  refine (out13_at _ _ _ _ _ _ _ _ _ _ _ _ y).trans ?_
  refine (prod_at m c t (y 0) _ _ fun d => wBlk5_at m c t d (y 1)).trans ?_
  refine (rows_place (zVal (aX m c) (aG m c) (aB m c) (aW m c) 2048 (by decide)) t (y 0) (y 1)).trans ?_
  refine congrArg (rowsOf _) ?_
  blk_ext [idx13 t]

theorem arr14_eq : (dats m 0 c).arrAt 14 cfg0.N = lastOf (zVal (aX m c) (aG m c) (aB m c) (aW m c) 3072 (by decide)) := by
  refine (dats m 0 c).arrAt_eq_of_covers 14 _ (by decide +kernel) fun t hf y => ?_
  blk_simp
  refine (congrFun (after0_14 m c t) y).trans ?_
  refine (out14_at _ _ _ _ _ _ _ _ _ _ _ _ y).trans ?_
  refine (prod_at m c t _ _ _ fun d => wBlk6_at m c t d (y 1)).trans ?_
  refine (last_place (zVal (aX m c) (aG m c) (aB m c) (aW m c) 3072 (by decide)) t (y 0) (y 1) (y 2)).trans ?_
  refine congrArg (lastOf _) ?_
  blk_ext [idx14 t]

theorem arr15_eq : (dats m 0 c).arrAt 15 cfg0.N = lastOf (zVal (aX m c) (aG m c) (aB m c) (aW m c) 4096 (by decide)) := by
  refine (dats m 0 c).arrAt_eq_of_covers 15 _ (by decide +kernel) fun t hf y => ?_
  blk_simp
  refine (congrFun (after0_15 m c t) y).trans ?_
  refine (out15_at _ _ _ _ _ _ _ _ _ _ _ _ y).trans ?_
  refine (prod_at m c t _ _ _ fun d => wBlk7_at m c t d (y 1)).trans ?_
  refine (last_place (zVal (aX m c) (aG m c) (aB m c) (aW m c) 4096 (by decide)) t (y 0) (y 1) (y 2)).trans ?_
  refine congrArg (lastOf _) ?_
  blk_ext [idx15 t]

theorem arr16_eq : (dats m 0 c).arrAt 16 cfg0.N = lastOf (fVal (aX m c) (aG m c) (aB m c) (aW m c) (aF m c)) := by
  refine (dats m 0 c).arrAt_eq_of_covers 16 _ (by decide +kernel) fun t hf y => ?_
  blk_simp
  refine (congrFun (after0_16 m c t) y).trans ?_
  refine (out16_at _ _ _ _ _ _ _ _ _ _ _ _ y).trans ?_
  refine (forget_at m c t _ (y 1)).trans ?_
  refine (last_place (fVal (aX m c) (aG m c) (aB m c) (aW m c) (aF m c)) t (y 0) (y 1) (y 2)).trans ?_
  refine congrArg (lastOf _) ?_
  blk_ext [idx16 t]

theorem arr17_eq : (dats m 0 c).arrAt 17 cfg0.N = rowsOf (gVal (aX m c) (aG m c) (aB m c) (aW m c) 5136 (by decide)) := by
  refine (dats m 0 c).arrAt_eq_of_covers 17 _ (by decide +kernel) fun t hf y => ?_
  blk_simp
  refine (congrFun (after0_17 m c t) y).trans ?_
  refine (out17_at _ _ _ _ _ _ _ _ _ _ _ _ y).trans ?_
  refine (congrArg Ideal.logistic (prod_at m c t (y 0) _ _ fun d => wBlk9_at m c t d (y 1))).trans ?_
  refine (rows_place (gVal (aX m c) (aG m c) (aB m c) (aW m c) 5136 (by decide)) t (y 0) (y 1)).trans ?_
  refine congrArg (rowsOf _) ?_
  blk_ext [idx17 t]

theorem arr18_eq : (dats m 0 c).arrAt 18 cfg0.N = rowsOf (gVal (aX m c) (aG m c) (aB m c) (aW m c) 6160 (by decide)) := by
  refine (dats m 0 c).arrAt_eq_of_covers 18 _ (by decide +kernel) fun t hf y => ?_
  blk_simp
  refine (congrFun (after0_18 m c t) y).trans ?_
  refine (out18_at _ _ _ _ _ _ _ _ _ _ _ _ y).trans ?_
  refine (congrArg Ideal.logistic (prod_at m c t (y 0) _ _ fun d => wBlk10_at m c t d (y 1))).trans ?_
  refine (rows_place (gVal (aX m c) (aG m c) (aB m c) (aW m c) 6160 (by decide)) t (y 0) (y 1)).trans ?_
  refine congrArg (rowsOf _) ?_
  blk_ext [idx18 t]

end Cert.Proof.ProjSample
-- ==== Proof.ProjSampleRef.lean ====
/- The projection's reference at the sample's shapes, read at an index. -/
module

public import proofs.«01_k».proof.Proof.ProjSampleArrays
public import proofs.«01_k».proof.Proof.SampleRef
public import proofs.«01_k».proof.Proof.ProjRef
public import proofs.«01_k».proof.Proof.Gen.InprojSampleReferenceIdeal.Run

@[expose] public section

set_option maxRecDepth 16384

noncomputable section

namespace Cert.Proof.ProjSampleRef

open Cert.InprojSampleReferenceIdeal Cert.InprojSampleReferenceIdeal.Gen Cert.InprojSampleReferenceIdeal.Value Idealize.ShloMosaic Idealize.ShloMosaic.TcCoe Idealize.SL.Sem
open Cert.Proof.Proj (prod lsig)
open Cert.Proof.ProjSample (normed zed uVal zVal gVal fVal rowsOf lastOf)
open Cert.Proof.SampleRef (hid hid_apply sig sig_apply)

variable (x : FVec Ideal S32x64x1024 .f32) (g b : FVec Ideal S1024 .f32) (w : FVec Ideal S1024x7184 .f32) (f : FVec Ideal S16 .f32)

/-- The normalized rows' projection. -/
def zs : FVec Ideal S32x64x7184 .f32 :=
  Host.dotGeneral dot_S32x64x1024_S1024x7184_S32x64x7184_2_0_01_1_n_n none (hid x g b) w

theorem zs_apply (n : Fin 32) (t : Fin 64) (j : Fin 7184) : zs x g b w (ix3 n t j) = zed x g b w n t j := by
  unfold zed
  rw [show normed x g b n t = fun d => hid x g b (ix3 n t d) from funext fun d => (hid_apply x g b n t d).symm]
  unfold zs
  generalize hid x g b = h
  pointwise [prod]

/-- Some columns of the projection. -/
def cut (o : ℕ) (h : S32x64x7184.Slices ![0, 0, o] S32x64x1024) : FVec Ideal S32x64x1024 .f32 :=
  extractStridedSlice S32x64x1024 ![0, 0, o] (zs x g b w) h

theorem cut_apply (o : ℕ) (h : S32x64x7184.Slices ![0, 0, o] S32x64x1024) (ho : o + 1024 ≤ 7184) (n : Fin 32) (t : Fin 64) (e : Fin 1024) :
    cut x g b w o h (ix3 n t e) = zed x g b w n t ⟨o + e.val, by omega⟩ := by
  rw [← zs_apply]
  unfold cut
  generalize zs x g b w = z
  pointwise

/-- The logits of the forget gate, negated. -/
def neg (z : FVec Ideal S32x64x7184 .f32) : FVec Ideal S32x64x16 .f32 :=
  Host.negf (addf (extractStridedSlice S32x64x16 ![0, 0, 5120] z slices_S32x64x7184_S32x64x16_0_0_5120) (broadcastInDim S32x64x16 ![0, 1, 2] bcast_S1x1x16_S32x64x16_0_1_2 (broadcastInDim S1x1x16 ![2] bcast_S16_S1x1x16_2 f)))

/-- Zero at every head. -/
def nul : FVec Ideal S32x64x16 .f32 := broadcastInDim S32x64x16 ![] bcast_S_S32x64x16 (constant S_ .f32 0x00000000#32)

/-- The negated logarithm of one plus the exponential. -/
def logs (y : FVec Ideal S32x64x16 .f32) : FVec Ideal S32x16x64 .f32 :=
  transpose S32x16x64 [0, 2, 1] (Host.negf (select (cmpf .une (subf y nul) (subf y nul)) (addf y nul) (addf (maximumf y nul) (Host.log1p (Host.exp (Host.negf (Host.absf (subf y nul)))))))) transposes_S32x64x16_S32x16x64_0_2_1

theorem neg_apply (z : FVec Ideal S32x64x7184 .f32) (n : Fin 32) (t : Fin 64) (h : Fin 16) :
    neg f z (ix3 n t h) = -(z (ix3 n t ⟨5120 + h.val, by omega⟩) + f (ix1 h)) := by
  pointwise [neg]

theorem logs_apply (y : FVec Ideal S32x64x16 .f32) (z : EReal) (n : Fin 32) (t : Fin 64) (h : Fin 16) (hy : y (ix3 n t h) = -z) : logs y (ix3 n h t) = lsig z := by
  refine Eq.trans ?_ (ProjRef.lsig_eq' z)
  rw [← hy]
  pointwise [logs, nul]

theorem rows_apply (a : FVec Ideal S32x64x1024 .f32) (v : Fin 32 → Fin 64 → Fin 1024 → EReal) (h : ∀ n t e, a (ix3 n t e) = v n t e) :
    (shapeCast S2048x1024 a shapeCasts_S32x64x1024_S2048x1024 : FVec Ideal S2048x1024 .f32) = rowsOf v := by
  funext j
  obtain ⟨r, e, rfl⟩ : ∃ (r : Fin 2048) (e : Fin 1024), j = ix2 r e := ⟨j 0, j 1, by
    funext i
    match i with
    | ⟨0, _⟩ => rfl
    | ⟨1, _⟩ => rfl⟩
  refine Eq.trans ?_ (h ⟨r.val / 64, by omega⟩ ⟨r.val % 64, by omega⟩ e)
  pointwise

theorem idx_of {k : ℕ} (j : (⟨3, ![32, k, 64]⟩ : Shape).Idx) : j = ix3 (j 0) (j 1) (j 2) := by
  funext i
  match i with
  | ⟨0, _⟩ => rfl
  | ⟨1, _⟩ => rfl
  | ⟨2, _⟩ => rfl

theorem last_apply (a : FVec Ideal S32x64x1024 .f32) (v : Fin 32 → Fin 64 → Fin 1024 → EReal) (h : ∀ n t e, a (ix3 n t e) = v n t e) :
    (transpose S32x1024x64 [0, 2, 1] a transposes_S32x64x1024_S32x1024x64_0_2_1 : FVec Ideal S32x1024x64 .f32) = lastOf v := by
  funext j
  obtain ⟨n, e, t, rfl⟩ : ∃ (n : Fin 32) (e : Fin 1024) (t : Fin 64), j = ix3 n e t := ⟨_, _, _, idx_of j⟩
  refine Eq.trans ?_ (h n t e)
  pointwise

/-- The gated linear unit. -/
def resU : FVec Ideal S2048x1024 .f32 :=
  shapeCast _ (mulf (cut x g b w 0 slices_S32x64x7184_S32x64x1024_0_0_0) (sig (cut x g b w 1024 slices_S32x64x7184_S32x64x1024_0_0_1024))) shapeCasts_S32x64x1024_S2048x1024

theorem resU_eq : resU x g b w = rowsOf (uVal x g b w) :=
  rows_apply _ _ fun n t e => by
    refine congrArg₂ (· * ·) ((cut_apply x g b w 0 _ (by decide) n t e).trans ?_) ((sig_apply _ n t e).trans (congrArg Ideal.logistic (cut_apply x g b w 1024 _ (by decide) n t e)))
    exact congrArg (zed x g b w n t) (Fin.ext (Nat.zero_add _))

/-- Some columns as rows. -/
def resR (o : ℕ) (h : S32x64x7184.Slices ![0, 0, o] S32x64x1024) : FVec Ideal S2048x1024 .f32 :=
  shapeCast _ (cut x g b w o h) shapeCasts_S32x64x1024_S2048x1024

theorem resR_eq (o : ℕ) (h : S32x64x7184.Slices ![0, 0, o] S32x64x1024) (ho : o + 1024 ≤ 7184) : resR x g b w o h = rowsOf (zVal x g b w o ho) :=
  rows_apply _ _ (cut_apply x g b w o h ho)

/-- Some columns, the positions last. -/
def resL (o : ℕ) (h : S32x64x7184.Slices ![0, 0, o] S32x64x1024) : FVec Ideal S32x1024x64 .f32 :=
  transpose S32x1024x64 [0, 2, 1] (cut x g b w o h) transposes_S32x64x1024_S32x1024x64_0_2_1

theorem resL_eq (o : ℕ) (h : S32x64x7184.Slices ![0, 0, o] S32x64x1024) (ho : o + 1024 ≤ 7184) : resL x g b w o h = lastOf (zVal x g b w o ho) :=
  last_apply _ _ (cut_apply x g b w o h ho)

/-- The logarithms of the forget gates. -/
def resF : FVec Ideal S32x16x64 .f32 := logs (neg f (zs x g b w))

theorem resF_eq : resF x g b w f = lastOf (fVal x g b w f) := by
  funext j
  obtain ⟨n, h, t, rfl⟩ : ∃ (n : Fin 32) (h : Fin 16) (t : Fin 64), j = ix3 n h t := ⟨_, _, _, idx_of j⟩
  refine logs_apply _ _ n t h ((neg_apply f _ n t h).trans ?_)
  rw [zs_apply]
  rfl

/-- Some columns' gates as rows. -/
def resG (o : ℕ) (h : S32x64x7184.Slices ![0, 0, o] S32x64x1024) : FVec Ideal S2048x1024 .bf16 :=
  truncf .bf16 (shapeCast _ (sig (cut x g b w o h)) shapeCasts_S32x64x1024_S2048x1024) bitsLt_bf16_f32

theorem resG_eq (o : ℕ) (h : S32x64x7184.Slices ![0, 0, o] S32x64x1024) (ho : o + 1024 ≤ 7184) : resG x g b w o h = rowsOf (gVal x g b w o ho) :=
  rows_apply _ _ fun n t e => (sig_apply _ n t e).trans (congrArg Ideal.logistic (cut_apply x g b w o h ho n t e))

end Cert.Proof.ProjSampleRef
-- ==== Proof.ProjSampleValue.lean ====
/- The projection's results at the sample's shapes: the kernel's and the reference's are the same arrays. -/
module

public import proofs.«01_k».proof.Defs
public import proofs.«01_k».proof.Proof.ProjSampleRef
public import proofs.«01_k».proof.Proof.Gen.InprojSampleIdeal.Value

@[expose] public section

set_option maxRecDepth 16384

noncomputable section

namespace Cert.Proof.ProjSample

open Idealize.ShloMosaic Idealize.SL.Sem
open Cert.Proof.ProjSampleRef

section

open Cert.InprojSampleReferenceIdeal

variable (m' : (ℓ : Loc nD τ sig) → Buf (Elt Ideal) ℓ) (c : Dev nD)

/-- The reference's arguments. -/
abbrev bX : FVec Ideal S32x64x1024 .f32 := m' ((c.tc : Thread nD τ).loc main_arg0)
abbrev bG : FVec Ideal S1024 .f32 := m' ((c.tc : Thread nD τ).loc main_arg1)
abbrev bB : FVec Ideal S1024 .f32 := m' ((c.tc : Thread nD τ).loc main_arg2)
abbrev bW : FVec Ideal S1024x7184 .f32 := m' ((c.tc : Thread nD τ).loc main_arg3)
abbrev bF : FVec Ideal S16 .f32 := m' ((c.tc : Thread nD τ).loc main_arg4)

end

set_option maxHeartbeats 2000000 in
/-- At each device the seven arrays the launch leaves are the seven the reference computes. -/
theorem algebraic_inproj_sample : Cert.algebraic_InprojSampleIdeal_InprojSampleReferenceIdeal := fun m g m' g' _ ha =>
  ⟨fun c => (Cert.InprojSampleIdeal.Gen.dats m 0 c).arrAt 12 Cert.InprojSampleIdeal.cfg0.N,
    fun c => (Cert.InprojSampleIdeal.Gen.dats m 0 c).arrAt 13 Cert.InprojSampleIdeal.cfg0.N,
    fun c => (Cert.InprojSampleIdeal.Gen.dats m 0 c).arrAt 14 Cert.InprojSampleIdeal.cfg0.N,
    fun c => (Cert.InprojSampleIdeal.Gen.dats m 0 c).arrAt 15 Cert.InprojSampleIdeal.cfg0.N,
    fun c => (Cert.InprojSampleIdeal.Gen.dats m 0 c).arrAt 16 Cert.InprojSampleIdeal.cfg0.N,
    fun c => (Cert.InprojSampleIdeal.Gen.dats m 0 c).arrAt 17 Cert.InprojSampleIdeal.cfg0.N,
    fun c => (Cert.InprojSampleIdeal.Gen.dats m 0 c).arrAt 18 Cert.InprojSampleIdeal.cfg0.N,
    Cert.InprojSampleIdeal.Value.run_blocks m g,
    (θ_run _ _ _).mono (fun r h c => by
      obtain ⟨a0, a1, a2, a3, a4⟩ := ha c
      obtain ⟨h0, h1, h2, h3, h4, h5, h6, hr⟩ := h c
      refine ⟨h0.trans ?_, h1.trans ?_, h2.trans ?_, h3.trans ?_, h4.trans ?_, h5.trans ?_, h6.trans ?_, hr⟩
      · refine Eq.trans (b := resU (bX m' c) (bG m' c) (bB m' c) (bW m' c)) rfl ?_
        rw [show bX m' c = _ from a0, show bG m' c = _ from a1, show bB m' c = _ from a2, show bW m' c = _ from a3]
        exact (resU_eq _ _ _ _).trans (arr12_eq m c).symm
      · refine Eq.trans (b := resR (bX m' c) (bG m' c) (bB m' c) (bW m' c) 2048 _) rfl ?_
        rw [show bX m' c = _ from a0, show bG m' c = _ from a1, show bB m' c = _ from a2, show bW m' c = _ from a3]
        exact (resR_eq _ _ _ _ 2048 _ _).trans (arr13_eq m c).symm
      · refine Eq.trans (b := resL (bX m' c) (bG m' c) (bB m' c) (bW m' c) 3072 _) rfl ?_
        rw [show bX m' c = _ from a0, show bG m' c = _ from a1, show bB m' c = _ from a2, show bW m' c = _ from a3]
        exact (resL_eq _ _ _ _ 3072 _ _).trans (arr14_eq m c).symm
      · refine Eq.trans (b := resL (bX m' c) (bG m' c) (bB m' c) (bW m' c) 4096 _) rfl ?_
        rw [show bX m' c = _ from a0, show bG m' c = _ from a1, show bB m' c = _ from a2, show bW m' c = _ from a3]
        exact (resL_eq _ _ _ _ 4096 _ _).trans (arr15_eq m c).symm
      · refine Eq.trans (b := resF (bX m' c) (bG m' c) (bB m' c) (bW m' c) (bF m' c)) rfl ?_
        rw [show bX m' c = _ from a0, show bG m' c = _ from a1, show bB m' c = _ from a2, show bW m' c = _ from a3, show bF m' c = _ from a4]
        exact (resF_eq _ _ _ _ _).trans (arr16_eq m c).symm
      · refine Eq.trans (b := resG (bX m' c) (bG m' c) (bB m' c) (bW m' c) 5136 _) rfl ?_
        rw [show bX m' c = _ from a0, show bG m' c = _ from a1, show bB m' c = _ from a2, show bW m' c = _ from a3]
        exact (resG_eq _ _ _ _ 5136 _ _).trans (arr17_eq m c).symm
      · refine Eq.trans (b := resG (bX m' c) (bG m' c) (bB m' c) (bW m' c) 6160 _) rfl ?_
        rw [show bX m' c = _ from a0, show bG m' c = _ from a1, show bB m' c = _ from a2, show bW m' c = _ from a3]
        exact (resG_eq _ _ _ _ 6160 _ _).trans (arr18_eq m c).symm)
      (Cert.InprojSampleReferenceIdeal.Value.run (F := Ideal) m' g')⟩

end Cert.Proof.ProjSample

end
-- ==== Proof.RefPieces.lean ====
/- The reference's result cut into its steps, each read at an index. -/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Ref

open Cert.ReferenceIdeal Cert.ReferenceIdeal.Gen Cert.ReferenceIdeal.Value Idealize.ShloMosaic Idealize.ShloMosaic.TcCoe Idealize.SL.Sem

/-- The running sums of the log-forget values. -/
def sums (f : FVec Ideal S8x8192x16 .f32) : FVec Ideal S8x8192x16 .f32 :=
  Host.reduceWindowAdd ![1, 8192, 1] ![1, 1, 1] ![0, 8191, 0] ![0, 0, 0] f (broadcastInDim S_ ![] bcast_S_S_ (constant S_ .f32 0x00000000#32 : FVec Ideal S_ .f32)) reduceWindows_S8x8192x16_S8x8192x16_w1s1p0_0_w8192s1p8191_0_w1s1p0_0 h_S_

/-- The products of queries and keys. -/
def dots (q k : FVec Ideal S8x8192x1024 .f32) : FVec Ideal S8x16x8192x8192 .f32 :=
  Host.dotGeneral dot_S8x8192x16x64_S8x8192x16x64_S8x16x8192x8192_3_3_1_1_02_02 none (shapeCast _ q shapeCasts_S8x8192x1024_S8x8192x16x64) (shapeCast _ k shapeCasts_S8x8192x1024_S8x8192x16x64)

/-- The causal mask. -/
def mask : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The masked scores from the products and the running sums. -/
def scores (d : FVec Ideal S8x16x8192x8192 .f32) (s : FVec Ideal S8x8192x16 .f32) : FVec Ideal S8x16x8192x8192 .f32 :=
  select (broadcastInDim S8x16x8192x8192 ![2, 3] bcast_S8192x8192_S8x16x8192x8192_2_3 mask)
    (addf (mulf d (broadcastInDim S8x16x8192x8192 ![] bcast_S_S8x16x8192x8192 (constant S_ .f32 0x3E000000#32)))
      (subf (broadcastInDim S8x16x8192x8192 ![0, 1, 2, 3] bcast_S8x16x8192x1_S8x16x8192x8192_0_1_2_3 (broadcastInDim S8x16x8192x1 ![0, 1, 2] bcast_S8x16x8192_S8x16x8192x1_0_1_2 (transpose S8x16x8192 [0, 2, 1] s transposes_S8x8192x16_S8x16x8192_0_2_1)))
        (broadcastInDim S8x16x8192x8192 ![0, 1, 2, 3] bcast_S8x16x1x8192_S8x16x8192x8192_0_1_2_3 (broadcastInDim S8x16x1x8192 ![0, 1, 3] bcast_S8x16x8192_S8x16x1x8192_0_1_3 (transpose S8x16x8192 [0, 2, 1] s transposes_S8x8192x16_S8x16x8192_0_2_1)))))
    (broadcastInDim S8x16x8192x8192 ![] bcast_S_S8x16x8192x8192 (id (constant S_ .f32 0xFF800000#32)))

/-- The largest score of each query. -/
def tops (x : FVec Ideal S8x16x8192x8192 .f32) : FVec Ideal S8x16x8192 .f32 :=
  maximumf (broadcastInDim S8x16x8192 ![] bcast_S_S8x16x8192 (constant S_ .f32 0xFF800000#32)) (Host.reduce FloatOps.maximumf x (constant S_ .f32 0xFF800000#32) reducesTo_S8x16x8192x8192_S8x16x8192_d3 h_S_)

/-- The exponentials of the scores below the largest. -/
def exps (x : FVec Ideal S8x16x8192x8192 .f32) (t : FVec Ideal S8x16x8192 .f32) : FVec Ideal S8x16x8192x8192 .f32 :=
  Host.exp (subf x (broadcastInDim S8x16x8192x8192 ![0, 1, 2, 3] bcast_S8x16x8192x1_S8x16x8192x8192_0_1_2_3 (broadcastInDim S8x16x8192x1 ![0, 1, 2] bcast_S8x16x8192_S8x16x8192x1_0_1_2 t)))

/-- Their sums. -/
def norms (e : FVec Ideal S8x16x8192x8192 .f32) : FVec Ideal S8x16x8192 .f32 :=
  Host.reduceAdd e (constant S_ .f32 0x00000000#32) reducesTo_S8x16x8192x8192_S8x16x8192_d3 h_S_

/-- The weights. -/
def weights (e : FVec Ideal S8x16x8192x8192 .f32) (n : FVec Ideal S8x16x8192 .f32) : FVec Ideal S8x16x8192x8192 .f32 :=
  Host.divf e (broadcastInDim S8x16x8192x8192 ![0, 1, 2, 3] bcast_S8x16x8192x1_S8x16x8192x8192_0_1_2_3 (broadcastInDim S8x16x8192x1 ![0, 1, 2] bcast_S8x16x8192_S8x16x8192x1_0_1_2 n))

/-- The weighted sums of the values. -/
def mix (v : FVec Ideal S8x8192x1024 .f32) (w : FVec Ideal S8x16x8192x8192 .f32) : FVec Ideal S8x16x64x8192 .f32 :=
  Host.dotGeneral dot_S8x8192x16x64_S8x16x8192x8192_S8x16x64x8192_1_3_3_2_02_01 none (shapeCast _ v shapeCasts_S8x8192x1024_S8x8192x16x64) w

/-- The heads side by side, rounded. -/
def flat (x : FVec Ideal S8x16x64x8192 .f32) : FVec Ideal S8x8192x1024 .bf16 :=
  truncf .bf16 (shapeCast _ (transpose S8x8192x16x64 [0, 3, 1, 2] x transposes_S8x16x64x8192_S8x8192x16x64_0_3_1_2 : FVec Ideal S8x8192x16x64 .f32) shapeCasts_S8x8192x16x64_S8x8192x1024 : FVec Ideal S8x8192x1024 .f32) bitsLt_bf16_f32

/-- The masked scores from the arguments. -/
def sc (q k : FVec Ideal S8x8192x1024 .f32) (f : FVec Ideal S8x8192x16 .f32) : FVec Ideal S8x16x8192x8192 .f32 := scores (dots q k) (sums f)

/-- The exponentials from the arguments. -/
def ex (q k : FVec Ideal S8x8192x1024 .f32) (f : FVec Ideal S8x8192x16 .f32) : FVec Ideal S8x16x8192x8192 .f32 := exps (sc q k f) (tops (sc q k f))

/-- The result from the arguments. -/
def res (q k v : FVec Ideal S8x8192x1024 .f32) (f : FVec Ideal S8x8192x16 .f32) : FVec Ideal S8x8192x1024 .bf16 :=
  flat (mix v (weights (ex q k f) (norms (ex q k f))))

/-- The reference's result is these steps. -/
theorem res_eq (m : (ℓ : Loc nD τ sig) → Buf (Elt Ideal) ℓ) (c : Dev nD) :
    res_main_v35 m c = res (m ((c.tc : Thread nD τ).loc main_arg0)) (m ((c.tc : Thread nD τ).loc main_arg1)) (m ((c.tc : Thread nD τ).loc main_arg2)) (m ((c.tc : Thread nD τ).loc main_arg3)) := rfl

theorem dots_apply (q k : FVec Ideal S8x8192x1024 .f32) (b : Fin 8) (h : Fin 16) (t s : Fin 8192) :
    dots q k (ix4 b h t s) = ∑ d : Fin 64, q (ix3 b t ⟨h.val * 64 + d.val, by omega⟩) * k (ix3 b s ⟨h.val * 64 + d.val, by omega⟩) := by
  pointwise [dots]

theorem scores_apply (d : FVec Ideal S8x16x8192x8192 .f32) (u : FVec Ideal S8x8192x16 .f32) (b : Fin 8) (h : Fin 16) (t s : Fin 8192) :
    scores d u (ix4 b h t s) = Scalar.select (IntOp.cmpi .sle (BitVec.ofNat 32 s.val) (BitVec.ofNat 32 t.val))
      (d (ix4 b h t s) * Ideal.ofBits .f32 0x3E000000#32 + (u (ix3 b t h) - u (ix3 b s h))) (Ideal.ofBits .f32 0xFF800000#32) := by
  pointwise [scores, mask, id]

theorem exps_apply (x : FVec Ideal S8x16x8192x8192 .f32) (u : FVec Ideal S8x16x8192 .f32) (b : Fin 8) (h : Fin 16) (t s : Fin 8192) :
    exps x u (ix4 b h t s) = Ideal.exp (x (ix4 b h t s) - u (ix3 b h t)) := by
  pointwise [exps]

theorem weights_apply (x : FVec Ideal S8x16x8192x8192 .f32) (u : FVec Ideal S8x16x8192 .f32) (b : Fin 8) (h : Fin 16) (t s : Fin 8192) :
    weights x u (ix4 b h t s) = Ideal.div (x (ix4 b h t s)) (u (ix3 b h t)) := by
  pointwise [weights]

theorem flat_apply (x : FVec Ideal S8x16x64x8192 .f32) (b : Fin 8) (t : Fin 8192) (e : Fin 1024) :
    flat x (ix3 b t e) = x (ix4 b ⟨e.val / 64, by omega⟩ ⟨e.val % 64, by omega⟩ t) := by
  pointwise [flat]

theorem mix_apply (v : FVec Ideal S8x8192x1024 .f32) (w : FVec Ideal S8x16x8192x8192 .f32) (b : Fin 8) (h : Fin 16) (d : Fin 64) (t : Fin 8192) :
    mix v w (ix4 b h d t) = ∑ s : Fin 8192, v (ix3 b s ⟨h.val * 64 + d.val, by omega⟩) * w (ix4 b h t s) := by
  pointwise [mix]

theorem norms_apply (x : FVec Ideal S8x16x8192x8192 .f32) (b : Fin 8) (h : Fin 16) (t : Fin 8192) :
    norms x (ix3 b h t) = ∑ s : Fin 8192, x (ix4 b h t s) := by
  pointwise [norms]

/-- A maximum over the last of four axes, at an index. -/
theorem top_fold {n0 n1 n2 n3 : ℕ} (h : (⟨4, ![n0, n1, n2, n3]⟩ : Shape).ReducesTo [3] ⟨3, ![n0, n1, n2]⟩) (x : FVec Ideal ⟨4, ![n0, n1, n2, n3]⟩ .f32) {u : Shape} (init : u.Idx → Ideal .f32) (hu : 0 < u.numel)
    (a : Fin n0) (b : Fin n1) (c : Fin n2) :
    Host.reduce FloatOps.maximumf x init h hu (ix3 a b c) = Finset.univ.fold max (init (Shape.Idx.first hu)) fun s : Fin n3 => x (ix4 a b c s) := by
  pointwise

theorem max_at {s : Shape} (a b : FVec Ideal s .f32) (j : s.Idx) : maximumf a b j = max (a j) (b j) := rfl

theorem ofBits_bot : Ideal.ofBits .f32 4286578688#32 = (⊥ : EReal) := by
  simp [Ideal.ofBits, Ideal.ieee]

theorem floor_bot (j : S_.Idx) : (constant S_ .f32 0xFF800000#32 : FVec Ideal S_ .f32) j = (⊥ : EReal) := ofBits_bot

theorem floors_bot (j : S8x16x8192.Idx) : broadcastInDim S8x16x8192 ![] bcast_S_S8x16x8192 (constant S_ .f32 0xFF800000#32 : FVec Ideal S_ .f32) j = (⊥ : EReal) := floor_bot _

theorem tops_apply (x : FVec Ideal S8x16x8192x8192 .f32) (b : Fin 8) (h : Fin 16) (t : Fin 8192) :
    tops x (ix3 b h t) = Finset.univ.fold max (⊥ : EReal) fun s : Fin 8192 => x (ix4 b h t s) := by
  have e := (max_at (broadcastInDim S8x16x8192 ![] bcast_S_S8x16x8192 (constant S_ .f32 0xFF800000#32 : FVec Ideal S_ .f32)) (Host.reduce FloatOps.maximumf x (constant S_ .f32 0xFF800000#32 : FVec Ideal S_ .f32) reducesTo_S8x16x8192x8192_S8x16x8192_d3 h_S_) (ix3 b h t)).trans
    (congrArg₂ max (floors_bot (ix3 b h t)) (top_fold reducesTo_S8x16x8192x8192_S8x16x8192_d3 x (constant S_ .f32 0xFF800000#32 : FVec Ideal S_ .f32) h_S_ b h t))
  rw [floor_bot, max_eq_right bot_le] at e
  exact e

end Cert.Proof.Ref
-- ==== Proof.Fold.lean ====
/- Sums of powers of two kept below a running maximum, over the extended reals: the arithmetic of one folding step, and
   of the quotient at the end. -/
module

public import Idealize.ShloMosaic.Lib.Pointwise

@[expose] public section

noncomputable section

namespace Cert.Proof.Fold

open Idealize.ShloMosaic

/-- Two to a real power. -/
def pow2 (r : ℝ) : ℝ := Real.rpow 2 r

theorem pow2_add (a b : ℝ) : pow2 (a + b) = pow2 a * pow2 b := Real.rpow_add (by norm_num) a b

theorem pow2_pos (a : ℝ) : 0 < pow2 a := Real.rpow_pos_of_pos (by norm_num) a

theorem exp2_coe (r : ℝ) : Ideal.exp2 (r : EReal) = ((pow2 r : ℝ) : EReal) := rfl

theorem exp2_bot : Ideal.exp2 ⊥ = 0 := rfl

/-- A real sum as an extended one. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := (EReal.coe_strictMono.monotone.map_max)

/-- A score that may be masked. -/
def score (P : Prop) [Decidable P] (S : ℝ) : EReal := if P then (S : EReal) else ⊥

/-- Its weight. -/
def weight (P : Prop) [Decidable P] (S : ℝ) : ℝ := if P then pow2 S else 0

theorem exp2_score (P : Prop) [Decidable P] (S M : ℝ) : Ideal.exp2 (score P S - (M : EReal)) = ((weight P S * pow2 (-M) : ℝ) : EReal) := by
  unfold score weight
  split
  · rw [← EReal.coe_sub, exp2_coe, ← pow2_add, sub_eq_add_neg]
  · rw [EReal.bot_sub, exp2_bot, zero_mul, EReal.coe_zero]

/-- The largest of scores of which one is not masked is real. -/
theorem fold_real {ι : Type} [Fintype ι] (P : ι → Prop) [∀ i, Decidable (P i)] (S : ι → ℝ) (h : ∃ i, P i) :
    ∃ R : ℝ, (Finset.univ.fold max (⊥ : EReal) fun i => score (P i) (S i)) = (R : EReal) := by
  classical
  have key : ∀ s : Finset ι, (s.fold max (⊥ : EReal) fun i => score (P i) (S i)) = ⊥ ∧ (∀ i ∈ s, ¬ P i) ∨ ∃ R : ℝ, (s.fold max (⊥ : EReal) fun i => score (P i) (S i)) = (R : EReal) := by
    intro s
    induction s using Finset.induction_on with
    | empty => exact .inl ⟨Finset.fold_empty, by simp⟩
    | insert a s ha ih =>
      rw [Finset.fold_insert ha]
      by_cases hp : P a
      · have e : score (P a) (S a) = (S a : EReal) := if_pos hp
        rw [e]
        rcases ih with ⟨h1, _⟩ | ⟨R, h1⟩
        · rw [h1]; exact .inr ⟨S a, max_eq_left bot_le⟩
        · rw [h1]; exact .inr ⟨max (S a) R, (coe_max _ _).symm⟩
      · have e : score (P a) (S a) = ⊥ := if_neg hp
        rw [e]
        rcases ih with ⟨h1, h2⟩ | ⟨R, h1⟩
        · rw [h1]; exact .inl ⟨max_self _, by intro i hi; rcases Finset.mem_insert.1 hi with rfl | hi; exacts [hp, h2 i hi]⟩
        · rw [h1]; exact .inr ⟨R, max_eq_right bot_le⟩
  rcases key Finset.univ with ⟨_, h2⟩ | h2
  · obtain ⟨i, hi⟩ := h; exact absurd hi (h2 i (Finset.mem_univ i))
  · exact h2

/-- The running sum `a` under the running maximum `m` stands for the sum `T`. -/
def Held (m a : EReal) (T : ℝ) : Prop := (m = ⊥ ∧ a = 0 ∧ T = 0) ∨ ∃ M : ℝ, m = (M : EReal) ∧ a = ((T * pow2 (-M) : ℝ) : EReal)

/-- Folding in a block. -/
theorem Held.step {m a : EReal} {T : ℝ} (h : Held m a T) {ι : Type} [Fintype ι] (P : ι → Prop) [∀ i, Decidable (P i)] (S v : ι → ℝ) (hP : ∃ i, P i) (r : EReal)
    (hr : r = Finset.univ.fold max (⊥ : EReal) fun i => score (P i) (S i)) :
    Held (max m r) (Ideal.exp2 (m - max m r) * a + ∑ i, (v i : EReal) * Ideal.exp2 (score (P i) (S i) - max m r)) (T + ∑ i, v i * weight (P i) (S i)) := by
  obtain ⟨R, hR⟩ := fold_real P S hP
  rw [← hr] at hR
  subst hR
  right
  have hs : ∀ M : ℝ, (∑ i, (v i : EReal) * Ideal.exp2 (score (P i) (S i) - (M : EReal))) = (((∑ i, v i * weight (P i) (S i)) * pow2 (-M) : ℝ) : EReal) := by
    intro M
    rw [Finset.sum_mul, coe_sum]
    refine Finset.sum_congr rfl fun i _ => ?_
    rw [exp2_score, ← EReal.coe_mul, mul_assoc]
  rcases h with ⟨rfl, rfl, rfl⟩ | ⟨M, rfl, rfl⟩
  · refine ⟨R, max_eq_right bot_le, ?_⟩
    rw [max_eq_right bot_le, mul_zero, zero_add, zero_add, hs]
  · refine ⟨max M R, (coe_max _ _).symm, ?_⟩
    rw [← coe_max, hs, ← EReal.coe_sub, exp2_coe, ← EReal.coe_mul, ← EReal.coe_add]
    congr 1
    have e : pow2 (-max M R) = pow2 (M - max M R) * pow2 (-M) := by rw [← pow2_add]; congr 1; ring
    rw [add_mul, e]; ring

theorem Held.start : Held ⊥ 0 0 := .inl ⟨rfl, rfl, rfl⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The quotient of two sums under one maximum. -/
theorem Held.div {m a b : EReal} {T U : ℝ} (h : Held m a T) (h' : Held m b U) (hU : 0 < U) : Ideal.div a b = ((T / U : ℝ) : EReal) := by
  rcases h' with ⟨_, _, rfl⟩ | ⟨M, rfl, rfl⟩
  · exact absurd hU (lt_irrefl _)
  rcases h with ⟨h, _, _⟩ | ⟨M', h, rfl⟩
  · exact absurd h (EReal.coe_ne_bot M)
  obtain rfl : M = M' := EReal.coe_injective h
  have hp := pow2_pos (-M)
  rw [div_coe _ _ (mul_pos hU hp).ne', mul_div_mul_right _ _ hp.ne']

end Cert.Proof.Fold
-- ==== Proof.RefValue.lean ====
/- The reference's result at an index, for real arguments: the quotient of two sums over the positions not after the query. -/
module

public import proofs.«01_k».proof.Proof.RefPieces
public import proofs.«01_k».proof.Proof.Fold
public import Idealize.ShloMosaic.Lib.WordCmp

@[expose] public section

set_option maxRecDepth 16384

noncomputable section

namespace Cert.Proof.Ref

open Cert.ReferenceIdeal Cert.ReferenceIdeal.Gen Cert.ReferenceIdeal.Value Idealize.ShloMosaic Idealize.ShloMosaic.TcCoe Idealize.SL.Sem Cert.Proof.Fold

theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- The positions of a window one entry wide but for its middle axis. -/
def column (R : ℕ) : Fin R ≃ (⟨3, ![1, R, 1]⟩ : Shape).Idx where
  toFun w := ix3 (0 : Fin 1) w (0 : Fin 1)
  invFun p := p 1
  left_inv w := rfl
  right_inv p := by
    funext a
    match a with
    | ⟨0, _⟩ => exact Subsingleton.elim (α := Fin 1) _ _
    | ⟨1, _⟩ => rfl
    | ⟨2, _⟩ => exact Subsingleton.elim (α := Fin 1) _ _

/-- The entries a window reads, the padding before them left out. -/
theorem tail_sum (f : ℕ → ℝ) {R m j : ℕ} (hR : m + 1 = R) (hj : j < R) : (∑ w ∈ Finset.range R, if m ≤ j + w then f (j + w - m) else 0) = ∑ s ∈ Finset.range (j + 1), f s := by
  obtain ⟨d, rfl⟩ : ∃ d, m = d + j := ⟨m - j, by omega⟩
  subst hR
  rw [show d + j + 1 = d + (j + 1) by omega, Finset.sum_range_add, Finset.sum_eq_zero, zero_add]
  · refine Finset.sum_congr rfl fun s _ => ?_
    rw [if_pos (by omega)]
    exact congrArg f (by omega)
  · intro w hw
    have := Finset.mem_range.1 hw
    exact if_neg (by omega)

/-- A sum over a window that ends at an entry of the middle axis, at an index. -/
theorem window_sum {A R C m : ℕ} (hR : m + 1 = R) (x : (⟨3, ![A, R, C]⟩ : Shape).Idx → EReal) {u : Shape} (init : u.Idx → EReal) (hu : 0 < u.numel) (hv : init (Shape.Idx.first hu) = 0)
    (h : (⟨3, ![A, R, C]⟩ : Shape).ReduceWindows ![1, R, 1] ![1, 1, 1] ![0, m, 0] ![0, 0, 0] ⟨3, ![A, R, C]⟩) (a : Fin A) (j : Fin R) (c : Fin C) (f : ℕ → ℝ) (hx : ∀ i : Fin R, x (ix3 a i c) = ((f i.val : ℝ) : EReal)) :
    Host.reduceWindow (fun p q : EReal => p + q) ![1, R, 1] ![1, 1, 1] ![0, m, 0] ![0, 0, 0] x init h hu (ix3 a j c) = ((∑ s ∈ Finset.range (j.val + 1), f s : ℝ) : EReal) := by
  have hj := j.isLt
  have ha := a.isLt
  have hc := c.isLt
  unfold Host.reduceWindow
  dsimp only
  rw [foldl_add, hv, zero_add, ← Fin.sum_univ_def]
  obtain ⟨G, hG⟩ : ∃ G : (⟨3, ![1, R, 1]⟩ : Shape).Idx → EReal, ∀ p, G p = ((if m ≤ j.val + (p 1).val then f (j.val + (p 1).val - m) else 0 : ℝ) : EReal) := ⟨_, fun _ => rfl⟩
  refine (Finset.sum_congr rfl (g := fun n => G ((⟨3, ![1, R, 1]⟩ : Shape).rowMajor.symm n)) fun n _ => ?_).trans ?_
  · rw [hG]
    have p0 : ((⟨3, ![1, R, 1]⟩ : Shape).rowMajor.symm n 0).val = 0 := Nat.lt_one_iff.1 ((⟨3, ![1, R, 1]⟩ : Shape).rowMajor.symm n 0).isLt
    have p2 : ((⟨3, ![1, R, 1]⟩ : Shape).rowMajor.symm n 2).val = 0 := Nat.lt_one_iff.1 ((⟨3, ![1, R, 1]⟩ : Shape).rowMajor.symm n 2).isLt
    have p1 : ((⟨3, ![1, R, 1]⟩ : Shape).rowMajor.symm n 1).val < R := ((⟨3, ![1, R, 1]⟩ : Shape).rowMajor.symm n 1).isLt
    split
    · next hin =>
      have h1 := hin 1
      change m ≤ j.val * 1 + ((⟨3, ![1, R, 1]⟩ : Shape).rowMajor.symm n 1).val ∧ j.val * 1 + ((⟨3, ![1, R, 1]⟩ : Shape).rowMajor.symm n 1).val - m < R at h1
      rw [if_pos (by omega)]
      refine (congrArg x (funext fun b => Fin.ext ?_)).trans (hx ⟨j.val + ((⟨3, ![1, R, 1]⟩ : Shape).rowMajor.symm n 1).val - m, by omega⟩)
      match b with
      | ⟨0, _⟩ => show a.val * 1 + ((⟨3, ![1, R, 1]⟩ : Shape).rowMajor.symm n 0).val - 0 = a.val; omega
      | ⟨1, _⟩ => show j.val * 1 + ((⟨3, ![1, R, 1]⟩ : Shape).rowMajor.symm n 1).val - m = j.val + ((⟨3, ![1, R, 1]⟩ : Shape).rowMajor.symm n 1).val - m; omega
      | ⟨2, _⟩ => show c.val * 1 + ((⟨3, ![1, R, 1]⟩ : Shape).rowMajor.symm n 2).val - 0 = c.val; omega
    · next hin =>
      rw [if_neg fun hle => hin fun b => by
        match b with
        | ⟨0, _⟩ => show 0 ≤ a.val * 1 + ((⟨3, ![1, R, 1]⟩ : Shape).rowMajor.symm n 0).val ∧ a.val * 1 + ((⟨3, ![1, R, 1]⟩ : Shape).rowMajor.symm n 0).val - 0 < A; omega
        | ⟨1, _⟩ => show m ≤ j.val * 1 + ((⟨3, ![1, R, 1]⟩ : Shape).rowMajor.symm n 1).val ∧ j.val * 1 + ((⟨3, ![1, R, 1]⟩ : Shape).rowMajor.symm n 1).val - m < R; omega
        | ⟨2, _⟩ => show 0 ≤ c.val * 1 + ((⟨3, ![1, R, 1]⟩ : Shape).rowMajor.symm n 2).val ∧ c.val * 1 + ((⟨3, ![1, R, 1]⟩ : Shape).rowMajor.symm n 2).val - 0 < C; omega]
      rfl
  rw [Equiv.sum_comp (M := EReal) (⟨3, ![1, R, 1]⟩ : Shape).rowMajor.symm G, ← Equiv.sum_comp (M := EReal) (column R)]
  refine Eq.trans (b := ∑ w : Fin R, ((if m ≤ j.val + w.val then f (j.val + w.val - m) else 0 : ℝ) : EReal)) (Finset.sum_congr rfl fun w _ => hG _) ?_
  · rw [← coe_sum]
    congr 1
    rw [Fin.sum_univ_eq_sum_range (fun w => if m ≤ j.val + w then f (j.val + w - m) else 0) R]
    exact tail_sum f hR hj

/-- The same as the host's operation. -/
theorem window_add {A R C m : ℕ} (hR : m + 1 = R) (x : FVec Ideal ⟨3, ![A, R, C]⟩ .f32) {u : Shape} (init : FVec Ideal u .f32) (hu : 0 < u.numel) (hv : init (Shape.Idx.first hu) = (0 : EReal))
    (h : (⟨3, ![A, R, C]⟩ : Shape).ReduceWindows ![1, R, 1] ![1, 1, 1] ![0, m, 0] ![0, 0, 0] ⟨3, ![A, R, C]⟩) (a : Fin A) (j : Fin R) (c : Fin C) (f : ℕ → ℝ) (hx : ∀ i : Fin R, x (ix3 a i c) = ((f i.val : ℝ) : EReal)) :
    Host.reduceWindowAdd ![1, R, 1] ![1, 1, 1] ![0, m, 0] ![0, 0, 0] x init h hu (ix3 a j c) = ((∑ s ∈ Finset.range (j.val + 1), f s : ℝ) : EReal) :=
  window_sum hR x (fun _ : (⟨0, ![]⟩ : Shape).Idx => init (Shape.Idx.first hu)) (by decide) hv h a j c f hx

/-- An array of three axes that holds real numbers. -/
def Holds {A B C : ℕ} (x : (⟨3, ![A, B, C]⟩ : Shape).Idx → EReal) (X : ℕ → ℕ → ℕ → ℝ) : Prop := ∀ (a : Fin A) (b : Fin B) (c : Fin C), x (ix3 a b c) = ((X a.val b.val c.val : ℝ) : EReal)

/-- The running sum of a head's log-forget values. -/
def run (L : ℕ → ℕ → ℕ → ℝ) (b h t : ℕ) : ℝ := ∑ s ∈ Finset.range (t + 1), L b s h

/-- The product of a query and a key of a head. -/
def dot (Q K : ℕ → ℕ → ℕ → ℝ) (b h t s : ℕ) : ℝ := ∑ d : Fin 64, Q b t (h * 64 + d) * K b s (h * 64 + d)

theorem init_zero : broadcastInDim S_ ![] bcast_S_S_ (constant S_ .f32 0x00000000#32 : FVec Ideal S_ .f32) (Shape.Idx.first h_S_) = (0 : EReal) := by
  show Ideal.ofBits .f32 0x00000000#32 = 0
  simp [Ideal.ofBits, Ideal.ieee]

theorem sums_at {f : FVec Ideal S8x8192x16 .f32} {L : ℕ → ℕ → ℕ → ℝ} (H : Holds f L) (b : Fin 8) (t : Fin 8192) (h : Fin 16) : sums f (ix3 b t h) = ((run L b.val h.val t.val : ℝ) : EReal) := by
  unfold sums run
  exact window_add (by norm_num) f _ h_S_ init_zero _ b t h (fun s => L b.val s h.val) fun i => H b i h

theorem dots_at {q k : FVec Ideal S8x8192x1024 .f32} {Q K : ℕ → ℕ → ℕ → ℝ} (HQ : Holds q Q) (HK : Holds k K) (b : Fin 8) (h : Fin 16) (t s : Fin 8192) :
    dots q k (ix4 b h t s) = ((dot Q K b h t s : ℝ) : EReal) := by
  rw [dots_apply]
  unfold dot
  rw [coe_sum]
  exact Finset.sum_congr rfl fun d _ => by rw [HQ, HK, ← EReal.coe_mul]

theorem eighth : Ideal.ofBits .f32 0x3E000000#32 = (((1 / 8 : ℝ)) : EReal) := by
  simp [Ideal.ofBits, Ideal.ieee, -EReal.coe_mul]
  norm_num

theorem later (s t : Fin 8192) : IntOp.cmpi .sle (BitVec.ofNat 32 s.val) (BitVec.ofNat 32 t.val) = 1#1 ↔ s.val ≤ t.val := by
  word_cmp

/-- A score of the reference. -/
def refScore (Q K L : ℕ → ℕ → ℕ → ℝ) (b h t s : ℕ) : ℝ := dot Q K b h t s * (1 / 8) + (run L b h t - run L b h s)

theorem sc_at {q k : FVec Ideal S8x8192x1024 .f32} {f : FVec Ideal S8x8192x16 .f32} {Q K L : ℕ → ℕ → ℕ → ℝ} (HQ : Holds q Q) (HK : Holds k K) (HL : Holds f L) (b : Fin 8) (h : Fin 16) (t s : Fin 8192) :
    sc q k f (ix4 b h t s) = score (s.val ≤ t.val) (refScore Q K L b h t s) := by
  unfold sc
  rw [scores_apply, dots_at HQ HK, sums_at HL, sums_at HL, eighth, ofBits_bot, ← EReal.coe_mul, ← EReal.coe_sub, ← EReal.coe_add]
  show (if _ = 1#1 then _ else _) = _
  unfold score refScore
  by_cases hs : s.val ≤ t.val
  · rw [if_pos ((later s t).2 hs), if_pos hs]
  · rw [if_neg (fun e => hs ((later s t).1 e)), if_neg hs]

/-- The weight of a position under a largest score. -/
def refWeight (Q K L : ℕ → ℕ → ℕ → ℝ) (M : ℝ) (b h t s : ℕ) : ℝ := if s ≤ t then Real.exp (refScore Q K L b h t s - M) else 0

theorem exp_score (P : Prop) [Decidable P] (S M : ℝ) : Ideal.exp (score P S - (M : EReal)) = ((if P then Real.exp (S - M) else 0 : ℝ) : EReal) := by
  unfold score
  split
  · rw [← EReal.coe_sub]; rfl
  · rw [EReal.bot_sub]; rfl

/-- What a position counts for, but for a factor common to the query's positions. -/
def part (Q K L : ℕ → ℕ → ℕ → ℝ) (b h t s : ℕ) : ℝ := Real.exp (dot Q K b h t s * (1 / 8) - run L b h s)

/-- A quotient of weighted sums, the factor common to the weights taken out. -/
theorem quot (n t : ℕ) (ht : t < n) (v p w : ℕ → ℝ) (c : ℝ) (hc : 0 < c) (hp : ∀ s, 0 < p s) (hw : ∀ s, w s = if s ≤ t then p s * c else 0) :
    (0 < ∑ s : Fin n, w s) ∧ (∑ s : Fin n, v s * (w s / ∑ r : Fin n, w r)) = (∑ s ∈ Finset.range (t + 1), v s * p s) / (∑ s ∈ Finset.range (t + 1), p s) := by
  have key : ∀ u : ℕ → ℝ, (∑ s : Fin n, u s * w s) = (∑ s ∈ Finset.range (t + 1), u s * p s) * c := by
    intro u
    obtain ⟨d, rfl⟩ : ∃ d, n = t + 1 + d := ⟨n - (t + 1), by omega⟩
    rw [Fin.sum_univ_eq_sum_range (fun s => u s * w s), Finset.sum_range_add, Finset.sum_mul, Finset.sum_eq_zero (s := Finset.range d), add_zero]
    · refine Finset.sum_congr rfl fun s hs => ?_
      have := Finset.mem_range.1 hs
      rw [hw, if_pos (by omega), mul_assoc]
    · intro s _
      rw [hw, if_neg (by omega), mul_zero]
  have h1 := key fun _ => 1
  simp only [one_mul] at h1
  have hpos : 0 < ∑ s ∈ Finset.range (t + 1), p s := Finset.sum_pos (fun s _ => hp s) ⟨0, Finset.mem_range.2 (by omega)⟩
  refine ⟨h1 ▸ mul_pos hpos hc, ?_⟩
  rw [← mul_div_mul_right _ _ hc.ne', ← key, ← h1, Finset.sum_div]
  exact Finset.sum_congr rfl fun s _ => by rw [mul_div_assoc]

theorem refWeight_eq (Q K L : ℕ → ℕ → ℕ → ℝ) (M : ℝ) (b h t s : ℕ) : refWeight Q K L M b h t s = if s ≤ t then part Q K L b h t s * Real.exp (run L b h t - M) else 0 := by
  unfold refWeight part refScore
  split
  · rw [← Real.exp_add]
    congr 1
    ring
  · rfl

/-- A sum of real products, over the extended reals. -/
theorem coe_mix {n : ℕ} (x y : Fin n → EReal) (v w : ℕ → ℝ) (hx : ∀ s : Fin n, x s = ((v s.val : ℝ) : EReal)) (hy : ∀ s : Fin n, y s = ((w s.val : ℝ) : EReal)) :
    (∑ s : Fin n, x s * y s) = ((∑ s : Fin n, v s.val * w s.val : ℝ) : EReal) := by
  rw [coe_sum]
  exact Finset.sum_congr rfl fun s _ => by rw [hx, hy, ← EReal.coe_mul]

theorem coe_total {n : ℕ} (x : Fin n → EReal) (v : ℕ → ℝ) (hx : ∀ s : Fin n, x s = ((v s.val : ℝ) : EReal)) : (∑ s : Fin n, x s) = ((∑ s : Fin n, v s.val : ℝ) : EReal) := by
  rw [coe_sum]
  exact Finset.sum_congr rfl fun s _ => hx s

/-- The reference's result at an index. -/
theorem res_at {q k v : FVec Ideal S8x8192x1024 .f32} {f : FVec Ideal S8x8192x16 .f32} {Q K V L : ℕ → ℕ → ℕ → ℝ} (HQ : Holds q Q) (HK : Holds k K) (HV : Holds v V) (HL : Holds f L) (b : Fin 8) (t : Fin 8192) (e : Fin 1024) :
    res q k v f (ix3 b t e) = (((∑ s ∈ Finset.range (t.val + 1), V b.val s e.val * part Q K L b.val (e.val / 64) t.val s) / (∑ s ∈ Finset.range (t.val + 1), part Q K L b.val (e.val / 64) t.val s) : ℝ) : EReal) := by
  have he := e.isLt
  have hh : e.val / 64 < 16 := by omega
  obtain ⟨M, hM⟩ := fold_real (fun s : Fin 8192 => s.val ≤ t.val) (fun s => refScore Q K L b.val (e.val / 64) t.val s.val) ⟨t, le_refl _⟩
  have hT : tops (sc q k f) (ix3 b ⟨e.val / 64, hh⟩ t) = (M : EReal) := by
    rw [tops_apply, ← hM]
    exact congrArg (fun g => Finset.univ.fold max (⊥ : EReal) g) (funext fun s => sc_at HQ HK HL b ⟨e.val / 64, hh⟩ t s)
  have hE : ∀ s : Fin 8192, ex q k f (ix4 b ⟨e.val / 64, hh⟩ t s) = ((refWeight Q K L M b.val (e.val / 64) t.val s.val : ℝ) : EReal) := by
    intro s
    unfold ex
    rw [exps_apply, hT, sc_at HQ HK HL, exp_score]
    rfl
  have hq := quot 8192 t.val t.isLt (fun s => V b.val s e.val) (part Q K L b.val (e.val / 64) t.val) (refWeight Q K L M b.val (e.val / 64) t.val) (Real.exp (run L b.val (e.val / 64) t.val - M)) (Real.exp_pos _) (fun s => Real.exp_pos _)
    (refWeight_eq Q K L M b.val (e.val / 64) t.val)
  have hN := (norms_apply (ex q k f) b ⟨e.val / 64, hh⟩ t).trans (coe_total _ _ hE)
  have hW : ∀ s : Fin 8192, weights (ex q k f) (norms (ex q k f)) (ix4 b ⟨e.val / 64, hh⟩ t s) = ((refWeight Q K L M b.val (e.val / 64) t.val s.val / ∑ r : Fin 8192, refWeight Q K L M b.val (e.val / 64) t.val r.val : ℝ) : EReal) := by
    intro s
    rw [weights_apply, hE, hN, div_coe _ _ hq.1.ne']
  have hv : ∀ s : Fin 8192, v (ix3 b s ⟨(⟨e.val / 64, hh⟩ : Fin 16).val * 64 + (⟨e.val % 64, Nat.mod_lt _ (by norm_num)⟩ : Fin 64).val, by show e.val / 64 * 64 + e.val % 64 < 1024; omega⟩) = ((V b.val s.val e.val : ℝ) : EReal) := by
    intro s
    rw [HV]
    exact congrArg (fun x => ((V b.val s.val x : ℝ) : EReal)) (show e.val / 64 * 64 + e.val % 64 = e.val by omega)
  unfold res
  rw [flat_apply, mix_apply]
  exact (coe_mix _ _ (fun s => V b.val s e.val) (fun s => refWeight Q K L M b.val (e.val / 64) t.val s / ∑ r : Fin 8192, refWeight Q K L M b.val (e.val / 64) t.val r.val) hv hW).trans (congrArg (fun r : ℝ => (r : EReal)) hq.2)

end Cert.Proof.Ref
-- ==== Proof.Finite.lean ====
/- The precondition read back: every element of the four arguments is a real number. -/
module

public import proofs.«01_k».proof.Pre_finite
public import proofs.«01_k».proof.Proof.RefValue
public import Idealize.ShloMosaic.Lib.ReduceAll

@[expose] public section

set_option maxRecDepth 16384

noncomputable section

namespace Cert.Proof.Finite

open Idealize.ShloMosaic Cert.Pre_finite
open Cert.Proof.Ref (Holds)

/-- The relations between shapes that the precondition's operations take. -/
theorem facts : Cert.Pre_finite.Facts where
  bcast_S_S8x8192x1024 := by decide
  reducesTo_S8x8192x1024_S_d0_1_2 := by decide
  h_S_ := by decide
  bcast_S_S8x8192x16 := by decide
  reducesTo_S8x8192x16_S_d0_1_2 := by decide

theorem ofBits_top : Ideal.ofBits .f32 0x7F800000#32 = ⊤ := by simp [Ideal.ofBits, Ideal.ieee]

/-- What has an absolute value below ⊤ is neither infinity. -/
theorem real_of_lt {x : EReal} (h : max x (-x) < ⊤) : x ≠ ⊤ ∧ x ≠ ⊥ := by
  constructor
  · rintro rfl; simp at h
  · rintro rfl; simp at h

/-- An `all` over the comparisons that came out 1: every element is real. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf (F := Ideal) .olt (Host.absf x) (broadcastInDim s ![] hb (constant S_ .f32 0x7F800000#32))) (constantI S_ 1 1#1) hr hu j = 1#1) (i : s.Idx) : x i ≠ ⊤ ∧ x i ≠ ⊥ := by
  haveI : Subsingleton S_.Idx := ⟨fun a b => funext fun d => d.elim0⟩
  have h := Host.reduce_andi_all _ _ hr hu j e i
  have h' : Ideal.cmp .olt (max (x i) (-(x i))) (Ideal.ofBits .f32 0x7F800000#32) = 1#1 := h
  rw [ofBits_top] at h'
  refine real_of_lt ?_
  by_contra hn
  simp [Ideal.cmp, hn] at h'

/-- The reals an array holds, 0 beyond its extents. -/
def reals {A B C : ℕ} (x : (⟨3, ![A, B, C]⟩ : Shape).Idx → EReal) (a b c : ℕ) : ℝ :=
  if h : a < A ∧ b < B ∧ c < C then (x (ix3 ⟨a, h.1⟩ ⟨b, h.2.1⟩ ⟨c, h.2.2⟩)).toReal else 0

theorem holds_reals {A B C : ℕ} (x : (⟨3, ![A, B, C]⟩ : Shape).Idx → EReal) (h : ∀ i, x i ≠ ⊤ ∧ x i ≠ ⊥) : Holds x (reals x) := fun a b c => by
  unfold reals
  rw [dif_pos ⟨a.isLt, b.isLt, c.isLt⟩]
  exact (EReal.coe_toReal (h _).1 (h _).2).symm

/-- The precondition gives each argument as an array of reals. -/
theorem holds_of_pre [Cert.Pre_finite.Facts] (q k v : FVec Ideal S8x8192x1024 .f32) (f : FVec Ideal S8x8192x16 .f32) (e : Cert.Pre_finite.fn (F := Ideal) q k v f = fun _ => 1#1) :
    Holds q (reals q) ∧ Holds k (reals k) ∧ Holds v (reals v) ∧ Holds f (reals f) := by
  have e0 := congrFun e (fun d => d.elim0)
  unfold Cert.Pre_finite.fn Cert.Pre_finite.fn_part1 at e0
  obtain ⟨e1, hf⟩ := IntOp.andi_eq_one.1 e0
  obtain ⟨e2, hv⟩ := IntOp.andi_eq_one.1 e1
  obtain ⟨hq, hk⟩ := IntOp.andi_eq_one.1 e2
  exact ⟨holds_reals q (real_of_all q _ _ _ _ hq), holds_reals k (real_of_all k _ _ _ _ hk), holds_reals v (real_of_all v _ _ _ _ hv), holds_reals f (real_of_all f _ _ _ _ hf)⟩

end Cert.Proof.Finite

end
-- ==== Proof.Sections.lean ====
/- The attention kernel's body cut along the lines of its source: filling the masked queries, scoring one key block
   ("produce"), folding one scored block into the running result ("consume"), and the closing division. Each piece is
   written once, in terms of the head, the lane tile and the row at which the key block begins; the printed body is
   these pieces in order. -/
module

public import proofs.«01_k».proof.Proof.Gen.KernelIdeal
public import proofs.«01_k».proof.Proof.Gen.KernelIdeal.Skeleton
public import Idealize.ShloMosaic.Lib.LoopRemainder

@[expose] public section

noncomputable section

namespace Cert.Proof.KernelIdeal

open Cert.KernelIdeal Cert.KernelIdeal.Gen Idealize.ShloMosaic Idealize.SL.Sem

variable {F : FTy → Type} [FloatOps F] [Named F]

/-- The value masked scores take. -/
def maskC : F .f32 := Named.named κ "mask" 0xF149F2CA#32

/-- A block of sizes `s` at offsets `a` lies inside, on two axes. -/
theorem inb2 {a0 a1 s0 s1 S0 S1 : ℕ} (h0 : a0 + s0 ≤ S0) (h1 : a1 + s1 ≤ S1) :
    ∀ a : Fin 2, (![a0, a1] : Fin 2 → ℕ) a + (![s0, s1] : Fin 2 → ℕ) a ≤ (![S0, S1] : Fin 2 → ℕ) a := by
  intro a; fin_cases a
  · exact h0
  · exact h1

/-- A block lies inside, on three axes. -/
theorem inb3 {a0 a1 a2 s0 s1 s2 S0 S1 S2 : ℕ} (h0 : a0 + s0 ≤ S0) (h1 : a1 + s1 ≤ S1) (h2 : a2 + s2 ≤ S2) :
    ∀ a : Fin 3, (![a0, a1, a2] : Fin 3 → ℕ) a + (![s0, s1, s2] : Fin 3 → ℕ) a ≤ (![S0, S1, S2] : Fin 3 → ℕ) a := by
  intro a; fin_cases a
  · exact h0
  · exact h1
  · exact h2

/-- The twelve buffers the attention body works on: the four inputs, the output, the masked queries, the running
    maximum, the running sums, the two score slots and the two slots of block maxima. -/
structure Refs where
  q : Memref sig .tc .vmem S1x512x512 .f32
  hq : q.IsWhole
  k : Memref sig .tc .vmem S1x8192x512 .bf16
  hk : k.IsWhole
  b : Memref sig .tc .vmem S1x8192x128 .bf16
  hb : b.IsWhole
  v : Memref sig .tc .vmem S1x512x8192 .bf16
  hv : v.IsWhole
  o : Memref sig .tc .vmem S1x512x512 .bf16
  ho : o.IsWhole
  qa : Memref sig .tc .vmem S4096x256 .bf16
  hqa : qa.IsWhole
  m : Memref sig .tc .vmem S1x4096 .f32
  hm : m.IsWhole
  acc : Memref sig .tc .vmem S8x80x512 .f32
  hacc : acc.IsWhole
  sa : Memref sig .tc .vmem S512x4096 .f32
  hsa : sa.IsWhole
  sb : Memref sig .tc .vmem S512x4096 .f32
  hsb : sb.IsWhole
  ra : Memref sig .tc .vmem S1x4096 .f32
  hra : ra.IsWhole
  rb : Memref sig .tc .vmem S1x4096 .f32
  hrb : rb.IsWhole

/-- The score slot a step works on. -/
def Refs.s (A : Refs) : Bool → Memref sig .tc .vmem S512x4096 .f32
  | false => A.sa
  | true => A.sb

/-- The slot of block maxima a step works on. -/
def Refs.r (A : Refs) : Bool → Memref sig .tc .vmem S1x4096 .f32
  | false => A.ra
  | true => A.rb

abbrev PP (F : FTy → Type) (α : Type) : Type _ := Prog (TpuEff nD τ sig (Elt F) Λ₀ .tc) α

/-- The scores of one lane tile before any masking. -/
def scoreOf (kblk : Vec F S1x512x128 .bf16) (bias : FVec F S512x128 .bf16) (qblk : Vec F S1024x256 .bf16) : FVec F S512x1024 .f32 :=
  matmul dot_S512x256_S1024x256_S512x1024_1_1_0_0_n_n none
    (concatenate S512x256 1 [⟨S512x128, shapeCast S512x128 kblk shapeCasts_S1x512x128_S512x128⟩, ⟨S512x128, bias⟩] concatenates_S512x128_S512x128_S512x256_d1 : FVec F S512x256 .bf16)
    qblk (constant S512x1024 .f32 0x00000000#32 : FVec F S512x1024 .f32)

/-- Key rows at most the query column: the causal mask within the diagonal block. -/
def causal : IVec S512x512 1 := cmpi .sle (iota .tc S512x512 32 [0] iota_S512x512_d0_w32) (iota .tc S512x512 32 [1] iota_S512x512_d1_w32)

/-- The causal mask put on one lane tile's scores, head by head. -/
def maskOf (s : FVec F S512x1024 .f32) : FVec F S512x1024 .f32 :=
  concatenate S512x1024 1
    [⟨S512x512, (select causal (extractStridedSlice S512x512 ![0, 0] s slices_S512x1024_o0_0_S512x512) (broadcast S512x512 (maskC (F := F))) : FVec F S512x512 .f32)⟩,
     ⟨S512x512, (select causal (extractStridedSlice S512x512 ![0, 512] s slices_S512x1024_o0_512_S512x512) (broadcast S512x512 (maskC (F := F))) : FVec F S512x512 .f32)⟩] concatenates_S512x512_S512x512_S512x1024_d1

/-- The largest score of each column. -/
def maxOf (s : FVec F S512x1024 .f32) : FVec F S1x1024 .f32 :=
  shapeCast S1x1024 (multiReduction .maximumf [0] S1024 s 0xFF800000#32 reduces_S512x1024_S1024 (.inl rfl) rfl : FVec F S1024 .f32) shapeCasts_S1024_S1x1024

/-- One lane tile of a key block scored: its scores and their column maxima stored. -/
def prodStep (A : Refs) (slot : Bool) (post : FVec F S512x1024 .f32 → FVec F S512x1024 .f32) (n : ℕ) (hn : n + 512 ≤ 8192) (bias : FVec F S512x128 .bf16)
    (lt : ℕ) (hlt : lt < 4) : PP F PUnit := do
  let kb : Vec F S1x512x128 .bf16 ← Prog.lift (.load A.k (Rect.unit (s := S1x8192x512) ![0, n, 128 * lt] S1x512x128.size (inb3 (by omega) hn (by omega))).toLoadRect (View.loadsAt_vmem h_S1x512x128))
  let qb : Vec F S1024x256 .bf16 ← Prog.lift (.load A.qa (Rect.unit (s := S4096x256) ![1024 * lt, 0] S1024x256.size (inb2 (by omega) (by omega))).toLoadRect (View.loadsAt_vmem h_S1024x256))
  let _s : Vec F S512x1024 .f32 ← Prog.lift (.load (A.s slot) (Rect.unit (s := S512x4096) ![0, 1024 * lt] S512x1024.size (inb2 (by omega) (by omega))).toLoadRect (View.loadsAt_vmem h_S512x1024))
  Prog.lift (.store (A.s slot) (Rect.unit (s := S512x4096) ![0, 1024 * lt] S512x1024.size (inb2 (by omega) (by omega))) (shapeCast S512x1024 (post (scoreOf kb bias qb)) shapeCasts_S512x1024_S512x1024) Finset.univ (View.stores_vmem_bits_univ h_S512x1024 rfl) (.inl rfl))
  let _r : Vec F S1x1024 .f32 ← Prog.lift (.load (A.r slot) (Rect.unit (s := S1x4096) ![0, 1024 * lt] S1x1024.size (inb2 (by omega) (by omega))).toLoadRect (View.loadsAt_vmem h_S1x1024))
  Prog.lift (.store (A.r slot) (Rect.unit (s := S1x4096) ![0, 1024 * lt] S1x1024.size (inb2 (by omega) (by omega))) (shapeCast S1x1024 (maxOf (post (scoreOf kb bias qb))) shapeCasts_S1x1024_S1x1024) Finset.univ (View.stores_vmem_bits_univ h_S1x1024 rfl) (.inl rfl))

/-- A key block scored into a slot. -/
def produce (A : Refs) (slot : Bool) (post : FVec F S512x1024 .f32 → FVec F S512x1024 .f32) (n : ℕ) (hn : n + 512 ≤ 8192) : PP F PUnit := do
  let bb : Vec F S1x512x128 .bf16 ← Prog.lift (.load A.b (Rect.unit (s := S1x8192x128) ![0, n, 0] S1x512x128.size (inb3 (by omega) hn (by omega))).toLoadRect (View.loadsAt_vmem h_S1x512x128))
  prodStep A slot post n hn (shapeCast S512x128 bb shapeCasts_S1x512x128_S512x128) 0 (by omega)
  prodStep A slot post n hn (shapeCast S512x128 bb shapeCasts_S1x512x128_S512x128) 1 (by omega)
  prodStep A slot post n hn (shapeCast S512x128 bb shapeCasts_S1x512x128_S512x128) 2 (by omega)
  prodStep A slot post n hn (shapeCast S512x128 bb shapeCasts_S1x512x128_S512x128) 3 (by omega)

/-- The rows of ones under a value block. -/
def onesC : FVec F S16x512 .bf16 := broadcast S16x512 (Scalar.ofBits .bf16 0x3F80#16)

/-- The head's running sums after one block. -/
def accOf (vb : Vec F S1x64x512 .bf16) (ab : Vec F S1x80x512 .f32) (al : FVec F S1x512 .f32) (p : FVec F S512x512 .bf16) : FVec F S80x512 .f32 :=
  addf (mulf (broadcastTo S80x512 al broadcasts_S1x512_S80x512) (shapeCast S80x512 ab shapeCasts_S1x80x512_S80x512))
    (matmul dot_S80x512_S512x512_S80x512_1_0_0_1_n_n none
      (concatenate S80x512 0 [⟨S64x512, shapeCast S64x512 vb shapeCasts_S1x64x512_S64x512⟩, ⟨S16x512, (onesC (F := F))⟩] concatenates_S64x512_S16x512_S80x512_d0 : FVec F S80x512 .bf16)
      p (constant S80x512 .f32 0x00000000#32 : FVec F S80x512 .f32))

theorem sl1 {h : ℕ} (hh : h < 8) : S1x4096.Slices ![0, 512 * h] S1x512 := ⟨rfl, inb2 (by omega) (by omega)⟩
theorem sl2 {h : ℕ} (hh : h < 8) : S512x4096.Slices ![0, 512 * h] S512x512 := ⟨rfl, inb2 (by omega) (by omega)⟩

/-- One head's share of folding in a scored block. -/
def consStep (A : Refs) (n : ℕ) (hn : n + 512 ≤ 8192) (alpha : FVec F S1x4096 .f32) (p : FVec F S512x4096 .bf16) (h : ℕ) (hh : h < 8) : PP F PUnit := do
  let vb : Vec F S1x64x512 .bf16 ← Prog.lift (.load A.v (Rect.unit (s := S1x512x8192) ![0, 64 * h, n] S1x64x512.size (inb3 (by omega) (by omega) hn)).toLoadRect (View.loadsAt_vmem h_S1x64x512))
  let ab : Vec F S1x80x512 .f32 ← Prog.lift (.load A.acc (Rect.unit (s := S8x80x512) ![h, 0, 0] S1x80x512.size (inb3 (by omega) (by omega) (by omega))).toLoadRect (View.loadsAt_vmem h_S1x80x512))
  let _ab : Vec F S1x80x512 .f32 ← Prog.lift (.load A.acc (Rect.unit (s := S8x80x512) ![h, 0, 0] S1x80x512.size (inb3 (by omega) (by omega) (by omega))).toLoadRect (View.loadsAt_vmem h_S1x80x512))
  Prog.lift (.store A.acc (Rect.unit (s := S8x80x512) ![h, 0, 0] S1x80x512.size (inb3 (by omega) (by omega) (by omega)))
    (shapeCast S1x80x512 (accOf vb ab (extractStridedSlice S1x512 ![0, 512 * h] alpha (sl1 hh)) (extractStridedSlice S512x512 ![0, 512 * h] p (sl2 hh))) shapeCasts_S80x512_S1x80x512)
    Finset.univ (View.stores_vmem_bits_univ h_S1x80x512 rfl) (.inl rfl))

/-- The factor the running sums are rescaled by. -/
def alphaOf (m r : FVec F S1x4096 .f32) : FVec F S1x4096 .f32 := exp2 (subf m (maximumf m r))

/-- The block's weights. -/
def pOf (m r : FVec F S1x4096 .f32) (s : FVec F S512x4096 .f32) : FVec F S512x4096 .bf16 :=
  truncf .bf16 (exp2 (subf s (broadcastTo S512x4096 (maximumf m r) broadcasts_S1x4096_S512x4096)) : FVec F S512x4096 .f32) bitsLt_bf16_f32

/-- A scored block folded into the running maximum and sums. -/
def consume (A : Refs) (slot : Bool) (n : ℕ) (hn : n + 512 ≤ 8192) : PP F PUnit := do
  let m : Vec F S1x4096 .f32 ← Prog.lift (.load A.m (Rect.unit (s := S1x4096) ![0, 0] S1x4096.size inb_S1x4096_S1x4096_0_0).toLoadRect (View.loadsAt_vmem h_S1x4096))
  let r : Vec F S1x4096 .f32 ← Prog.lift (.load (A.r slot) (Rect.unit (s := S1x4096) ![0, 0] S1x4096.size inb_S1x4096_S1x4096_0_0).toLoadRect (View.loadsAt_vmem h_S1x4096))
  let _m : Vec F S1x4096 .f32 ← Prog.lift (.load A.m (Rect.unit (s := S1x4096) ![0, 0] S1x4096.size inb_S1x4096_S1x4096_0_0).toLoadRect (View.loadsAt_vmem h_S1x4096))
  Prog.lift (.store A.m (Rect.unit (s := S1x4096) ![0, 0] S1x4096.size inb_S1x4096_S1x4096_0_0) (shapeCast S1x4096 (maximumf m r) shapeCasts_S1x4096_S1x4096) Finset.univ (View.stores_vmem_bits_univ h_S1x4096 rfl) (.inl rfl))
  let s : Vec F S512x4096 .f32 ← Prog.lift (.load (A.s slot) (Rect.unit (s := S512x4096) ![0, 0] S512x4096.size inb_S512x4096_S512x4096_0_0).toLoadRect (View.loadsAt_vmem h_S512x4096))
  consStep A n hn (alphaOf m r) (pOf m r s) 0 (by omega)
  consStep A n hn (alphaOf m r) (pOf m r s) 1 (by omega)
  consStep A n hn (alphaOf m r) (pOf m r s) 2 (by omega)
  consStep A n hn (alphaOf m r) (pOf m r s) 3 (by omega)
  consStep A n hn (alphaOf m r) (pOf m r s) 4 (by omega)
  consStep A n hn (alphaOf m r) (pOf m r s) 5 (by omega)
  consStep A n hn (alphaOf m r) (pOf m r s) 6 (by omega)
  consStep A n hn (alphaOf m r) (pOf m r s) 7 (by omega)

end Cert.Proof.KernelIdeal
-- ==== Proof.Body.lean ====
/- The whole attention body as its pieces in order. -/
module

public import proofs.«01_k».proof.Proof.Sections

@[expose] public section

noncomputable section

namespace Cert.Proof.KernelIdeal

open Cert.KernelIdeal Cert.KernelIdeal.Gen Idealize.ShloMosaic Idealize.SL.Sem

variable {F : FTy → Type} [FloatOps F] [Named F]

/-- One step of the main loop: the next block is scored and the held one folded in. -/
def step1 (A : Refs) (i : grid1.Coords) (t : Fin (k1_t1_loop i).trips) (r : Fin 4) (sp sc : Bool) : PP F PUnit := do
  produce A sp id (k1_off6 i t (BitVec.ofNat 32 r.val) 1) (k1_off6_inb i t r 1)
  consume A sc (k1_off11 i t (BitVec.ofNat 32 r.val) 2) (k1_off11_inb i t r 2)

/-- One trip of the main loop: four steps, the slots taking turns. -/
def trip1 (A : Refs) (i : grid1.Coords) (t : Fin (k1_t1_loop i).trips) : PP F Unit := do
  step1 A i t 0 true false
  step1 A i t 1 false true
  step1 A i t 2 true false
  step1 A i t 3 false true
  pure ⟨⟩

/-- The lane number of each entry of a lane tile. -/
def laneC : IVec S512x128 32 := iota .tc S512x128 32 [1] iota_S512x128_d1_w32

/-- The factor the queries are scaled by. -/
def scaleC : F .f32 := Named.named κ "q_scale" 0x3E38AA3B#32

/-- The queries of one head of a lane tile, scaled, the other head's lanes zeroed. -/
def qHead (lo hi : BitVec 32) (q : Vec F S1x512x128 .f32) : FVec F S512x128 .bf16 :=
  select (andi (cmpi .sge laneC (broadcast S512x128 lo)) (cmpi .slt laneC (broadcast S512x128 hi)))
    (truncf .bf16 (mulf (shapeCast S512x128 q shapeCasts_S1x512x128_S512x128) (broadcast S512x128 (scaleC (F := F))) : FVec F S512x128 .f32) bitsLt_bf16_f32)
    (broadcast S512x128 (Scalar.ofBits .bf16 0x0000#16 : F .bf16))

/-- Ones in the three bias lanes of head number `hd`, zeros elsewhere. -/
def biasLanes (hd : BitVec 32) : FVec F S512x128 .bf16 :=
  truncf .bf16 (select (andi (cmpi .sge laneC (broadcast S512x128 (Scalar.muli 3#32 hd))) (cmpi .slt laneC (broadcast S512x128 (Scalar.muli 3#32 (Scalar.addi hd 1#32)))))
    (broadcast S512x128 (Scalar.ofBits .f32 0x3F800000#32 : F .f32)) (broadcast S512x128 (Scalar.ofBits .f32 0x00000000#32 : F .f32)) : FVec F S512x128 .f32) bitsLt_bf16_f32

/-- The head number of the `h`-th head of head group `g`. -/
def headNo (i : grid1.Coords) (h : ℕ) : BitVec 32 := Scalar.addi (Scalar.muli (BitVec.ofNat 32 (i 1).val) 8#32) (BitVec.ofNat 32 h)

/-- One head's rows of the masked queries written. -/
def qaHead (A : Refs) (i : grid1.Coords) (q : Vec F S1x512x128 .f32) (lo hi : BitVec 32) (h : ℕ) (hh : h < 8)
    (x0 : ((A.qa).access (Rect.unit (s := S4096x256) ![512 * h, 0] S512x128.size (inb2 (by omega) (by omega)))).Stores Finset.univ)
    (x1 : ((A.qa).access (Rect.unit (s := S4096x256) ![512 * h, 128] S512x128.size (inb2 (by omega) (by omega)))).Stores Finset.univ) : PP F PUnit := do
  let _a : Vec F S512x128 .bf16 ← Prog.lift (.load A.qa (Rect.unit (s := S4096x256) ![512 * h, 0] S512x128.size (inb2 (by omega) (by omega))).toLoadRect (View.loadsAt_vmem h_S512x128))
  Prog.lift (.store A.qa (Rect.unit (s := S4096x256) ![512 * h, 0] S512x128.size (inb2 (by omega) (by omega))) (shapeCast S512x128 (qHead lo hi q) shapeCasts_S512x128_S512x128) Finset.univ x0 (.inl rfl))
  let _b : Vec F S512x128 .bf16 ← Prog.lift (.load A.qa (Rect.unit (s := S4096x256) ![512 * h, 128] S512x128.size (inb2 (by omega) (by omega))).toLoadRect (View.loadsAt_vmem h_S512x128))
  Prog.lift (.store A.qa (Rect.unit (s := S4096x256) ![512 * h, 128] S512x128.size (inb2 (by omega) (by omega))) (shapeCast S512x128 (biasLanes (F := F) (headNo i h)) shapeCasts_S512x128_S512x128) Finset.univ x1 (.inl rfl))

/-- A lane tile of the query block read. -/
def ldQ (A : Refs) (lt : ℕ) (hlt : lt < 4) : PP F (Vec F S1x512x128 .f32) :=
  Prog.lift (.load A.q (Rect.unit (s := S1x512x512) ![0, 0, 128 * lt] S1x512x128.size (inb3 (by omega) (by omega) (by omega))).toLoadRect (View.loadsAt_vmem h_S1x512x128))

/-- The masked queries of all eight heads written. -/
def qaFill (A : Refs) (i : grid1.Coords) : PP F PUnit := do
  let q0 ← ldQ A 0 (by omega)
  qaHead A i q0 0#32 64#32 0 (by omega) (View.stores_vmem h_S512x128 (A.hqa.storeExact_slice rfl _ packedbf16_S4096x256_S512x128_0_0) (fun _ => rfl)) (View.stores_vmem h_S512x128 (A.hqa.storeExact_slice rfl _ packedbf16_S4096x256_S512x128_0_128) (fun _ => rfl))
  qaHead A i q0 64#32 128#32 1 (by omega) (View.stores_vmem h_S512x128 (A.hqa.storeExact_slice rfl _ packedbf16_S4096x256_S512x128_512_0) (fun _ => rfl)) (View.stores_vmem h_S512x128 (A.hqa.storeExact_slice rfl _ packedbf16_S4096x256_S512x128_512_128) (fun _ => rfl))
  let q1 ← ldQ A 1 (by omega)
  qaHead A i q1 0#32 64#32 2 (by omega) (View.stores_vmem h_S512x128 (A.hqa.storeExact_slice rfl _ packedbf16_S4096x256_S512x128_1024_0) (fun _ => rfl)) (View.stores_vmem h_S512x128 (A.hqa.storeExact_slice rfl _ packedbf16_S4096x256_S512x128_1024_128) (fun _ => rfl))
  qaHead A i q1 64#32 128#32 3 (by omega) (View.stores_vmem h_S512x128 (A.hqa.storeExact_slice rfl _ packedbf16_S4096x256_S512x128_1536_0) (fun _ => rfl)) (View.stores_vmem h_S512x128 (A.hqa.storeExact_slice rfl _ packedbf16_S4096x256_S512x128_1536_128) (fun _ => rfl))
  let q2 ← ldQ A 2 (by omega)
  qaHead A i q2 0#32 64#32 4 (by omega) (View.stores_vmem h_S512x128 (A.hqa.storeExact_slice rfl _ packedbf16_S4096x256_S512x128_2048_0) (fun _ => rfl)) (View.stores_vmem h_S512x128 (A.hqa.storeExact_slice rfl _ packedbf16_S4096x256_S512x128_2048_128) (fun _ => rfl))
  qaHead A i q2 64#32 128#32 5 (by omega) (View.stores_vmem h_S512x128 (A.hqa.storeExact_slice rfl _ packedbf16_S4096x256_S512x128_2560_0) (fun _ => rfl)) (View.stores_vmem h_S512x128 (A.hqa.storeExact_slice rfl _ packedbf16_S4096x256_S512x128_2560_128) (fun _ => rfl))
  let q3 ← ldQ A 3 (by omega)
  qaHead A i q3 0#32 64#32 6 (by omega) (View.stores_vmem h_S512x128 (A.hqa.storeExact_slice rfl _ packedbf16_S4096x256_S512x128_3072_0) (fun _ => rfl)) (View.stores_vmem h_S512x128 (A.hqa.storeExact_slice rfl _ packedbf16_S4096x256_S512x128_3072_128) (fun _ => rfl))
  qaHead A i q3 64#32 128#32 7 (by omega) (View.stores_vmem h_S512x128 (A.hqa.storeExact_slice rfl _ packedbf16_S4096x256_S512x128_3584_0) (fun _ => rfl)) (View.stores_vmem h_S512x128 (A.hqa.storeExact_slice rfl _ packedbf16_S4096x256_S512x128_3584_128) (fun _ => rfl))

/-- The running maximum and sums reset. -/
def clear (A : Refs) : PP F PUnit := do
  let _m : Vec F S1x4096 .f32 ← Prog.lift (.load A.m (Rect.unit (s := S1x4096) ![0, 0] S1x4096.size inb_S1x4096_S1x4096_0_0).toLoadRect (View.loadsAt_vmem h_S1x4096))
  Prog.lift (.store A.m (Rect.unit (s := S1x4096) ![0, 0] S1x4096.size inb_S1x4096_S1x4096_0_0) (shapeCast S1x4096 (broadcast S1x4096 (maskC (F := F))) shapeCasts_S1x4096_S1x4096) Finset.univ (View.stores_vmem_bits_univ h_S1x4096 rfl) (.inl rfl))
  let _a : Vec F S8x80x512 .f32 ← Prog.lift (.load A.acc (Rect.unit (s := S8x80x512) ![0, 0, 0] S8x80x512.size inb_S8x80x512_S8x80x512_0_0_0).toLoadRect (View.loadsAt_vmem h_S8x80x512))
  Prog.lift (.store A.acc (Rect.unit (s := S8x80x512) ![0, 0, 0] S8x80x512.size inb_S8x80x512_S8x80x512_0_0_0) (shapeCast S8x80x512 (broadcast S8x80x512 (Scalar.ofBits .f32 0x00000000#32 : F .f32)) shapeCasts_S8x80x512_S8x80x512) Finset.univ (View.stores_vmem_bits_univ h_S8x80x512 rfl) (.inl rfl))

/-- One head's quotient from the two reads of its sums. -/
def quotOf (a b : Vec F S1x80x512 .f32) : FVec F S64x512 .f32 :=
  divf (extractStridedSlice S64x512 ![0, 0] (shapeCast S80x512 a shapeCasts_S1x80x512_S80x512 : FVec F S80x512 .f32) slices_S80x512_o0_0_S64x512)
    (broadcastTo S64x512 (extractStridedSlice S1x512 ![64, 0] (shapeCast S80x512 b shapeCasts_S1x80x512_S80x512 : FVec F S80x512 .f32) slices_S80x512_o64_0_S1x512) broadcasts_S1x512_S64x512)

/-- One head's weighted sums divided by its sum of weights. -/
def quot (A : Refs) (h : ℕ) (hh : h < 8) : PP F (FVec F S64x512 .f32) := do
  let a : Vec F S1x80x512 .f32 ← Prog.lift (.load A.acc (Rect.unit (s := S8x80x512) ![h, 0, 0] S1x80x512.size (inb3 (by omega) (by omega) (by omega))).toLoadRect (View.loadsAt_vmem h_S1x80x512))
  let b : Vec F S1x80x512 .f32 ← Prog.lift (.load A.acc (Rect.unit (s := S8x80x512) ![h, 0, 0] S1x80x512.size (inb3 (by omega) (by omega) (by omega))).toLoadRect (View.loadsAt_vmem h_S1x80x512))
  pure (quotOf a b)

/-- The eight heads' quotients put side by side, queries down and features across. -/
def outOf (d0 d1 d2 d3 d4 d5 d6 d7 : FVec F S64x512 .f32) : FVec F S512x512 .bf16 :=
  truncf .bf16 (transpose S512x512 [1, 0] (concatenate S512x512 0 [⟨S64x512, d0⟩, ⟨S64x512, d1⟩, ⟨S64x512, d2⟩, ⟨S64x512, d3⟩, ⟨S64x512, d4⟩, ⟨S64x512, d5⟩, ⟨S64x512, d6⟩, ⟨S64x512, d7⟩] concatenates_S64x512_S64x512_S64x512_S64x512_S64x512_S64x512_S64x512_S64x512_S512x512_d0 : FVec F S512x512 .f32) transposes_S512x512_p1_0_S512x512 : FVec F S512x512 .f32) bitsLt_bf16_f32

/-- The output block written. -/
def finish (A : Refs) : PP F PUnit := do
  let d0 ← quot A 0 (by omega)
  let d1 ← quot A 1 (by omega)
  let d2 ← quot A 2 (by omega)
  let d3 ← quot A 3 (by omega)
  let d4 ← quot A 4 (by omega)
  let d5 ← quot A 5 (by omega)
  let d6 ← quot A 6 (by omega)
  let d7 ← quot A 7 (by omega)
  let _o : Vec F S1x512x512 .bf16 ← Prog.lift (.load A.o (Rect.unit (s := S1x512x512) ![0, 0, 0] S1x512x512.size inb_S1x512x512_S1x512x512_0_0_0).toLoadRect (View.loadsAt_vmem h_S1x512x512))
  Prog.lift (.store A.o (Rect.unit (s := S1x512x512) ![0, 0, 0] S1x512x512.size inb_S1x512x512_S1x512x512_0_0_0) (shapeCast S1x512x512 (outOf d0 d1 d2 d3 d4 d5 d6 d7) shapeCasts_S512x512_S1x512x512) Finset.univ (View.stores_vmem h_S1x512x512 (A.ho.storeExact_slice rfl _ packedbf16_S1x512x512_S1x512x512_0_0_0) (fun _ => rfl)) (.inl rfl))
  pure ⟨⟩

/-- The part of the body under the first condition: two more steps. -/
def tail1 (A : Refs) (i : grid1.Coords) : PP F PUnit :=
  if h1 : k1_cond1 i = 1#1 then do
    produce A true id (k1_off32 i (BitVec.ofNat 32 (0 : Fin 2).val) 1) (k1_off32_inb i h1 0 1)
    consume A false (k1_off37 i (BitVec.ofNat 32 (0 : Fin 2).val) 2) (k1_off37_inb i h1 0 2)
    produce A false id (k1_off32 i (BitVec.ofNat 32 (1 : Fin 2).val) 1) (k1_off32_inb i h1 1 1)
    consume A true (k1_off37 i (BitVec.ofNat 32 (1 : Fin 2).val) 2) (k1_off37_inb i h1 1 2)
    pure ⟨⟩
  else do
    pure ⟨⟩

/-- The part under the second condition: one more step and the last block folded in. -/
def tail2 (A : Refs) (i : grid1.Coords) : PP F PUnit :=
  if h2 : k1_cond2 i = 1#1 then do
    produce A true id (k1_off45 i 1) (k1_off45_inb i h2 1)
    consume A false (k1_off50 i (BitVec.ofNat 32 (0 : Fin 2).val) 2) (k1_off50_inb i h2 0 2)
    consume A true (k1_off50 i (BitVec.ofNat 32 (1 : Fin 2).val) 2) (k1_off50_inb i h2 1 2)
    pure ⟨⟩
  else do
    pure ⟨⟩

/-- The part under the third condition: the last block folded in. -/
def tail3 (A : Refs) (i : grid1.Coords) : PP F PUnit :=
  if h3 : k1_cond3 i = 1#1 then do
    consume A false (k1_off58 i 2) (k1_off58_inb i h3 2)
    pure ⟨⟩
  else do
    pure ⟨⟩

/-- The word the second window of the printed body hands on (nothing reads it). -/
def w81 (i : grid1.Coords) : BitVec 32 :=
  let n : BitVec 32 := BitVec.ofNat 32 (i 2).val
  let h : BitVec 32 := Scalar.divsi n 2#32
  Scalar.muli 2#32 (Scalar.select (Scalar.andi (Scalar.cmpi .ne (Scalar.subi (Scalar.extui (Scalar.cmpi .sgt n 0#32)) (Scalar.extui (Scalar.cmpi .slt n 0#32)))
    (Scalar.subi (Scalar.extui (Scalar.cmpi .sgt 2#32 0#32)) (Scalar.extui (Scalar.cmpi .slt 2#32 0#32)))) (Scalar.cmpi .ne (Scalar.remsi n 2#32) 0#32)) (Scalar.subi h 1#32) h)

/-- The words the first window hands on (nothing reads them). -/
def w80 (i : grid1.Coords) : Σ' (_ : BitVec 32) (_ : BitVec 32) (_ : BitVec 1), BitVec 1 :=
  let n : BitVec 32 := BitVec.ofNat 32 (i 2).val
  let d : BitVec 32 := Scalar.select (Scalar.cmpi .eq 4#32 0#32) 1#32 4#32
  let r : BitVec 32 := Scalar.remsi n d
  ⟨d, r, Scalar.cmpi .ne r 0#32, Scalar.cmpi .slt r 0#32⟩

/-- The two loops. -/
def loops (A : Refs) (i : grid1.Coords) : PP F PUnit := do
  Scf.Loop.for (k1_t1_loop i) (k1_t1_ok i) ⟨⟩ fun t _ => trip1 A i t
  Scf.Loop.for (k1_t2_loop i) (k1_t2_ok i) ⟨⟩ (k1_t2_body (F := F) i A.q A.hq A.k A.hk A.b A.hb A.v A.hv A.o A.ho A.qa A.hqa A.m A.hm A.acc A.hacc A.sa A.hsa A.sb A.hsb A.ra A.hra A.rb A.hrb (BitVec.ofNat 32 (i 2).val) onesC (broadcast S512x1024 (maskC (F := F))) (k1_t2_loop i).lb)

/-- The attention body. -/
def body (A : Refs) (i : grid1.Coords) : PP F PUnit := do
  qaFill A i
  clear A
  produce A false maskOf (k1_off1 i 1) (k1_off1_inb i 1)
  loops A i
  tail1 A i
  tail2 A i
  tail3 A i
  finish A

/-- The printed window with the loops. -/
def win80 (A : Refs) (i : grid1.Coords) : PP F (Σ' (_ : BitVec 32) (_ : BitVec 32) (_ : BitVec 1), BitVec 1) := do
  Scf.Loop.for (k1_t1_loop i) (k1_t1_ok i) ⟨⟩ fun t _ => trip1 A i t
  Scf.Loop.for (k1_t2_loop i) (k1_t2_ok i) ⟨⟩ (k1_t2_body (F := F) i A.q A.hq A.k A.hk A.b A.hb A.v A.hv A.o A.ho A.qa A.hqa A.m A.hm A.acc A.hacc A.sa A.hsa A.sb A.hsb A.ra A.hra A.rb A.hrb (BitVec.ofNat 32 (i 2).val) onesC (broadcast S512x1024 (maskC (F := F))) (k1_t2_loop i).lb)
  pure (w80 i)

/-- The window holding the first two conditions. -/
def win81 (A : Refs) (i : grid1.Coords) : PP F (BitVec 32) := do
  if h1 : k1_cond1 i = 1#1 then do
    produce A true id (k1_off32 i (BitVec.ofNat 32 (0 : Fin 2).val) 1) (k1_off32_inb i h1 0 1)
    consume A false (k1_off37 i (BitVec.ofNat 32 (0 : Fin 2).val) 2) (k1_off37_inb i h1 0 2)
    produce A false id (k1_off32 i (BitVec.ofNat 32 (1 : Fin 2).val) 1) (k1_off32_inb i h1 1 1)
    consume A true (k1_off37 i (BitVec.ofNat 32 (1 : Fin 2).val) 2) (k1_off37_inb i h1 1 2)
    pure ⟨⟩
  else do
    pure ⟨⟩
  if h2 : k1_cond2 i = 1#1 then do
    produce A true id (k1_off45 i 1) (k1_off45_inb i h2 1)
    consume A false (k1_off50 i (BitVec.ofNat 32 (0 : Fin 2).val) 2) (k1_off50_inb i h2 0 2)
    consume A true (k1_off50 i (BitVec.ofNat 32 (1 : Fin 2).val) 2) (k1_off50_inb i h2 1 2)
    pure ⟨⟩
  else do
    pure ⟨⟩
  pure (w81 i)

/-- The window holding the third condition and the first quotients. -/
def win82 (A : Refs) (i : grid1.Coords) : PP F (Σ' (_ : FVec F S64x512 .f32) (_ : FVec F S64x512 .f32) (_ : FVec F S64x512 .f32), Vec F S1x80x512 .f32) := do
  if h3 : k1_cond3 i = 1#1 then do
    consume A false (k1_off58 i 2) (k1_off58_inb i h3 2)
    pure ⟨⟩
  else do
    pure ⟨⟩
  let d0 ← quot A 0 (by omega)
  let d1 ← quot A 1 (by omega)
  let a : Vec F S1x80x512 .f32 ← Prog.lift (.load A.acc (Rect.unit (s := S8x80x512) ![2, 0, 0] S1x80x512.size (inb3 (by omega) (by omega) (by omega))).toLoadRect (View.loadsAt_vmem h_S1x80x512))
  let b : Vec F S1x80x512 .f32 ← Prog.lift (.load A.acc (Rect.unit (s := S8x80x512) ![2, 0, 0] S1x80x512.size (inb3 (by omega) (by omega) (by omega))).toLoadRect (View.loadsAt_vmem h_S1x80x512))
  pure ⟨d0, d1, extractStridedSlice S64x512 ![0, 0] (shapeCast S80x512 a shapeCasts_S1x80x512_S80x512 : FVec F S80x512 .f32) slices_S80x512_o0_0_S64x512, b⟩

/-- The last quotients and the output. -/
def fin83 (A : Refs) (d0 d1 : FVec F S64x512 .f32) (x : FVec F S64x512 .f32) (y : Vec F S1x80x512 .f32) : PP F PUnit := do
  let d3 ← quot A 3 (by omega)
  let d4 ← quot A 4 (by omega)
  let d5 ← quot A 5 (by omega)
  let d6 ← quot A 6 (by omega)
  let d7 ← quot A 7 (by omega)
  let _o : Vec F S1x512x512 .bf16 ← Prog.lift (.load A.o (Rect.unit (s := S1x512x512) ![0, 0, 0] S1x512x512.size inb_S1x512x512_S1x512x512_0_0_0).toLoadRect (View.loadsAt_vmem h_S1x512x512))
  Prog.lift (.store A.o (Rect.unit (s := S1x512x512) ![0, 0, 0] S1x512x512.size inb_S1x512x512_S1x512x512_0_0_0) (shapeCast S1x512x512 (outOf d0 d1 (divf x (broadcastTo S64x512 (extractStridedSlice S1x512 ![64, 0] (shapeCast S80x512 y shapeCasts_S1x80x512_S80x512 : FVec F S80x512 .f32) slices_S80x512_o64_0_S1x512) broadcasts_S1x512_S64x512)) d3 d4 d5 d6 d7) shapeCasts_S512x512_S1x512x512) Finset.univ (View.stores_vmem h_S1x512x512 (A.ho.storeExact_slice rfl _ packedbf16_S1x512x512_S1x512x512_0_0_0) (fun _ => rfl)) (.inl rfl))
  pure ⟨⟩

/-- The attention body in the printed windows. -/
def bodyW (A : Refs) (i : grid1.Coords) : PP F PUnit := do
  qaFill A i
  clear A
  produce A false maskOf (k1_off1 i 1) (k1_off1_inb i 1)
  let ⟨_, _, _, _⟩ ← win80 A i
  let _ ← win81 A i
  let ⟨d0, d1, x, y⟩ ← win82 A i
  fin83 A d0 d1 x y

set_option maxHeartbeats 8000000 in
set_option maxRecDepth 40000 in
/-- The printed body is its windows. -/
theorem body_eqW (A : Refs) (i : grid1.Coords) :
    cc1_attn_prompt (F := F) i A.q A.hq A.k A.hk A.b A.hb A.v A.hv A.o A.ho A.qa A.hqa A.m A.hm A.acc A.hacc A.sa A.hsa A.sb A.hsb A.ra A.hra A.rb A.hrb = bodyW A i := rfl

/-- The second window with its conditionals set apart. -/
theorem win81_eq (A : Refs) (i : grid1.Coords) : win81 (F := F) A i = (tail1 A i >>= fun _ => tail2 A i >>= fun _ => pure (w81 i)) := by
  unfold win81 tail1 tail2
  by_cases h : k1_cond1 i = 1#1 <;> by_cases h' : k1_cond2 i = 1#1
  · simp only [dif_pos h, dif_pos h', bind_assoc, pure_bind]
  · simp only [dif_pos h, dif_neg h', bind_assoc, pure_bind]
  · simp only [dif_neg h, dif_pos h', bind_assoc, pure_bind]
  · simp only [dif_neg h, dif_neg h', bind_assoc, pure_bind]

/-- The third window, its conditional set apart, and what follows it. -/
theorem win82_eq (A : Refs) (i : grid1.Coords) : (win82 (F := F) A i >>= fun ⟨d0, d1, x, y⟩ => fin83 A d0 d1 x y) = (tail3 A i >>= fun _ => finish A) := by
  unfold win82 tail3
  by_cases h : k1_cond3 i = 1#1
  · simp only [dif_pos h, bind_assoc, pure_bind]; rfl
  · simp only [dif_neg h, bind_assoc, pure_bind]; rfl

/-- The windows are the pieces in order. -/
theorem bodyW_eq (A : Refs) (i : grid1.Coords) : bodyW (F := F) A i = body A i := by
  have e : bodyW (F := F) A i = (qaFill A i >>= fun _ => clear A >>= fun _ => produce A false maskOf (k1_off1 i 1) (k1_off1_inb i 1) >>= fun _ =>
      win80 A i >>= fun _ => win81 A i >>= fun _ => win82 A i >>= fun ⟨d0, d1, x, y⟩ => fin83 A d0 d1 x y) := rfl
  have e0 : win80 (F := F) A i = (loops A i >>= fun _ => pure (w80 i)) := by
    unfold win80 loops; simp only [bind_assoc, pure_bind]
  rw [e]
  simp only [e0, win81_eq, win82_eq, bind_assoc, pure_bind]
  rfl

/-- The printed body is the pieces in order. -/
theorem body_eq (A : Refs) (i : grid1.Coords) :
    cc1_attn_prompt (F := F) i A.q A.hq A.k A.hk A.b A.hb A.v A.hv A.o A.ho A.qa A.hqa A.m A.hm A.acc A.hacc A.sa A.hsa A.sb A.hsb A.ra A.hra A.rb A.hrb = body A i :=
  (body_eqW A i).trans (bodyW_eq A i)

end Cert.Proof.KernelIdeal
-- ==== Proof.Does.lean ====
/- What a piece of the attention body does, as a function on the values its twelve buffers hold. A piece of program
   `Does` a state change when, run from buffers holding one state, it ends with them holding the other. Loads and
   stores are such pieces, and sequences and loops of such pieces are. -/
module

public import proofs.«01_k».proof.Proof.Body
public import Idealize.ShloMosaic.Lib.Tactic
public import Idealize.ShloMosaic.Lib.VecWindow
public import Idealize.ShloMosaic.Lib.Pipeline.Kit
public import Idealize.ShloMosaic.Lib.Pipeline.TableIdle

@[expose] public section

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra of the certificate. -/
abbrev UU (nD : Nat) (τ : Topo) : Type := UR sig nD τ × Counters

local notation "𝕄" => MT nD τ sig Unit (Elt F) ℕ (UU nD τ) ℕ

abbrev 𝒱₀ : Variants := Variants.none

/-- The values of the twelve buffers. -/
structure St (F : FTy → Type) where
  q : Vec F S1x512x512 .f32
  k : Vec F S1x8192x512 .bf16
  b : Vec F S1x8192x128 .bf16
  v : Vec F S1x512x8192 .bf16
  o : Vec F S1x512x512 .bf16
  qa : Vec F S4096x256 .bf16
  m : Vec F S1x4096 .f32
  acc : Vec F S8x80x512 .f32
  sa : Vec F S512x4096 .f32
  sb : Vec F S512x4096 .f32
  ra : Vec F S1x4096 .f32
  rb : Vec F S1x4096 .f32

/-- A buffer held at a value. -/
def own (c : Dev nD) {sh : Shape} {e : EltTy} (M : Memref sig .tc .vmem sh e) (X : Vec F sh e) : sProp 𝕄 := owns (c : Thread nD τ) M fullShare X

/-- The twelve buffers held at a state. -/
def held (A : Refs) (c : Dev nD) (σ : St F) : sProp 𝕄 :=
  iprop(own c A.q σ.q ∗ own c A.k σ.k ∗ own c A.b σ.b ∗ own c A.v σ.v ∗ own c A.o σ.o ∗ own c A.qa σ.qa ∗ own c A.m σ.m ∗ own c A.acc σ.acc
    ∗ own c A.sa σ.sa ∗ own c A.sb σ.sb ∗ own c A.ra σ.ra ∗ own c A.rb σ.rb)

/-- The program `p` takes the state `σ` to `σ'` and returns `r`. -/
structure Does (A : Refs) (c : Dev nD) {α : Type} (p : PP F α) (σ σ' : St F) (r : α) : Prop where
  run : ∀ Q : α → sProp 𝕄, iprop(held A c σ ∗ (held A c σ' -∗ Q r)) ⊢ wp frame (wpE (defs₀ (F := F)) 𝒱₀ (c : Thread nD τ) none) Set.univ p Q

section Rules
variable {A : Refs} {c : Dev nD} {α β : Type}

/-- Returning changes nothing. -/
theorem Does.pure (σ : St F) (r : α) : Does A c (pure r) σ σ r := .mk fun Q => by
  refine BIBase.Entails.trans ?_ (le_wp_ret _ _ _ r Q)
  iintro ⟨H, HQ⟩
  iapply HQ; iexact H

/-- One piece after another. -/
theorem Does.bind {p : PP F α} {f : α → PP F β} {σ σ' σ'' : St F} {r : α} {r' : β} (h : Does A c p σ σ' r) (h' : Does A c (f r) σ' σ'' r') :
    Does A c (p >>= f) σ σ'' r' := .mk fun Q => by
  rw [wp_bind]
  refine BIBase.Entails.trans ?_ (h.run _)
  iintro ⟨H, HQ⟩
  isplitl [H]; · iexact H
  iintro H
  iapply (h'.run Q)
  isplitl [H] <;> iassumption

/-- Where a buffer's value sits in the state. -/
structure Lens (A : Refs) (c : Dev nD) {sh : Shape} {e : EltTy} (M : Memref sig .tc .vmem sh e) where
  get : St F → Vec F sh e
  set : St F → Vec F sh e → St F
  set_get : ∀ σ, set σ (get σ) = σ
  ok : ∀ σ, held A c σ ⊢ iprop(own c M (get σ) ∗ (∀ Y, own c M Y -∗ held A c (set σ Y)))

variable {sh : Shape} {e : EltTy} {M : Memref sig .tc .vmem sh e}

/-- A load reads a window of the buffer's value. -/
theorem Does.load (L : Lens (F := F) A c M) {off size : Fin sh.rank → ℕ} (inb : ∀ a, off a + size a ≤ sh.size a)
    (hl : M.view.LoadsAt (Rect.unit off size inb).toLoadRect) (σ : St F) :
    Does A c (Prog.lift (.load M (Rect.unit off size inb).toLoadRect hl)) σ σ (VecWindow.window (L.get σ) off size inb) := .mk fun Q => by
  refine (sep_mono (L.ok σ) .rfl).trans ?_
  unfold own
  rw [owns_eq_rep]
  iintro ⟨⟨H, Hb⟩, HQ⟩
  iapply (wp_load 𝒱₀ (c : Thread nD τ) none Set.univ (hl := hl) (k := fun x => .ret x) (View.setOn_subset_set _ _)) $$ H
  iintro H
  iapply (le_wp_ret _ _ _ _ Q)
  rw [View.readAt_rep_unit M.view (L.get σ) inb rfl inb]
  iapply HQ
  have key : iprop((M.view.loc (c : Thread nD τ) ↦[M.view.set]{fullShare} M.view.rep (L.get σ)) ∗ (∀ Y, owns (c : Thread nD τ) M fullShare Y -∗ held A c (L.set σ Y)))
      ⊢ (held A c σ : sProp 𝕄) := by
    rw [← owns_eq_rep]
    iintro ⟨H, Hb⟩
    ihave H := Hb $$ H
    rw [L.set_get]
    iexact H
  iapply key
  isplitl [H] <;> iassumption

/-- A store puts its payload over a window of the buffer's value. -/
theorem Does.store (L : Lens (F := F) A c M) {off size : Fin sh.rank → ℕ} (inb : ∀ a, off a + size a ≤ sh.size a)
    (w : (Rect.unit off size inb).shape.Idx → Elt F e) (hx : (M.access (Rect.unit off size inb)).Stores Finset.univ) (hm : (Finset.univ : Finset (Rect.unit off size inb).shape.Idx) = Finset.univ ∨ ∀ a, (Rect.unit off size inb).stride a = 1) (σ : St F) :
    Does A c (Prog.lift (.store M (Rect.unit off size inb) w Finset.univ hx hm)) σ (L.set σ (VecWindow.put (L.get σ) off size w)) ⟨⟩ := .mk fun Q => by
  refine (sep_mono (L.ok σ) .rfl).trans ?_
  unfold own
  rw [owns_eq_rep]
  iintro ⟨⟨H, Hb⟩, HQ⟩
  iapply (wp_store 𝒱₀ (c : Thread nD τ) none Set.univ (hx := hx) (hm := hm) (k := fun x => .ret x) (by rw [View.setOn_univ]; exact View.set_slice_subset _ _)) $$ H
  iintro H
  iapply (le_wp_ret _ _ _ _ Q)
  iapply HQ
  iapply Hb
  unfold owns
  iexists _
  isplitr; swap; · iexact H
  ipureintro
  exact View.read_writes_rep_unit M.view (L.get σ) inb w rfl

end Rules

end Cert.Proof.KernelIdeal
-- ==== Proof.Steps.lean ====
/- What each piece of the attention body does, and so what the body does. -/
module

public import proofs.«01_k».proof.Proof.Does

@[expose] public section

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (A : Refs) (c : Dev nD)

def lens_q : Lens (F := F) A c A.q where
  get σ := σ.q
  set σ X := { σ with q := X }
  set_get _ := rfl
  ok σ := by
    unfold held; iintro ⟨H0, H1, H2, H3, H4, H5, H6, H7, H8, H9, H10, H11⟩
    isplitl [H0]; · iexact H0
    iintro %Y HY; iframe

def lens_k : Lens (F := F) A c A.k where
  get σ := σ.k
  set σ X := { σ with k := X }
  set_get _ := rfl
  ok σ := by
    unfold held; iintro ⟨H0, H1, H2, H3, H4, H5, H6, H7, H8, H9, H10, H11⟩
    isplitl [H1]; · iexact H1
    iintro %Y HY; iframe

def lens_b : Lens (F := F) A c A.b where
  get σ := σ.b
  set σ X := { σ with b := X }
  set_get _ := rfl
  ok σ := by
    unfold held; iintro ⟨H0, H1, H2, H3, H4, H5, H6, H7, H8, H9, H10, H11⟩
    isplitl [H2]; · iexact H2
    iintro %Y HY; iframe

def lens_v : Lens (F := F) A c A.v where
  get σ := σ.v
  set σ X := { σ with v := X }
  set_get _ := rfl
  ok σ := by
    unfold held; iintro ⟨H0, H1, H2, H3, H4, H5, H6, H7, H8, H9, H10, H11⟩
    isplitl [H3]; · iexact H3
    iintro %Y HY; iframe

def lens_o : Lens (F := F) A c A.o where
  get σ := σ.o
  set σ X := { σ with o := X }
  set_get _ := rfl
  ok σ := by
    unfold held; iintro ⟨H0, H1, H2, H3, H4, H5, H6, H7, H8, H9, H10, H11⟩
    isplitl [H4]; · iexact H4
    iintro %Y HY; iframe

def lens_qa : Lens (F := F) A c A.qa where
  get σ := σ.qa
  set σ X := { σ with qa := X }
  set_get _ := rfl
  ok σ := by
    unfold held; iintro ⟨H0, H1, H2, H3, H4, H5, H6, H7, H8, H9, H10, H11⟩
    isplitl [H5]; · iexact H5
    iintro %Y HY; iframe

def lens_m : Lens (F := F) A c A.m where
  get σ := σ.m
  set σ X := { σ with m := X }
  set_get _ := rfl
  ok σ := by
    unfold held; iintro ⟨H0, H1, H2, H3, H4, H5, H6, H7, H8, H9, H10, H11⟩
    isplitl [H6]; · iexact H6
    iintro %Y HY; iframe

def lens_acc : Lens (F := F) A c A.acc where
  get σ := σ.acc
  set σ X := { σ with acc := X }
  set_get _ := rfl
  ok σ := by
    unfold held; iintro ⟨H0, H1, H2, H3, H4, H5, H6, H7, H8, H9, H10, H11⟩
    isplitl [H7]; · iexact H7
    iintro %Y HY; iframe

def lens_sa : Lens (F := F) A c A.sa where
  get σ := σ.sa
  set σ X := { σ with sa := X }
  set_get _ := rfl
  ok σ := by
    unfold held; iintro ⟨H0, H1, H2, H3, H4, H5, H6, H7, H8, H9, H10, H11⟩
    isplitl [H8]; · iexact H8
    iintro %Y HY; iframe

def lens_sb : Lens (F := F) A c A.sb where
  get σ := σ.sb
  set σ X := { σ with sb := X }
  set_get _ := rfl
  ok σ := by
    unfold held; iintro ⟨H0, H1, H2, H3, H4, H5, H6, H7, H8, H9, H10, H11⟩
    isplitl [H9]; · iexact H9
    iintro %Y HY; iframe

def lens_ra : Lens (F := F) A c A.ra where
  get σ := σ.ra
  set σ X := { σ with ra := X }
  set_get _ := rfl
  ok σ := by
    unfold held; iintro ⟨H0, H1, H2, H3, H4, H5, H6, H7, H8, H9, H10, H11⟩
    isplitl [H10]; · iexact H10
    iintro %Y HY; iframe

def lens_rb : Lens (F := F) A c A.rb where
  get σ := σ.rb
  set σ X := { σ with rb := X }
  set_get _ := rfl
  ok σ := by
    unfold held; iintro ⟨H0, H1, H2, H3, H4, H5, H6, H7, H8, H9, H10, H11⟩
    isplitl [H11]; · iexact H11
    iintro %Y HY; iframe

/-- The value of a score slot. -/
def St.s (σ : St F) : Bool → Vec F S512x4096 .f32
  | false => σ.sa
  | true => σ.sb

/-- The value of a slot of block maxima. -/
def St.r (σ : St F) : Bool → Vec F S1x4096 .f32
  | false => σ.ra
  | true => σ.rb

/-- A score slot set. -/
def St.setS (σ : St F) (X : Vec F S512x4096 .f32) : Bool → St F
  | false => { σ with sa := X }
  | true => { σ with sb := X }

/-- A slot of block maxima set. -/
def St.setR (σ : St F) (X : Vec F S1x4096 .f32) : Bool → St F
  | false => { σ with ra := X }
  | true => { σ with rb := X }

def lens_s (slot : Bool) : Lens (F := F) A c (A.s slot) where
  get σ := σ.s slot
  set σ X := σ.setS X slot
  set_get _ := by cases slot <;> rfl
  ok σ := by
    cases slot
    · exact (lens_sa A c).ok σ
    · exact (lens_sb A c).ok σ

def lens_r (slot : Bool) : Lens (F := F) A c (A.r slot) where
  get σ := σ.r slot
  set σ X := σ.setR X slot
  set_get _ := by cases slot <;> rfl
  ok σ := by
    cases slot
    · exact (lens_ra A c).ok σ
    · exact (lens_rb A c).ok σ

variable {A c}

/-- A state after the first `k` trips of a loop whose trip `t` does `g t`. -/
def iter {n : ℕ} (g : Fin n → St F → St F) : ℕ → St F → St F
  | 0, σ => σ
  | k + 1, σ => if h : k < n then g ⟨k, h⟩ (iter g k σ) else iter g k σ

/-- A loop does its trips in order. -/
theorem Does.for {w : ℕ} (L : Scf.Loop w) (hok : L.OK) (body : Fin L.trips → Unit → PP F Unit) (g : Fin L.trips → St F → St F)
    (h : ∀ t σ, Does A c (body t ⟨⟩) σ (g t σ) ⟨⟩) (σ : St F) : Does A c (Scf.Loop.for L hok ⟨⟩ body) σ (iter g L.trips σ) ⟨⟩ := .mk fun Q => by
  refine BIBase.Entails.trans ?_ (Scf.wp_for _ _ _ L.lb L.ub L.st hok ⟨⟩ body (fun k _ => held A c (iter g k σ)) (fun k acc => ?_))
  · iintro ⟨H, HQ⟩
    isplitl [H]; · iexact H
    iintro %acc H; iapply HQ; iexact H
  · refine BIBase.Entails.trans ?_ ((h k (iter g k.val σ)).run _)
    iintro H
    isplitl [H]; · iexact H
    rw [show iter g (k.val + 1) σ = g k (iter g k.val σ) from dif_pos k.isLt]
    iintro H; iexact H

/-- A conditional does what its branch does. -/
theorem Does.dite {α : Type} {P : Prop} [Decidable P] {p : P → PP F α} {q : ¬ P → PP F α} {σ : St F} {f : P → St F} {g : ¬ P → St F} {r : α}
    (hp : ∀ h, Does A c (p h) σ (f h) r) (hq : ∀ h, Does A c (q h) σ (g h) r) :
    Does A c (if h : P then p h else q h) σ (if h : P then f h else g h) r := by
  by_cases h : P
  · rw [dif_pos h, dif_pos h]; exact hp h
  · rw [dif_neg h, dif_neg h]; exact hq h

/-- The scores of one lane tile of the key block at row `n`. -/
def tileScore (post : FVec F S512x1024 .f32 → FVec F S512x1024 .f32) (n : ℕ) (hn : n + 512 ≤ 8192) (bias : FVec F S512x128 .bf16) (lt : ℕ) (hlt : lt < 4) (σ : St F) : FVec F S512x1024 .f32 :=
  post (scoreOf (VecWindow.window (s := S1x8192x512) σ.k ![0, n, 128 * lt] S1x512x128.size (inb3 (by omega) hn (by omega))) bias
    (VecWindow.window (s := S4096x256) σ.qa ![1024 * lt, 0] S1024x256.size (inb2 (by omega) (by omega))))

/-- The state after one lane tile is scored. -/
def prodStepF (slot : Bool) (post : FVec F S512x1024 .f32 → FVec F S512x1024 .f32) (n : ℕ) (hn : n + 512 ≤ 8192) (bias : FVec F S512x128 .bf16) (lt : ℕ) (hlt : lt < 4) (σ : St F) : St F :=
  let σ' := σ.setS (VecWindow.put (s := S512x4096) (σ.s slot) ![0, 1024 * lt] S512x1024.size (shapeCast S512x1024 (tileScore post n hn bias lt hlt σ) shapeCasts_S512x1024_S512x1024)) slot
  σ'.setR (VecWindow.put (s := S1x4096) (σ'.r slot) ![0, 1024 * lt] S1x1024.size (shapeCast S1x1024 (maxOf (tileScore post n hn bias lt hlt σ)) shapeCasts_S1x1024_S1x1024)) slot

theorem prodStep_does (slot : Bool) (post : FVec F S512x1024 .f32 → FVec F S512x1024 .f32) (n : ℕ) (hn : n + 512 ≤ 8192) (bias : FVec F S512x128 .bf16) (lt : ℕ) (hlt : lt < 4) (σ : St F) :
    Does A c (prodStep A slot post n hn bias lt hlt) σ (prodStepF slot post n hn bias lt hlt σ) ⟨⟩ :=
  (Does.load (lens_k A c) _ _ _).bind <| (Does.load (lens_qa A c) _ _ _).bind <| (Does.load (lens_s A c slot) _ _ _).bind <| (Does.store (lens_s A c slot) _ _ _ _ _).bind <|
    (Does.load (lens_r A c slot) _ _ _).bind <| Does.store (lens_r A c slot) _ _ _ _ _

/-- The bias block at row `n`. -/
def biasBlk (n : ℕ) (hn : n + 512 ≤ 8192) (σ : St F) : FVec F S512x128 .bf16 :=
  shapeCast S512x128 (VecWindow.window (s := S1x8192x128) σ.b ![0, n, 0] S1x512x128.size (inb3 (by omega) hn (by omega)) : Vec F S1x512x128 .bf16) shapeCasts_S1x512x128_S512x128

/-- The state after a key block is scored. -/
def produceF (slot : Bool) (post : FVec F S512x1024 .f32 → FVec F S512x1024 .f32) (n : ℕ) (hn : n + 512 ≤ 8192) (σ : St F) : St F :=
  prodStepF slot post n hn (biasBlk n hn σ) 3 (by omega) (prodStepF slot post n hn (biasBlk n hn σ) 2 (by omega)
    (prodStepF slot post n hn (biasBlk n hn σ) 1 (by omega) (prodStepF slot post n hn (biasBlk n hn σ) 0 (by omega) σ)))

theorem produce_does (slot : Bool) (post : FVec F S512x1024 .f32 → FVec F S512x1024 .f32) (n : ℕ) (hn : n + 512 ≤ 8192) (σ : St F) :
    Does A c (produce A slot post n hn) σ (produceF slot post n hn σ) ⟨⟩ :=
  (Does.load (lens_b A c) _ _ _).bind <| (prodStep_does ..).bind <| (prodStep_does ..).bind <| (prodStep_does ..).bind <| prodStep_does ..

/-- The state after one head's share of a block is folded in. -/
def consStepF (n : ℕ) (hn : n + 512 ≤ 8192) (alpha : FVec F S1x4096 .f32) (p : FVec F S512x4096 .bf16) (h : ℕ) (hh : h < 8) (σ : St F) : St F :=
  { σ with acc := VecWindow.put (s := S8x80x512) σ.acc ![h, 0, 0] S1x80x512.size (shapeCast S1x80x512 (accOf (VecWindow.window (s := S1x512x8192) σ.v ![0, 64 * h, n] S1x64x512.size (inb3 (by omega) (by omega) hn))
        (VecWindow.window (s := S8x80x512) σ.acc ![h, 0, 0] S1x80x512.size (inb3 (by omega) (by omega) (by omega)))
        (extractStridedSlice S1x512 ![0, 512 * h] alpha (sl1 hh)) (extractStridedSlice S512x512 ![0, 512 * h] p (sl2 hh))) shapeCasts_S80x512_S1x80x512) }

theorem consStep_does (n : ℕ) (hn : n + 512 ≤ 8192) (alpha : FVec F S1x4096 .f32) (p : FVec F S512x4096 .bf16) (h : ℕ) (hh : h < 8) (σ : St F) :
    Does A c (consStep A n hn alpha p h hh) σ (consStepF n hn alpha p h hh σ) ⟨⟩ :=
  (Does.load (lens_v A c) _ _ _).bind <| (Does.load (lens_acc A c) _ _ _).bind <| (Does.load (lens_acc A c) _ _ _).bind <| Does.store (lens_acc A c) _ _ _ _ _

/-- The state after all heads' shares. -/
def consAll (n : ℕ) (hn : n + 512 ≤ 8192) (alpha : FVec F S1x4096 .f32) (p : FVec F S512x4096 .bf16) (σ : St F) : St F :=
  consStepF n hn alpha p 7 (by omega) (consStepF n hn alpha p 6 (by omega) (consStepF n hn alpha p 5 (by omega) (consStepF n hn alpha p 4 (by omega)
    (consStepF n hn alpha p 3 (by omega) (consStepF n hn alpha p 2 (by omega) (consStepF n hn alpha p 1 (by omega) (consStepF n hn alpha p 0 (by omega) σ)))))))

/-- A slot of one row read whole. -/
def row (x : Vec F S1x4096 .f32) : Vec F S1x4096 .f32 := VecWindow.window (s := S1x4096) x ![0, 0] S1x4096.size inb_S1x4096_S1x4096_0_0

/-- The state after the running maximum is raised. -/
def raise (slot : Bool) (σ : St F) : St F :=
  { σ with m := VecWindow.put (s := S1x4096) σ.m ![0, 0] S1x4096.size (shapeCast S1x4096 (maximumf (row σ.m) (row (σ.r slot))) shapeCasts_S1x4096_S1x4096) }

/-- The state after a scored block is folded in. -/
def consumeF (slot : Bool) (n : ℕ) (hn : n + 512 ≤ 8192) (σ : St F) : St F :=
  consAll n hn (alphaOf (row σ.m) (row (σ.r slot)))
    (pOf (row σ.m) (row (σ.r slot)) (VecWindow.window (s := S512x4096) ((raise slot σ).s slot) ![0, 0] S512x4096.size inb_S512x4096_S512x4096_0_0)) (raise slot σ)

theorem consume_does (slot : Bool) (n : ℕ) (hn : n + 512 ≤ 8192) (σ : St F) : Does A c (consume A slot n hn) σ (consumeF slot n hn σ) ⟨⟩ :=
  (Does.load (lens_m A c) _ _ _).bind <| (Does.load (lens_r A c slot) _ _ _).bind <| (Does.load (lens_m A c) _ _ _).bind <| (Does.store (lens_m A c) _ _ _ _ _).bind <|
    (Does.load (lens_s A c slot) _ _ _).bind <| (consStep_does ..).bind <| (consStep_does ..).bind <| (consStep_does ..).bind <| (consStep_does ..).bind <|
    (consStep_does ..).bind <| (consStep_does ..).bind <| (consStep_does ..).bind <| consStep_does ..

/-- The state after one step of the main loop. -/
def step1F (i : grid1.Coords) (t : Fin (k1_t1_loop i).trips) (r : Fin 4) (sp sc : Bool) (σ : St F) : St F :=
  consumeF sc (k1_off11 i t (BitVec.ofNat 32 r.val) 2) (k1_off11_inb i t r 2) (produceF sp id (k1_off6 i t (BitVec.ofNat 32 r.val) 1) (k1_off6_inb i t r 1) σ)

theorem step1_does (i : grid1.Coords) (t : Fin (k1_t1_loop i).trips) (r : Fin 4) (sp sc : Bool) (σ : St F) : Does A c (step1 A i t r sp sc) σ (step1F i t r sp sc σ) ⟨⟩ :=
  (produce_does ..).bind (consume_does ..)

/-- The state after one trip of the main loop. -/
def trip1F (i : grid1.Coords) (t : Fin (k1_t1_loop i).trips) (σ : St F) : St F :=
  step1F i t 3 false true (step1F i t 2 true false (step1F i t 1 false true (step1F i t 0 true false σ)))

theorem trip1_does (i : grid1.Coords) (t : Fin (k1_t1_loop i).trips) (σ : St F) : Does A c (trip1 A i t) σ (trip1F i t σ) ⟨⟩ :=
  (step1_does ..).bind <| (step1_does ..).bind <| (step1_does ..).bind <| (step1_does ..).bind <| Does.pure _ _

/-- The state after the loops. -/
def loopsF (i : grid1.Coords) (σ : St F) : St F := iter (trip1F i) (k1_t1_loop i).trips σ

theorem loops_does (i : grid1.Coords) (σ : St F) : Does A c (loops A i) σ (loopsF i σ) ⟨⟩ := by
  unfold loops
  refine (Does.for (k1_t1_loop i) (k1_t1_ok i) _ (trip1F i) (fun t σ => trip1_does i t σ) σ).bind ?_
  have h : (k1_t2_loop i).trips = 0 := Scf.rem_trips _ _
  show Does A c (Scf.for _ _ _ _ _ _) _ _ _
  rw [Scf.for_eq_ret _ _ _ _ _ _ h]
  exact Does.pure _ _

/-- The state after the steps under the first condition. -/
def tail1F (i : grid1.Coords) (σ : St F) : St F :=
  if h1 : k1_cond1 i = 1#1 then
    consumeF true (k1_off37 i (BitVec.ofNat 32 (1 : Fin 2).val) 2) (k1_off37_inb i h1 1 2) (produceF false id (k1_off32 i (BitVec.ofNat 32 (1 : Fin 2).val) 1) (k1_off32_inb i h1 1 1)
      (consumeF false (k1_off37 i (BitVec.ofNat 32 (0 : Fin 2).val) 2) (k1_off37_inb i h1 0 2) (produceF true id (k1_off32 i (BitVec.ofNat 32 (0 : Fin 2).val) 1) (k1_off32_inb i h1 0 1) σ)))
  else σ

theorem tail1_does (i : grid1.Coords) (σ : St F) : Does A c (tail1 A i) σ (tail1F i σ) ⟨⟩ :=
  Does.dite (fun _ => (produce_does ..).bind <| (consume_does ..).bind <| (produce_does ..).bind <| (consume_does ..).bind <| Does.pure _ _) (fun _ => Does.pure _ _)

/-- The state after the steps under the second condition. -/
def tail2F (i : grid1.Coords) (σ : St F) : St F :=
  if h2 : k1_cond2 i = 1#1 then
    consumeF true (k1_off50 i (BitVec.ofNat 32 (1 : Fin 2).val) 2) (k1_off50_inb i h2 1 2) (consumeF false (k1_off50 i (BitVec.ofNat 32 (0 : Fin 2).val) 2) (k1_off50_inb i h2 0 2)
      (produceF true id (k1_off45 i 1) (k1_off45_inb i h2 1) σ))
  else σ

theorem tail2_does (i : grid1.Coords) (σ : St F) : Does A c (tail2 A i) σ (tail2F i σ) ⟨⟩ :=
  Does.dite (fun _ => (produce_does ..).bind <| (consume_does ..).bind <| (consume_does ..).bind <| Does.pure _ _) (fun _ => Does.pure _ _)

/-- The state after the step under the third condition. -/
def tail3F (i : grid1.Coords) (σ : St F) : St F :=
  if h3 : k1_cond3 i = 1#1 then consumeF false (k1_off58 i 2) (k1_off58_inb i h3 2) σ else σ

theorem tail3_does (i : grid1.Coords) (σ : St F) : Does A c (tail3 A i) σ (tail3F i σ) ⟨⟩ :=
  Does.dite (fun _ => (consume_does ..).bind <| Does.pure _ _) (fun _ => Does.pure _ _)

/-- The state after one head's masked queries are written. -/
def qaHeadF (i : grid1.Coords) (q : Vec F S1x512x128 .f32) (lo hi : BitVec 32) (h : ℕ) (σ : St F) : St F :=
  { σ with qa := VecWindow.put (s := S4096x256) (VecWindow.put (s := S4096x256) σ.qa ![512 * h, 0] S512x128.size (shapeCast S512x128 (qHead lo hi q) shapeCasts_S512x128_S512x128)) ![512 * h, 128] S512x128.size (shapeCast S512x128 (biasLanes (F := F) (headNo i h)) shapeCasts_S512x128_S512x128) }

theorem qaHead_does (i : grid1.Coords) (q : Vec F S1x512x128 .f32) (lo hi : BitVec 32) (h : ℕ) (hh : h < 8) (x0) (x1) (σ : St F) :
    Does A c (qaHead A i q lo hi h hh x0 x1) σ (qaHeadF i q lo hi h σ) ⟨⟩ :=
  (Does.load (lens_qa A c) _ _ _).bind <| (Does.store (lens_qa A c) _ _ _ _ _).bind <| (Does.load (lens_qa A c) _ _ _).bind <| Does.store (lens_qa A c) _ _ _ _ _

/-- A lane tile of the query block. -/
def qTile (lt : ℕ) (hlt : lt < 4) (σ : St F) : Vec F S1x512x128 .f32 := VecWindow.window (s := S1x512x512) σ.q ![0, 0, 128 * lt] S1x512x128.size (inb3 (by omega) (by omega) (by omega))

theorem ldQ_does (lt : ℕ) (hlt : lt < 4) (σ : St F) : Does A c (ldQ A lt hlt) σ σ (qTile lt hlt σ) := Does.load (lens_q A c) _ _ _

/-- The state after two heads' masked queries are written. -/
def qaPairF (i : grid1.Coords) (lt : ℕ) (hlt : lt < 4) (σ : St F) : St F :=
  qaHeadF i (qTile lt hlt σ) 64#32 128#32 (2 * lt + 1) (qaHeadF i (qTile lt hlt σ) 0#32 64#32 (2 * lt) σ)

/-- The state after all masked queries are written. -/
def qaFillF (i : grid1.Coords) (σ : St F) : St F := qaPairF i 3 (by omega) (qaPairF i 2 (by omega) (qaPairF i 1 (by omega) (qaPairF i 0 (by omega) σ)))

theorem qaFill_does (i : grid1.Coords) (σ : St F) : Does A c (qaFill A i) σ (qaFillF i σ) ⟨⟩ :=
  (ldQ_does ..).bind <| (qaHead_does ..).bind <| (qaHead_does ..).bind <| (ldQ_does ..).bind <| (qaHead_does ..).bind <| (qaHead_does ..).bind <|
    (ldQ_does ..).bind <| (qaHead_does ..).bind <| (qaHead_does ..).bind <| (ldQ_does ..).bind <| (qaHead_does ..).bind <| qaHead_does ..

/-- The state after the running maximum and sums are reset. -/
def clearF (σ : St F) : St F :=
  { σ with
    m := VecWindow.put (s := S1x4096) σ.m ![0, 0] S1x4096.size (shapeCast S1x4096 (broadcast S1x4096 (maskC (F := F))) shapeCasts_S1x4096_S1x4096)
    acc := VecWindow.put (s := S8x80x512) σ.acc ![0, 0, 0] S8x80x512.size (shapeCast S8x80x512 (broadcast S8x80x512 (Scalar.ofBits .f32 0x00000000#32 : F .f32)) shapeCasts_S8x80x512_S8x80x512) }

theorem clear_does (σ : St F) : Does A c (clear A) σ (clearF σ) ⟨⟩ :=
  (Does.load (lens_m A c) _ _ _).bind <| (Does.store (lens_m A c) _ _ _ _ _).bind <| (Does.load (lens_acc A c) _ _ _).bind <| Does.store (lens_acc A c) _ _ _ _ _

/-- One head's quotient at a state. -/
def quotF (h : ℕ) (hh : h < 8) (σ : St F) : FVec F S64x512 .f32 :=
  quotOf (VecWindow.window (s := S8x80x512) σ.acc ![h, 0, 0] S1x80x512.size (inb3 (by omega) (by omega) (by omega)))
    (VecWindow.window (s := S8x80x512) σ.acc ![h, 0, 0] S1x80x512.size (inb3 (by omega) (by omega) (by omega)))

theorem quot_does (h : ℕ) (hh : h < 8) (σ : St F) : Does A c (quot A h hh) σ σ (quotF h hh σ) :=
  (Does.load (lens_acc A c) _ _ _).bind <| (Does.load (lens_acc A c) _ _ _).bind <| Does.pure _ _

/-- The state after the output block is written. -/
def finishF (σ : St F) : St F :=
  { σ with o := VecWindow.put (s := S1x512x512) σ.o ![0, 0, 0] S1x512x512.size (shapeCast S1x512x512 (outOf (quotF 0 (by omega) σ) (quotF 1 (by omega) σ) (quotF 2 (by omega) σ) (quotF 3 (by omega) σ) (quotF 4 (by omega) σ) (quotF 5 (by omega) σ)
        (quotF 6 (by omega) σ) (quotF 7 (by omega) σ)) shapeCasts_S512x512_S1x512x512) }

theorem finish_does (σ : St F) : Does A c (finish A) σ (finishF σ) ⟨⟩ :=
  (quot_does ..).bind <| (quot_does ..).bind <| (quot_does ..).bind <| (quot_does ..).bind <| (quot_does ..).bind <| (quot_does ..).bind <| (quot_does ..).bind <| (quot_does ..).bind <|
    (Does.load (lens_o A c) _ _ _).bind <| (Does.store (lens_o A c) _ _ _ _ _).bind <| Does.pure _ _

/-- The state before the output is written. -/
def coreF (i : grid1.Coords) (σ : St F) : St F :=
  tail3F i (tail2F i (tail1F i (loopsF i (produceF false maskOf (k1_off1 i 1) (k1_off1_inb i 1) (clearF (qaFillF i σ))))))

/-- The state after the body. -/
def bodyF (i : grid1.Coords) (σ : St F) : St F := finishF (coreF i σ)

/-- The attention body does `bodyF`. -/
theorem body_does (i : grid1.Coords) (σ : St F) : Does A c (body A i) σ (bodyF i σ) ⟨⟩ :=
  (qaFill_does ..).bind <| (clear_does ..).bind <| (produce_does ..).bind <| (loops_does ..).bind <| (tail1_does ..).bind <| (tail2_does ..).bind <| (tail3_does ..).bind <| finish_does ..

end Cert.Proof.KernelIdeal
-- ==== Proof.Same.lean ====
/-
  What the attention body leaves in the output block depends on its four inputs alone: every other buffer is written
  in full before it is read.
-/
module

public import proofs.«01_k».proof.Proof.Steps

@[expose] public section

noncomputable section

namespace Cert.Proof.KernelIdeal

open Cert.KernelIdeal Cert.KernelIdeal.Gen Idealize.ShloMosaic Idealize.SL.Sem

variable {F : FTy → Type} [FloatOps F] [Named F]

/-- An index lies in the window of sizes `size` at offsets `off`. -/
def In {s : Shape} (off size : Fin s.rank → ℕ) (y : s.Idx) : Prop := ∀ a, off a ≤ (y a).val ∧ (y a).val < off a + size a

/-- Where two values agree on `P`, after the same payload is put over both they agree on the window too. -/
theorem put_agree {s : Shape} {α : Type} {P : s.Idx → Prop} {x x' : s.Idx → α} (h : ∀ y, P y → x y = x' y) (off size : Fin s.rank → ℕ)
    (w : ((a : Fin s.rank) → Fin (size a)) → α) : ∀ y, P y ∨ In off size y → VecWindow.put x off size w y = VecWindow.put x' off size w y := by
  intro y hy
  unfold VecWindow.put
  split
  · rfl
  · rename_i hin
    exact h y (hy.resolve_right hin)

/-- A put over the whole shape does not depend on what was there. -/
theorem put_all {s : Shape} {α : Type} (x x' : s.Idx → α) (off size : Fin s.rank → ℕ) (w : ((a : Fin s.rank) → Fin (size a)) → α) (h : ∀ y, In off size y) :
    VecWindow.put x off size w = VecWindow.put x' off size w :=
  funext fun y => put_agree (P := fun _ => False) (fun _ h => h.elim) off size w y (.inr (h y))

theorem in2 {a0 a1 s0 s1 S0 S1 : ℕ} (y : (⟨2, ![S0, S1]⟩ : Shape).Idx) (h0 : a0 ≤ (y 0).val ∧ (y 0).val < a0 + s0) (h1 : a1 ≤ (y 1).val ∧ (y 1).val < a1 + s1) :
    In (s := ⟨2, ![S0, S1]⟩) ![a0, a1] ![s0, s1] y := by
  intro a; fin_cases a
  · exact h0
  · exact h1

/-- The four lane tiles of scores put over a slot. -/
def scoresOn (x : Vec F S512x4096 .f32) (post : FVec F S512x1024 .f32 → FVec F S512x1024 .f32) (n : ℕ) (hn : n + 512 ≤ 8192) (σ : St F) : Vec F S512x4096 .f32 :=
  VecWindow.put (s := S512x4096) (VecWindow.put (s := S512x4096) (VecWindow.put (s := S512x4096) (VecWindow.put (s := S512x4096) x
    ![0, 1024 * 0] S512x1024.size (shapeCast S512x1024 (tileScore post n hn (biasBlk n hn σ) 0 (by omega) σ) shapeCasts_S512x1024_S512x1024))
    ![0, 1024 * 1] S512x1024.size (shapeCast S512x1024 (tileScore post n hn (biasBlk n hn σ) 1 (by omega) σ) shapeCasts_S512x1024_S512x1024))
    ![0, 1024 * 2] S512x1024.size (shapeCast S512x1024 (tileScore post n hn (biasBlk n hn σ) 2 (by omega) σ) shapeCasts_S512x1024_S512x1024))
    ![0, 1024 * 3] S512x1024.size (shapeCast S512x1024 (tileScore post n hn (biasBlk n hn σ) 3 (by omega) σ) shapeCasts_S512x1024_S512x1024)

/-- The four lane tiles of column maxima put over a slot. -/
def maxesOn (x : Vec F S1x4096 .f32) (post : FVec F S512x1024 .f32 → FVec F S512x1024 .f32) (n : ℕ) (hn : n + 512 ≤ 8192) (σ : St F) : Vec F S1x4096 .f32 :=
  VecWindow.put (s := S1x4096) (VecWindow.put (s := S1x4096) (VecWindow.put (s := S1x4096) (VecWindow.put (s := S1x4096) x
    ![0, 1024 * 0] S1x1024.size (shapeCast S1x1024 (maxOf (tileScore post n hn (biasBlk n hn σ) 0 (by omega) σ)) shapeCasts_S1x1024_S1x1024))
    ![0, 1024 * 1] S1x1024.size (shapeCast S1x1024 (maxOf (tileScore post n hn (biasBlk n hn σ) 1 (by omega) σ)) shapeCasts_S1x1024_S1x1024))
    ![0, 1024 * 2] S1x1024.size (shapeCast S1x1024 (maxOf (tileScore post n hn (biasBlk n hn σ) 2 (by omega) σ)) shapeCasts_S1x1024_S1x1024))
    ![0, 1024 * 3] S1x1024.size (shapeCast S1x1024 (maxOf (tileScore post n hn (biasBlk n hn σ) 3 (by omega) σ)) shapeCasts_S1x1024_S1x1024)

/-- One lane tile's scoring from a slot set to given values. -/
theorem prodStepF_set (slot : Bool) (post : FVec F S512x1024 .f32 → FVec F S512x1024 .f32) (n : ℕ) (hn : n + 512 ≤ 8192) (bias : FVec F S512x128 .bf16) (lt : ℕ) (hlt : lt < 4) (σ : St F)
    (X : Vec F S512x4096 .f32) (Y : Vec F S1x4096 .f32) :
    prodStepF slot post n hn bias lt hlt ((σ.setS X slot).setR Y slot)
      = (σ.setS (VecWindow.put (s := S512x4096) X ![0, 1024 * lt] S512x1024.size (shapeCast S512x1024 (tileScore post n hn bias lt hlt σ) shapeCasts_S512x1024_S512x1024)) slot).setR
          (VecWindow.put (s := S1x4096) Y ![0, 1024 * lt] S1x1024.size (shapeCast S1x1024 (maxOf (tileScore post n hn bias lt hlt σ)) shapeCasts_S1x1024_S1x1024)) slot := by
  cases slot <;> rfl

/-- A state is itself with a slot set to what it holds. -/
theorem set_self (slot : Bool) (σ : St F) : (σ.setS (σ.s slot) slot).setR (σ.r slot) slot = σ := by cases slot <;> rfl

/-- Scoring a block sets the slot's scores and maxima. -/
theorem produceF_eq (slot : Bool) (post : FVec F S512x1024 .f32 → FVec F S512x1024 .f32) (n : ℕ) (hn : n + 512 ≤ 8192) (σ : St F) :
    produceF slot post n hn σ = (σ.setS (scoresOn (σ.s slot) post n hn σ) slot).setR (maxesOn (σ.r slot) post n hn σ) slot := by
  unfold produceF
  conv_lhs => arg 8; arg 8; arg 8; arg 8; rw [← set_self slot σ]
  rw [prodStepF_set, prodStepF_set, prodStepF_set, prodStepF_set]
  rfl

/-- The scores do not depend on what the slot held. -/
theorem scoresOn_base (x x' : Vec F S512x4096 .f32) (post : FVec F S512x1024 .f32 → FVec F S512x1024 .f32) (n : ℕ) (hn : n + 512 ≤ 8192) (σ : St F) :
    scoresOn x post n hn σ = scoresOn x' post n hn σ := by
  funext y
  refine put_agree (put_agree (put_agree (put_agree (P := fun _ => False) (fun _ h => h.elim) _ _ _) _ _ _) _ _ _) _ _ _ y ?_
  have h0 : (y 0).val < 512 := (y 0).isLt
  have h1 : (y 1).val < 4096 := (y 1).isLt
  have key : ∀ t : ℕ, 1024 * t ≤ (y 1).val → (y 1).val < 1024 * t + 1024 → In (s := S512x4096) ![0, 1024 * t] S512x1024.size y :=
    fun t a b => in2 (s0 := 512) (s1 := 1024) y ⟨by omega, by omega⟩ ⟨a, b⟩
  rcases Nat.lt_or_ge (y 1).val 1024 with c | c
  · exact .inl (.inl (.inl (.inr (key 0 (by omega) (by omega)))))
  rcases Nat.lt_or_ge (y 1).val 2048 with c | c
  · exact .inl (.inl (.inr (key 1 (by omega) (by omega))))
  rcases Nat.lt_or_ge (y 1).val 3072 with c | c
  · exact .inl (.inr (key 2 (by omega) (by omega)))
  exact .inr (key 3 (by omega) (by omega))

/-- The maxima do not depend on what the slot held. -/
theorem maxesOn_base (x x' : Vec F S1x4096 .f32) (post : FVec F S512x1024 .f32 → FVec F S512x1024 .f32) (n : ℕ) (hn : n + 512 ≤ 8192) (σ : St F) :
    maxesOn x post n hn σ = maxesOn x' post n hn σ := by
  funext y
  refine put_agree (put_agree (put_agree (put_agree (P := fun _ => False) (fun _ h => h.elim) _ _ _) _ _ _) _ _ _) _ _ _ y ?_
  have h0 : (y 0).val < 1 := (y 0).isLt
  have h1 : (y 1).val < 4096 := (y 1).isLt
  have key : ∀ t : ℕ, 1024 * t ≤ (y 1).val → (y 1).val < 1024 * t + 1024 → In (s := S1x4096) ![0, 1024 * t] S1x1024.size y :=
    fun t a b => in2 (s0 := 1) (s1 := 1024) y ⟨by omega, by omega⟩ ⟨a, b⟩
  rcases Nat.lt_or_ge (y 1).val 1024 with c | c
  · exact .inl (.inl (.inl (.inr (key 0 (by omega) (by omega)))))
  rcases Nat.lt_or_ge (y 1).val 2048 with c | c
  · exact .inl (.inl (.inr (key 1 (by omega) (by omega))))
  rcases Nat.lt_or_ge (y 1).val 3072 with c | c
  · exact .inl (.inr (key 2 (by omega) (by omega)))
  exact .inr (key 3 (by omega) (by omega))

/-- Two states with the same inputs, masked queries, maxima and sums, and the same slots of those that `D` names. -/
structure Same (D : Bool → Prop) (σ σ' : St F) : Prop where
  k : σ.k = σ'.k
  b : σ.b = σ'.b
  v : σ.v = σ'.v
  qa : σ.qa = σ'.qa
  m : σ.m = σ'.m
  acc : σ.acc = σ'.acc
  s : ∀ x, D x → σ.s x = σ'.s x
  r : ∀ x, D x → σ.r x = σ'.r x

/-- Scoring a block into a slot keeps two states the same and makes the slot the same. -/
theorem Same.produce {D : Bool → Prop} {σ σ' : St F} (h : Same D σ σ') (slot : Bool) (post : FVec F S512x1024 .f32 → FVec F S512x1024 .f32) (n : ℕ) (hn : n + 512 ≤ 8192) :
    Same (fun x => x = slot ∨ D x) (produceF slot post n hn σ) (produceF slot post n hn σ') := by
  obtain ⟨q, k, b, v, o, qa, m, acc, sa, sb, ra, rb⟩ := σ
  obtain ⟨q', k', b', v', o', qa', m', acc', sa', sb', ra', rb'⟩ := σ'
  obtain ⟨h1, h2, h3, h4, h5, h6, h7, h8⟩ := h
  dsimp only at h1 h2 h3 h4 h5 h6
  subst h1 h2 h3 h4 h5 h6
  rw [produceF_eq, produceF_eq]
  cases slot
  · refine ⟨rfl, rfl, rfl, rfl, rfl, rfl, ?_, ?_⟩
    · intro x hx
      cases x
      · exact scoresOn_base _ _ _ _ _ _
      · exact h7 true (hx.resolve_left (by decide))
    · intro x hx
      cases x
      · exact maxesOn_base _ _ _ _ _ _
      · exact h8 true (hx.resolve_left (by decide))
  · refine ⟨rfl, rfl, rfl, rfl, rfl, rfl, ?_, ?_⟩
    · intro x hx
      cases x
      · exact h7 false (hx.resolve_left (by decide))
      · exact scoresOn_base _ _ _ _ _ _
    · intro x hx
      cases x
      · exact h8 false (hx.resolve_left (by decide))
      · exact maxesOn_base _ _ _ _ _ _

/-- Folding in a slot that is the same keeps two states the same. -/
theorem Same.consume {D : Bool → Prop} {σ σ' : St F} (h : Same D σ σ') (slot : Bool) (hd : D slot) (n : ℕ) (hn : n + 512 ≤ 8192) :
    Same D (consumeF slot n hn σ) (consumeF slot n hn σ') := by
  obtain ⟨q, k, b, v, o, qa, m, acc, sa, sb, ra, rb⟩ := σ
  obtain ⟨q', k', b', v', o', qa', m', acc', sa', sb', ra', rb'⟩ := σ'
  obtain ⟨h1, h2, h3, h4, h5, h6, h7, h8⟩ := h
  dsimp only at h1 h2 h3 h4 h5 h6
  subst h1 h2 h3 h4 h5 h6
  have hs := h7 slot hd
  have hr := h8 slot hd
  cases slot
  · change sa = sa' at hs
    change ra = ra' at hr
    subst hs hr
    exact ⟨rfl, rfl, rfl, rfl, rfl, rfl, fun x hx => by cases x; exacts [rfl, h7 true hx], fun x hx => by cases x; exacts [rfl, h8 true hx]⟩
  · change sb = sb' at hs
    change rb = rb' at hr
    subst hs hr
    exact ⟨rfl, rfl, rfl, rfl, rfl, rfl, fun x hx => by cases x; exacts [h7 false hx, rfl], fun x hx => by cases x; exacts [h8 false hx, rfl]⟩

theorem Same.weaken {D E : Bool → Prop} {σ σ' : St F} (h : Same D σ σ') (hDE : ∀ x, E x → D x) : Same E σ σ' :=
  { h with s := fun x hx => h.s x (hDE x hx), r := fun x hx => h.r x (hDE x hx) }

/-- The first slot alone. -/
abbrev D0 : Bool → Prop := fun x => x = false

theorem Same.step {σ σ' : St F} {sp sc : Bool} (i : grid1.Coords) (t : Fin (k1_t1_loop i).trips) (r : Fin 4) (h : Same (fun x => x = sc) σ σ') :
    Same (fun x => x = sp) (step1F i t r sp sc σ) (step1F i t r sp sc σ') :=
  ((h.produce sp id _ (k1_off6_inb i t r 1)).consume sc (.inr rfl) _ (k1_off11_inb i t r 2)).weaken fun _ hx => .inl hx

theorem Same.trip {σ σ' : St F} (i : grid1.Coords) (t : Fin (k1_t1_loop i).trips) (h : Same D0 σ σ') : Same D0 (trip1F i t σ) (trip1F i t σ') :=
  ((((h.step (sp := true) i t 0).step (sp := false) i t 1).step (sp := true) i t 2).step (sp := false) i t 3)

theorem Same.loops {σ σ' : St F} (i : grid1.Coords) (h : Same D0 σ σ') : Same D0 (loopsF i σ) (loopsF i σ') := by
  have key : ∀ k, Same D0 (iter (trip1F i) k σ) (iter (trip1F i) k σ') := fun k => by
    induction k with
    | zero => exact h
    | succ k ih =>
      unfold iter
      split
      · exact ih.trip i _
      · exact ih
  exact key _

theorem Same.tail1 {σ σ' : St F} (i : grid1.Coords) (h : Same D0 σ σ') : Same D0 (tail1F i σ) (tail1F i σ') := by
  unfold tail1F
  split
  · exact ((((h.produce true id _ _).consume false (.inr rfl) _ _).produce false id _ _).consume true (.inr (.inl rfl)) _ _).weaken fun _ hx => .inl hx
  · exact h

theorem Same.tail2 {σ σ' : St F} (i : grid1.Coords) (h : Same D0 σ σ') : Same D0 (tail2F i σ) (tail2F i σ') := by
  unfold tail2F
  split
  · exact (((h.produce true id _ _).consume false (.inr rfl) _ _).consume true (.inl rfl) _ _).weaken fun _ hx => .inr hx
  · exact h

theorem Same.tail3 {σ σ' : St F} (i : grid1.Coords) (h : Same D0 σ σ') : Same D0 (tail3F i σ) (tail3F i σ') := by
  unfold tail3F
  split
  · exact h.consume false rfl _ _
  · exact h

/-- The windows of the masked queries that head `h` writes. -/
def InHead (h : ℕ) (y : S4096x256.Idx) : Prop := In (s := S4096x256) ![512 * h, 0] S512x128.size y ∨ In (s := S4096x256) ![512 * h, 128] S512x128.size y

theorem qaHeadF_agree {P : S4096x256.Idx → Prop} {σ σ' : St F} (hp : ∀ y, P y → σ.qa y = σ'.qa y) (i : grid1.Coords) (q : Vec F S1x512x128 .f32) (lo hi : BitVec 32) (h : ℕ) :
    ∀ y, P y ∨ InHead h y → (qaHeadF i q lo hi h σ).qa y = (qaHeadF i q lo hi h σ').qa y := fun y hy =>
  put_agree (put_agree hp _ _ _) _ _ _ y (hy.elim (fun a => .inl (.inl a)) fun a => a.elim (fun b => .inl (.inr b)) .inr)

theorem qaPairF_agree {P : S4096x256.Idx → Prop} {σ σ' : St F} (hp : ∀ y, P y → σ.qa y = σ'.qa y) (hq : σ.q = σ'.q) (i : grid1.Coords) (lt : ℕ) (hlt : lt < 4) :
    ∀ y, (P y ∨ InHead (2 * lt) y) ∨ InHead (2 * lt + 1) y → (qaPairF i lt hlt σ).qa y = (qaPairF i lt hlt σ').qa y := by
  unfold qaPairF
  rw [show qTile lt hlt σ' = qTile lt hlt σ from by unfold qTile; rw [hq]]
  exact qaHeadF_agree (qaHeadF_agree hp i _ _ _ _) i _ _ _ _

theorem inHead_of (y : S4096x256.Idx) (h : ℕ) (ha : 512 * h ≤ (y 0).val) (hb : (y 0).val < 512 * h + 512) : InHead h y := by
  have h1 : (y 1).val < 256 := (y 1).isLt
  rcases Nat.lt_or_ge (y 1).val 128 with c | c
  · exact .inl (in2 (s0 := 512) (s1 := 128) y ⟨ha, hb⟩ ⟨by omega, by omega⟩)
  · exact .inr (in2 (s0 := 512) (s1 := 128) y ⟨ha, hb⟩ ⟨by omega, by omega⟩)

/-- The masked queries depend on the queries alone. -/
theorem qaFillF_qa (i : grid1.Coords) {σ σ' : St F} (hq : σ.q = σ'.q) : (qaFillF i σ).qa = (qaFillF i σ').qa := by
  funext y
  unfold qaFillF
  have hq1 : (qaPairF i 0 (by omega) σ).q = (qaPairF i 0 (by omega) σ').q := hq
  have hq2 : (qaPairF i 1 (by omega) (qaPairF i 0 (by omega) σ)).q = (qaPairF i 1 (by omega) (qaPairF i 0 (by omega) σ')).q := hq1
  have hq3 : (qaPairF i 2 (by omega) (qaPairF i 1 (by omega) (qaPairF i 0 (by omega) σ))).q = (qaPairF i 2 (by omega) (qaPairF i 1 (by omega) (qaPairF i 0 (by omega) σ'))).q := hq2
  refine qaPairF_agree (qaPairF_agree (qaPairF_agree (qaPairF_agree (P := fun _ => False) (fun _ h => h.elim) hq i 0 (by omega)) hq1 i 1 (by omega)) hq2 i 2 (by omega)) hq3 i 3 (by omega) y ?_
  have h0 : (y 0).val < 4096 := (y 0).isLt
  rcases Nat.lt_or_ge (y 0).val 512 with c | c
  · exact .inl (.inl (.inl (.inl (.inl (.inl (.inl (.inr (inHead_of y (2 * 0) (by omega) (by omega)))))))))
  rcases Nat.lt_or_ge (y 0).val 1024 with c | c
  · exact .inl (.inl (.inl (.inl (.inl (.inl (.inr (inHead_of y (2 * 0 + 1) (by omega) (by omega))))))))
  rcases Nat.lt_or_ge (y 0).val 1536 with c | c
  · exact .inl (.inl (.inl (.inl (.inl (.inr (inHead_of y (2 * 1) (by omega) (by omega)))))))
  rcases Nat.lt_or_ge (y 0).val 2048 with c | c
  · exact .inl (.inl (.inl (.inl (.inr (inHead_of y (2 * 1 + 1) (by omega) (by omega))))))
  rcases Nat.lt_or_ge (y 0).val 2560 with c | c
  · exact .inl (.inl (.inl (.inr (inHead_of y (2 * 2) (by omega) (by omega)))))
  rcases Nat.lt_or_ge (y 0).val 3072 with c | c
  · exact .inl (.inl (.inr (inHead_of y (2 * 2 + 1) (by omega) (by omega))))
  rcases Nat.lt_or_ge (y 0).val 3584 with c | c
  · exact .inl (.inr (inHead_of y (2 * 3) (by omega) (by omega)))
  exact .inr (inHead_of y (2 * 3 + 1) (by omega) (by omega))

/-- One state has the inputs of another. -/
structure Keeps (σ' σ : St F) : Prop where
  q : σ'.q = σ.q
  k : σ'.k = σ.k
  b : σ'.b = σ.b
  v : σ'.v = σ.v

theorem Keeps.refl (σ : St F) : Keeps σ σ := ⟨rfl, rfl, rfl, rfl⟩

theorem Keeps.trans {a b c : St F} (h : Keeps a b) (h' : Keeps b c) : Keeps a c := ⟨h.q.trans h'.q, h.k.trans h'.k, h.b.trans h'.b, h.v.trans h'.v⟩

theorem keeps_qaHead (i : grid1.Coords) (q : Vec F S1x512x128 .f32) (lo hi : BitVec 32) (h : ℕ) (σ : St F) : Keeps (qaHeadF i q lo hi h σ) σ := ⟨rfl, rfl, rfl, rfl⟩

theorem keeps_qaPair (i : grid1.Coords) (lt : ℕ) (hlt : lt < 4) (σ : St F) : Keeps (qaPairF i lt hlt σ) σ := (keeps_qaHead ..).trans (keeps_qaHead ..)

theorem keeps_qaFill (i : grid1.Coords) (σ : St F) : Keeps (qaFillF i σ) σ := (keeps_qaPair ..).trans ((keeps_qaPair ..).trans ((keeps_qaPair ..).trans (keeps_qaPair ..)))

theorem keeps_clear (σ : St F) : Keeps (clearF σ) σ := ⟨rfl, rfl, rfl, rfl⟩

theorem keeps_finish (σ : St F) : Keeps (finishF σ) σ := ⟨rfl, rfl, rfl, rfl⟩

/-- The reset maxima. -/
theorem clearF_m (σ σ' : St F) : (clearF σ).m = (clearF σ').m :=
  put_all σ.m σ'.m _ _ _ fun y => in2 (s0 := 1) (s1 := 4096) y ⟨Nat.zero_le _, by have : (y 0).val < 1 := (y 0).isLt; omega⟩ ⟨Nat.zero_le _, by have : (y 1).val < 4096 := (y 1).isLt; omega⟩

/-- The reset sums. -/
theorem clearF_acc (σ σ' : St F) : (clearF σ).acc = (clearF σ').acc :=
  put_all σ.acc σ'.acc _ _ _ fun y a => by
    fin_cases a
    · exact ⟨Nat.zero_le _, by have : (y 0).val < 8 := (y 0).isLt; show (y 0).val < 0 + 8; omega⟩
    · exact ⟨Nat.zero_le _, by have : (y 1).val < 80 := (y 1).isLt; show (y 1).val < 0 + 80; omega⟩
    · exact ⟨Nat.zero_le _, by have : (y 2).val < 512 := (y 2).isLt; show (y 2).val < 0 + 512; omega⟩

theorem clearF_qa (σ : St F) : (clearF σ).qa = σ.qa := rfl

/-- After the queries are masked and the sums reset, two states with the same inputs are the same. -/
theorem same_start (i : grid1.Coords) {σ σ' : St F} (hq : σ.q = σ'.q) (hk : σ.k = σ'.k) (hb : σ.b = σ'.b) (hv : σ.v = σ'.v) :
    Same (fun _ => False) (clearF (qaFillF i σ)) (clearF (qaFillF i σ')) :=
  have K := (keeps_clear _).trans (keeps_qaFill i σ)
  have K' := (keeps_clear _).trans (keeps_qaFill i σ')
  { k := K.k.trans (hk.trans K'.k.symm)
    b := K.b.trans (hb.trans K'.b.symm)
    v := K.v.trans (hv.trans K'.v.symm)
    qa := by rw [clearF_qa, clearF_qa]; exact qaFillF_qa i hq
    m := clearF_m _ _
    acc := clearF_acc _ _
    s := fun _ h => h.elim
    r := fun _ h => h.elim }

theorem same_core (i : grid1.Coords) {σ σ' : St F} (hq : σ.q = σ'.q) (hk : σ.k = σ'.k) (hb : σ.b = σ'.b) (hv : σ.v = σ'.v) :
    Same D0 (coreF i σ) (coreF i σ') :=
  (((((same_start i hq hk hb hv).produce false maskOf _ (k1_off1_inb i 1)).weaken fun _ hx => .inl hx).loops i).tail1 i).tail2 i |>.tail3 i

/-- The output block depends on the four inputs alone. -/
theorem bodyF_o (i : grid1.Coords) {σ σ' : St F} (hq : σ.q = σ'.q) (hk : σ.k = σ'.k) (hb : σ.b = σ'.b) (hv : σ.v = σ'.v) :
    (bodyF i σ).o = (bodyF i σ').o := by
  have h := (same_core i hq hk hb hv).acc
  have e : ∀ n hn, quotF n hn (coreF i σ) = quotF n hn (coreF i σ') := fun n hn => by unfold quotF; rw [h]
  unfold bodyF finishF
  simp only [e]
  exact put_all _ _ _ _ _ fun y a => by
    fin_cases a
    · exact ⟨Nat.zero_le _, by have : (y 0).val < 1 := (y 0).isLt; show (y 0).val < 0 + 1; omega⟩
    · exact ⟨Nat.zero_le _, by have : (y 1).val < 512 := (y 1).isLt; show (y 1).val < 0 + 512; omega⟩
    · exact ⟨Nat.zero_le _, by have : (y 2).val < 512 := (y 2).isLt; show (y 2).val < 0 + 512; omega⟩

/-- A state with the given inputs. -/
def start (q : Vec F S1x512x512 .f32) (k : Vec F S1x8192x512 .bf16) (b : Vec F S1x8192x128 .bf16) (v : Vec F S1x512x8192 .bf16) : St F where
  q := q
  k := k
  b := b
  v := v
  o := fun _ => Scalar.ofBits .bf16 0x0000#16
  qa := fun _ => Scalar.ofBits .bf16 0x0000#16
  m := fun _ => Scalar.ofBits .f32 0x00000000#32
  acc := fun _ => Scalar.ofBits .f32 0x00000000#32
  sa := fun _ => Scalar.ofBits .f32 0x00000000#32
  sb := fun _ => Scalar.ofBits .f32 0x00000000#32
  ra := fun _ => Scalar.ofBits .f32 0x00000000#32
  rb := fun _ => Scalar.ofBits .f32 0x00000000#32

/-- The output block from the four inputs. -/
def outF (i : grid1.Coords) (q : Vec F S1x512x512 .f32) (k : Vec F S1x8192x512 .bf16) (b : Vec F S1x8192x128 .bf16) (v : Vec F S1x512x8192 .bf16) : Vec F S1x512x512 .bf16 :=
  (bodyF i (start q k b v)).o

theorem keeps_produce (slot : Bool) (post : FVec F S512x1024 .f32 → FVec F S512x1024 .f32) (n : ℕ) (hn : n + 512 ≤ 8192) (σ : St F) : Keeps (produceF slot post n hn σ) σ := by
  rw [produceF_eq]
  cases slot <;> exact ⟨rfl, rfl, rfl, rfl⟩

theorem keeps_consStep (n : ℕ) (hn : n + 512 ≤ 8192) (alpha : FVec F S1x4096 .f32) (p : FVec F S512x4096 .bf16) (h : ℕ) (hh : h < 8) (σ : St F) : Keeps (consStepF n hn alpha p h hh σ) σ :=
  ⟨rfl, rfl, rfl, rfl⟩

theorem keeps_raise (slot : Bool) (σ : St F) : Keeps (raise slot σ) σ := ⟨rfl, rfl, rfl, rfl⟩

theorem keeps_consume (slot : Bool) (n : ℕ) (hn : n + 512 ≤ 8192) (σ : St F) : Keeps (consumeF slot n hn σ) σ :=
  (keeps_consStep n hn _ _ 7 (by omega) _).trans <| (keeps_consStep n hn _ _ 6 (by omega) _).trans <| (keeps_consStep n hn _ _ 5 (by omega) _).trans <| (keeps_consStep n hn _ _ 4 (by omega) _).trans <| (keeps_consStep n hn _ _ 3 (by omega) _).trans <| (keeps_consStep n hn _ _ 2 (by omega) _).trans <| (keeps_consStep n hn _ _ 1 (by omega) _).trans <| (keeps_consStep n hn _ _ 0 (by omega) _).trans (keeps_raise slot σ)

theorem keeps_step (i : grid1.Coords) (t : Fin (k1_t1_loop i).trips) (r : Fin 4) (sp sc : Bool) (σ : St F) : Keeps (step1F i t r sp sc σ) σ :=
  (keeps_consume ..).trans (keeps_produce ..)

theorem keeps_trip (i : grid1.Coords) (t : Fin (k1_t1_loop i).trips) (σ : St F) : Keeps (trip1F i t σ) σ :=
  (keeps_step ..).trans <| (keeps_step ..).trans <| (keeps_step ..).trans (keeps_step ..)

theorem keeps_iter (i : grid1.Coords) (k : ℕ) (σ : St F) : Keeps (iter (trip1F i) k σ) σ := by
  induction k with
  | zero => exact .refl _
  | succ k ih =>
    unfold iter
    split
    · exact (keeps_trip ..).trans ih
    · exact ih

theorem keeps_tail1 (i : grid1.Coords) (σ : St F) : Keeps (tail1F i σ) σ := by
  unfold tail1F; split
  · exact (keeps_consume ..).trans <| (keeps_produce ..).trans <| (keeps_consume ..).trans (keeps_produce ..)
  · exact .refl _

theorem keeps_tail2 (i : grid1.Coords) (σ : St F) : Keeps (tail2F i σ) σ := by
  unfold tail2F; split
  · exact (keeps_consume ..).trans <| (keeps_consume ..).trans (keeps_produce ..)
  · exact .refl _

theorem keeps_tail3 (i : grid1.Coords) (σ : St F) : Keeps (tail3F i σ) σ := by
  unfold tail3F; split
  · exact keeps_consume ..
  · exact .refl _

/-- The body keeps its inputs. -/
theorem keeps_body (i : grid1.Coords) (σ : St F) : Keeps (bodyF i σ) σ :=
  (keeps_finish _).trans <| (keeps_tail3 ..).trans <| (keeps_tail2 ..).trans <| (keeps_tail1 ..).trans <| (keeps_iter ..).trans <| (keeps_produce ..).trans <|
    (keeps_clear _).trans (keeps_qaFill i σ)

/-- The body leaves `outF` of its inputs in the output block. -/
theorem bodyF_out (i : grid1.Coords) (σ : St F) : (bodyF i σ).o = outF i σ.q σ.k σ.b σ.v := bodyF_o i rfl rfl rfl rfl

end Cert.Proof.KernelIdeal
-- ==== Proof.Scan.lean ====
/- The cumulative sum of the log-forget values: a log-step scan along lanes and one along blocks, as functions, and the
   body that runs them. -/
module

public import proofs.«01_k».proof.Proof.Same

@[expose] public section

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- One step of the scan along lanes: each lane gains the lane `s` before it. -/
def laneStep (s : BitVec 32) (x : FVec F S16x64x128 .f32) : FVec F S16x64x128 .f32 :=
  addf x (select (cmpi .sge (iota .tc S16x64x128 32 [2] iota_S16x64x128_d2_w32) (broadcast S16x64x128 s)) (dynamicRotate 2 s none x rotates_S16x64x128_d2)
    (broadcast S16x64x128 (Scalar.ofBits .f32 0x00000000#32 : F .f32)))

/-- One step of the scan along blocks. -/
def blockStep (s : BitVec 32) (x : FVec F S16x64x128 .f32) : FVec F S16x64x128 .f32 :=
  addf x (select (cmpi .sge (iota .tc S16x64x128 32 [1] iota_S16x64x128_d1_w32) (broadcast S16x64x128 s)) (dynamicRotate 1 s none x rotates_S16x64x128_d1)
    (broadcast S16x64x128 (Scalar.ofBits .f32 0x00000000#32 : F .f32)))

/-- Sums along the lanes of each block. -/
def laneSums (x : FVec F S16x64x128 .f32) : FVec F S16x64x128 .f32 :=
  laneStep 64#32 (laneStep 32#32 (laneStep 16#32 (laneStep 8#32 (laneStep 4#32 (laneStep 2#32 (laneStep 1#32 x))))))

/-- Sums along the blocks. -/
def blockSums (x : FVec F S16x64x128 .f32) : FVec F S16x64x128 .f32 :=
  blockStep 32#32 (blockStep 16#32 (blockStep 8#32 (blockStep 4#32 (blockStep 2#32 (blockStep 1#32 x)))))

/-- Each block's total, on all its lanes. -/
def totals (x : FVec F S16x64x128 .f32) : FVec F S16x64x128 .f32 :=
  broadcastTo S16x64x128 (shapeCast S16x64x1 (extractStridedSlice S16x64x1 ![0, 0, 127] x slices_S16x64x128_o0_0_127_S16x64x1) shapeCasts_S16x64x1_S16x64x1) broadcasts_S16x64x1_S16x64x128

/-- The factor on the sums. -/
def negC : F .f32 := Named.named κ "neg_log2e" 0xBFB8AA3B#32

/-- The scan along lanes, the earlier blocks' totals added, scaled. -/
def negBias (x : Vec F S1x16x64x128 .f32) : FVec F S16x64x128 .f32 :=
  mulf (addf (laneSums (shapeCast S16x64x128 x shapeCasts_S1x16x64x128_S16x64x128))
      (subf (blockSums (totals (laneSums (shapeCast S16x64x128 x shapeCasts_S1x16x64x128_S16x64x128)))) (totals (laneSums (shapeCast S16x64x128 x shapeCasts_S1x16x64x128_S16x64x128)))))
    (broadcast S16x64x128 (negC (F := F)))

/-- What is left after a rounding is taken away. -/
def rest (x : FVec F S16x64x128 .f32) : FVec F S16x64x128 .f32 := subf x (extf .f32 (truncf .bf16 x bitsLt_bf16_f32 : FVec F S16x64x128 .bf16) bitsLt_bf16_f32)

/-- The `p`-th rounding of what the earlier ones left. -/
def piece (p : ℕ) (x : FVec F S16x64x128 .f32) : FVec F S1x1x16x64x128 .bf16 :=
  shapeCast S1x1x16x64x128 (truncf .bf16 (rest^[p] x) bitsLt_bf16_f32 : FVec F S16x64x128 .bf16) shapeCasts_S16x64x128_S1x1x16x64x128

/-- The body of the scan. -/
def scanBody (arg1 : Memref sig .tc .vmem S1x16x64x128 .f32) (arg2 : Memref sig .tc .vmem S1x16x64x128 .f32) (arg3 : Memref sig .tc .vmem S1x3x16x64x128 .bf16) (harg3 : arg3.IsWhole) : PP F PUnit := do
  let v : Vec F S1x16x64x128 .f32 ← Prog.lift (.load arg1 (Rect.unit (s := S1x16x64x128) ![0, 0, 0, 0] S1x16x64x128.size inb_S1x16x64x128_S1x16x64x128_0_0_0_0).toLoadRect (View.loadsAt_vmem h_S1x16x64x128))
  let _w : Vec F S1x16x64x128 .f32 ← Prog.lift (.load arg2 (Rect.unit (s := S1x16x64x128) ![0, 0, 0, 0] S1x16x64x128.size inb_S1x16x64x128_S1x16x64x128_0_0_0_0).toLoadRect (View.loadsAt_vmem h_S1x16x64x128))
  Prog.lift (.store arg2 (Rect.unit (s := S1x16x64x128) ![0, 0, 0, 0] S1x16x64x128.size inb_S1x16x64x128_S1x16x64x128_0_0_0_0) (shapeCast S1x16x64x128 (negBias v) shapeCasts_S16x64x128_S1x16x64x128) Finset.univ (View.stores_vmem_bits_univ h_S1x16x64x128 rfl) (.inl rfl))
  let _w0 : Vec F S1x1x16x64x128 .bf16 ← Prog.lift (.load arg3 (Rect.unit (s := S1x3x16x64x128) ![0, 0, 0, 0, 0] S1x1x16x64x128.size inb_S1x3x16x64x128_S1x1x16x64x128_0_0_0_0_0).toLoadRect (View.loadsAt_vmem h_S1x1x16x64x128))
  Prog.lift (.store arg3 (Rect.unit (s := S1x3x16x64x128) ![0, 0, 0, 0, 0] S1x1x16x64x128.size inb_S1x3x16x64x128_S1x1x16x64x128_0_0_0_0_0) (piece 0 (negBias v)) Finset.univ (View.stores_vmem h_S1x1x16x64x128 (harg3.storeExact_slice rfl _ packedbf16_S1x3x16x64x128_S1x1x16x64x128_0_0_0_0_0) (fun _ => rfl)) (.inl rfl))
  let _w1 : Vec F S1x1x16x64x128 .bf16 ← Prog.lift (.load arg3 (Rect.unit (s := S1x3x16x64x128) ![0, 1, 0, 0, 0] S1x1x16x64x128.size inb_S1x3x16x64x128_S1x1x16x64x128_0_1_0_0_0).toLoadRect (View.loadsAt_vmem h_S1x1x16x64x128))
  Prog.lift (.store arg3 (Rect.unit (s := S1x3x16x64x128) ![0, 1, 0, 0, 0] S1x1x16x64x128.size inb_S1x3x16x64x128_S1x1x16x64x128_0_1_0_0_0) (piece 1 (negBias v)) Finset.univ (View.stores_vmem h_S1x1x16x64x128 (harg3.storeExact_slice rfl _ packedbf16_S1x3x16x64x128_S1x1x16x64x128_0_1_0_0_0) (fun _ => rfl)) (.inl rfl))
  let _w2 : Vec F S1x1x16x64x128 .bf16 ← Prog.lift (.load arg3 (Rect.unit (s := S1x3x16x64x128) ![0, 2, 0, 0, 0] S1x1x16x64x128.size inb_S1x3x16x64x128_S1x1x16x64x128_0_2_0_0_0).toLoadRect (View.loadsAt_vmem h_S1x1x16x64x128))
  Prog.lift (.store arg3 (Rect.unit (s := S1x3x16x64x128) ![0, 2, 0, 0, 0] S1x1x16x64x128.size inb_S1x3x16x64x128_S1x1x16x64x128_0_2_0_0_0) (piece 2 (negBias v)) Finset.univ (View.stores_vmem h_S1x1x16x64x128 (harg3.storeExact_slice rfl _ packedbf16_S1x3x16x64x128_S1x1x16x64x128_0_2_0_0_0) (fun _ => rfl)) (.inl rfl))
  pure ⟨⟩

theorem scan_eq (i : grid0.Coords) (arg1 : Memref sig .tc .vmem S1x16x64x128 .f32) (harg1 : arg1.IsWhole) (arg2 : Memref sig .tc .vmem S1x16x64x128 .f32) (harg2 : arg2.IsWhole) (arg3 : Memref sig .tc .vmem S1x3x16x64x128 .bf16) (harg3 : arg3.IsWhole) :
    cc0_cumsum (F := F) i arg1 harg1 arg2 harg2 arg3 harg3 = scanBody arg1 arg2 arg3 harg3 := rfl

section Rules
variable {c : Dev nD} {sh : Shape} {e : EltTy} {M : Memref sig .tc .vmem sh e}

/-- A load from a buffer held at a value. -/
theorem own_load (X : Vec F sh e) {off size : Fin sh.rank → ℕ} (inb : ∀ a, off a + size a ≤ sh.size a)
    (hl : M.view.LoadsAt (Rect.unit off size inb).toLoadRect) (Q : _ → sProp 𝕄) :
    iprop(own c M X ∗ (own c M X -∗ Q (VecWindow.window X off size inb)))
      ⊢ wp frame (wpE (defs₀ (F := F)) 𝒱₀ (c : Thread nD τ) none) Set.univ (Prog.lift (.load M (Rect.unit off size inb).toLoadRect hl)) Q := by
  unfold own
  rw [owns_eq_rep]
  iintro ⟨H, HQ⟩
  iapply (wp_load 𝒱₀ (c : Thread nD τ) none Set.univ (hl := hl) (k := fun x => .ret x) (View.setOn_subset_set _ _)) $$ H
  iintro H
  iapply (le_wp_ret _ _ _ _ Q)
  rw [View.readAt_rep_unit M.view X inb rfl inb]
  iapply HQ
  iexact H

/-- A store to a buffer held at a value. -/
theorem own_store (X : Vec F sh e) {off size : Fin sh.rank → ℕ} (inb : ∀ a, off a + size a ≤ sh.size a)
    (w : (Rect.unit off size inb).shape.Idx → Elt F e) (hx : (M.access (Rect.unit off size inb)).Stores Finset.univ) (hm : (Finset.univ : Finset (Rect.unit off size inb).shape.Idx) = Finset.univ ∨ ∀ a, (Rect.unit off size inb).stride a = 1) (Q : PUnit → sProp 𝕄) :
    iprop(own c M X ∗ (own c M (VecWindow.put X off size w) -∗ Q ⟨⟩))
      ⊢ wp frame (wpE (defs₀ (F := F)) 𝒱₀ (c : Thread nD τ) none) Set.univ (Prog.lift (.store M (Rect.unit off size inb) w Finset.univ hx hm)) Q := by
  unfold own
  rw [owns_eq_rep]
  iintro ⟨H, HQ⟩
  iapply (wp_store 𝒱₀ (c : Thread nD τ) none Set.univ (hx := hx) (hm := hm) (k := fun x => .ret x) (by rw [View.setOn_univ]; exact View.set_slice_subset _ _)) $$ H
  iintro H
  iapply (le_wp_ret _ _ _ _ Q)
  iapply HQ
  unfold owns
  iexists _
  isplitr; swap; · iexact H
  ipureintro
  exact View.read_writes_rep_unit M.view X inb w rfl

end Rules

/-- The log-forget values as the body reads them. -/
def lfRead (x : Vec F S1x16x64x128 .f32) : Vec F S1x16x64x128 .f32 := VecWindow.window (s := S1x16x64x128) x ![0, 0, 0, 0] S1x16x64x128.size inb_S1x16x64x128_S1x16x64x128_0_0_0_0

/-- The scaled sums put over a buffer. -/
def sumsOn (y : Vec F S1x16x64x128 .f32) (x : Vec F S1x16x64x128 .f32) : Vec F S1x16x64x128 .f32 :=
  VecWindow.put (s := S1x16x64x128) y ![0, 0, 0, 0] S1x16x64x128.size (shapeCast S1x16x64x128 (negBias (lfRead x)) shapeCasts_S16x64x128_S1x16x64x128)

/-- The three roundings put over a buffer. -/
def piecesOn (y : Vec F S1x3x16x64x128 .bf16) (x : Vec F S1x16x64x128 .f32) : Vec F S1x3x16x64x128 .bf16 :=
  VecWindow.put (s := S1x3x16x64x128) (VecWindow.put (s := S1x3x16x64x128) (VecWindow.put (s := S1x3x16x64x128) y
    ![0, 0, 0, 0, 0] S1x1x16x64x128.size (piece 0 (negBias (lfRead x))))
    ![0, 1, 0, 0, 0] S1x1x16x64x128.size (piece 1 (negBias (lfRead x))))
    ![0, 2, 0, 0, 0] S1x1x16x64x128.size (piece 2 (negBias (lfRead x)))

theorem sumsOn_base (y y' x : Vec F S1x16x64x128 .f32) : sumsOn y x = sumsOn y' x :=
  put_all y y' _ _ _ fun z a => by
    fin_cases a
    · exact ⟨Nat.zero_le _, by have : (z 0).val < 1 := (z 0).isLt; show (z 0).val < 0 + 1; omega⟩
    · exact ⟨Nat.zero_le _, by have : (z 1).val < 16 := (z 1).isLt; show (z 1).val < 0 + 16; omega⟩
    · exact ⟨Nat.zero_le _, by have : (z 2).val < 64 := (z 2).isLt; show (z 2).val < 0 + 64; omega⟩
    · exact ⟨Nat.zero_le _, by have : (z 3).val < 128 := (z 3).isLt; show (z 3).val < 0 + 128; omega⟩

theorem piecesOn_base (y y' : Vec F S1x3x16x64x128 .bf16) (x : Vec F S1x16x64x128 .f32) : piecesOn y x = piecesOn y' x := by
  funext z
  refine put_agree (put_agree (put_agree (P := fun _ => False) (fun _ h => h.elim) _ _ _) _ _ _) _ _ _ z ?_
  have h0 : (z 0).val < 1 := (z 0).isLt
  have h1 : (z 1).val < 3 := (z 1).isLt
  have h2 : (z 2).val < 16 := (z 2).isLt
  have h3 : (z 3).val < 64 := (z 3).isLt
  have h4 : (z 4).val < 128 := (z 4).isLt
  have key : ∀ p : ℕ, (z 1).val = p → In (s := S1x3x16x64x128) ![0, p, 0, 0, 0] S1x1x16x64x128.size z := by
    intro p hp a
    fin_cases a
    · exact ⟨Nat.zero_le _, by show (z 0).val < 0 + 1; omega⟩
    · exact ⟨by show p ≤ (z 1).val; omega, by show (z 1).val < p + 1; omega⟩
    · exact ⟨Nat.zero_le _, by show (z 2).val < 0 + 16; omega⟩
    · exact ⟨Nat.zero_le _, by show (z 3).val < 0 + 64; omega⟩
    · exact ⟨Nat.zero_le _, by show (z 4).val < 0 + 128; omega⟩
  obtain h | h | h : (z 1).val = 0 ∨ (z 1).val = 1 ∨ (z 1).val = 2 := by omega
  · exact .inl (.inl (.inr (key 0 h)))
  · exact .inl (.inr (key 1 h))
  · exact .inr (key 2 h)

/-- The scan's two results. -/
def sumsF (x : Vec F S1x16x64x128 .f32) : Vec F S1x16x64x128 .f32 := sumsOn (fun _ => FloatOps.ofBits .f32 0x00000000#32) x
def piecesF (x : Vec F S1x16x64x128 .f32) : Vec F S1x3x16x64x128 .bf16 := piecesOn (fun _ => FloatOps.ofBits .bf16 0x0000#16) x

/-- The body of the scan run on three buffers. -/
theorem scan_run {c : Dev nD} (arg1 : Memref sig .tc .vmem S1x16x64x128 .f32) (arg2 : Memref sig .tc .vmem S1x16x64x128 .f32) (arg3 : Memref sig .tc .vmem S1x3x16x64x128 .bf16) (harg3 : arg3.IsWhole)
    (x y : Vec F S1x16x64x128 .f32) (z : Vec F S1x3x16x64x128 .bf16) (Q : PUnit → sProp 𝕄) :
    iprop(own c arg1 x ∗ own c arg2 y ∗ own c arg3 z ∗ ((own c arg1 x ∗ own c arg2 (sumsF x) ∗ own c arg3 (piecesF x)) -∗ Q ⟨⟩))
      ⊢ wp frame (wpE (defs₀ (F := F)) 𝒱₀ (c : Thread nD τ) none) Set.univ (scanBody (F := F) arg1 arg2 arg3 harg3) Q := by
  rw [show sumsF x = sumsOn y x from sumsOn_base _ _ _, show piecesF x = piecesOn z x from piecesOn_base _ _ _]
  unfold scanBody
  iintro ⟨H1, H2, H3, HQ⟩
  rw [wp_bind]; iapply (own_load (c := c) x _ _); isplitl [H1]; (· iexact H1); iintro H1
  rw [wp_bind]; iapply (own_load (c := c) y _ _); isplitl [H2]; (· iexact H2); iintro H2
  rw [wp_bind]; iapply (own_store (c := c) y _ _ _ _); isplitl [H2]; (· iexact H2); iintro H2
  rw [wp_bind]; iapply (own_load (c := c) _ _ _); isplitl [H3]; (· iexact H3); iintro H3
  rw [wp_bind]; iapply (own_store (c := c) _ _ _ _ _); isplitl [H3]; (· iexact H3); iintro H3
  rw [wp_bind]; iapply (own_load (c := c) _ _ _); isplitl [H3]; (· iexact H3); iintro H3
  rw [wp_bind]; iapply (own_store (c := c) _ _ _ _ _); isplitl [H3]; (· iexact H3); iintro H3
  rw [wp_bind]; iapply (own_load (c := c) _ _ _); isplitl [H3]; (· iexact H3); iintro H3
  rw [wp_bind]; iapply (own_store (c := c) _ _ _ _ _); isplitl [H3]; (· iexact H3); iintro H3
  iapply (le_wp_ret _ _ _ _ Q)
  iapply HQ
  isplitl [H1]; (· iexact H1)
  isplitl [H2]; (· iexact H2)
  iexact H3

end Cert.Proof.KernelIdeal
-- ==== Proof.Region.lean ====
/- The two regions' proof data: what each window's staging buffer holds after the body at each point, and the bodies
   meeting it. -/
module

public import proofs.«01_k».proof.Proof.Scan
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody

@[expose] public section

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (V : Dev nD → Valuation τ sig (Elt F)) (c : Dev nD)

/-! ## The scan's region -/

/-- The log-forget values one point reads. -/
def lfBlk (t : Fin cfg0.N) : Vec F S1x16x64x128 .f32 := ((cfg0.win 0).blk t).view.read (Elt F) (V c (Pipeline.arrRef spec0 0))

/-- The scan's proof data. -/
def dat0 : Dat τ (Elt F) Unit ℕ (UU nD τ) ℕ cfg0 c where
  A w := V c (Pipeline.arrRef spec0 w)
  after w t := match w with
    | ⟨0, _⟩ => lfBlk V c t
    | ⟨1, _⟩ => sumsF (lfBlk V c t)
    | ⟨2, _⟩ => piecesF (lfBlk V c t)
  Φ _ := Pipeline.scopedRest (Ix := Unit) (Name := ℕ) (U := UU nD τ) (Lvl := ℕ) (Val := Elt F) spec0 c
  q _ := fullShare
  owed _ := 0

theorem dat0_A (w : Fin cfg0.W) : (dat0 V c).A w = V c (Pipeline.arrRef spec0 w) := by dsimp only [dat0]

theorem dat0_before (t : Fin cfg0.N) (d : (cfg0.win 0).block.Idx → Elt F (cfg0.win 0).elt) : (dat0 V c).before 0 t d = lfBlk V c t :=
  ((dat0 V c).before_in_eq_fetched 0 rfl (fun _ => rfl) (fun _ _ _ => rfl) (fun _ => rfl) t d).trans rfl

theorem obligation0 : BodyObligation (dat0 V c) (defs₀ (F := F)) 𝒱₀ () Set.univ := fun t => by
  rw [bigSep_W0, bigSep_W0]
  show _ ⊢ wp frame (wpE (defs₀ (F := F)) 𝒱₀ (c : Thread nD τ) none) Set.univ (bodyAt0 t) _
  unfold bodyAt0
  rw [scan_eq]
  rw [show (dat0 V c).Φ t.castSucc = (dat0 V c).Φ t.succ from rfl]
  iintro ⟨HΦ, ⟨%W, %hW, HO⟩, ⟨%d0, H0⟩, ⟨%d1, H1⟩, ⟨%d2, H2⟩⟩
  rw [dat0_before]
  have hr := fun Q => scan_run (c := c) (st0_0 t) (st0_1 t) (st0_2 t) (hstage0_2 ((cfg0.slots t 2).cast nbuf0_2)) (lfBlk V c t) ((dat0 V c).before 1 t d1) ((dat0 V c).before 2 t d2) Q
  unfold own at hr
  iapply (hr _)
  isplitl [H0]; · iexact H0
  isplitl [H1]; · iexact H1
  isplitl [H2]; · iexact H2
  iintro ⟨H0, H1, H2⟩
  isplitl [HΦ]; · iexact HΦ
  isplitl [HO]
  · iexists W; isplitr; · ipureintro; exact fun _ _ => Or.inl trivial
    iexact HO
  isplitl [H0]; · iexact H0
  isplitl [H1]; · iexact H1
  iexact H2

/-! ## The attention's region -/

/-- What one point reads of the queries, the keys, the decay lanes and the values. -/
def qBlk (t : Fin cfg1.N) : Vec F S1x512x512 .f32 := ((cfg1.win 0).blk t).view.read (Elt F) (V c (Pipeline.arrRef spec1 0))
def kBlk (t : Fin cfg1.N) : Vec F S1x8192x512 .bf16 := ((cfg1.win 1).blk t).view.read (Elt F) (V c (Pipeline.arrRef spec1 1))
def bBlk (t : Fin cfg1.N) : Vec F S1x8192x128 .bf16 := ((cfg1.win 2).blk t).view.read (Elt F) (V c (Pipeline.arrRef spec1 2))
def vBlk (t : Fin cfg1.N) : Vec F S1x512x8192 .bf16 := ((cfg1.win 3).blk t).view.read (Elt F) (V c (Pipeline.arrRef spec1 3))

/-- The attention's proof data. -/
def dat1 : Dat τ (Elt F) Unit ℕ (UU nD τ) ℕ cfg1 c where
  A w := V c (Pipeline.arrRef spec1 w)
  after w t := match w with
    | ⟨0, _⟩ => qBlk V c t
    | ⟨1, _⟩ => kBlk V c t
    | ⟨2, _⟩ => bBlk V c t
    | ⟨3, _⟩ => vBlk V c t
    | ⟨4, _⟩ => outF (grid1.coords t) (qBlk V c t) (kBlk V c t) (bBlk V c t) (vBlk V c t)
  Φ _ := Pipeline.scopedRest (Ix := Unit) (Name := ℕ) (U := UU nD τ) (Lvl := ℕ) (Val := Elt F) spec1 c
  q _ := fullShare
  owed _ := 0

theorem dat1_A (w : Fin cfg1.W) : (dat1 V c).A w = V c (Pipeline.arrRef spec1 w) := by dsimp only [dat1]

theorem dat1_before0 (t : Fin cfg1.N) (d : (cfg1.win 0).block.Idx → Elt F (cfg1.win 0).elt) : (dat1 V c).before 0 t d = qBlk V c t :=
  ((dat1 V c).before_in_eq_fetched 0 rfl (fun _ => rfl) (fun _ _ _ => rfl) (fun _ => rfl) t d).trans rfl
theorem dat1_before1 (t : Fin cfg1.N) (d : (cfg1.win 1).block.Idx → Elt F (cfg1.win 1).elt) : (dat1 V c).before 1 t d = kBlk V c t :=
  ((dat1 V c).before_in_eq_fetched 1 rfl (fun _ => rfl) (fun _ _ _ => rfl) (fun _ => rfl) t d).trans rfl
theorem dat1_before2 (t : Fin cfg1.N) (d : (cfg1.win 2).block.Idx → Elt F (cfg1.win 2).elt) : (dat1 V c).before 2 t d = bBlk V c t :=
  ((dat1 V c).before_in_eq_fetched 2 rfl (fun _ => rfl) (fun _ _ _ => rfl) (fun _ => rfl) t d).trans rfl
theorem dat1_before3 (t : Fin cfg1.N) (d : (cfg1.win 3).block.Idx → Elt F (cfg1.win 3).elt) : (dat1 V c).before 3 t d = vBlk V c t :=
  ((dat1 V c).before_in_eq_fetched 3 rfl (fun _ => rfl) (fun _ _ _ => rfl) (fun _ => rfl) t d).trans rfl

/-- A buffer at something, as a buffer held at a value. -/
theorem own_of_pt (b : Ref sig .tc) (f : Buf (Elt F) ((c : Thread nD τ).loc b)) :
    (((c : Thread nD τ).loc b) ↦{fullShare} f : sProp 𝕄) ⊢ owns (c : Thread nD τ) (Memref.whole b) fullShare f := by
  rw [owns_whole_eq]
  iintro H
  iexists f
  isplitr; · ipureintro; rfl
  iexact H

theorem pt_of_own (b : Ref sig .tc) (X : Buf (Elt F) ((c : Thread nD τ).loc b)) :
    (owns (c : Thread nD τ) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f
  iexact H

/-- The buffers of one point. -/
def refsAt (t : Fin cfg1.N) : Refs where
  q := win1_0.stage (cfg1.slots t 0)
  hq := hstage1_0 ((cfg1.slots t 0).cast nbuf1_0)
  k := win1_1.stage (cfg1.slots t 1)
  hk := hstage1_1 ((cfg1.slots t 1).cast nbuf1_1)
  b := win1_2.stage (cfg1.slots t 2)
  hb := hstage1_2 ((cfg1.slots t 2).cast nbuf1_2)
  v := win1_3.stage (cfg1.slots t 3)
  hv := hstage1_3 ((cfg1.slots t 3).cast nbuf1_3)
  o := win1_4.stage (cfg1.slots t 4)
  ho := hstage1_4 ((cfg1.slots t 4).cast nbuf1_4)
  qa := Memref.whole cc1_scratch0
  hqa := Memref.isWhole_whole _
  m := Memref.whole cc1_scratch1
  hm := Memref.isWhole_whole _
  acc := Memref.whole cc1_scratch2
  hacc := Memref.isWhole_whole _
  sa := Memref.whole cc1_scratch3
  hsa := Memref.isWhole_whole _
  sb := Memref.whole cc1_scratch4
  hsb := Memref.isWhole_whole _
  ra := Memref.whole cc1_scratch5
  hra := Memref.isWhole_whole _
  rb := Memref.whole cc1_scratch6
  hrb := Memref.isWhole_whole _

theorem bodyAt1_eq (t : Fin cfg1.N) : bodyAt1 (F := F) t = body (refsAt t) (grid1.coords t) := body_eq (refsAt t) (grid1.coords t)

theorem obligation1 : BodyObligation (dat1 V c) (defs₀ (F := F)) 𝒱₀ () Set.univ := fun t => by
  rw [bigSep_W1, bigSep_W1]
  show _ ⊢ wp frame (wpE (defs₀ (F := F)) 𝒱₀ (c : Thread nD τ) none) Set.univ (bodyAt1 t) _
  rw [bodyAt1_eq]
  rw [show (dat1 V c).Φ t.castSucc = Pipeline.scopedRest (Ix := Unit) (Name := ℕ) (U := UU nD τ) (Lvl := ℕ) (Val := Elt F) spec1 c from rfl,
    show (dat1 V c).Φ t.succ = Pipeline.scopedRest (Ix := Unit) (Name := ℕ) (U := UU nD τ) (Lvl := ℕ) (Val := Elt F) spec1 c from rfl, scopedRest1_eq]
  iintro ⟨⟨R0, R1, R2, R3, R4, R5, ⟨%f0, S0⟩, ⟨%f1, S1⟩, ⟨%f2, S2⟩, ⟨%f3, S3⟩, ⟨%f4, S4⟩, ⟨%f5, S5⟩, ⟨%f6, S6⟩⟩, ⟨%W, %hW, HO⟩, ⟨%d0, H0⟩, ⟨%d1, H1⟩, ⟨%d2, H2⟩, ⟨%d3, H3⟩, ⟨%d4, H4⟩⟩
  rw [dat1_before0, dat1_before1, dat1_before2, dat1_before3]
  ihave S0 := (own_of_pt c cc1_scratch0 f0) $$ S0
  ihave S1 := (own_of_pt c cc1_scratch1 f1) $$ S1
  ihave S2 := (own_of_pt c cc1_scratch2 f2) $$ S2
  ihave S3 := (own_of_pt c cc1_scratch3 f3) $$ S3
  ihave S4 := (own_of_pt c cc1_scratch4 f4) $$ S4
  ihave S5 := (own_of_pt c cc1_scratch5 f5) $$ S5
  ihave S6 := (own_of_pt c cc1_scratch6 f6) $$ S6
  iapply ((body_does (A := refsAt t) (c := c) (grid1.coords t) ⟨qBlk V c t, kBlk V c t, bBlk V c t, vBlk V c t, (dat1 V c).before 4 t d4, f0, f1, f2, f3, f4, f5, f6⟩).run _)
  isplitl [H0 H1 H2 H3 H4 S0 S1 S2 S3 S4 S5 S6]
  · unfold held own
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    iexact S6
  unfold held own
  rw [bodyF_out, (keeps_body _ _).q, (keeps_body _ _).k, (keeps_body _ _).b, (keeps_body _ _).v]
  iintro ⟨H0, H1, H2, H3, H4, S0, S1, S2, S3, S4, S5, S6⟩
  isplitl [R0 R1 R2 R3 R4 R5 S0 S1 S2 S3 S4 S5 S6]
  · isplitl [R0]; · iexact R0
    isplitl [R1]; · iexact R1
    isplitl [R2]; · iexact R2
    isplitl [R3]; · iexact R3
    isplitl [R4]; · iexact R4
    isplitl [R5]; · iexact R5
    isplitl [S0]; · iapply (pt_of_own c cc1_scratch0 _); iexact S0
    isplitl [S1]; · iapply (pt_of_own c cc1_scratch1 _); iexact S1
    isplitl [S2]; · iapply (pt_of_own c cc1_scratch2 _); iexact S2
    isplitl [S3]; · iapply (pt_of_own c cc1_scratch3 _); iexact S3
    isplitl [S4]; · iapply (pt_of_own c cc1_scratch4 _); iexact S4
    isplitl [S5]; · iapply (pt_of_own c cc1_scratch5 _); iexact S5
    iapply (pt_of_own c cc1_scratch6 _); iexact S6
  isplitl [HO]
  · iexists W; isplitr; · ipureintro; exact fun _ _ => Or.inl trivial
    iexact HO
  isplitl [H0]; · iexact H0
  isplitl [H1]; · iexact H1
  isplitl [H2]; · iexact H2
  isplitl [H3]; · iexact H3
  iexact H4

end Cert.Proof.KernelIdeal
-- ==== Proof.Run.lean ====
/- The launch: the two regions among the host operations, every buffer tracked from one to the next; what memory holds
   at the end. -/
module

public import proofs.«01_k».proof.Proof.Region
public import Idealize.ShloMosaic.Lib.Pipeline.RegionsLoop

@[expose] public section

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## What the regions leave -/

/-- What the scan leaves in its two results. -/
def sumsArr (c : Dev nD) : Buf (Elt F) ((c : Thread nD τ).loc main_v6_0) := (dat0 (fun c => V3 m c) c).arrAt 1 cfg0.N
def piecesArr (c : Dev nD) : Buf (Elt F) ((c : Thread nD τ).loc main_v6_1) := (dat0 (fun c => V3 m c) c).arrAt 2 cfg0.N

/-- Every buffer after the scan, and when the attention is entered. -/
def V4' (c : Dev nD) : Valuation τ sig (Elt F) := Function.update (Function.update (V3 m c) main_v6_0 (sumsArr m c)) main_v6_1 (piecesArr m c)
def V6' (c : Dev nD) : Valuation τ sig (Elt F) := StableHlo.after hostOps1_1 (StableHlo.after hostOps1 (V4' m c))

/-- What the attention leaves in its result. -/
def outArr (c : Dev nD) : Buf (Elt F) ((c : Thread nD τ).loc main_v12) := (dat1 (V6' m) c).arrAt 4 cfg1.N

/-- What the regions leave, by item. -/
def outs : Outs (F := F) := fun J r c =>
  if h : r = main_v6_0 then h ▸ sumsArr m c else if h : r = main_v6_1 then h ▸ piecesArr m c else if h : r = main_v12 then h ▸ outArr m c else V3 m c r

theorem outs_sums (J : ℕ) (c : Dev nD) : outs m J main_v6_0 c = sumsArr m c := by unfold outs; rw [dif_pos rfl]
theorem outs_pieces (J : ℕ) (c : Dev nD) : outs m J main_v6_1 c = piecesArr m c := by
  unfold outs; rw [dif_neg (by decide), dif_pos rfl]
theorem outs_out (J : ℕ) (c : Dev nD) : outs m J main_v12 c = outArr m c := by
  unfold outs; rw [dif_neg (by decide), dif_neg (by decide), dif_pos rfl]

theorem V4_eq (c : Dev nD) : V4 m (outs m) c = V4' m c := by unfold V4 V4'; rw [outs_sums, outs_pieces]
theorem V6_eq (c : Dev nD) : V6 m (outs m) c = V6' m c := by unfold V6 V5 V6'; rw [V4_eq]

/-- Every buffer at the end. -/
def V7' (c : Dev nD) : Valuation τ sig (Elt F) := Function.update (V6' m c) main_v12 (outArr m c)
theorem V7_eq (c : Dev nD) : V7 m (outs m) c = V7' m c := by unfold V7 V7'; rw [V6_eq, outs_out]

/-- The regions' proof data. -/
def pdats : (p : Fin 2) → (c : Dev nD) → Dat τ (Elt F) Unit ℕ (UU nD τ) ℕ (cfgs p) c
  | ⟨0, _⟩, c => dat0 (fun c => V3 m c) c
  | ⟨1, _⟩, c => dat1 (V6' m) c

abbrev L : GSem nD τ sig → Finset Unit := fun _ => ∅
abbrev lv : GSem nD τ sig → Unit → ℕ := fun _ _ => 0

/-- What rides beside the buffers: the core's `owes`. -/
abbrev R (c : Dev nD) : sProp 𝕄 := iprop(∃ W, owes (c : Thread nD τ) (0 : CellTallies nD τ sig Unit) W)

theorem final0 (c : Dev nD) (w : Fin cfg0.W) : (pdats m 0 c).arrAt w cfg0.N = V4' m c (Pipeline.arrRef spec0 w) := by
  fin_cases w
  · refine ((dat0 (fun c => V3 m c) c).arrAt_in 0 rfl _).trans ?_
    show V3 m c main_v5 = V4' m c main_v5
    rw [← V4_eq]; exact (V4_of m (outs m) c main_v5 (by decide)).symm
  · show sumsArr m c = V4' m c main_v6_0
    unfold V4'
    rw [Function.update_of_ne (StableHlo.devRef_ne_of_ne (by decide)), Function.update_self]
  · show piecesArr m c = V4' m c main_v6_1
    unfold V4'
    rw [Function.update_self]

theorem rest0 (c : Dev nD) (b : Ref sig .tc) (h : b ∉ Finset.univ.image (Pipeline.arrRef spec0)) : V4' m c b = V3 m c b := by
  rw [← V4_eq]
  refine V4_of m (outs m) c b fun hb => h ?_
  simp only [List.mem_cons, List.mem_nil_iff, or_false] at hb
  rcases hb with rfl | rfl
  · exact Finset.mem_image_of_mem _ (Finset.mem_univ (1 : Fin 3))
  · exact Finset.mem_image_of_mem _ (Finset.mem_univ (2 : Fin 3))

theorem final1 (c : Dev nD) (w : Fin cfg1.W) : (pdats m 1 c).arrAt w cfg1.N = V7' m c (Pipeline.arrRef spec1 w) := by
  fin_cases w
  · refine ((dat1 (V6' m) c).arrAt_in 0 rfl _).trans ?_
    show V6' m c main_arg0 = V7' m c main_arg0
    rw [← V7_eq, ← V6_eq]; exact (V7_of m (outs m) c main_arg0 (by decide)).symm
  · refine ((dat1 (V6' m) c).arrAt_in 1 rfl _).trans ?_
    show V6' m c main_v0 = V7' m c main_v0
    rw [← V7_eq, ← V6_eq]; exact (V7_of m (outs m) c main_v0 (by decide)).symm
  · refine ((dat1 (V6' m) c).arrAt_in 2 rfl _).trans ?_
    show V6' m c main_v11 = V7' m c main_v11
    rw [← V7_eq, ← V6_eq]; exact (V7_of m (outs m) c main_v11 (by decide)).symm
  · refine ((dat1 (V6' m) c).arrAt_in 3 rfl _).trans ?_
    show V6' m c main_v2 = V7' m c main_v2
    rw [← V7_eq, ← V6_eq]; exact (V7_of m (outs m) c main_v2 (by decide)).symm
  · show outArr m c = V7' m c main_v12
    unfold V7'
    rw [Function.update_self]

theorem rest1 (c : Dev nD) (b : Ref sig .tc) (h : b ∉ Finset.univ.image (Pipeline.arrRef spec1)) : V7' m c b = V6' m c b := by
  rw [← V7_eq, ← V6_eq]
  refine V7_of m (outs m) c b fun hb => h ?_
  simp only [List.mem_cons, List.mem_nil_iff, or_false] at hb
  subst hb
  exact Finset.mem_image_of_mem _ (Finset.mem_univ (4 : Fin 5))

set_option backward.isDefEq.respectTransparency.types false in
/-- Region 0: entered with every buffer at `V3 m`, left with every buffer at `V4' m`. -/
def reg0 : Pipeline.RegionSeg (pcfgs (F := F)) adm (pdats m) () defs₀ 𝒱₀ L lv 0 where
  win := launch0.win.to₀
  block_pos := launch0.block_pos
  stage_whole := launch0.stage_whole
  K := PEmpty
  osem := fun k : PEmpty => k.elim
  ho := Pipeline.OwnSemFacts.none _
  hbody c := (obligation0 _ c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4' m c) ∗ R c)
  X c := iprop(emp)
  Y c := iprop(emp)
  Z c := Pipeline.unscopedRest (Ix := Unit) (Name := ℕ) (U := UU nD τ) (Lvl := ℕ) spec0 c (fun b => V3 m c b)
  hentry c := by
    rw [← Pipeline.unscopedBufs_held (Ix := Unit) (Name := ℕ) (U := UU nD τ) (Lvl := ℕ) c (V3 m c)]
    have hsplit := Pipeline.arrays_of_unscopedBufs (p := 0) (pcfgs (F := F)) adm (pdats m) launch0.win launch0.arr_whole c
      ((pdats m 0 c).share_full fun _ => rfl) (fun b => V3 m c b) (dat0_A _ c)
    iintro ⟨⟨Hub, HO⟩, Hos, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m 0 c).Φ 0 = Pipeline.scopedRest (Ix := Unit) (Name := ℕ) (U := UU nD τ) (Lvl := ℕ) (Val := Elt F) spec0 c from rfl]
    iintro ⟨-, -, Hr⟩
    iexact Hr
  hout c := by
    show Pipeline.scopedRest (Ix := Unit) (Name := ℕ) (U := UU nD τ) (Lvl := ℕ) (Val := Elt F) spec0 c ⊢ _
    iintro Hr
    isplitr; · iempintro
    isplitr; · unfold Pipeline.ownSems0; rw [show (Finset.univ : Finset PEmpty) = ∅ from rfl, BI.bigSep_empty]; iempintro
    iexact Hr
  hexit c := by
    rw [← Pipeline.unscopedBufs_held (Ix := Unit) (Name := ℕ) (U := UU nD τ) (Lvl := ℕ) c (V4' m c)]
    have hjoin := Pipeline.unscopedBufs_of_arrays (pcs := pcfgs (F := F)) (a := adm) (p := 0) launch0.win launch0.arr_whole c (pdats m)
      ((pdats m 0 c).share_full fun _ => rfl) (fun b => V3 m c b) (fun b => V4' m c b) ((pdats m 0 c).arrAt · cfg0.N) (final0 m c) (rest0 m c)
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

set_option backward.isDefEq.respectTransparency.types false in
/-- Region 1: entered with every buffer at `V6' m`, left with every buffer at `V7' m`. -/
def reg1 : Pipeline.RegionSeg (pcfgs (F := F)) adm (pdats m) () defs₀ 𝒱₀ L lv 1 where
  win := launch1.win.to₀
  block_pos := launch1.block_pos
  stage_whole := launch1.stage_whole
  K := PEmpty
  osem := fun k : PEmpty => k.elim
  ho := Pipeline.OwnSemFacts.none _
  hbody c := (obligation1 _ c).loose
  hwaits := Pipeline.hwaits_of_owed_zero _ _ _ _ L lv 1 fun _ _ => rfl
  pre c := iprop(StableHlo.held (c : Thread nD τ) (Pipeline.ucRefs τ sig) (V6' m c) ∗ R c)
  post c := iprop(StableHlo.held (c : Thread nD τ) (Pipeline.ucRefs τ sig) (V7' m c) ∗ R c)
  X c := iprop(emp)
  Y c := iprop(emp)
  Z c := Pipeline.unscopedRest (Ix := Unit) (Name := ℕ) (U := UU nD τ) (Lvl := ℕ) spec1 c (fun b => V6' m c b)
  hentry c := by
    rw [← Pipeline.unscopedBufs_held (Ix := Unit) (Name := ℕ) (U := UU nD τ) (Lvl := ℕ) c (V6' m c)]
    have hsplit := Pipeline.arrays_of_unscopedBufs (p := 1) (pcfgs (F := F)) adm (pdats m) launch1.win launch1.arr_whole c
      ((pdats m 1 c).share_full fun _ => rfl) (fun b => V6' m c b) (dat1_A _ c)
    iintro ⟨⟨Hub, HO⟩, Hos, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m 1 c).Φ 0 = Pipeline.scopedRest (Ix := Unit) (Name := ℕ) (U := UU nD τ) (Lvl := ℕ) (Val := Elt F) spec1 c from rfl]
    iintro ⟨-, -, Hr⟩
    iexact Hr
  hout c := by
    show Pipeline.scopedRest (Ix := Unit) (Name := ℕ) (U := UU nD τ) (Lvl := ℕ) (Val := Elt F) spec1 c ⊢ _
    iintro Hr
    isplitr; · iempintro
    isplitr; · unfold Pipeline.ownSems0; rw [show (Finset.univ : Finset PEmpty) = ∅ from rfl, BI.bigSep_empty]; iempintro
    iexact Hr
  hexit c := by
    rw [← Pipeline.unscopedBufs_held (Ix := Unit) (Name := ℕ) (U := UU nD τ) (Lvl := ℕ) c (V7' m c)]
    have hjoin := Pipeline.unscopedBufs_of_arrays (pcs := pcfgs (F := F)) (a := adm) (p := 1) launch1.win launch1.arr_whole c (pdats m)
      ((pdats m 1 c).share_full fun _ => rfl) (fun b => V6' m c b) (fun b => V7' m c b) ((pdats m 1 c).arrAt · cfg1.N) (final1 m c) (rest1 m c)
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- The launch element. -/
def u₀ : UU nD τ := (initOf (Pipeline.cells cfgs cellOf_inj) (Pipeline.launchToks cfgs cellOf_inj), 1)

/-- The launch makes each core's share of what the regions ride on. -/
theorem launch_owes : iprop((bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ iprop(emp))) ∗ levAts L lv)
    ⊢ (|={Set.univ}=> bigSep Finset.univ fun c : Dev nD => R c : sProp 𝕄) := by
  refine BIBase.Entails.trans ?_ fupd_intro
  refine BIBase.Entails.trans (sep_mono (bigSep_mono (Ψ := fun c : Dev nD => R (F := F) c) fun c _ => ?_) .rfl) ?_
  · show iprop(unscopedSems0 c ∗ owes (c : Thread nD τ) (0 : CellTallies nD τ sig Unit) ∅ ∗ Pipeline.launchCred (0 : Dev nD → CellTallies nD τ sig Unit) c ∗ prngReg c (ρ c) ∗ iprop(emp)) ⊢ (R c : sProp 𝕄)
    iintro ⟨-, HO, -, -, -⟩
    iexists ∅; iexact HO
  · iintro ⟨H, -⟩
    iexact H

theorem launch_own : (ownU (u₀ : UU nD τ) : sProp 𝕄) ⊢ |={Set.univ}=> iprop(BI.own (EP (F := F) (initOf (Pipeline.cells cfgs cellOf_inj) (Pipeline.launchToks cfgs cellOf_inj))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- Every run ends, faultless, with every buffer of the program at `V7'` and every counter zero. -/
theorem run : θ_run defs (onTc (τ := τ) (main (F := F))) ⟨m, fun _ => 0, ρ⟩ (fun r => (∀ c : Dev nD,
      r.2.mem ((c.tc : Thread nD τ).loc main_v12) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (pdats m) () cellOf_inj EP defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()) ] from rfl]
      dsimp (config := { failIfUnchanged := false }) only
      exact .rfl)
    (fun c => by simp only [segs, Seg.pipes_host, Seg.pipes_region, Seg.pipes_nil]; decide) (0 : Dev nD → CellTallies nD τ sig Unit) (fun _ _ => rfl) (fun _ => iprop(emp)) u₀ launch_own
    (T₀ := fun c => iprop(StableHlo.held (c : Thread nD τ) (Pipeline.ucRefs τ sig) (V0 m c) ∗ R c))
    (Tₙ := fun c => StableHlo.held (c : Thread nD τ) (Pipeline.ucRefs τ sig) (V7' m c))
    (hch := fun c => ⟨.rfl, .rfl, .rfl, .rfl, by
        show iprop(StableHlo.held (c : Thread nD τ) (Pipeline.ucRefs τ sig) (V4' m c) ∗ R c) ⊢ iprop(StableHlo.held (c : Thread nD τ) (Pipeline.ucRefs τ sig) (V4 m (outs m) c) ∗ R c)
        rw [V4_eq], .rfl, by
        show iprop(StableHlo.held (c : Thread nD τ) (Pipeline.ucRefs τ sig) (V6 m (outs m) c) ∗ R c) ⊢ iprop(StableHlo.held (c : Thread nD τ) (Pipeline.ucRefs τ sig) (V6' m c) ∗ R c)
        rw [V6_eq], .rfl⟩)
    (hinit := ?_) (QY := fun c s => s.mem ((c.tc : Thread nD τ).loc main_v12) = outArr m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UU nD τ) (Lvl := ℕ) c (V0 m c)]; exact BI.Entails.refl _
    iintro ⟨H, Hla⟩
    ihave H' := hsplit $$ H
    icases H' with ⟨Hh, Hr⟩
    imod (launch_owes ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7' m c) s') $$ [Hh HSI]
    · isplitl [Hh] <;> iassumption
    icases Hr with ⟨%h, HSI⟩
    imodintro
    isplitr
    · ipureintro
      rw [← V7_eq] at h
      exact ⟨(h (Proc.devRef .tc main_v12) (Finset.mem_filter.mpr ⟨StableHlo.devRef_mem_tcRefs main_v12, by decide⟩)).trans (by rw [V7_eq]; unfold V7'; rw [Function.update_self]),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c),
        (h (Proc.devRef .tc main_arg3) (Finset.mem_filter.mpr ⟨StableHlo.devRef_mem_tcRefs main_arg3, by decide⟩)).trans (V7_main_arg3 m (outs m) c)⟩
    · iexact HSI

end Cert.Proof.KernelIdeal
-- ==== Proof.At.lean ====
/- Windows and puts read at an index given by its coordinates. -/
module

public import proofs.«01_k».proof.Proof.Same
public import Idealize.ShloMosaic.Lib.Pointwise

@[expose] public section

noncomputable section

namespace Cert.Proof.At

open Idealize.ShloMosaic

variable {α : Type}

theorem window2 {S0 S1 s0 s1 a0 a1 : ℕ} (x : (⟨2, ![S0, S1]⟩ : Shape).Idx → α) (inb : ∀ a : Fin 2, (![a0, a1] : Fin 2 → ℕ) a + (![s0, s1] : Fin 2 → ℕ) a ≤ (![S0, S1] : Fin 2 → ℕ) a)
    (r0 : Fin s0) (r1 : Fin s1) (y0 : Fin S0) (y1 : Fin S1) (h0 : y0.val = a0 + r0.val) (h1 : y1.val = a1 + r1.val) :
    VecWindow.window (s := ⟨2, ![S0, S1]⟩) x ![a0, a1] ![s0, s1] inb (ix2 r0 r1 : (⟨2, ![s0, s1]⟩ : Shape).Idx) = x (ix2 y0 y1) := by
  show x _ = x _
  congr 1
  funext a
  apply Fin.ext
  fin_cases a
  · show a0 + 1 * r0.val = y0.val; omega
  · show a1 + 1 * r1.val = y1.val; omega

theorem window3 {S0 S1 S2 s0 s1 s2 a0 a1 a2 : ℕ} (x : (⟨3, ![S0, S1, S2]⟩ : Shape).Idx → α) (inb : ∀ a : Fin 3, (![a0, a1, a2] : Fin 3 → ℕ) a + (![s0, s1, s2] : Fin 3 → ℕ) a ≤ (![S0, S1, S2] : Fin 3 → ℕ) a)
    (r0 : Fin s0) (r1 : Fin s1) (r2 : Fin s2) (y0 : Fin S0) (y1 : Fin S1) (y2 : Fin S2) (h0 : y0.val = a0 + r0.val) (h1 : y1.val = a1 + r1.val) (h2 : y2.val = a2 + r2.val) :
    VecWindow.window (s := ⟨3, ![S0, S1, S2]⟩) x ![a0, a1, a2] ![s0, s1, s2] inb (ix3 r0 r1 r2 : (⟨3, ![s0, s1, s2]⟩ : Shape).Idx) = x (ix3 y0 y1 y2) := by
  show x _ = x _
  congr 1
  funext a
  apply Fin.ext
  fin_cases a
  · show a0 + 1 * r0.val = y0.val; omega
  · show a1 + 1 * r1.val = y1.val; omega
  · show a2 + 1 * r2.val = y2.val; omega

theorem put_in {s : Shape} (x : s.Idx → α) (off size : Fin s.rank → ℕ) (w : ((a : Fin s.rank) → Fin (size a)) → α) (y : s.Idx) (r : (a : Fin s.rank) → Fin (size a))
    (h : ∀ a, (y a).val = off a + (r a).val) : VecWindow.put x off size w y = w r := by
  unfold VecWindow.put
  split
  · rename_i hh
    congr 1
    funext a
    apply Fin.ext
    rw [Rect.unitLocal_val, h a]
    omega
  · rename_i hh
    exact absurd (fun a => ⟨by have := h a; omega, by have := h a; have := (r a).isLt; omega⟩) hh

theorem put_out {s : Shape} (x : s.Idx → α) (off size : Fin s.rank → ℕ) (w : ((a : Fin s.rank) → Fin (size a)) → α) (y : s.Idx) (a : Fin s.rank)
    (h : (y a).val < off a ∨ off a + size a ≤ (y a).val) : VecWindow.put x off size w y = x y := by
  unfold VecWindow.put
  split
  · rename_i hh
    have := hh a
    omega
  · rfl

theorem put_in2 {S0 S1 s0 s1 a0 a1 : ℕ} (x : (⟨2, ![S0, S1]⟩ : Shape).Idx → α) (w : (⟨2, ![s0, s1]⟩ : Shape).Idx → α)
    (y0 : Fin S0) (y1 : Fin S1) (r0 : Fin s0) (r1 : Fin s1) (h0 : y0.val = a0 + r0.val) (h1 : y1.val = a1 + r1.val) :
    VecWindow.put (s := ⟨2, ![S0, S1]⟩) x ![a0, a1] ![s0, s1] w (ix2 y0 y1) = w (ix2 r0 r1) :=
  put_in (s := ⟨2, ![S0, S1]⟩) x ![a0, a1] ![s0, s1] w (ix2 y0 y1) (ix2 r0 r1) fun a => by
    fin_cases a
    · exact h0
    · exact h1

theorem put_out2 {S0 S1 s0 s1 a0 a1 : ℕ} (x : (⟨2, ![S0, S1]⟩ : Shape).Idx → α) (w : (⟨2, ![s0, s1]⟩ : Shape).Idx → α)
    (y0 : Fin S0) (y1 : Fin S1) (h : (y0.val < a0 ∨ a0 + s0 ≤ y0.val) ∨ (y1.val < a1 ∨ a1 + s1 ≤ y1.val)) :
    VecWindow.put (s := ⟨2, ![S0, S1]⟩) x ![a0, a1] ![s0, s1] w (ix2 y0 y1) = x (ix2 y0 y1) :=
  h.elim (fun h => put_out (s := ⟨2, ![S0, S1]⟩) x ![a0, a1] ![s0, s1] w (ix2 y0 y1) 0 h) (fun h => put_out (s := ⟨2, ![S0, S1]⟩) x ![a0, a1] ![s0, s1] w (ix2 y0 y1) 1 h)

theorem put_in3 {S0 S1 S2 s0 s1 s2 a0 a1 a2 : ℕ} (x : (⟨3, ![S0, S1, S2]⟩ : Shape).Idx → α) (w : (⟨3, ![s0, s1, s2]⟩ : Shape).Idx → α)
    (y0 : Fin S0) (y1 : Fin S1) (y2 : Fin S2) (r0 : Fin s0) (r1 : Fin s1) (r2 : Fin s2) (h0 : y0.val = a0 + r0.val) (h1 : y1.val = a1 + r1.val) (h2 : y2.val = a2 + r2.val) :
    VecWindow.put (s := ⟨3, ![S0, S1, S2]⟩) x ![a0, a1, a2] ![s0, s1, s2] w (ix3 y0 y1 y2) = w (ix3 r0 r1 r2) :=
  put_in (s := ⟨3, ![S0, S1, S2]⟩) x ![a0, a1, a2] ![s0, s1, s2] w (ix3 y0 y1 y2) (ix3 r0 r1 r2) fun a => by
    fin_cases a
    · exact h0
    · exact h1
    · exact h2

theorem put_out3 {S0 S1 S2 s0 s1 s2 a0 a1 a2 : ℕ} (x : (⟨3, ![S0, S1, S2]⟩ : Shape).Idx → α) (w : (⟨3, ![s0, s1, s2]⟩ : Shape).Idx → α)
    (y0 : Fin S0) (y1 : Fin S1) (y2 : Fin S2) (h : y0.val < a0 ∨ a0 + s0 ≤ y0.val) :
    VecWindow.put (s := ⟨3, ![S0, S1, S2]⟩) x ![a0, a1, a2] ![s0, s1, s2] w (ix3 y0 y1 y2) = x (ix3 y0 y1 y2) :=
  put_out (s := ⟨3, ![S0, S1, S2]⟩) x ![a0, a1, a2] ![s0, s1, s2] w (ix3 y0 y1 y2) 0 h

end Cert.Proof.At
-- ==== Proof.Score.lean ====
/- The masked queries and the scores of the attention body, read at an index. -/
module

public import proofs.«01_k».proof.Proof.At
public import proofs.«01_k».proof.Proof.Fold
public import Idealize.ShloMosaic.Lib.WordCmp

@[expose] public section

set_option maxRecDepth 16384

noncomputable section

namespace Cert.Proof.KernelIdeal

open Cert.KernelIdeal Cert.KernelIdeal.Gen
open Idealize.ShloMosaic Cert.Proof.At Cert.Proof.Fold

/-- The real factor of the queries. -/
def qs : ℝ := (Real.log 2)⁻¹ * (1 / 8)

theorem scaleC_eq : (scaleC : Ideal .f32) = ((qs : ℝ) : EReal) := rfl
theorem maskC_eq : (maskC : Ideal .f32) = (⊥ : EReal) := rfl

theorem ofBits_bot : Ideal.ofBits .f32 4286578688#32 = (⊥ : EReal) := by
  simp [Ideal.ofBits, Ideal.ieee]

theorem select_if {α : Type} {c : BitVec 1} (P : Prop) [Decidable P] {a b : α} (h : c = 1#1 ↔ P) : Scalar.select c a b = if P then a else b := by
  show (if c = 1#1 then a else b) = _
  by_cases hp : P
  · rw [if_pos hp, if_pos (h.2 hp)]
  · rw [if_neg hp, if_neg (fun hc => hp (h.1 hc))]

theorem qHead_at (lo hi : BitVec 32) (q : Vec Ideal S1x512x128 .f32) (c : Fin 512) (l : Fin 128) :
    qHead lo hi q (ix2 c l) = Scalar.select (IntOp.andi (IntOp.cmpi .sge (BitVec.ofNat 32 l.val) lo) (IntOp.cmpi .slt (BitVec.ofNat 32 l.val) hi)) (q (ix3 0 c l) * (scaleC : Ideal .f32)) (0 : EReal) := by
  pointwise [qHead, laneC]

theorem biasLanes_at (hd : BitVec 32) (c : Fin 512) (l : Fin 128) :
    biasLanes (F := Ideal) hd (ix2 c l) = Scalar.select (IntOp.andi (IntOp.cmpi .sge (BitVec.ofNat 32 l.val) (Scalar.muli 3#32 hd)) (IntOp.cmpi .slt (BitVec.ofNat 32 l.val) (Scalar.muli 3#32 (Scalar.addi hd 1#32)))) (1 : EReal) 0 := by
  pointwise [biasLanes, laneC]

theorem scoreOf_at (k : Vec Ideal S1x512x128 .bf16) (b : FVec Ideal S512x128 .bf16) (q : Vec Ideal S1024x256 .bf16) (r : Fin 512) (j : Fin 1024) :
    scoreOf k b q (ix2 r j) = (∑ x : Fin 128, k (ix3 0 r x) * q (ix2 j ⟨x.val, by omega⟩) + ∑ x : Fin 128, b (ix2 r x) * q (ix2 j ⟨128 + x.val, by omega⟩) : EReal) := by
  pointwise [scoreOf, sl1, sl2]

theorem maskOf_at (s : FVec Ideal S512x1024 .f32) (r : Fin 512) (j : Fin 1024) :
    maskOf s (ix2 r j) = if r.val ≤ j.val % 512 then s (ix2 r j) else (⊥ : EReal) := by
  have e : maskOf s (ix2 r j) = if h : j.val < 512 then Scalar.select (IntOp.cmpi .sle (BitVec.ofNat 32 r.val) (BitVec.ofNat 32 j.val)) (s (ix2 r j)) (⊥ : EReal)
      else Scalar.select (IntOp.cmpi .sle (BitVec.ofNat 32 r.val) (BitVec.ofNat 32 (j.val - 512))) (s (ix2 r ⟨512 + (j.val - 512), by omega⟩)) (⊥ : EReal) := by
    pointwise [maskOf, causal, maskC]
    rfl
  rw [e]
  have hj := j.isLt
  by_cases h : j.val < 512
  · rw [dif_pos h, select_if (r.val ≤ j.val % 512) (by word_cmp)]
  · rw [dif_neg h, select_if (r.val ≤ j.val % 512) (by word_cmp)]
    have e2 : (⟨512 + (j.val - 512), by omega⟩ : Fin 1024) = j := Fin.ext (by show 512 + (j.val - 512) = j.val; omega)
    rw [e2]

theorem maxOf_at (s : FVec Ideal S512x1024 .f32) (j : Fin 1024) :
    maxOf s (ix2 0 j) = Finset.fold max (⊥ : EReal) (fun x : Fin 512 => s (ix2 x j)) Finset.univ := by
  pointwise [maxOf]
  rw [ofBits_bot]

theorem lane_lo : ∀ l : Fin 128, IntOp.andi (IntOp.cmpi .sge (BitVec.ofNat 32 l.val) 0#32) (IntOp.cmpi .slt (BitVec.ofNat 32 l.val) 64#32) = 1#1 ↔ l.val < 64 := by decide +kernel
theorem lane_hi : ∀ l : Fin 128, IntOp.andi (IntOp.cmpi .sge (BitVec.ofNat 32 l.val) 64#32) (IntOp.cmpi .slt (BitVec.ofNat 32 l.val) 128#32) = 1#1 ↔ 64 ≤ l.val := by decide +kernel
theorem lane_bias : ∀ (g : Fin 2) (h : Fin 8) (l : Fin 128), IntOp.andi (IntOp.cmpi .sge (BitVec.ofNat 32 l.val) (Scalar.muli 3#32 (Scalar.addi (Scalar.muli (BitVec.ofNat 32 g.val) 8#32) (BitVec.ofNat 32 h.val))))
    (IntOp.cmpi .slt (BitVec.ofNat 32 l.val) (Scalar.muli 3#32 (Scalar.addi (Scalar.addi (Scalar.muli (BitVec.ofNat 32 g.val) 8#32) (BitVec.ofNat 32 h.val)) 1#32))) = 1#1 ↔
      3 * (8 * g.val + h.val) ≤ l.val ∧ l.val < 3 * (8 * g.val + h.val) + 3 := by decide +kernel

/-- The column of a head's query. -/
def col (h c : ℕ) (hh : h < 8) (hc : c < 512) : Fin 4096 := ⟨512 * h + c, by omega⟩

/-- The masked queries at an index, `Q` the query block. -/
structure Qa (g : ℕ) (qa : Vec Ideal S4096x256 .bf16) (Q : ℕ → ℕ → ℝ) : Prop where
  lo : ∀ (h : ℕ) (hh : h < 8) (c : Fin 512) (l : Fin 128),
    qa (ix2 (col h c.val hh c.isLt) ⟨l.val, by omega⟩) = if 64 * (h % 2) ≤ l.val ∧ l.val < 64 * (h % 2) + 64 then ((Q c.val (128 * (h / 2) + l.val) * qs : ℝ) : EReal) else 0
  hi : ∀ (h : ℕ) (hh : h < 8) (c : Fin 512) (l : Fin 128),
    qa (ix2 (col h c.val hh c.isLt) ⟨128 + l.val, by omega⟩) = if 3 * (8 * g + h) ≤ l.val ∧ l.val < 3 * (8 * g + h) + 3 then 1 else (0 : EReal)

theorem qaHead_lo (i : grid1.Coords) (q : Vec Ideal S1x512x128 .f32) (lo hi : BitVec 32) (h : ℕ) (hh : h < 8) (σ : St Ideal) (c : Fin 512) (l : Fin 128) :
    (qaHeadF i q lo hi h σ).qa (ix2 (col h c.val hh c.isLt) ⟨l.val, by omega⟩) = qHead lo hi q (ix2 c l) := by
  refine (put_out2 (S0 := 4096) (S1 := 256) (s0 := 512) (s1 := 128) _ _ _ _ (.inr (.inl (by show l.val < 128; omega)))).trans ?_
  refine (put_in2 (S0 := 4096) (S1 := 256) (s0 := 512) (s1 := 128) _ _ _ _ c l rfl (by show l.val = 0 + l.val; omega)).trans ?_
  pointwise

theorem qaHead_hi (i : grid1.Coords) (q : Vec Ideal S1x512x128 .f32) (lo hi : BitVec 32) (h : ℕ) (hh : h < 8) (σ : St Ideal) (c : Fin 512) (l : Fin 128) :
    (qaHeadF i q lo hi h σ).qa (ix2 (col h c.val hh c.isLt) ⟨128 + l.val, by omega⟩) = biasLanes (F := Ideal) (headNo i h) (ix2 c l) := by
  refine (put_in2 (S0 := 4096) (S1 := 256) (s0 := 512) (s1 := 128) _ _ _ _ c l rfl rfl).trans ?_
  pointwise

theorem qaHead_out (i : grid1.Coords) (q : Vec Ideal S1x512x128 .f32) (lo hi : BitVec 32) (h' : ℕ) (σ : St Ideal) (h : ℕ) (hh : h < 8) (c : Fin 512) (y : Fin 256) (hne : h ≠ h') :
    (qaHeadF i q lo hi h' σ).qa (ix2 (col h c.val hh c.isLt) y) = σ.qa (ix2 (col h c.val hh c.isLt) y) := by
  have hc := c.isLt
  refine (put_out2 (S0 := 4096) (S1 := 256) (s0 := 512) (s1 := 128) _ _ _ _ (.inl (by show 512 * h + c.val < _ ∨ _ ≤ 512 * h + c.val; omega))).trans ?_
  exact put_out2 (S0 := 4096) (S1 := 256) (s0 := 512) (s1 := 128) _ _ _ _ (.inl (by show 512 * h + c.val < _ ∨ _ ≤ 512 * h + c.val; omega))

theorem qTile_at (lt : ℕ) (hlt : lt < 4) (σ : St Ideal) (c : Fin 512) (l : Fin 128) : qTile lt hlt σ (ix3 0 c l) = σ.q (ix3 0 c ⟨128 * lt + l.val, by omega⟩) :=
  window3 (S0 := 1) (S1 := 512) (S2 := 512) (s0 := 1) (s1 := 512) (s2 := 128) _ _ 0 c l _ _ _ rfl (by omega) rfl

/-- The blocks of a grid point as real numbers: queries, keys, values, and the sum of the three bias lanes of a head. -/
structure Inp (i : grid1.Coords) (q : Vec Ideal S1x512x512 .f32) (k : Vec Ideal S1x8192x512 .bf16) (b : Vec Ideal S1x8192x128 .bf16) (v : Vec Ideal S1x512x8192 .bf16) (Q K V L : ℕ → ℕ → ℝ) : Prop where
  hq : ∀ c e : Fin 512, q (ix3 0 c e) = ((Q c.val e.val : ℝ) : EReal)
  hk : ∀ (s : Fin 8192) (e : Fin 512), k (ix3 0 s e) = ((K s.val e.val : ℝ) : EReal)
  hv : ∀ (e : Fin 512) (s : Fin 8192), v (ix3 0 e s) = ((V e.val s.val : ℝ) : EReal)
  hb : ∀ (s : Fin 8192) (h : Fin 8), b (ix3 0 s ⟨3 * (8 * (i 1).val + h.val), by have := (i 1).isLt; have h2 : (i 1).val < 2 := (i 1).isLt; omega⟩) +
    b (ix3 0 s ⟨3 * (8 * (i 1).val + h.val) + 1, by have := (i 1).isLt; have h2 : (i 1).val < 2 := (i 1).isLt; omega⟩) +
    b (ix3 0 s ⟨3 * (8 * (i 1).val + h.val) + 2, by have := (i 1).isLt; have h2 : (i 1).val < 2 := (i 1).isLt; omega⟩) = ((L h.val s.val : ℝ) : EReal)

theorem qHead_val (p : ℕ) (hp : p < 2) (lo hi : BitVec 32) (hlo : lo = BitVec.ofNat 32 (64 * p)) (hhi : hi = BitVec.ofNat 32 (64 * p + 64)) (q : Vec Ideal S1x512x128 .f32) (c : Fin 512) (l : Fin 128) (r : ℝ) (hr : q (ix3 0 c l) = ((r : ℝ) : EReal)) :
    qHead lo hi q (ix2 c l) = if 64 * p ≤ l.val ∧ l.val < 64 * p + 64 then ((r * qs : ℝ) : EReal) else 0 := by
  have hl := l.isLt
  rw [qHead_at, hr, scaleC_eq, ← EReal.coe_mul, hlo, hhi]
  refine select_if _ ?_
  obtain rfl | rfl : p = 0 ∨ p = 1 := by omega
  · exact (lane_lo l).trans (by omega)
  · exact (lane_hi l).trans (by omega)

theorem biasLanes_val (i : grid1.Coords) (h : ℕ) (hh : h < 8) (c : Fin 512) (l : Fin 128) :
    biasLanes (F := Ideal) (headNo i h) (ix2 c l) = if 3 * (8 * (i 1).val + h) ≤ l.val ∧ l.val < 3 * (8 * (i 1).val + h) + 3 then 1 else (0 : EReal) := by
  rw [biasLanes_at]
  exact select_if _ (lane_bias (i 1) ⟨h, hh⟩ l)

theorem qaPair_in (i : grid1.Coords) (lt : ℕ) (hlt : lt < 4) (σ : St Ideal) (Q : ℕ → ℕ → ℝ) (hq : ∀ c e : Fin 512, σ.q (ix3 0 c e) = ((Q c.val e.val : ℝ) : EReal))
    (h : ℕ) (hh : h < 8) (hl : h / 2 = lt) (c : Fin 512) (l : Fin 128) :
    (qaPairF i lt hlt σ).qa (ix2 (col h c.val hh c.isLt) ⟨l.val, by omega⟩) = (if 64 * (h % 2) ≤ l.val ∧ l.val < 64 * (h % 2) + 64 then ((Q c.val (128 * (h / 2) + l.val) * qs : ℝ) : EReal) else 0) ∧
    (qaPairF i lt hlt σ).qa (ix2 (col h c.val hh c.isLt) ⟨128 + l.val, by omega⟩) = (if 3 * (8 * (i 1).val + h) ≤ l.val ∧ l.val < 3 * (8 * (i 1).val + h) + 3 then 1 else (0 : EReal)) := by
  subst hl
  have hr := (qTile_at (h / 2) hlt σ c l).trans (hq c _)
  rcases Nat.mod_two_eq_zero_or_one h with hm | hm
  · have e : 2 * (h / 2) = h := by omega
    unfold qaPairF
    rw [qaHead_out i _ _ _ (2 * (h / 2) + 1) _ h hh c _ (by omega), qaHead_out i _ _ _ (2 * (h / 2) + 1) _ h hh c _ (by omega), e, qaHead_lo, qaHead_hi, biasLanes_val i h hh, hm]
    exact ⟨qHead_val 0 (by omega) _ _ rfl rfl _ c l _ hr, rfl⟩
  · have e : 2 * (h / 2) + 1 = h := by omega
    unfold qaPairF
    rw [e, qaHead_lo, qaHead_hi, biasLanes_val i h hh, hm]
    exact ⟨qHead_val 1 (by omega) _ _ rfl rfl _ c l _ hr, rfl⟩

theorem qaPair_out (i : grid1.Coords) (lt : ℕ) (hlt : lt < 4) (σ : St Ideal) (h : ℕ) (hh : h < 8) (hl : h / 2 ≠ lt) (c : Fin 512) (y : Fin 256) :
    (qaPairF i lt hlt σ).qa (ix2 (col h c.val hh c.isLt) y) = σ.qa (ix2 (col h c.val hh c.isLt) y) := by
  unfold qaPairF
  rw [qaHead_out i _ _ _ _ _ h hh c _ (by omega), qaHead_out i _ _ _ _ _ h hh c _ (by omega)]

/-- The masked queries of the heads of the first `n` lane tiles. -/
def QaUpTo (i : grid1.Coords) (Q : ℕ → ℕ → ℝ) (n : ℕ) (σ : St Ideal) : Prop := (∀ c e : Fin 512, σ.q (ix3 0 c e) = ((Q c.val e.val : ℝ) : EReal)) ∧ ∀ (h : ℕ) (hh : h < 8), h / 2 < n → ∀ (c : Fin 512) (l : Fin 128),
    σ.qa (ix2 (col h c.val hh c.isLt) ⟨l.val, by omega⟩) = (if 64 * (h % 2) ≤ l.val ∧ l.val < 64 * (h % 2) + 64 then ((Q c.val (128 * (h / 2) + l.val) * qs : ℝ) : EReal) else 0) ∧
    σ.qa (ix2 (col h c.val hh c.isLt) ⟨128 + l.val, by omega⟩) = (if 3 * (8 * (i 1).val + h) ≤ l.val ∧ l.val < 3 * (8 * (i 1).val + h) + 3 then 1 else (0 : EReal))

theorem qaPair_q (i : grid1.Coords) (lt : ℕ) (hlt : lt < 4) (σ : St Ideal) : (qaPairF i lt hlt σ).q = σ.q := rfl

theorem QaUpTo.next {i : grid1.Coords} {Q : ℕ → ℕ → ℝ} {n : ℕ} {σ : St Ideal} (H : QaUpTo i Q n σ) (hn : n < 4) : QaUpTo i Q (n + 1) (qaPairF i n hn σ) := by
  refine ⟨fun c e => ?_, fun h hh hl c l => ?_⟩
  · rw [qaPair_q]; exact H.1 c e
  · by_cases e : h / 2 = n
    · exact qaPair_in i n hn σ Q H.1 h hh e c l
    · rw [qaPair_out i n hn σ h hh e c, qaPair_out i n hn σ h hh e c]
      exact H.2 h hh (by omega) c l

theorem qaFill_val (i : grid1.Coords) (σ : St Ideal) (Q : ℕ → ℕ → ℝ) (hq : ∀ c e : Fin 512, σ.q (ix3 0 c e) = ((Q c.val e.val : ℝ) : EReal)) :
    Qa (i 1).val (qaFillF i σ).qa Q := by
  have h0 : QaUpTo i Q 0 σ := ⟨hq, fun h hh hl => absurd hl (by omega)⟩
  have h4 := (((h0.next (by omega)).next (by omega)).next (by omega)).next (by omega)
  exact ⟨fun h hh c l => (h4.2 h hh (by omega) c l).1, fun h hh c l => (h4.2 h hh (by omega) c l).2⟩

end Cert.Proof.KernelIdeal
-- ==== Proof.Tile.lean ====
/- The scores of a key block and their column maxima, read at an index. -/
module

public import proofs.«01_k».proof.Proof.Score

@[expose] public section

set_option maxRecDepth 16384

noncomputable section

namespace Cert.Proof.KernelIdeal

open Cert.KernelIdeal Cert.KernelIdeal.Gen
open Idealize.ShloMosaic Cert.Proof.At Cert.Proof.Fold

/-- A sum over 128 lanes of which 64 count. -/
theorem sum_half (p : ℕ) (hp : p < 2) (A B : ℕ → ℝ) : (∑ x : Fin 128, ((A x.val : ℝ) : EReal) * (if 64 * p ≤ x.val ∧ x.val < 64 * p + 64 then ((B x.val : ℝ) : EReal) else 0)) =
    ((∑ d : Fin 64, A (64 * p + d.val) * B (64 * p + d.val) : ℝ) : EReal) := by
  have e1 : ∀ x : Fin 128, ((A x.val : ℝ) : EReal) * (if 64 * p ≤ x.val ∧ x.val < 64 * p + 64 then ((B x.val : ℝ) : EReal) else 0) =
      (((fun n : ℕ => if 64 * p ≤ n ∧ n < 64 * p + 64 then A n * B n else 0) x.val : ℝ) : EReal) := by
    intro x
    dsimp only
    split
    · rw [EReal.coe_mul]
    · rw [mul_zero, EReal.coe_zero]
  rw [Finset.sum_congr rfl fun x _ => e1 x, ← coe_sum, Fin.sum_univ_eq_sum_range (fun n : ℕ => if 64 * p ≤ n ∧ n < 64 * p + 64 then A n * B n else 0) 128,
    Fin.sum_univ_eq_sum_range (fun n : ℕ => A (64 * p + n) * B (64 * p + n)) 64]
  congr 1
  rw [show (128 : ℕ) = 64 + 64 from rfl, Finset.sum_range_add]
  obtain rfl | rfl : p = 0 ∨ p = 1 := by omega
  · have a : ∀ n ∈ Finset.range 64, (if 64 * 0 ≤ n ∧ n < 64 * 0 + 64 then A n * B n else 0) = A (64 * 0 + n) * B (64 * 0 + n) := by
      intro n hn; have := Finset.mem_range.1 hn
      rw [if_pos (by omega), Nat.mul_zero, Nat.zero_add]
    have b : ∀ n ∈ Finset.range 64, (if 64 * 0 ≤ 64 + n ∧ 64 + n < 64 * 0 + 64 then A (64 + n) * B (64 + n) else 0) = 0 := by
      intro n hn; rw [if_neg (by omega)]
    rw [Finset.sum_congr rfl a, Finset.sum_congr rfl b, Finset.sum_const_zero, add_zero]
  · have a : ∀ n ∈ Finset.range 64, (if 64 * 1 ≤ n ∧ n < 64 * 1 + 64 then A n * B n else 0) = 0 := by
      intro n hn; have := Finset.mem_range.1 hn
      rw [if_neg (by omega)]
    have b : ∀ n ∈ Finset.range 64, (if 64 * 1 ≤ 64 + n ∧ 64 + n < 64 * 1 + 64 then A (64 + n) * B (64 + n) else 0) = A (64 * 1 + n) * B (64 * 1 + n) := by
      intro n hn; have := Finset.mem_range.1 hn
      rw [if_pos (by omega), Nat.mul_one]
    rw [Finset.sum_congr rfl a, Finset.sum_congr rfl b, Finset.sum_const_zero, zero_add]

/-- A sum over 128 lanes of which three count. -/
theorem sum_three (a : ℕ) (ha : a + 2 < 128) (b : Fin 128 → EReal) : (∑ x : Fin 128, b x * (if a ≤ x.val ∧ x.val < a + 3 then 1 else (0 : EReal))) = b ⟨a, by omega⟩ + b ⟨a + 1, by omega⟩ + b ⟨a + 2, ha⟩ := by
  have e : ∀ x : Fin 128, b x * (if a ≤ x.val ∧ x.val < a + 3 then 1 else (0 : EReal)) = ((if x = ⟨a, by omega⟩ then b x else 0) + (if x = ⟨a + 1, by omega⟩ then b x else 0)) + (if x = ⟨a + 2, ha⟩ then b x else 0) := by
    intro x
    have hx : ∀ (n : ℕ) (hn : n < 128), x = ⟨n, hn⟩ ↔ x.val = n := fun n hn => Fin.ext_iff
    simp only [hx]
    by_cases h0 : x.val = a
    · rw [if_pos (by omega), if_pos h0, if_neg (by omega), if_neg (by omega), mul_one, add_zero, add_zero]
    by_cases h1 : x.val = a + 1
    · rw [if_pos (by omega), if_neg h0, if_pos h1, if_neg (by omega), mul_one, add_zero, zero_add]
    by_cases h2 : x.val = a + 2
    · rw [if_pos (by omega), if_neg h0, if_neg h1, if_pos h2, mul_one, add_zero, zero_add]
    · rw [if_neg (by omega), if_neg h0, if_neg h1, if_neg h2, mul_zero, add_zero, add_zero]
  rw [Finset.sum_congr rfl fun x _ => e x, Finset.sum_add_distrib, Finset.sum_add_distrib, Finset.sum_ite_eq' Finset.univ _ b, Finset.sum_ite_eq' Finset.univ _ b, Finset.sum_ite_eq' Finset.univ _ b,
    if_pos (Finset.mem_univ _), if_pos (Finset.mem_univ _), if_pos (Finset.mem_univ _)]

/-- The score of key `s` for query `c` of head `h`. -/
def sco (Q K L : ℕ → ℕ → ℝ) (h c s : ℕ) : ℝ := (∑ d : Fin 64, K s (64 * h + d.val) * (Q c (64 * h + d.val) * qs)) + L h s

/-- The inputs and the masked queries of a state. -/
structure Ok (i : grid1.Coords) (σ : St Ideal) (Q K V L : ℕ → ℕ → ℝ) : Prop where
  inp : Inp i σ.q σ.k σ.b σ.v Q K V L
  qa : Qa (i 1).val σ.qa Q

/-- What a mask does to scores. -/
def Masks (post : FVec Ideal S512x1024 .f32 → FVec Ideal S512x1024 .f32) (P : ℕ → ℕ → Prop) [∀ k c, Decidable (P k c)] : Prop :=
  ∀ (s : FVec Ideal S512x1024 .f32) (r : Fin 512) (j : Fin 1024), post s (ix2 r j) = if P r.val (j.val % 512) then s (ix2 r j) else (⊥ : EReal)

theorem masks_id : Masks id (fun _ _ => True) := fun s r j => (if_pos trivial).symm
theorem masks_causal : Masks maskOf (fun k c => k ≤ c) := maskOf_at

variable {i : grid1.Coords} {σ : St Ideal} {Q K V L : ℕ → ℕ → ℝ}

theorem cast_bias (w : Vec Ideal S1x512x128 .bf16) (k : Fin 512) (x : Fin 128) : shapeCast S512x128 w shapeCasts_S1x512x128_S512x128 (ix2 k x) = w (ix3 0 k x) := by pointwise

theorem biasBlk_at (n : ℕ) (hn : n + 512 ≤ 8192) (σ : St Ideal) (k : Fin 512) (x : Fin 128) : biasBlk n hn σ (ix2 k x) = σ.b (ix3 0 ⟨n + k.val, by omega⟩ x) :=
  (cast_bias _ k x).trans (window3 (S0 := 1) (S1 := 8192) (S2 := 128) (s0 := 1) (s1 := 512) (s2 := 128) σ.b _ 0 k x 0 ⟨n + k.val, by omega⟩ x rfl rfl (by omega))

theorem key_at (H : Ok i σ Q K V L) (n : ℕ) (hn : n + 512 ≤ 8192) (lt : ℕ) (hlt : lt < 4) (inb) (k : Fin 512) (x : Fin 128) :
    VecWindow.window (s := S1x8192x512) σ.k ![0, n, 128 * lt] S1x512x128.size inb (ix3 0 k x) = ((K (n + k.val) (128 * lt + x.val) : ℝ) : EReal) :=
  (window3 (S0 := 1) (S1 := 8192) (S2 := 512) (s0 := 1) (s1 := 512) (s2 := 128) σ.k inb 0 k x 0 ⟨n + k.val, by omega⟩ ⟨128 * lt + x.val, by omega⟩ rfl rfl rfl).trans (H.inp.hk _ _)

theorem qry_at (qa : Vec Ideal S4096x256 .bf16) (h : ℕ) (hh : h < 8) (c : Fin 512) (inb) (x : Fin 256) :
    VecWindow.window (s := S4096x256) qa ![1024 * (h / 2), 0] S1024x256.size inb (ix2 ⟨512 * (h % 2) + c.val, by omega⟩ x) = qa (ix2 (col h c.val hh c.isLt) x) :=
  window2 (S0 := 4096) (S1 := 256) (s0 := 1024) (s1 := 256) qa inb _ x (col h c.val hh c.isLt) x (by show 512 * h + c.val = 1024 * (h / 2) + (512 * (h % 2) + c.val); omega) (by omega)

theorem tile_at (H : Ok i σ Q K V L) (post : FVec Ideal S512x1024 .f32 → FVec Ideal S512x1024 .f32) (P : ℕ → ℕ → Prop) [∀ k c, Decidable (P k c)] (hP : Masks post P)
    (n : ℕ) (hn : n + 512 ≤ 8192) (h : ℕ) (hh : h < 8) (c : Fin 512) (k : Fin 512) (hlt : h / 2 < 4) :
    tileScore post n hn (biasBlk n hn σ) (h / 2) hlt σ (ix2 k ⟨512 * (h % 2) + c.val, by omega⟩) = score (P k.val c.val) (sco Q K L h c.val (n + k.val)) := by
  have hi : (i 1).val < 2 := (i 1).isLt
  unfold tileScore
  rw [hP, scoreOf_at]
  have hc : (512 * (h % 2) + c.val) % 512 = c.val := by omega
  have s1 := sum_half (h % 2) (by omega) (fun x => K (n + k.val) (128 * (h / 2) + x)) (fun x => Q c.val (128 * (h / 2) + x) * qs)
  have s2 := (sum_three (3 * (8 * (i 1).val + h)) (by omega) (fun x => σ.b (ix3 0 ⟨n + k.val, by omega⟩ x))).trans (H.inp.hb ⟨n + k.val, by omega⟩ ⟨h, hh⟩)
  have t1 := (Finset.sum_congr (s₁ := (Finset.univ : Finset (Fin 128))) rfl fun x _ => congrArg₂ (· * ·) (key_at H n hn (h / 2) hlt (inb3 (by omega) hn (by omega)) k x)
    ((qry_at σ.qa h hh c (inb2 (by omega) (by omega)) ⟨x.val, by omega⟩).trans (H.qa.lo h hh c x))).trans s1
  have t2 := (Finset.sum_congr (s₁ := (Finset.univ : Finset (Fin 128))) rfl fun x _ => congrArg₂ (· * ·) (biasBlk_at n hn σ k x)
    ((qry_at σ.qa h hh c (inb2 (by omega) (by omega)) ⟨128 + x.val, by omega⟩).trans (H.qa.hi h hh c x))).trans s2
  have t3 := (congrArg₂ (· + ·) t1 t2).trans (EReal.coe_add _ _).symm
  have e5 : (∑ d : Fin 64, K (n + k.val) (128 * (h / 2) + (64 * (h % 2) + d.val)) * (Q c.val (128 * (h / 2) + (64 * (h % 2) + d.val)) * qs)) = ∑ d : Fin 64, K (n + k.val) (64 * h + d.val) * (Q c.val (64 * h + d.val) * qs) :=
    Finset.sum_congr rfl fun d _ => by rw [show 128 * (h / 2) + (64 * (h % 2) + d.val) = 64 * h + d.val by omega]
  unfold score sco
  rw [← e5, ← t3]
  exact congrArg (fun m => if P k.val m then _ else _) hc

/-- A slot holds the scores of the key block at row `n`, and their column maxima. -/
def Slot (σ : St Ideal) (Q K L : ℕ → ℕ → ℝ) (sl : Bool) (n : ℕ) (P : ℕ → ℕ → Prop) [∀ k c, Decidable (P k c)] : Prop := ∀ (h : ℕ) (hh : h < 8) (c : Fin 512),
  (∀ k : Fin 512, σ.s sl (ix2 k (col h c.val hh c.isLt)) = score (P k.val c.val) (sco Q K L h c.val (n + k.val))) ∧
    σ.r sl (ix2 0 (col h c.val hh c.isLt)) = Finset.univ.fold max (⊥ : EReal) fun k : Fin 512 => score (P k.val c.val) (sco Q K L h c.val (n + k.val))

theorem scoresOn_at (x : Vec Ideal S512x4096 .f32) (post : FVec Ideal S512x1024 .f32 → FVec Ideal S512x1024 .f32) (n : ℕ) (hn : n + 512 ≤ 8192) (σ : St Ideal) (k : Fin 512) (y : Fin 4096) (lt : ℕ) (hlt : lt < 4) (j : Fin 1024) (hy : y.val = 1024 * lt + j.val) :
    scoresOn x post n hn σ (ix2 k y) = tileScore post n hn (biasBlk n hn σ) lt hlt σ (ix2 k j) := by
  unfold scoresOn
  have hj := j.isLt
  have out : ∀ (x : Vec Ideal S512x4096 .f32) (w : Vec Ideal S512x1024 .f32) (t : ℕ), t ≠ lt → VecWindow.put (s := S512x4096) x ![0, 1024 * t] S512x1024.size w (ix2 k y) = x (ix2 k y) := fun x w t ht =>
    put_out2 (S0 := 512) (S1 := 4096) (s0 := 512) (s1 := 1024) x w k y (.inr (by omega))
  have inn : ∀ (x : Vec Ideal S512x4096 .f32) (w : Vec Ideal S512x1024 .f32), VecWindow.put (s := S512x4096) x ![0, 1024 * lt] S512x1024.size w (ix2 k y) = w (ix2 k j) := fun x w =>
    put_in2 (S0 := 512) (S1 := 4096) (s0 := 512) (s1 := 1024) x w k y k j (by omega) hy
  have cast : ∀ w : Vec Ideal S512x1024 .f32, shapeCast S512x1024 w shapeCasts_S512x1024_S512x1024 (ix2 k j) = w (ix2 k j) := fun w => by pointwise
  obtain rfl | rfl | rfl | rfl : lt = 0 ∨ lt = 1 ∨ lt = 2 ∨ lt = 3 := by omega
  · rw [out _ _ 3 (by omega), out _ _ 2 (by omega), out _ _ 1 (by omega), inn, cast]
  · rw [out _ _ 3 (by omega), out _ _ 2 (by omega), inn, cast]
  · rw [out _ _ 3 (by omega), inn, cast]
  · rw [inn, cast]

theorem maxesOn_at (x : Vec Ideal S1x4096 .f32) (post : FVec Ideal S512x1024 .f32 → FVec Ideal S512x1024 .f32) (n : ℕ) (hn : n + 512 ≤ 8192) (σ : St Ideal) (y : Fin 4096) (lt : ℕ) (hlt : lt < 4) (j : Fin 1024) (hy : y.val = 1024 * lt + j.val) :
    maxesOn x post n hn σ (ix2 0 y) = maxOf (tileScore post n hn (biasBlk n hn σ) lt hlt σ) (ix2 0 j) := by
  unfold maxesOn
  have hj := j.isLt
  have out : ∀ (x : Vec Ideal S1x4096 .f32) (w : Vec Ideal S1x1024 .f32) (t : ℕ), t ≠ lt → VecWindow.put (s := S1x4096) x ![0, 1024 * t] S1x1024.size w (ix2 0 y) = x (ix2 0 y) := fun x w t ht =>
    put_out2 (S0 := 1) (S1 := 4096) (s0 := 1) (s1 := 1024) x w 0 y (.inr (by omega))
  have inn : ∀ (x : Vec Ideal S1x4096 .f32) (w : Vec Ideal S1x1024 .f32), VecWindow.put (s := S1x4096) x ![0, 1024 * lt] S1x1024.size w (ix2 0 y) = w (ix2 0 j) := fun x w =>
    put_in2 (S0 := 1) (S1 := 4096) (s0 := 1) (s1 := 1024) x w 0 y 0 j rfl hy
  have cast : ∀ w : Vec Ideal S1x1024 .f32, shapeCast S1x1024 w shapeCasts_S1x1024_S1x1024 (ix2 0 j) = w (ix2 0 j) := fun w => by pointwise
  obtain rfl | rfl | rfl | rfl : lt = 0 ∨ lt = 1 ∨ lt = 2 ∨ lt = 3 := by omega
  · rw [out _ _ 3 (by omega), out _ _ 2 (by omega), out _ _ 1 (by omega), inn, cast]
  · rw [out _ _ 3 (by omega), out _ _ 2 (by omega), inn, cast]
  · rw [out _ _ 3 (by omega), inn, cast]
  · rw [inn, cast]

/-- Scoring a block fills its slot. -/
theorem slot_produce (H : Ok i σ Q K V L) (sl : Bool) (post : FVec Ideal S512x1024 .f32 → FVec Ideal S512x1024 .f32) (P : ℕ → ℕ → Prop) [∀ k c, Decidable (P k c)] (hP : Masks post P) (n : ℕ) (hn : n + 512 ≤ 8192) :
    Slot (produceF sl post n hn σ) Q K L sl n P := by
  intro h hh c
  have hlt : h / 2 < 4 := by omega
  have hy : (col h c.val hh c.isLt).val = 1024 * (h / 2) + (512 * (h % 2) + c.val) := by show 512 * h + c.val = _; omega
  have e1 : (produceF sl post n hn σ).s sl = scoresOn (σ.s sl) post n hn σ := by rw [produceF_eq]; cases sl <;> rfl
  have e2 : (produceF sl post n hn σ).r sl = maxesOn (σ.r sl) post n hn σ := by rw [produceF_eq]; cases sl <;> rfl
  rw [e1, e2]
  refine ⟨fun k => ?_, ?_⟩
  · rw [scoresOn_at _ _ _ _ _ _ _ (h / 2) hlt ⟨512 * (h % 2) + c.val, by omega⟩ hy]
    exact tile_at H post P hP n hn h hh c k hlt
  · rw [maxesOn_at _ _ _ _ _ _ (h / 2) hlt ⟨512 * (h % 2) + c.val, by omega⟩ hy, maxOf_at]
    exact congrArg (fun f => Finset.univ.fold max (⊥ : EReal) f) (funext fun k => tile_at H post P hP n hn h hh c k hlt)

/-- Scoring a block into one slot leaves the other. -/
theorem slot_other {sl sl' : Bool} (hne : sl' ≠ sl) (post : FVec Ideal S512x1024 .f32 → FVec Ideal S512x1024 .f32) (n : ℕ) (hn : n + 512 ≤ 8192) {n' : ℕ} {P : ℕ → ℕ → Prop} [∀ k c, Decidable (P k c)] (h : Slot σ Q K L sl' n' P) :
    Slot (produceF sl post n hn σ) Q K L sl' n' P := by
  have e1 : (produceF sl post n hn σ).s sl' = σ.s sl' := by rw [produceF_eq]; cases sl <;> cases sl' <;> first | rfl | exact absurd rfl hne
  have e2 : (produceF sl post n hn σ).r sl' = σ.r sl' := by rw [produceF_eq]; cases sl <;> cases sl' <;> first | rfl | exact absurd rfl hne
  unfold Slot
  rw [e1, e2]
  exact h

theorem produce_fields (sl : Bool) (post : FVec Ideal S512x1024 .f32 → FVec Ideal S512x1024 .f32) (n : ℕ) (hn : n + 512 ≤ 8192) (σ : St Ideal) :
    (produceF sl post n hn σ).q = σ.q ∧ (produceF sl post n hn σ).k = σ.k ∧ (produceF sl post n hn σ).b = σ.b ∧ (produceF sl post n hn σ).v = σ.v ∧ (produceF sl post n hn σ).qa = σ.qa ∧ (produceF sl post n hn σ).m = σ.m ∧ (produceF sl post n hn σ).acc = σ.acc := by
  rw [produceF_eq]
  cases sl <;> exact ⟨rfl, rfl, rfl, rfl, rfl, rfl, rfl⟩

theorem Ok.produce (H : Ok i σ Q K V L) (sl : Bool) (post : FVec Ideal S512x1024 .f32 → FVec Ideal S512x1024 .f32) (n : ℕ) (hn : n + 512 ≤ 8192) : Ok i (produceF sl post n hn σ) Q K V L := by
  obtain ⟨h1, h2, h3, h4, h5, _, _⟩ := produce_fields sl post n hn σ
  refine ⟨?_, ?_⟩
  · rw [h1, h2, h3, h4]; exact H.inp
  · rw [h5]; exact H.qa

end Cert.Proof.KernelIdeal
-- ==== Proof.Consume.lean ====
/- Folding a scored block into the running maximum and sums, read at an index. -/
module

public import proofs.«01_k».proof.Proof.Tile
public import Idealize.ShloMosaic.Lib.IdealHost

@[expose] public section

set_option maxRecDepth 16384

noncomputable section

namespace Cert.Proof.KernelIdeal

open Cert.KernelIdeal Cert.KernelIdeal.Gen
open Idealize.ShloMosaic Cert.Proof.At Cert.Proof.Fold

variable {i : grid1.Coords} {σ : St Ideal} {Q K V L : ℕ → ℕ → ℝ}

theorem accOf_at (vb : Vec Ideal S1x64x512 .bf16) (ab : Vec Ideal S1x80x512 .f32) (al : FVec Ideal S1x512 .f32) (p : FVec Ideal S512x512 .bf16) (r : Fin 80) (c : Fin 512) :
    accOf vb ab al p (ix2 r c) = al (ix2 0 c) * ab (ix3 0 r c) + ∑ x : Fin 512, (if h : r.val < 64 then vb (ix3 0 ⟨r.val, h⟩ x) else Ideal.ofBits .bf16 0x3F80#16) * p (ix2 x c) := by
  pointwise [accOf, onesC]

theorem accCast_at (w : FVec Ideal S80x512 .f32) (r : Fin 80) (c : Fin 512) : shapeCast S1x80x512 w shapeCasts_S80x512_S1x80x512 (ix3 0 r c) = w (ix2 r c) := by pointwise

theorem one_bf16 : Ideal.ofBits .bf16 0x3F80#16 = (1 : EReal) := Ideal.ofBits_one_bf16

theorem ext1_at (al : FVec Ideal S1x4096 .f32) (h : ℕ) (hh : h < 8) (c : Fin 512) : extractStridedSlice S1x512 ![0, 512 * h] al (sl1 hh) (ix2 0 c) = al (ix2 0 (col h c.val hh c.isLt)) := by
  pointwise
  rfl

theorem ext2_at (p : FVec Ideal S512x4096 .bf16) (h : ℕ) (hh : h < 8) (x c : Fin 512) : extractStridedSlice S512x512 ![0, 512 * h] p (sl2 hh) (ix2 x c) = p (ix2 x (col h c.val hh c.isLt)) := by
  pointwise
  rfl

theorem alphaOf_at (m r : FVec Ideal S1x4096 .f32) (j : Fin 4096) : alphaOf m r (ix2 0 j) = Ideal.exp2 (m (ix2 0 j) - max (m (ix2 0 j)) (r (ix2 0 j))) := by
  pointwise [alphaOf]
  rfl

theorem pOf_at (m r : FVec Ideal S1x4096 .f32) (s : FVec Ideal S512x4096 .f32) (k : Fin 512) (j : Fin 4096) : pOf m r s (ix2 k j) = Ideal.exp2 (s (ix2 k j) - max (m (ix2 0 j)) (r (ix2 0 j))) := by
  pointwise [pOf]
  rfl

/-- The row of a head's sums that a value lane or the weight itself contributes. -/
def lane (V : ℕ → ℕ → ℝ) (h r s : ℕ) : ℝ := if r < 64 then V (64 * h + r) s else 1

theorem vwin_at (Hv : ∀ (e : Fin 512) (s : Fin 8192), σ.v (ix3 0 e s) = ((V e.val s.val : ℝ) : EReal)) (n : ℕ) (hn : n + 512 ≤ 8192) (h : ℕ) (hh : h < 8) (inb) (r : Fin 64) (x : Fin 512) :
    VecWindow.window (s := S1x512x8192) σ.v ![0, 64 * h, n] S1x64x512.size inb (ix3 0 r x) = ((V (64 * h + r.val) (n + x.val) : ℝ) : EReal) :=
  (window3 (S0 := 1) (S1 := 512) (S2 := 8192) (s0 := 1) (s1 := 64) (s2 := 512) σ.v inb 0 r x 0 ⟨64 * h + r.val, by omega⟩ ⟨n + x.val, by omega⟩ rfl rfl rfl).trans (Hv _ _)

theorem awin_at (acc : Vec Ideal S8x80x512 .f32) (h : ℕ) (hh : h < 8) (inb) (r : Fin 80) (c : Fin 512) :
    VecWindow.window (s := S8x80x512) acc ![h, 0, 0] S1x80x512.size inb (ix3 0 r c) = acc (ix3 ⟨h, hh⟩ r c) :=
  window3 (S0 := 8) (S1 := 80) (S2 := 512) (s0 := 1) (s1 := 80) (s2 := 512) acc inb 0 r c ⟨h, hh⟩ r c rfl (by omega) (by omega)

theorem consStep_in (Hv : ∀ (e : Fin 512) (s : Fin 8192), σ.v (ix3 0 e s) = ((V e.val s.val : ℝ) : EReal)) (n : ℕ) (hn : n + 512 ≤ 8192) (al : FVec Ideal S1x4096 .f32) (p : FVec Ideal S512x4096 .bf16) (h : ℕ) (hh : h < 8) (r : Fin 80) (c : Fin 512) :
    (consStepF n hn al p h hh σ).acc (ix3 ⟨h, hh⟩ r c) = al (ix2 0 (col h c.val hh c.isLt)) * σ.acc (ix3 ⟨h, hh⟩ r c) + ∑ x : Fin 512, ((lane V h r.val (n + x.val) : ℝ) : EReal) * p (ix2 x (col h c.val hh c.isLt)) := by
  refine (put_in3 (S0 := 8) (S1 := 80) (S2 := 512) (s0 := 1) (s1 := 80) (s2 := 512) σ.acc _ ⟨h, hh⟩ r c 0 r c rfl (by omega) (by omega)).trans ?_
  rw [accCast_at, accOf_at, ext1_at _ h hh, awin_at _ h hh]
  congr 1
  refine Finset.sum_congr rfl fun x _ => ?_
  rw [ext2_at _ h hh]
  congr 1
  unfold lane
  by_cases hr : r.val < 64
  · rw [dif_pos hr, if_pos hr]; exact vwin_at Hv n hn h hh _ ⟨r.val, hr⟩ x
  · rw [dif_neg hr, if_neg hr]; exact one_bf16

theorem consStep_out (n : ℕ) (hn : n + 512 ≤ 8192) (al : FVec Ideal S1x4096 .f32) (p : FVec Ideal S512x4096 .bf16) (h : ℕ) (hh : h < 8) (h' : Fin 8) (hne : h'.val ≠ h) (r : Fin 80) (c : Fin 512) :
    (consStepF n hn al p h hh σ).acc (ix3 h' r c) = σ.acc (ix3 h' r c) :=
  put_out3 (S0 := 8) (S1 := 80) (S2 := 512) (s0 := 1) (s1 := 80) (s2 := 512) σ.acc _ h' r c (by omega)

theorem consStep_v (n : ℕ) (hn : n + 512 ≤ 8192) (al : FVec Ideal S1x4096 .f32) (p : FVec Ideal S512x4096 .bf16) (h : ℕ) (hh : h < 8) (σ : St Ideal) : (consStepF n hn al p h hh σ).v = σ.v := rfl

/-- The shares of the first `n` heads folded in. -/
def ConsUpTo (a0 : Vec Ideal S8x80x512 .f32) (V : ℕ → ℕ → ℝ) (n : ℕ) (al : FVec Ideal S1x4096 .f32) (p : FVec Ideal S512x4096 .bf16) (m : ℕ) (σ : St Ideal) : Prop :=
  (∀ (e : Fin 512) (s : Fin 8192), σ.v (ix3 0 e s) = ((V e.val s.val : ℝ) : EReal)) ∧ (∀ (h : ℕ) (hh : h < 8), h < m → ∀ (r : Fin 80) (c : Fin 512),
    σ.acc (ix3 ⟨h, hh⟩ r c) = al (ix2 0 (col h c.val hh c.isLt)) * a0 (ix3 ⟨h, hh⟩ r c) + ∑ x : Fin 512, ((lane V h r.val (n + x.val) : ℝ) : EReal) * p (ix2 x (col h c.val hh c.isLt))) ∧
  ∀ (h : ℕ) (hh : h < 8), m ≤ h → ∀ (r : Fin 80) (c : Fin 512), σ.acc (ix3 ⟨h, hh⟩ r c) = a0 (ix3 ⟨h, hh⟩ r c)

theorem ConsUpTo.next {a0 : Vec Ideal S8x80x512 .f32} {n : ℕ} {al : FVec Ideal S1x4096 .f32} {p : FVec Ideal S512x4096 .bf16} {m : ℕ} {σ : St Ideal} (H : ConsUpTo a0 V n al p m σ) (hn : n + 512 ≤ 8192) (hm : m < 8) :
    ConsUpTo a0 V n al p (m + 1) (consStepF n hn al p m hm σ) := by
  obtain ⟨h1, h2, h3⟩ := H
  refine ⟨fun e s => ?_, fun h hh hl r c => ?_, fun h hh hl r c => ?_⟩
  · rw [consStep_v]; exact h1 e s
  · by_cases e : h = m
    · subst e
      rw [consStep_in h1 n hn al p h hh r c, h3 h hh le_rfl r c]
    · rw [consStep_out n hn al p m hm ⟨h, hh⟩ e r c]
      exact h2 h hh (by omega) r c
  · rw [consStep_out n hn al p m hm ⟨h, hh⟩ (by show h ≠ m; omega) r c]
    exact h3 h hh (by omega) r c

theorem consAll_at (Hv : ∀ (e : Fin 512) (s : Fin 8192), σ.v (ix3 0 e s) = ((V e.val s.val : ℝ) : EReal)) (n : ℕ) (hn : n + 512 ≤ 8192) (al : FVec Ideal S1x4096 .f32) (p : FVec Ideal S512x4096 .bf16) (h : ℕ) (hh : h < 8) (r : Fin 80) (c : Fin 512) :
    (consAll n hn al p σ).acc (ix3 ⟨h, hh⟩ r c) = al (ix2 0 (col h c.val hh c.isLt)) * σ.acc (ix3 ⟨h, hh⟩ r c) + ∑ x : Fin 512, ((lane V h r.val (n + x.val) : ℝ) : EReal) * p (ix2 x (col h c.val hh c.isLt)) := by
  have h0 : ConsUpTo σ.acc V n al p 0 σ := ⟨Hv, fun _ _ h => absurd h (by omega), fun _ _ _ _ _ => rfl⟩
  have h8 := (((((((h0.next hn (by omega)).next hn (by omega)).next hn (by omega)).next hn (by omega)).next hn (by omega)).next hn (by omega)).next hn (by omega)).next hn (by omega)
  exact h8.2.1 h hh (by omega) r c

/-- Two states that agree on all but the running sums and the output. -/
structure Agree (σ σ' : St Ideal) : Prop where
  q : σ.q = σ'.q
  k : σ.k = σ'.k
  b : σ.b = σ'.b
  v : σ.v = σ'.v
  qa : σ.qa = σ'.qa
  m : σ.m = σ'.m
  s : ∀ s, σ.s s = σ'.s s
  r : ∀ s, σ.r s = σ'.r s

theorem Agree.trans {σ σ' σ'' : St Ideal} (h : Agree σ σ') (h' : Agree σ' σ'') : Agree σ σ'' :=
  ⟨h.q.trans h'.q, h.k.trans h'.k, h.b.trans h'.b, h.v.trans h'.v, h.qa.trans h'.qa, h.m.trans h'.m, fun s => (h.s s).trans (h'.s s), fun s => (h.r s).trans (h'.r s)⟩

theorem consStep_agree (n : ℕ) (hn : n + 512 ≤ 8192) (al : FVec Ideal S1x4096 .f32) (p : FVec Ideal S512x4096 .bf16) (h : ℕ) (hh : h < 8) (σ : St Ideal) : Agree (consStepF n hn al p h hh σ) σ :=
  ⟨rfl, rfl, rfl, rfl, rfl, rfl, fun s => by cases s <;> rfl, fun s => by cases s <;> rfl⟩

theorem consAll_agree (n : ℕ) (hn : n + 512 ≤ 8192) (al : FVec Ideal S1x4096 .f32) (p : FVec Ideal S512x4096 .bf16) (σ : St Ideal) : Agree (consAll n hn al p σ) σ :=
  (consStep_agree ..).trans <| (consStep_agree ..).trans <| (consStep_agree ..).trans <| (consStep_agree ..).trans <| (consStep_agree ..).trans <| (consStep_agree ..).trans <| (consStep_agree ..).trans <| consStep_agree ..

theorem consume_agree (sl : Bool) (n : ℕ) (hn : n + 512 ≤ 8192) (σ : St Ideal) : Agree (consumeF sl n hn σ) (raise sl σ) := consAll_agree ..

theorem row_at (x : Vec Ideal S1x4096 .f32) (j : Fin 4096) : row x (ix2 0 j) = x (ix2 0 j) :=
  window2 (S0 := 1) (S1 := 4096) (s0 := 1) (s1 := 4096) x _ 0 j 0 j rfl (by omega)

theorem whole_at (x : Vec Ideal S512x4096 .f32) (k : Fin 512) (j : Fin 4096) : VecWindow.window (s := S512x4096) x ![0, 0] S512x4096.size inb_S512x4096_S512x4096_0_0 (ix2 k j) = x (ix2 k j) :=
  window2 (S0 := 512) (S1 := 4096) (s0 := 512) (s1 := 4096) x _ k j k j (by omega) (by omega)

theorem rowCast_at (w : Vec Ideal S1x4096 .f32) (j : Fin 4096) : shapeCast S1x4096 w shapeCasts_S1x4096_S1x4096 (ix2 0 j) = w (ix2 0 j) := by pointwise

theorem raise_m (sl : Bool) (j : Fin 4096) : (raise sl σ).m (ix2 0 j) = max (σ.m (ix2 0 j)) (σ.r sl (ix2 0 j)) := by
  refine (put_in2 (S0 := 1) (S1 := 4096) (s0 := 1) (s1 := 4096) σ.m _ 0 j 0 j rfl (by omega)).trans ?_
  rw [rowCast_at]
  show max (row σ.m (ix2 0 j)) (row (σ.r sl) (ix2 0 j)) = _
  rw [row_at, row_at]

theorem raise_s (sl s : Bool) : (raise sl σ).s s = σ.s s := by cases s <;> rfl
theorem raise_r (sl s : Bool) : (raise sl σ).r s = σ.r s := by cases s <;> rfl

/-- The running sums of a state stand for the sums `T`. -/
def Acc (σ : St Ideal) (T : ℕ → ℕ → ℕ → ℝ) : Prop := ∀ (h : ℕ) (hh : h < 8) (r : ℕ) (hr : r < 65) (c : Fin 512),
  Held (σ.m (ix2 0 (col h c.val hh c.isLt))) (σ.acc (ix3 ⟨h, hh⟩ ⟨r, by omega⟩ c)) (T h r c.val)

/-- One block's share of the sums. -/
def share (Q K V L : ℕ → ℕ → ℝ) (n : ℕ) (P : ℕ → ℕ → Prop) [∀ k c, Decidable (P k c)] (h r c : ℕ) : ℝ :=
  ∑ k : Fin 512, lane V h r (n + k.val) * weight (P k.val c) (sco Q K L h c (n + k.val))

theorem consume_m (sl : Bool) (n : ℕ) (hn : n + 512 ≤ 8192) (j : Fin 4096) : (consumeF sl n hn σ).m (ix2 0 j) = max (σ.m (ix2 0 j)) (σ.r sl (ix2 0 j)) := by
  rw [(consume_agree sl n hn σ).m]; exact raise_m sl j

/-- Folding in a block adds its share. -/
theorem Acc.consume {T : ℕ → ℕ → ℕ → ℝ} (HA : Acc σ T) (H : Ok i σ Q K V L) (sl : Bool) (n : ℕ) (hn : n + 512 ≤ 8192) (P : ℕ → ℕ → Prop) [∀ k c, Decidable (P k c)] (hS : Slot σ Q K L sl n P)
    (hP : ∀ c : Fin 512, ∃ k : Fin 512, P k.val c.val) : Acc (consumeF sl n hn σ) (fun h r c => T h r c + share Q K V L n P h r c) := by
  intro h hh r hr c
  obtain ⟨hs, hm⟩ := hS h hh c
  have step := (HA h hh r hr c).step (fun k : Fin 512 => P k.val c.val) (fun k => sco Q K L h c.val (n + k.val)) (fun k => lane V h r (n + k.val)) (hP c) _ hm
  have e : (consumeF sl n hn σ).acc (ix3 ⟨h, hh⟩ ⟨r, by omega⟩ c) = _ := consAll_at (σ := raise sl σ) H.inp.hv n hn (alphaOf (row σ.m) (row (σ.r sl))) _ h hh ⟨r, by omega⟩ c
  rw [consume_m, e, alphaOf_at, row_at, row_at]
  have e2 : ∀ x : Fin 512, pOf (row σ.m) (row (σ.r sl)) (VecWindow.window (s := S512x4096) ((raise sl σ).s sl) ![0, 0] S512x4096.size inb_S512x4096_S512x4096_0_0) (ix2 x (col h c.val hh c.isLt)) =
      Ideal.exp2 (score (P x.val c.val) (sco Q K L h c.val (n + x.val)) - max (σ.m (ix2 0 (col h c.val hh c.isLt))) (σ.r sl (ix2 0 (col h c.val hh c.isLt)))) := by
    intro x
    rw [pOf_at, row_at, row_at, whole_at, raise_s, hs]
  rw [Finset.sum_congr rfl fun x _ => congrArg (fun y => ((lane V h r (n + x.val) : ℝ) : EReal) * y) (e2 x)]
  exact step

theorem Ok.consume (H : Ok i σ Q K V L) (sl : Bool) (n : ℕ) (hn : n + 512 ≤ 8192) : Ok i (consumeF sl n hn σ) Q K V L := by
  have A := consume_agree sl n hn σ
  refine ⟨?_, ?_⟩
  · rw [A.q, A.k, A.b, A.v]; exact H.inp
  · rw [A.qa]; exact H.qa

theorem Slot.consume {sl' : Bool} {n' : ℕ} {P : ℕ → ℕ → Prop} [∀ k c, Decidable (P k c)] (h : Slot σ Q K L sl' n' P) (sl : Bool) (n : ℕ) (hn : n + 512 ≤ 8192) : Slot (consumeF sl n hn σ) Q K L sl' n' P := by
  have e1 : (consumeF sl n hn σ).s sl' = σ.s sl' := ((consume_agree sl n hn σ).s sl').trans (raise_s sl sl')
  have e2 : (consumeF sl n hn σ).r sl' = σ.r sl' := ((consume_agree sl n hn σ).r sl').trans (raise_r sl sl')
  unfold Slot
  rw [e1, e2]
  exact h

theorem Acc.produce {T : ℕ → ℕ → ℕ → ℝ} (HA : Acc σ T) (sl : Bool) (post : FVec Ideal S512x1024 .f32 → FVec Ideal S512x1024 .f32) (n : ℕ) (hn : n + 512 ≤ 8192) : Acc (produceF sl post n hn σ) T := by
  obtain ⟨_, _, _, _, _, h6, h7⟩ := produce_fields sl post n hn σ
  unfold Acc
  rw [h6, h7]
  exact HA

theorem clear_m (j : Fin 4096) : (clearF σ).m (ix2 0 j) = (⊥ : EReal) := by
  refine (put_in2 (S0 := 1) (S1 := 4096) (s0 := 1) (s1 := 4096) σ.m _ 0 j 0 j rfl (by omega)).trans ?_
  exact (rowCast_at _ j).trans maskC_eq

theorem zeroCast_at (w : FVec Ideal S8x80x512 .f32) (a : Fin 8) (r : Fin 80) (c : Fin 512) : shapeCast S8x80x512 w shapeCasts_S8x80x512_S8x80x512 (ix3 a r c) = w (ix3 a r c) := by pointwise

theorem zero_f32 : Ideal.ofBits .f32 0x00000000#32 = (0 : EReal) := by
  simp [Ideal.ofBits, Ideal.ieee]

theorem clear_acc (a : Fin 8) (r : Fin 80) (c : Fin 512) : (clearF σ).acc (ix3 a r c) = (0 : EReal) := by
  refine (put_in3 (S0 := 8) (S1 := 80) (S2 := 512) (s0 := 8) (s1 := 80) (s2 := 512) σ.acc _ a r c a r c (by omega) (by omega) (by omega)).trans ?_
  exact (zeroCast_at _ a r c).trans zero_f32

theorem acc_clear : Acc (clearF σ) (fun _ _ _ => 0) := by
  intro h hh r hr c
  rw [clear_m, clear_acc]
  exact Held.start

end Cert.Proof.KernelIdeal
-- ==== Proof.Offsets.lean ====
/- The key blocks the steps of the attention body work on: the offsets, conditions and trip counts as plain numbers. -/
module

public import proofs.«01_k».proof.Proof.Steps

@[expose] public section

set_option maxRecDepth 16384

namespace Cert.Proof.KernelIdeal

open Cert.KernelIdeal Cert.KernelIdeal.Gen
open Idealize.ShloMosaic

/-- The grid point of a query block, in the first batch and head group. -/
def at2 (c : Fin 16) : grid1.Coords := fun a => match a with
  | 0 => (0 : Fin 8)
  | 1 => (0 : Fin 2)
  | 2 => c

/-- The key block at a position of the sequence the body folds in: the diagonal block first, then those before it. -/
def blk (c p : ℕ) : ℕ := if p = 0 then c else p - 1

namespace Table

theorem off1 : ∀ c : Fin 16, k1_off1 (at2 c) 1 = 512 * c.val := by decide +kernel
theorem trips : ∀ c : Fin 16, (k1_t1_loop (at2 c)).trips = c.val / 4 := by decide +kernel
theorem off6 : ∀ (c : Fin 16) (t : Fin (k1_t1_loop (at2 c)).trips) (r : Fin 4), k1_off6 (at2 c) t (BitVec.ofNat 32 r.val) 1 = 512 * (4 * t.val + r.val) := by decide +kernel
theorem off11 : ∀ (c : Fin 16) (t : Fin (k1_t1_loop (at2 c)).trips) (r : Fin 4), k1_off11 (at2 c) t (BitVec.ofNat 32 r.val) 2 = 512 * blk c.val (4 * t.val + r.val) := by decide +kernel
theorem cond1 : ∀ c : Fin 16, k1_cond1 (at2 c) = 1#1 ↔ 2 ≤ c.val % 4 := by decide +kernel
theorem off32 : ∀ (c : Fin 16) (r : Fin 2), 2 ≤ c.val % 4 → k1_off32 (at2 c) (BitVec.ofNat 32 r.val) 1 = 512 * (4 * (c.val / 4) + r.val) := by decide +kernel
theorem off37 : ∀ (c : Fin 16) (r : Fin 2), 2 ≤ c.val % 4 → k1_off37 (at2 c) (BitVec.ofNat 32 r.val) 2 = 512 * blk c.val (4 * (c.val / 4) + r.val) := by decide +kernel
theorem cond2 : ∀ c : Fin 16, k1_cond2 (at2 c) = 1#1 ↔ c.val % 2 = 1 := by decide +kernel
theorem off45 : ∀ c : Fin 16, c.val % 2 = 1 → k1_off45 (at2 c) 1 = 512 * (c.val - 1) := by decide +kernel
theorem off50 : ∀ (c : Fin 16) (r : Fin 2), c.val % 2 = 1 → k1_off50 (at2 c) (BitVec.ofNat 32 r.val) 2 = 512 * blk c.val (c.val - 1 + r.val) := by decide +kernel
theorem cond3 : ∀ c : Fin 16, k1_cond3 (at2 c) = 1#1 ↔ c.val % 2 = 0 := by decide +kernel
theorem off58 : ∀ c : Fin 16, c.val % 2 = 0 → k1_off58 (at2 c) 2 = 512 * blk c.val c.val := by decide +kernel

end Table

variable (i : grid1.Coords)

theorem off1_eq : k1_off1 i 1 = 512 * (i 2).val := Table.off1 (i 2)
theorem trips_eq : (k1_t1_loop i).trips = (i 2).val / 4 := Table.trips (i 2)
theorem off6_eq (t : Fin (k1_t1_loop i).trips) (r : Fin 4) : k1_off6 i t (BitVec.ofNat 32 r.val) 1 = 512 * (4 * t.val + r.val) := Table.off6 (i 2) t r
theorem off11_eq (t : Fin (k1_t1_loop i).trips) (r : Fin 4) : k1_off11 i t (BitVec.ofNat 32 r.val) 2 = 512 * blk (i 2).val (4 * t.val + r.val) := Table.off11 (i 2) t r
theorem cond1_eq : k1_cond1 i = 1#1 ↔ 2 ≤ (i 2).val % 4 := Table.cond1 (i 2)
theorem off32_eq (r : Fin 2) (h : 2 ≤ (i 2).val % 4) : k1_off32 i (BitVec.ofNat 32 r.val) 1 = 512 * (4 * ((i 2).val / 4) + r.val) := Table.off32 (i 2) r h
theorem off37_eq (r : Fin 2) (h : 2 ≤ (i 2).val % 4) : k1_off37 i (BitVec.ofNat 32 r.val) 2 = 512 * blk (i 2).val (4 * ((i 2).val / 4) + r.val) := Table.off37 (i 2) r h
theorem cond2_eq : k1_cond2 i = 1#1 ↔ (i 2).val % 2 = 1 := Table.cond2 (i 2)
theorem off45_eq (h : (i 2).val % 2 = 1) : k1_off45 i 1 = 512 * ((i 2).val - 1) := Table.off45 (i 2) h
theorem off50_eq (r : Fin 2) (h : (i 2).val % 2 = 1) : k1_off50 i (BitVec.ofNat 32 r.val) 2 = 512 * blk (i 2).val ((i 2).val - 1 + r.val) := Table.off50 (i 2) r h
theorem cond3_eq : k1_cond3 i = 1#1 ↔ (i 2).val % 2 = 0 := Table.cond3 (i 2)
theorem off58_eq (h : (i 2).val % 2 = 0) : k1_off58 i 2 = 512 * blk (i 2).val (i 2).val := Table.off58 (i 2) h

end Cert.Proof.KernelIdeal
-- ==== Proof.Loop.lean ====
/- The blocks folded in one after another: the output block of the attention body as quotients of real sums. -/
module

public import proofs.«01_k».proof.Proof.Consume
public import proofs.«01_k».proof.Proof.Offsets

@[expose] public section

set_option maxRecDepth 16384

noncomputable section

namespace Cert.Proof.KernelIdeal

open Cert.KernelIdeal Cert.KernelIdeal.Gen
open Idealize.ShloMosaic Cert.Proof.At Cert.Proof.Fold

variable {i : grid1.Coords} {σ : St Ideal} {Q K V L : ℕ → ℕ → ℝ}

/-- The keys that count at a position of the sequence: those at most the query in the diagonal block, all in the others. -/
def Counts (p k c : ℕ) : Prop := p = 0 → k ≤ c

instance (p k c : ℕ) : Decidable (Counts p k c) := inferInstanceAs (Decidable (p = 0 → k ≤ c))

/-- The slot of a position. -/
def slotOf (p : ℕ) : Bool := p % 2 == 1

/-- The sums over the first `n` positions. -/
def Tot (Q K V L : ℕ → ℕ → ℝ) (c2 n h r c : ℕ) : ℝ := ∑ p ∈ Finset.range n, share Q K V L (512 * blk c2 p) (Counts p) h r c

/-- `n` blocks folded in, the next one scored. -/
structure Inv (i : grid1.Coords) (Q K V L : ℕ → ℕ → ℝ) (n : ℕ) (σ : St Ideal) : Prop where
  ok : Ok i σ Q K V L
  slot : Slot σ Q K L (slotOf n) (512 * blk (i 2).val n) (Counts n)
  acc : Acc σ (Tot Q K V L (i 2).val n)

theorem counts_some (p : ℕ) (c : Fin 512) : ∃ k : Fin 512, Counts p k.val c.val := ⟨⟨0, by omega⟩, fun _ => Nat.zero_le _⟩

theorem masks_next (n : ℕ) : Masks id (Counts (n + 1)) := fun s r j => (if_pos (fun h => absurd h (by omega))).symm

theorem masks_first : Masks maskOf (Counts 0) := by
  intro s r j
  rw [maskOf_at]
  by_cases h : r.val ≤ j.val % 512
  · rw [if_pos h, if_pos (show Counts 0 r.val (j.val % 512) from fun _ => h)]
  · rw [if_neg h, if_neg (show ¬ Counts 0 r.val (j.val % 512) from fun hc => h (hc rfl))]

theorem Acc.congr {T T' : ℕ → ℕ → ℕ → ℝ} (h : Acc σ T) (e : T = T') : Acc σ T' := e ▸ h

/-- Folding in the scored block. -/
theorem Inv.fold {n : ℕ} (H : Inv i Q K V L n σ) (sc : Bool) (hsc : sc = slotOf n) (b : ℕ) (hb : b + 512 ≤ 8192) (eb : b = 512 * blk (i 2).val n) :
    Ok i (consumeF sc b hb σ) Q K V L ∧ Acc (consumeF sc b hb σ) (Tot Q K V L (i 2).val (n + 1)) := by
  subst hsc eb
  refine ⟨H.ok.consume _ _ _, (H.acc.consume H.ok _ _ hb (Counts n) H.slot (counts_some n)).congr ?_⟩
  funext h r c
  exact (Finset.sum_range_succ _ _).symm

theorem slotOf_ne (n : ℕ) : slotOf n ≠ slotOf (n + 1) := by
  unfold slotOf
  intro h
  rcases Nat.mod_two_eq_zero_or_one n with e | e
  · have e' : (n + 1) % 2 = 1 := by omega
    rw [e, e'] at h; exact absurd h (by decide)
  · have e' : (n + 1) % 2 = 0 := by omega
    rw [e, e'] at h; exact absurd h (by decide)

/-- One step: the next block scored, the scored one folded in. -/
theorem Inv.step {n : ℕ} (H : Inv i Q K V L n σ) (sp sc : Bool) (hsp : sp = slotOf (n + 1)) (hsc : sc = slotOf n) (a b : ℕ) (ha : a + 512 ≤ 8192) (hb : b + 512 ≤ 8192) (ea : a = 512 * n) (eb : b = 512 * blk (i 2).val n) :
    Inv i Q K V L (n + 1) (consumeF sc b hb (produceF sp id a ha σ)) := by
  have hb2 : 512 * blk (i 2).val (n + 1) = a := by rw [ea]; rfl
  have H' : Inv i Q K V L n (produceF sp id a ha σ) := ⟨H.ok.produce _ _ _ _, slot_other (by rw [hsp]; exact slotOf_ne n) _ _ _ H.slot, H.acc.produce _ _ _ _⟩
  obtain ⟨h1, h2⟩ := H'.fold sc hsc b hb eb
  refine ⟨h1, ?_, h2⟩
  rw [hb2, ← hsp]
  exact (slot_produce H.ok sp id (Counts (n + 1)) (masks_next n) a ha).consume _ _ _

theorem slotOf_even {n : ℕ} (h : n % 2 = 0) : false = slotOf n := by unfold slotOf; rw [h]; rfl
theorem slotOf_odd {n : ℕ} (h : n % 2 = 1) : true = slotOf n := by unfold slotOf; rw [h]; rfl

theorem Inv.trip (t : Fin (k1_t1_loop i).trips) (H : Inv i Q K V L (4 * t.val) σ) : Inv i Q K V L (4 * t.val + 4) (trip1F i t σ) := by
  have h1 := H.step true false (slotOf_odd (by omega)) (slotOf_even (by omega)) _ _ (k1_off6_inb i t 0 1) (k1_off11_inb i t 0 2) (off6_eq i t 0) (off11_eq i t 0)
  have h2 := h1.step false true (slotOf_even (by omega)) (slotOf_odd (by omega)) _ _ (k1_off6_inb i t 1 1) (k1_off11_inb i t 1 2) (off6_eq i t 1) (off11_eq i t 1)
  have h3 := h2.step true false (slotOf_odd (by omega)) (slotOf_even (by omega)) _ _ (k1_off6_inb i t 2 1) (k1_off11_inb i t 2 2) (off6_eq i t 2) (off11_eq i t 2)
  exact h3.step false true (slotOf_even (by omega)) (slotOf_odd (by omega)) _ _ (k1_off6_inb i t 3 1) (k1_off11_inb i t 3 2) (off6_eq i t 3) (off11_eq i t 3)

theorem Inv.iter (H : Inv i Q K V L 0 σ) : ∀ k : ℕ, k ≤ (k1_t1_loop i).trips → Inv i Q K V L (4 * k) (KernelIdeal.iter (trip1F i) k σ)
  | 0, _ => H
  | k + 1, hk => by
    have ih := Inv.iter H k (by omega)
    rw [show KernelIdeal.iter (trip1F i) (k + 1) σ = trip1F i ⟨k, hk⟩ (KernelIdeal.iter (trip1F i) k σ) from dif_pos hk]
    exact Inv.trip ⟨k, hk⟩ ih

theorem Inv.loops (H : Inv i Q K V L 0 σ) : Inv i Q K V L (4 * ((i 2).val / 4)) (loopsF i σ) := by
  have h := Inv.iter H (k1_t1_loop i).trips le_rfl
  rw [show 4 * ((i 2).val / 4) = 4 * (k1_t1_loop i).trips by rw [trips_eq]]
  exact h

theorem Inv.tail1 (H : Inv i Q K V L (4 * ((i 2).val / 4)) σ) : Inv i Q K V L (2 * ((i 2).val / 2)) (tail1F i σ) := by
  unfold tail1F
  by_cases hc : k1_cond1 i = 1#1
  · have h := (cond1_eq i).1 hc
    rw [dif_pos hc, show 2 * ((i 2).val / 2) = 4 * ((i 2).val / 4) + 1 + 1 by omega]
    have h1 := H.step true false (slotOf_odd (by omega)) (slotOf_even (by omega)) _ _ (k1_off32_inb i hc 0 1) (k1_off37_inb i hc 0 2) (off32_eq i 0 h) (off37_eq i 0 h)
    exact h1.step false true (slotOf_even (by omega)) (slotOf_odd (by omega)) _ _ (k1_off32_inb i hc 1 1) (k1_off37_inb i hc 1 2) (off32_eq i 1 h) (off37_eq i 1 h)
  · have h : ¬ 2 ≤ (i 2).val % 4 := fun hh => hc ((cond1_eq i).2 hh)
    rw [dif_neg hc, show 2 * ((i 2).val / 2) = 4 * ((i 2).val / 4) by omega]
    exact H

/-- All blocks folded in. -/
structure Done (i : grid1.Coords) (Q K V L : ℕ → ℕ → ℝ) (σ : St Ideal) : Prop where
  acc : Acc σ (Tot Q K V L (i 2).val ((i 2).val + 1))

theorem Inv.tails (H : Inv i Q K V L (2 * ((i 2).val / 2)) σ) : Done i Q K V L (tail3F i (tail2F i σ)) := by
  rcases Nat.mod_two_eq_zero_or_one (i 2).val with hm | hm
  · have h2 : ¬ k1_cond2 i = 1#1 := fun h => by have := (cond2_eq i).1 h; omega
    have h3 : k1_cond3 i = 1#1 := (cond3_eq i).2 hm
    unfold tail3F tail2F
    rw [dif_neg h2, dif_pos h3]
    rw [show 2 * ((i 2).val / 2) = (i 2).val by omega] at H
    exact ⟨(H.fold false (slotOf_even hm) _ (k1_off58_inb i h3 2) (off58_eq i hm)).2⟩
  · have h2 : k1_cond2 i = 1#1 := (cond2_eq i).2 hm
    have h3 : ¬ k1_cond3 i = 1#1 := fun h => by have := (cond3_eq i).1 h; omega
    unfold tail3F tail2F
    rw [dif_neg h3, dif_pos h2]
    rw [show 2 * ((i 2).val / 2) = (i 2).val - 1 by omega] at H
    have h1 := H.step true false (slotOf_odd (by omega)) (slotOf_even (by omega)) _ _ (k1_off45_inb i h2 1) (k1_off50_inb i h2 0 2) (off45_eq i hm) (off50_eq i 0 hm)
    have h4 := (h1.fold true (slotOf_odd (by omega)) _ (k1_off50_inb i h2 1 2) (off50_eq i 1 hm)).2
    refine ⟨?_⟩
    rw [show (i 2).val + 1 = (i 2).val - 1 + 1 + 1 by omega]
    exact h4

theorem clear_fields : (clearF σ).q = σ.q ∧ (clearF σ).k = σ.k ∧ (clearF σ).b = σ.b ∧ (clearF σ).v = σ.v ∧ (clearF σ).qa = σ.qa := ⟨rfl, rfl, rfl, rfl, rfl⟩

theorem qaHead_fields (q : Vec Ideal S1x512x128 .f32) (lo hi : BitVec 32) (h : ℕ) (σ : St Ideal) :
    (qaHeadF i q lo hi h σ).q = σ.q ∧ (qaHeadF i q lo hi h σ).k = σ.k ∧ (qaHeadF i q lo hi h σ).b = σ.b ∧ (qaHeadF i q lo hi h σ).v = σ.v := ⟨rfl, rfl, rfl, rfl⟩

theorem qaPair_fields (lt : ℕ) (hlt : lt < 4) (σ : St Ideal) :
    (qaPairF i lt hlt σ).q = σ.q ∧ (qaPairF i lt hlt σ).k = σ.k ∧ (qaPairF i lt hlt σ).b = σ.b ∧ (qaPairF i lt hlt σ).v = σ.v := ⟨rfl, rfl, rfl, rfl⟩

theorem qaFill_fields (σ : St Ideal) : (qaFillF i σ).q = σ.q ∧ (qaFillF i σ).k = σ.k ∧ (qaFillF i σ).b = σ.b ∧ (qaFillF i σ).v = σ.v := by
  unfold qaFillF
  refine ⟨?_, ?_, ?_, ?_⟩
  · rw [(qaPair_fields ..).1, (qaPair_fields ..).1, (qaPair_fields ..).1, (qaPair_fields ..).1]
  · rw [(qaPair_fields ..).2.1, (qaPair_fields ..).2.1, (qaPair_fields ..).2.1, (qaPair_fields ..).2.1]
  · rw [(qaPair_fields ..).2.2.1, (qaPair_fields ..).2.2.1, (qaPair_fields ..).2.2.1, (qaPair_fields ..).2.2.1]
  · rw [(qaPair_fields ..).2.2.2, (qaPair_fields ..).2.2.2, (qaPair_fields ..).2.2.2, (qaPair_fields ..).2.2.2]

theorem ok_start (H : Inp i σ.q σ.k σ.b σ.v Q K V L) : Ok i (clearF (qaFillF i σ)) Q K V L := by
  obtain ⟨h1, h2, h3, h4, h5⟩ := clear_fields (σ := qaFillF i σ)
  obtain ⟨g1, g2, g3, g4⟩ := qaFill_fields (i := i) σ
  refine ⟨?_, ?_⟩
  · rw [h1, h2, h3, h4, g1, g2, g3, g4]; exact H
  · rw [h5]; exact qaFill_val i σ Q H.hq

theorem inv_start (H : Inp i σ.q σ.k σ.b σ.v Q K V L) : Inv i Q K V L 0 (produceF false maskOf (k1_off1 i 1) (k1_off1_inb i 1) (clearF (qaFillF i σ))) := by
  have h := ok_start H
  refine ⟨h.produce _ _ _ _, ?_, (acc_clear.produce _ _ _ _).congr ?_⟩
  · rw [show 512 * blk (i 2).val 0 = k1_off1 i 1 from (off1_eq i).symm]
    exact slot_produce h false maskOf (Counts 0) masks_first _ _
  · funext h r c; exact (Finset.sum_range_zero _).symm

theorem core_done (H : Inp i σ.q σ.k σ.b σ.v Q K V L) : Done i Q K V L (coreF i σ) := (inv_start H).loops.tail1.tails

theorem quotOf_at (a b : Vec Ideal S1x80x512 .f32) (d : Fin 64) (j : Fin 512) : quotOf a b (ix2 d j) = Ideal.div (a (ix3 0 ⟨d.val, by omega⟩ j)) (b (ix3 0 ⟨64, by omega⟩ j)) := by
  pointwise [quotOf]

theorem quotF_at (σ : St Ideal) (h : ℕ) (hh : h < 8) (d : Fin 64) (j : Fin 512) : quotF h hh σ (ix2 d j) = Ideal.div (σ.acc (ix3 ⟨h, hh⟩ ⟨d.val, by omega⟩ j)) (σ.acc (ix3 ⟨h, hh⟩ ⟨64, by omega⟩ j)) :=
  (quotOf_at _ _ d j).trans (congrArg₂ Ideal.div (awin_at σ.acc h hh _ ⟨d.val, by omega⟩ j) (awin_at σ.acc h hh _ ⟨64, by omega⟩ j))

theorem outOf_at (d : Fin 8 → FVec Ideal S64x512 .f32) (q e : Fin 512) :
    outOf (d 0) (d 1) (d 2) (d 3) (d 4) (d 5) (d 6) (d 7) (ix2 q e) = d ⟨e.val / 64, by omega⟩ (ix2 ⟨e.val % 64, by omega⟩ q) := by
  have he := e.isLt
  have key : ∀ (h : ℕ) (hh : h < 8) (r : ℕ) (hr : r < 64), e.val = 64 * h + r → d ⟨h, hh⟩ (ix2 ⟨r, hr⟩ q) = d ⟨e.val / 64, by omega⟩ (ix2 ⟨e.val % 64, by omega⟩ q) := by
    intro h hh r hr e'
    have a : e.val / 64 = h := by omega
    have b : e.val % 64 = r := by omega
    subst a b
    rfl
  pointwise [outOf]
  split
  · exact key 0 (by omega) _ _ (by omega)
  split
  · exact key 1 (by omega) _ _ (by omega)
  split
  · exact key 2 (by omega) _ _ (by omega)
  split
  · exact key 3 (by omega) _ _ (by omega)
  split
  · exact key 4 (by omega) _ _ (by omega)
  split
  · exact key 5 (by omega) _ _ (by omega)
  split
  · exact key 6 (by omega) _ _ (by omega)
  · exact key 7 (by omega) _ _ (by omega)

theorem outCast_at (w : FVec Ideal S512x512 .bf16) (q e : Fin 512) : shapeCast S1x512x512 w shapeCasts_S512x512_S1x512x512 (ix3 0 q e) = w (ix2 q e) := by pointwise

theorem finish_at (σ : St Ideal) (q e : Fin 512) : (finishF σ).o (ix3 0 q e) = Ideal.div (σ.acc (ix3 ⟨e.val / 64, by omega⟩ ⟨e.val % 64, by omega⟩ q)) (σ.acc (ix3 ⟨e.val / 64, by omega⟩ ⟨64, by omega⟩ q)) := by
  refine (put_in3 (S0 := 1) (S1 := 512) (S2 := 512) (s0 := 1) (s1 := 512) (s2 := 512) σ.o _ 0 q e 0 q e rfl (by omega) (by omega)).trans ?_
  refine (outCast_at _ q e).trans ?_
  exact (outOf_at (fun h => quotF h.val h.isLt σ) q e).trans (quotF_at σ _ _ _ q)

theorem lane_den (V : ℕ → ℕ → ℝ) (h s : ℕ) : lane V h 64 s = 1 := if_neg (by omega)

theorem share_nonneg (n : ℕ) (P : ℕ → ℕ → Prop) [∀ k c, Decidable (P k c)] (h c : ℕ) : 0 ≤ share Q K V L n P h 64 c := by
  refine Finset.sum_nonneg fun k _ => ?_
  rw [lane_den, one_mul]
  unfold weight
  split
  · exact (pow2_pos _).le
  · exact le_rfl

theorem share_pos (n : ℕ) (h : ℕ) (c : ℕ) : 0 < share Q K V L n (Counts 0) h 64 c := by
  refine Finset.sum_pos' (fun k _ => ?_) ⟨⟨0, by omega⟩, Finset.mem_univ _, ?_⟩
  · rw [lane_den, one_mul]
    unfold weight
    split
    · exact (pow2_pos _).le
    · exact le_rfl
  · rw [lane_den, one_mul]
    unfold weight
    rw [if_pos (show Counts 0 0 c from fun _ => Nat.zero_le c)]
    exact pow2_pos _

theorem Tot_pos (c2 n h c : ℕ) : 0 < Tot Q K V L c2 (n + 1) h 64 c := by
  unfold Tot
  rw [Finset.sum_range_succ']
  exact add_pos_of_nonneg_of_pos (Finset.sum_nonneg fun p _ => share_nonneg _ _ _ _) (share_pos _ _ _)

/-- The output block as quotients of real sums. -/
theorem outF_at {q : Vec Ideal S1x512x512 .f32} {k : Vec Ideal S1x8192x512 .bf16} {b : Vec Ideal S1x8192x128 .bf16} {v : Vec Ideal S1x512x8192 .bf16} (H : Inp i q k b v Q K V L) (c e : Fin 512) :
    outF i q k b v (ix3 0 c e) = ((Tot Q K V L (i 2).val ((i 2).val + 1) (e.val / 64) (e.val % 64) c.val / Tot Q K V L (i 2).val ((i 2).val + 1) (e.val / 64) 64 c.val : ℝ) : EReal) := by
  have D := (core_done (σ := start q k b v) H).acc
  refine (finish_at _ c e).trans ?_
  exact (D (e.val / 64) (by omega) (e.val % 64) (by omega) c).div (D (e.val / 64) (by omega) 64 (by omega) c) (Tot_pos _ _ _ _)

end Cert.Proof.KernelIdeal
-- ==== Proof.ScanValue.lean ====
/- The scan read at an index: the scaled sums of the log-forget values up to each position, and the roundings of them. -/
module

public import proofs.«01_k».proof.Proof.Score
public import proofs.«01_k».proof.Proof.Region

@[expose] public section

set_option maxRecDepth 16384

noncomputable section

namespace Cert.Proof.KernelIdeal

open Cert.KernelIdeal Cert.KernelIdeal.Gen
open Idealize.ShloMosaic Cert.Proof.At Cert.Proof.Fold

/-- The sum of the last `s` values up to position `l`. -/
def W (f : ℕ → ℝ) (s l : ℕ) : ℝ := ∑ j ∈ Finset.range (min s (l + 1)), f (l - j)

theorem W_double (f : ℕ → ℝ) (s l : ℕ) : W f (s + s) l = W f s l + if s ≤ l then W f s (l - s) else 0 := by
  unfold W
  split
  · rename_i h
    rw [show min (s + s) (l + 1) = s + min s (l - s + 1) by omega, show min s (l + 1) = s by omega, Finset.sum_range_add]
    congr 1
    exact Finset.sum_congr rfl fun j _ => by rw [Nat.sub_sub]
  · rename_i h
    rw [show min (s + s) (l + 1) = min s (l + 1) by omega, add_zero]

theorem W_one (f : ℕ → ℝ) (l : ℕ) : W f 1 l = f l := by
  unfold W
  rw [show min 1 (l + 1) = 1 by omega, Finset.sum_range_one, Nat.sub_zero]

theorem W_all (f : ℕ → ℝ) (s l : ℕ) (h : l < s) : W f s l = ∑ j ∈ Finset.range (l + 1), f j := by
  unfold W
  rw [show min s (l + 1) = l + 1 by omega, ← Finset.sum_range_reflect]
  exact Finset.sum_congr rfl fun j hj => by have := Finset.mem_range.1 hj; exact congrArg f (by omega)

/-- Sums of the last `s` lanes. -/
def Lanes (X : ℕ → ℕ → ℕ → ℝ) (s : ℕ) (x : FVec Ideal S16x64x128 .f32) : Prop := ∀ (h : Fin 16) (r : Fin 64) (l : Fin 128), x (ix3 h r l) = ((W (X h.val r.val) s l.val : ℝ) : EReal)

/-- Sums of the last `s` blocks. -/
def Blocks (B : ℕ → ℕ → ℝ) (s : ℕ) (x : FVec Ideal S16x64x128 .f32) : Prop := ∀ (h : Fin 16) (r : Fin 64) (l : Fin 128), x (ix3 h r l) = ((W (B h.val) s r.val : ℝ) : EReal)

theorem lane_next {X : ℕ → ℕ → ℕ → ℝ} {s : ℕ} (hs : s < 128) {x : FVec Ideal S16x64x128 .f32} (H : Lanes X s x)
    (e : ∀ (h : Fin 16) (r : Fin 64) (l : Fin 128), laneStep (BitVec.ofNat 32 s) x (ix3 h r l) = x (ix3 h r l) + Scalar.select (IntOp.cmpi .sge (BitVec.ofNat 32 l.val) (BitVec.ofNat 32 s)) (x (ix3 h r ⟨(l.val + 128 - s) % 128, by omega⟩)) (0 : EReal)) :
    Lanes X (s + s) (laneStep (BitVec.ofNat 32 s) x) := by
  intro h r l
  have hl := l.isLt
  rw [e, select_if (s ≤ l.val) (by word_cmp), H, H, W_double, EReal.coe_add]
  congr 1
  split
  · rename_i hh
    exact congrArg (fun j => ((W (X h.val r.val) s j : ℝ) : EReal)) (show (l.val + 128 - s) % 128 = l.val - s by omega)
  · exact EReal.coe_zero.symm

theorem block_next {B : ℕ → ℕ → ℝ} {s : ℕ} (hs : s < 64) {x : FVec Ideal S16x64x128 .f32} (H : Blocks B s x)
    (e : ∀ (h : Fin 16) (r : Fin 64) (l : Fin 128), blockStep (BitVec.ofNat 32 s) x (ix3 h r l) = x (ix3 h r l) + Scalar.select (IntOp.cmpi .sge (BitVec.ofNat 32 r.val) (BitVec.ofNat 32 s)) (x (ix3 h ⟨(r.val + 64 - s) % 64, by omega⟩ l)) (0 : EReal)) :
    Blocks B (s + s) (blockStep (BitVec.ofNat 32 s) x) := by
  intro h r l
  have hl := r.isLt
  rw [e, select_if (s ≤ r.val) (by word_cmp), H, H, W_double, EReal.coe_add]
  congr 1
  split
  · rename_i hh
    exact congrArg (fun j => ((W (B h.val) s j : ℝ) : EReal)) (show (r.val + 64 - s) % 64 = r.val - s by omega)
  · exact EReal.coe_zero.symm

theorem lane1 (x : FVec Ideal S16x64x128 .f32) (h : Fin 16) (r : Fin 64) (l : Fin 128) : laneStep 1#32 x (ix3 h r l) = x (ix3 h r l) + Scalar.select (IntOp.cmpi .sge (BitVec.ofNat 32 l.val) 1#32) (x (ix3 h r ⟨(l.val + 128 - 1) % 128, by omega⟩)) (0 : EReal) := by
  pointwise [laneStep]

theorem lane2 (x : FVec Ideal S16x64x128 .f32) (h : Fin 16) (r : Fin 64) (l : Fin 128) : laneStep 2#32 x (ix3 h r l) = x (ix3 h r l) + Scalar.select (IntOp.cmpi .sge (BitVec.ofNat 32 l.val) 2#32) (x (ix3 h r ⟨(l.val + 128 - 2) % 128, by omega⟩)) (0 : EReal) := by
  pointwise [laneStep]

theorem lane4 (x : FVec Ideal S16x64x128 .f32) (h : Fin 16) (r : Fin 64) (l : Fin 128) : laneStep 4#32 x (ix3 h r l) = x (ix3 h r l) + Scalar.select (IntOp.cmpi .sge (BitVec.ofNat 32 l.val) 4#32) (x (ix3 h r ⟨(l.val + 128 - 4) % 128, by omega⟩)) (0 : EReal) := by
  pointwise [laneStep]

theorem lane8 (x : FVec Ideal S16x64x128 .f32) (h : Fin 16) (r : Fin 64) (l : Fin 128) : laneStep 8#32 x (ix3 h r l) = x (ix3 h r l) + Scalar.select (IntOp.cmpi .sge (BitVec.ofNat 32 l.val) 8#32) (x (ix3 h r ⟨(l.val + 128 - 8) % 128, by omega⟩)) (0 : EReal) := by
  pointwise [laneStep]

theorem lane16 (x : FVec Ideal S16x64x128 .f32) (h : Fin 16) (r : Fin 64) (l : Fin 128) : laneStep 16#32 x (ix3 h r l) = x (ix3 h r l) + Scalar.select (IntOp.cmpi .sge (BitVec.ofNat 32 l.val) 16#32) (x (ix3 h r ⟨(l.val + 128 - 16) % 128, by omega⟩)) (0 : EReal) := by
  pointwise [laneStep]

theorem lane32 (x : FVec Ideal S16x64x128 .f32) (h : Fin 16) (r : Fin 64) (l : Fin 128) : laneStep 32#32 x (ix3 h r l) = x (ix3 h r l) + Scalar.select (IntOp.cmpi .sge (BitVec.ofNat 32 l.val) 32#32) (x (ix3 h r ⟨(l.val + 128 - 32) % 128, by omega⟩)) (0 : EReal) := by
  pointwise [laneStep]

theorem lane64 (x : FVec Ideal S16x64x128 .f32) (h : Fin 16) (r : Fin 64) (l : Fin 128) : laneStep 64#32 x (ix3 h r l) = x (ix3 h r l) + Scalar.select (IntOp.cmpi .sge (BitVec.ofNat 32 l.val) 64#32) (x (ix3 h r ⟨(l.val + 128 - 64) % 128, by omega⟩)) (0 : EReal) := by
  pointwise [laneStep]

theorem block1 (x : FVec Ideal S16x64x128 .f32) (h : Fin 16) (r : Fin 64) (l : Fin 128) : blockStep 1#32 x (ix3 h r l) = x (ix3 h r l) + Scalar.select (IntOp.cmpi .sge (BitVec.ofNat 32 r.val) 1#32) (x (ix3 h ⟨(r.val + 64 - 1) % 64, by omega⟩ l)) (0 : EReal) := by
  pointwise [blockStep]

theorem block2 (x : FVec Ideal S16x64x128 .f32) (h : Fin 16) (r : Fin 64) (l : Fin 128) : blockStep 2#32 x (ix3 h r l) = x (ix3 h r l) + Scalar.select (IntOp.cmpi .sge (BitVec.ofNat 32 r.val) 2#32) (x (ix3 h ⟨(r.val + 64 - 2) % 64, by omega⟩ l)) (0 : EReal) := by
  pointwise [blockStep]

theorem block4 (x : FVec Ideal S16x64x128 .f32) (h : Fin 16) (r : Fin 64) (l : Fin 128) : blockStep 4#32 x (ix3 h r l) = x (ix3 h r l) + Scalar.select (IntOp.cmpi .sge (BitVec.ofNat 32 r.val) 4#32) (x (ix3 h ⟨(r.val + 64 - 4) % 64, by omega⟩ l)) (0 : EReal) := by
  pointwise [blockStep]

theorem block8 (x : FVec Ideal S16x64x128 .f32) (h : Fin 16) (r : Fin 64) (l : Fin 128) : blockStep 8#32 x (ix3 h r l) = x (ix3 h r l) + Scalar.select (IntOp.cmpi .sge (BitVec.ofNat 32 r.val) 8#32) (x (ix3 h ⟨(r.val + 64 - 8) % 64, by omega⟩ l)) (0 : EReal) := by
  pointwise [blockStep]

theorem block16 (x : FVec Ideal S16x64x128 .f32) (h : Fin 16) (r : Fin 64) (l : Fin 128) : blockStep 16#32 x (ix3 h r l) = x (ix3 h r l) + Scalar.select (IntOp.cmpi .sge (BitVec.ofNat 32 r.val) 16#32) (x (ix3 h ⟨(r.val + 64 - 16) % 64, by omega⟩ l)) (0 : EReal) := by
  pointwise [blockStep]

theorem block32 (x : FVec Ideal S16x64x128 .f32) (h : Fin 16) (r : Fin 64) (l : Fin 128) : blockStep 32#32 x (ix3 h r l) = x (ix3 h r l) + Scalar.select (IntOp.cmpi .sge (BitVec.ofNat 32 r.val) 32#32) (x (ix3 h ⟨(r.val + 64 - 32) % 64, by omega⟩ l)) (0 : EReal) := by
  pointwise [blockStep]

theorem laneSums_at {X : ℕ → ℕ → ℕ → ℝ} {x : FVec Ideal S16x64x128 .f32} (H : Lanes X 1 x) : Lanes X 128 (laneSums x) :=
  lane_next (s := 64) (by omega) (lane_next (s := 32) (by omega) (lane_next (s := 16) (by omega) (lane_next (s := 8) (by omega) (lane_next (s := 4) (by omega) (lane_next (s := 2) (by omega) (lane_next (s := 1) (by omega) H
    (lane1 _)) (lane2 _)) (lane4 _)) (lane8 _)) (lane16 _)) (lane32 _)) (lane64 _)

theorem blockSums_at {B : ℕ → ℕ → ℝ} {x : FVec Ideal S16x64x128 .f32} (H : Blocks B 1 x) : Blocks B 64 (blockSums x) :=
  block_next (s := 32) (by omega) (block_next (s := 16) (by omega) (block_next (s := 8) (by omega) (block_next (s := 4) (by omega) (block_next (s := 2) (by omega) (block_next (s := 1) (by omega) H
    (block1 _)) (block2 _)) (block4 _)) (block8 _)) (block16 _)) (block32 _)

theorem totals_at (x : FVec Ideal S16x64x128 .f32) (h : Fin 16) (r : Fin 64) (l : Fin 128) : totals x (ix3 h r l) = x (ix3 h r ⟨127, by omega⟩) := by
  pointwise [totals]

/-- The real factor of the sums. -/
def ns : ℝ := -((Real.log 2)⁻¹)

theorem negC_eq : (negC : Ideal .f32) = ((ns : ℝ) : EReal) := rfl

theorem negBias_form (x : Vec Ideal S1x16x64x128 .f32) (h : Fin 16) (r : Fin 64) (l : Fin 128) (y : FVec Ideal S16x64x128 .f32) (hy : y = laneSums (shapeCast S16x64x128 x shapeCasts_S1x16x64x128_S16x64x128)) :
    negBias x (ix3 h r l) = (y (ix3 h r l) + (blockSums (totals y) (ix3 h r l) - totals y (ix3 h r l))) * (negC : Ideal .f32) := by
  subst hy
  rfl

theorem sum_blocks (f : ℕ → ℝ) : ∀ r : ℕ, (∑ j ∈ Finset.range r, ∑ l ∈ Finset.range 128, f (128 * j + l)) = ∑ s ∈ Finset.range (128 * r), f s
  | 0 => rfl
  | r + 1 => by rw [Finset.sum_range_succ, sum_blocks f r, Nat.mul_succ, Finset.sum_range_add]

/-- The scaled sums at an index. -/
theorem negBias_at (x : Vec Ideal S1x16x64x128 .f32) (f : ℕ → ℕ → ℝ) (H : ∀ (h : Fin 16) (r : Fin 64) (l : Fin 128), x (ix4 0 h r l) = ((f h.val (128 * r.val + l.val) : ℝ) : EReal)) (h : Fin 16) (r : Fin 64) (l : Fin 128) :
    negBias x (ix3 h r l) = (((∑ s ∈ Finset.range (128 * r.val + l.val + 1), f h.val s) * ns : ℝ) : EReal) := by
  have h1 : Lanes (fun h r l => f h (128 * r + l)) 1 (shapeCast S16x64x128 x shapeCasts_S1x16x64x128_S16x64x128) := by
    intro h r l
    rw [W_one, ← H]
    pointwise
  have hL := laneSums_at h1
  generalize hy : laneSums (shapeCast (α := Ideal .f32) S16x64x128 x shapeCasts_S1x16x64x128_S16x64x128) = y at hL
  have hT : ∀ (h : Fin 16) (r : Fin 64) (l : Fin 128), totals y (ix3 h r l) = ((∑ l ∈ Finset.range 128, f h.val (128 * r.val + l) : ℝ) : EReal) := by
    intro h r l
    rw [totals_at, hL, W_all _ _ _ (by show 127 < 128; omega)]
  have hB := blockSums_at (B := fun h r => ∑ l ∈ Finset.range 128, f h (128 * r + l)) (x := totals y) (fun h r l => by rw [hT, W_one])
  rw [negBias_form x h r l y hy.symm, hL, hB, hT, negC_eq, W_all _ _ _ l.isLt, W_all _ _ _ r.isLt, ← EReal.coe_sub, ← EReal.coe_add, ← EReal.coe_mul]
  congr 2
  rw [Finset.sum_range_succ _ r.val, add_sub_cancel_right, sum_blocks, add_comm, Nat.add_assoc, Finset.sum_range_add _ (128 * r.val), Finset.sum_range_succ _ l.val]

theorem piece0_at (x : FVec Ideal S16x64x128 .f32) (h : Fin 16) (r : Fin 64) (l : Fin 128) : piece 0 x (ix5 0 0 h r l) = x (ix3 h r l) := by
  pointwise [piece]
  rfl
theorem piece1_at (x : FVec Ideal S16x64x128 .f32) (h : Fin 16) (r : Fin 64) (l : Fin 128) : piece 1 x (ix5 0 0 h r l) = x (ix3 h r l) - x (ix3 h r l) := by
  pointwise [piece]
  rfl
theorem piece2_at (x : FVec Ideal S16x64x128 .f32) (h : Fin 16) (r : Fin 64) (l : Fin 128) : piece 2 x (ix5 0 0 h r l) = (x (ix3 h r l) - x (ix3 h r l)) - (x (ix3 h r l) - x (ix3 h r l)) := by
  pointwise [piece]
  rfl

theorem lfRead_at (x : Vec Ideal S1x16x64x128 .f32) (h : Fin 16) (r : Fin 64) (l : Fin 128) : lfRead x (ix4 0 h r l) = x (ix4 0 h r l) := by
  show x _ = x _
  congr 1
  funext a
  apply Fin.ext
  fin_cases a
  · rfl
  · show 0 + 1 * h.val = h.val; omega
  · show 0 + 1 * r.val = r.val; omega
  · show 0 + 1 * l.val = l.val; omega

/-- The three roundings at an index: the scaled sums, and nothing left. -/
theorem piecesF_at (x : Vec Ideal S1x16x64x128 .f32) (f : ℕ → ℕ → ℝ) (H : ∀ (h : Fin 16) (r : Fin 64) (l : Fin 128), x (ix4 0 h r l) = ((f h.val (128 * r.val + l.val) : ℝ) : EReal)) (p : Fin 3) (h : Fin 16) (r : Fin 64) (l : Fin 128) :
    piecesF x (ix5 0 p h r l) = (((if p.val = 0 then (∑ s ∈ Finset.range (128 * r.val + l.val + 1), f h.val s) * ns else 0) : ℝ) : EReal) := by
  have hN := negBias_at (lfRead x) f (fun h r l => (lfRead_at x h r l).trans (H h r l)) h r l
  have inn : ∀ (y : Vec Ideal S1x3x16x64x128 .bf16) (w : Vec Ideal S1x1x16x64x128 .bf16), VecWindow.put (s := S1x3x16x64x128) y ![0, p.val, 0, 0, 0] S1x1x16x64x128.size w (ix5 0 p h r l) = w (ix5 0 0 h r l) := fun y w =>
    put_in (s := S1x3x16x64x128) y ![0, p.val, 0, 0, 0] S1x1x16x64x128.size w (ix5 0 p h r l) (ix5 (0 : Fin 1) (0 : Fin 1) h r l) fun a => by
      fin_cases a
      · rfl
      · rfl
      · show h.val = 0 + h.val; omega
      · show r.val = 0 + r.val; omega
      · show l.val = 0 + l.val; omega
  have out : ∀ (y : Vec Ideal S1x3x16x64x128 .bf16) (w : Vec Ideal S1x1x16x64x128 .bf16) (p' : ℕ), p.val ≠ p' → VecWindow.put (s := S1x3x16x64x128) y ![0, p', 0, 0, 0] S1x1x16x64x128.size w (ix5 0 p h r l) = y (ix5 0 p h r l) := fun y w p' hp =>
    put_out (s := S1x3x16x64x128) y ![0, p', 0, 0, 0] S1x1x16x64x128.size w (ix5 0 p h r l) 1 (by show p.val < p' ∨ p' + 1 ≤ p.val; omega)
  unfold piecesF piecesOn
  obtain ⟨p, hp⟩ := p
  obtain rfl | rfl | rfl : p = 0 ∨ p = 1 ∨ p = 2 := by omega
  · rw [out _ _ 2 (by show (0 : ℕ) ≠ 2; omega), out _ _ 1 (by show (0 : ℕ) ≠ 1; omega), inn, piece0_at, hN, if_pos rfl]
  · rw [out _ _ 2 (by show (1 : ℕ) ≠ 2; omega), inn, piece1_at, hN, ← EReal.coe_sub, sub_self, if_neg (by show (1 : ℕ) ≠ 0; omega)]
  · rw [inn, piece2_at, hN, ← EReal.coe_sub, sub_self, ← EReal.coe_sub, sub_self, if_neg (by show (2 : ℕ) ≠ 0; omega)]

end Cert.Proof.KernelIdeal
-- ==== Proof.Total.lean ====
/- The blocks folded in by one query block, as one sum over the positions not after the query; the kernel's weights as the
   reference's. -/
module

public import proofs.«01_k».proof.Proof.Loop
public import proofs.«01_k».proof.Proof.ScanValue
public import proofs.«01_k».proof.Proof.RefValue

@[expose] public section

set_option maxRecDepth 16384

noncomputable section

namespace Cert.Proof.KernelIdeal

open Cert.KernelIdeal Cert.KernelIdeal.Gen
open Idealize.ShloMosaic Cert.Proof.Fold
open Cert.Proof.Ref (dot run part Holds)

theorem sum_full (f : ℕ → ℝ) : ∀ n : ℕ, (∑ p ∈ Finset.range n, ∑ k : Fin 512, f (512 * p + k.val)) = ∑ s ∈ Finset.range (512 * n), f s
  | 0 => rfl
  | n + 1 => by rw [Finset.sum_range_succ, sum_full f n, Nat.mul_succ, Finset.sum_range_add, Fin.sum_univ_eq_sum_range (fun k => f (512 * n + k)) 512]

theorem sum_upto (g : ℕ → ℝ) (n c : ℕ) (hc : c < n) : (∑ k : Fin n, if k.val ≤ c then g k.val else 0) = ∑ k ∈ Finset.range (c + 1), g k := by
  obtain ⟨d, rfl⟩ : ∃ d, n = c + 1 + d := ⟨n - (c + 1), by omega⟩
  rw [Fin.sum_univ_eq_sum_range (fun k => if k ≤ c then g k else 0), Finset.sum_range_add, Finset.sum_eq_zero (s := Finset.range d), add_zero]
  · refine Finset.sum_congr rfl fun k hk => ?_
    have := Finset.mem_range.1 hk
    rw [if_pos (by omega)]
  · intro k _
    rw [if_neg (by omega)]

/-- All the blocks of a query. -/
theorem Tot_eq (Q K V L : ℕ → ℕ → ℝ) (c2 h r c : ℕ) (hc : c < 512) :
    Tot Q K V L c2 (c2 + 1) h r c = ∑ s ∈ Finset.range (512 * c2 + c + 1), lane V h r s * pow2 (sco Q K L h c s) := by
  unfold Tot
  rw [Finset.sum_range_succ', add_comm, Nat.add_assoc (512 * c2), Finset.sum_range_add, add_comm]
  congr 1
  · rw [← sum_full (fun s => lane V h r s * pow2 (sco Q K L h c s))]
    refine Finset.sum_congr rfl fun p _ => ?_
    unfold share
    refine Finset.sum_congr rfl fun k _ => ?_
    rw [show blk c2 (p + 1) = p from (if_neg (Nat.succ_ne_zero p)).trans (Nat.add_sub_cancel p 1)]
    congr 1
  · rw [← sum_upto (fun k => lane V h r (512 * c2 + k) * pow2 (sco Q K L h c (512 * c2 + k))) 512 c hc]
    unfold share
    refine Finset.sum_congr rfl fun k _ => ?_
    rw [show blk c2 0 = c2 from if_pos rfl]
    unfold weight
    by_cases hk : k.val ≤ c
    · rw [if_pos hk, if_pos (show Counts 0 k.val c from fun _ => hk)]
    · rw [if_neg hk, if_neg (show ¬ Counts 0 k.val c from fun e => hk (e rfl)), mul_zero]

theorem pow2_exp (x : ℝ) : pow2 x = Real.exp (Real.log 2 * x) := Real.rpow_def_of_pos (by norm_num) x

/-- The kernel's weight is the reference's. -/
theorem weight_eq (Q K L : ℕ → ℕ → ℕ → ℝ) (b g c2 h c s : ℕ) :
    pow2 (sco (fun c e => Q b (512 * c2 + c) (512 * g + e)) (fun s e => K b s (512 * g + e)) (fun h s => run L b (8 * g + h) s * ns) h c s) = part Q K L b (8 * g + h) (512 * c2 + c) s := by
  have hl : Real.log 2 ≠ 0 := (Real.log_pos (by norm_num)).ne'
  rw [pow2_exp]
  unfold part sco dot
  congr 1
  have e : (∑ d : Fin 64, K b s (512 * g + (64 * h + d.val)) * (Q b (512 * c2 + c) (512 * g + (64 * h + d.val)) * qs)) = (∑ d : Fin 64, Q b (512 * c2 + c) ((8 * g + h) * 64 + d.val) * K b s ((8 * g + h) * 64 + d.val)) * qs := by
    rw [Finset.sum_mul]
    refine Finset.sum_congr rfl fun d _ => ?_
    rw [show 512 * g + (64 * h + d.val) = (8 * g + h) * 64 + d.val by ring]
    ring
  rw [e]
  unfold qs ns
  field_simp
  rw [sub_eq_add_neg]

/-- What the kernel leaves at one place. -/
theorem quot_eq (Q K V L : ℕ → ℕ → ℕ → ℝ) (b g c2 c e : ℕ) (hc : c < 512) :
    Tot (fun c e => Q b (512 * c2 + c) (512 * g + e)) (fun s e => K b s (512 * g + e)) (fun e s => V b s (512 * g + e)) (fun h s => run L b (8 * g + h) s * ns) c2 (c2 + 1) (e / 64) (e % 64) c
      / Tot (fun c e => Q b (512 * c2 + c) (512 * g + e)) (fun s e => K b s (512 * g + e)) (fun e s => V b s (512 * g + e)) (fun h s => run L b (8 * g + h) s * ns) c2 (c2 + 1) (e / 64) 64 c
      = (∑ s ∈ Finset.range (512 * c2 + c + 1), V b s (512 * g + e) * part Q K L b ((512 * g + e) / 64) (512 * c2 + c) s) / (∑ s ∈ Finset.range (512 * c2 + c + 1), part Q K L b ((512 * g + e) / 64) (512 * c2 + c) s) := by
  rw [Tot_eq _ _ _ _ _ _ _ _ hc, Tot_eq _ _ _ _ _ _ _ _ hc]
  congr 1 <;> refine Finset.sum_congr rfl fun s _ => ?_
  · rw [weight_eq, show (512 * g + e) / 64 = 8 * g + e / 64 by omega]
    congr 1
    refine (if_pos (Nat.mod_lt _ (by norm_num))).trans ?_
    show V b s (512 * g + (64 * (e / 64) + e % 64)) = _
    rw [Nat.div_add_mod]
  · rw [weight_eq, show (512 * g + e) / 64 = 8 * g + e / 64 by omega]
    refine (congrArg (fun x : ℝ => x * _) (if_neg (lt_irrefl 64))).trans (one_mul _)

end Cert.Proof.KernelIdeal
-- ==== Proof.HostValue.lean ====
/- The arrays the two regions read and leave, at an index. -/
module

public import proofs.«01_k».proof.Proof.Run
public import proofs.«01_k».proof.Proof.Total
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Proof.KernelIdeal

open Cert.KernelIdeal Cert.KernelIdeal.Gen
open Idealize.ShloMosaic
open Idealize.ShloMosaic.TcCoe
open Idealize.SL.Sem
open Cert.Proof.Ref (dot part Holds)

variable (m : (ℓ : Loc nD τ sig) → Buf (Elt Ideal) ℓ) (c : Dev nD)

/-! ## The host's arrays -/

theorem host_keys (V : Valuation τ sig (Elt Ideal)) (b : Fin 8) (s : Fin 8192) (e : Fin 1024) :
    StableHlo.after hostOps0 V main_v0 (ix3 b s e) = V main_arg1 (ix3 b s e) := by
  unfold_abbrev_sides
  after_reads_at

theorem host_vals (V : Valuation τ sig (Elt Ideal)) (b : Fin 8) (e : Fin 1024) (s : Fin 8192) :
    StableHlo.after hostOps0 V main_v2 (ix3 b e s) = V main_arg2 (ix3 b s e) := by
  unfold_abbrev_sides
  after_reads_at

theorem host_forget (V : Valuation τ sig (Elt Ideal)) (b : Fin 8) (h : Fin 16) (r : Fin 64) (l : Fin 128) :
    StableHlo.after hostOps0_2 (StableHlo.after hostOps0_1 (StableHlo.after hostOps0 V)) main_v5 (ix4 b h r l) = V main_arg3 (ix3 b ⟨r.val * 128 + l.val, by omega⟩ h) := by
  unfold_abbrev_sides
  after_reads_at
  exact dif_pos (by omega)

theorem host_bias (V : Valuation τ sig (Elt Ideal)) (b : Fin 8) (s : Fin 8192) (p : Fin 3) (h : Fin 16) (j : Fin 128) (hj : j.val = 3 * h.val + p.val) :
    StableHlo.after hostOps1_1 (StableHlo.after hostOps1 V) main_v11 (ix3 b s j) = V main_v6_1 (ix5 b p h ⟨s.val / 128, by omega⟩ ⟨s.val % 128, by omega⟩) := by
  have e : p = ⟨j.val % 3, by omega⟩ := Fin.ext (by show p.val = j.val % 3; omega)
  have e' : h = ⟨j.val / 3, by omega⟩ := Fin.ext (by show h.val = j.val / 3; omega)
  refine Eq.trans ?_ (congrArg₂ (fun p h => V main_v6_1 (ix5 b p h ⟨s.val / 128, by omega⟩ ⟨s.val % 128, by omega⟩)) e.symm e'.symm)
  unfold_abbrev_sides
  after_reads_at
  exact dif_pos (by omega)

theorem arr_q : V6' m c main_arg0 = m ((c.tc : Thread nD τ).loc main_arg0) := by
  rw [← V6_eq]
  exact (V6_of m (outs m) c main_arg0 (by decide)).trans <| (V5_of m (outs m) c main_arg0 (by decide)).trans <| (V4_of m (outs m) c main_arg0 (by decide)).trans <| (V3_of m c main_arg0 (by decide)).trans <| (V2_of m c main_arg0 (by decide)).trans <| (V1_of m c main_arg0 (by decide))

theorem arr_k (b : Fin 8) (s : Fin 8192) (e : Fin 1024) : V6' m c main_v0 (ix3 b s e) = m ((c.tc : Thread nD τ).loc main_arg1) (ix3 b s e) := by
  rw [← V6_eq, V6_of m (outs m) c main_v0 (by decide), V5_of m (outs m) c main_v0 (by decide), V4_of m (outs m) c main_v0 (by decide), V3_of m c main_v0 (by decide), V2_of m c main_v0 (by decide)]
  exact host_keys (V0 m c) b s e

theorem arr_v (b : Fin 8) (e : Fin 1024) (s : Fin 8192) : V6' m c main_v2 (ix3 b e s) = m ((c.tc : Thread nD τ).loc main_arg2) (ix3 b s e) := by
  rw [← V6_eq, V6_of m (outs m) c main_v2 (by decide), V5_of m (outs m) c main_v2 (by decide), V4_of m (outs m) c main_v2 (by decide), V3_of m c main_v2 (by decide), V2_of m c main_v2 (by decide)]
  exact host_vals (V0 m c) b e s

theorem arr_f (b : Fin 8) (h : Fin 16) (r : Fin 64) (l : Fin 128) : V3 m c main_v5 (ix4 b h r l) = m ((c.tc : Thread nD τ).loc main_arg3) (ix3 b ⟨r.val * 128 + l.val, by omega⟩ h) :=
  host_forget (V0 m c) b h r l

theorem arr_b (b : Fin 8) (s : Fin 8192) (p : Fin 3) (h : Fin 16) (j : Fin 128) (hj : j.val = 3 * h.val + p.val) :
    V6' m c main_v11 (ix3 b s j) = piecesArr m c (ix5 b p h ⟨s.val / 128, by omega⟩ ⟨s.val % 128, by omega⟩) := by
  refine (host_bias (V4' m c) b s p h j hj).trans ?_
  unfold V4'
  rw [Function.update_self]

/-! ## The scan's array -/

variable {L : ℕ → ℕ → ℕ → ℝ}

theorem idx0_0 : ∀ t : Fin cfg0.N, win0_0.index t = ![(grid0.coords t 0).val, 0, 0, 0] := (by decide +kernel : ∀ t : Fin grid0.N, _)
theorem idx0_2 : ∀ t : Fin cfg0.N, win0_2.index t = ![(grid0.coords t 0).val, 0, 0, 0, 0] := (by decide +kernel : ∀ t : Fin grid0.N, _)

theorem lfBlk_at (H : Holds (m ((c.tc : Thread nD τ).loc main_arg3)) L) (t : Fin cfg0.N) (h : Fin 16) (r : Fin 64) (l : Fin 128) :
    lfBlk (fun c => V3 m c) c t (ix4 0 h r l) = ((L (grid0.coords t 0).val (128 * r.val + l.val) h.val : ℝ) : EReal) := by
  unfold lfBlk
  blk_simp
  refine (congrArg (V3 m c main_v5) (?_ : _ = ix4 (grid0.coords t 0) h r l)).trans ((arr_f m c _ h r l).trans ((H _ _ _).trans ?_))
  · blk_ext [idx0_0 t]
  · exact congrArg (fun x => ((L (grid0.coords t 0).val x h.val : ℝ) : EReal)) (show r.val * 128 + l.val = 128 * r.val + l.val by omega)

/-- What the scan leaves. -/
def piecesG (L : ℕ → ℕ → ℕ → ℝ) (j : S8x3x16x64x128.Idx) : EReal := (((if (j 1).val = 0 then Ref.run L (j 0).val (j 2).val (128 * (j 3).val + (j 4).val) * ns else 0) : ℝ) : EReal)

theorem piecesArr_eq (H : Holds (m ((c.tc : Thread nD τ).loc main_arg3)) L) : piecesArr m c = piecesG L := by
  refine (dat0 (fun c => V3 m c) c).arrAt_eq_of_covers 2 _ (by decide +kernel) fun t hf y => ?_
  blk_simp
  show piecesF (lfBlk (fun c => V3 m c) c t) y = _
  have hy : y = ix5 0 (y 1) (y 2) (y 3) (y 4) := by
    funext a
    match a with
    | ⟨0, _⟩ => exact Subsingleton.elim (α := Fin 1) _ _
    | ⟨1, _⟩ => rfl
    | ⟨2, _⟩ => rfl
    | ⟨3, _⟩ => rfl
    | ⟨4, _⟩ => rfl
  refine (congrArg _ hy).trans ((piecesF_at _ (fun h s => L (grid0.coords t 0).val s h) (lfBlk_at m c H t) (y 1) (y 2) (y 3) (y 4)).trans ?_)
  refine Eq.trans (b := piecesG L (ix5 (grid0.coords t 0) (y 1) (y 2) (y 3) (y 4))) rfl (congrArg (piecesG L) ?_)
  blk_ext [idx0_2 t]

/-! ## The attention's blocks -/

theorem idx1_0 : ∀ t : Fin cfg1.N, win1_0.index t = ![(grid1.coords t 0).val, (grid1.coords t 2).val, (grid1.coords t 1).val] := (by decide +kernel : ∀ t : Fin grid1.N, _)
theorem idx1_1 : ∀ t : Fin cfg1.N, win1_1.index t = ![(grid1.coords t 0).val, 0, (grid1.coords t 1).val] := (by decide +kernel : ∀ t : Fin grid1.N, _)
theorem idx1_2 : ∀ t : Fin cfg1.N, win1_2.index t = ![(grid1.coords t 0).val, 0, 0] := (by decide +kernel : ∀ t : Fin grid1.N, _)
theorem idx1_3 : ∀ t : Fin cfg1.N, win1_3.index t = ![(grid1.coords t 0).val, (grid1.coords t 1).val, 0] := (by decide +kernel : ∀ t : Fin grid1.N, _)
theorem idx1_4 : ∀ t : Fin cfg1.N, win1_4.index t = ![(grid1.coords t 0).val, (grid1.coords t 2).val, (grid1.coords t 1).val] := (by decide +kernel : ∀ t : Fin grid1.N, _)

theorem lt0 (t : Fin cfg1.N) : (grid1.coords t 0).val < 8 := (grid1.coords t 0).isLt
theorem lt1 (t : Fin cfg1.N) : (grid1.coords t 1).val < 2 := (grid1.coords t 1).isLt
theorem lt2 (t : Fin cfg1.N) : (grid1.coords t 2).val < 16 := (grid1.coords t 2).isLt

variable {Q K V : ℕ → ℕ → ℕ → ℝ}

theorem qBlk_at (H : Holds (m ((c.tc : Thread nD τ).loc main_arg0)) Q) (t : Fin cfg1.N) (x e : Fin 512) :
    qBlk (V6' m) c t (ix3 0 x e) = ((Q (grid1.coords t 0).val (512 * (grid1.coords t 2).val + x.val) (512 * (grid1.coords t 1).val + e.val) : ℝ) : EReal) := by
  have h1 := lt1 t
  have h2 := lt2 t
  unfold qBlk
  blk_simp
  refine (congrFun (arr_q m c) _).trans ?_
  refine (congrArg (m ((c.tc : Thread nD τ).loc main_arg0)) (?_ : _ = ix3 (grid1.coords t 0) ⟨512 * (grid1.coords t 2).val + x.val, by omega⟩ ⟨512 * (grid1.coords t 1).val + e.val, by omega⟩)).trans (H _ _ _)
  blk_ext [idx1_0 t]

theorem kBlk_at (H : Holds (m ((c.tc : Thread nD τ).loc main_arg1)) K) (t : Fin cfg1.N) (s : Fin 8192) (e : Fin 512) :
    kBlk (V6' m) c t (ix3 0 s e) = ((K (grid1.coords t 0).val s.val (512 * (grid1.coords t 1).val + e.val) : ℝ) : EReal) := by
  have h1 := lt1 t
  unfold kBlk
  blk_simp
  refine (congrArg (V6' m c main_v0) (?_ : _ = ix3 (grid1.coords t 0) s ⟨512 * (grid1.coords t 1).val + e.val, by omega⟩)).trans ((arr_k m c _ _ _).trans (H _ _ _))
  blk_ext [idx1_1 t]

theorem vBlk_at (H : Holds (m ((c.tc : Thread nD τ).loc main_arg2)) V) (t : Fin cfg1.N) (e : Fin 512) (s : Fin 8192) :
    vBlk (V6' m) c t (ix3 0 e s) = ((V (grid1.coords t 0).val s.val (512 * (grid1.coords t 1).val + e.val) : ℝ) : EReal) := by
  have h1 := lt1 t
  unfold vBlk
  blk_simp
  refine (congrArg (V6' m c main_v2) (?_ : _ = ix3 (grid1.coords t 0) ⟨512 * (grid1.coords t 1).val + e.val, by omega⟩ s)).trans ((arr_v m c _ _ _).trans (H _ _ _))
  blk_ext [idx1_3 t]

theorem bBlk_at (H : Holds (m ((c.tc : Thread nD τ).loc main_arg3)) L) (t : Fin cfg1.N) (s : Fin 8192) (p : Fin 3) (h : Fin 16) (j : Fin 128) (hj : j.val = 3 * h.val + p.val) :
    bBlk (V6' m) c t (ix3 0 s j) = ((if p.val = 0 then Ref.run L (grid1.coords t 0).val h.val s.val * ns else 0 : ℝ) : EReal) := by
  have hs := s.isLt
  unfold bBlk
  blk_simp
  refine (congrArg (V6' m c main_v11) (?_ : _ = ix3 (grid1.coords t 0) s j)).trans ((arr_b m c _ s p h j hj).trans ((congrFun (piecesArr_eq m c H) _).trans ?_))
  · blk_ext [idx1_2 t]
  · show ((if p.val = 0 then Ref.run L (grid1.coords t 0).val h.val (128 * (s.val / 128) + s.val % 128) * ns else 0 : ℝ) : EReal) = _
    rw [Nat.div_add_mod]

/-- The blocks of a point as real numbers. -/
theorem inputs (HQ : Holds (m ((c.tc : Thread nD τ).loc main_arg0)) Q) (HK : Holds (m ((c.tc : Thread nD τ).loc main_arg1)) K) (HV : Holds (m ((c.tc : Thread nD τ).loc main_arg2)) V) (HL : Holds (m ((c.tc : Thread nD τ).loc main_arg3)) L) (t : Fin cfg1.N) :
    Inp (grid1.coords t) (qBlk (V6' m) c t) (kBlk (V6' m) c t) (bBlk (V6' m) c t) (vBlk (V6' m) c t)
      (fun x e => Q (grid1.coords t 0).val (512 * (grid1.coords t 2).val + x) (512 * (grid1.coords t 1).val + e))
      (fun s e => K (grid1.coords t 0).val s (512 * (grid1.coords t 1).val + e))
      (fun e s => V (grid1.coords t 0).val s (512 * (grid1.coords t 1).val + e))
      (fun h s => Ref.run L (grid1.coords t 0).val (8 * (grid1.coords t 1).val + h) s * ns) where
  hq := qBlk_at m c HQ t
  hk := kBlk_at m c HK t
  hv := vBlk_at m c HV t
  hb s h := by
    have h1 := lt1 t
    have e := fun p => bBlk_at m c HL t s p ⟨8 * (grid1.coords t 1).val + h.val, by omega⟩
    rw [e 0 _ rfl, e 1 _ rfl, e 2 _ rfl, ← EReal.coe_add, ← EReal.coe_add]
    refine congrArg (fun r : ℝ => (r : EReal)) ?_
    rw [if_pos (show (0 : Fin 3).val = 0 from rfl), if_neg (show ¬ (1 : Fin 3).val = 0 by decide), if_neg (show ¬ (2 : Fin 3).val = 0 by decide), add_zero, add_zero]

/-- What the attention leaves. -/
def outG (Q K V L : ℕ → ℕ → ℕ → ℝ) (j : S8x8192x1024.Idx) : EReal :=
  (((∑ s ∈ Finset.range ((j 1).val + 1), V (j 0).val s (j 2).val * part Q K L (j 0).val ((j 2).val / 64) (j 1).val s) / (∑ s ∈ Finset.range ((j 1).val + 1), part Q K L (j 0).val ((j 2).val / 64) (j 1).val s) : ℝ) : EReal)

/-- The grid point of a block. -/
def pointOf (x y z : ℕ) (hx : x < 8) (hy : y < 2) (hz : z < 16) : grid1.Coords
  | ⟨0, _⟩ => ⟨x, hx⟩
  | ⟨1, _⟩ => ⟨y, hy⟩
  | ⟨2, _⟩ => ⟨z, hz⟩

theorem toNat_small (x : ℕ) (h : x < 16) : (BitVec.ofNat 32 x).toNat = x := by
  rw [BitVec.toNat_ofNat]
  exact Nat.mod_eq_of_lt (by omega)

theorem covers1 : win1_4.Covers :=
  win1_4.covers_of_indexMap_surj rfl (by decide) fun β => by
    have b0 : (β 0).val < 8 := (β 0).isLt
    have b1 : (β 1).val < 16 := (β 1).isLt
    have b2 : (β 2).val < 2 := (β 2).isLt
    refine ⟨pointOf (β 0).val (β 2).val (β 1).val b0 b2 b1, fun a => ?_⟩
    match a with
    | ⟨0, _⟩ => exact toNat_small (β 0).val (by omega)
    | ⟨1, _⟩ => exact toNat_small (β 1).val (by omega)
    | ⟨2, _⟩ => exact toNat_small (β 2).val (by omega)

theorem outArr_eq (HQ : Holds (m ((c.tc : Thread nD τ).loc main_arg0)) Q) (HK : Holds (m ((c.tc : Thread nD τ).loc main_arg1)) K) (HV : Holds (m ((c.tc : Thread nD τ).loc main_arg2)) V) (HL : Holds (m ((c.tc : Thread nD τ).loc main_arg3)) L) :
    outArr m c = outG Q K V L := by
  refine (dat1 (V6' m) c).arrAt_eq_of_covers 4 _ covers1 fun t hf y => ?_
  blk_simp
  show outF (grid1.coords t) (qBlk (V6' m) c t) (kBlk (V6' m) c t) (bBlk (V6' m) c t) (vBlk (V6' m) c t) y = _
  have h1 := lt1 t
  have h2 := lt2 t
  have hy : y = ix3 0 (y 1) (y 2) := by
    funext a
    match a with
    | ⟨0, _⟩ => exact Subsingleton.elim (α := Fin 1) _ _
    | ⟨1, _⟩ => rfl
    | ⟨2, _⟩ => rfl
  have y1 : (y 1).val < 512 := (y 1).isLt
  have y2 : (y 2).val < 512 := (y 2).isLt
  refine (congrArg _ hy).trans ((outF_at (inputs m c HQ HK HV HL t) (y 1) (y 2)).trans ?_)
  refine (congrArg (fun r : ℝ => (r : EReal)) (quot_eq Q K V L _ _ _ _ _ y1)).trans ?_
  refine Eq.trans (b := outG Q K V L (ix3 (grid1.coords t 0) ⟨512 * (grid1.coords t 2).val + (y 1).val, by omega⟩ ⟨512 * (grid1.coords t 1).val + (y 2).val, by omega⟩)) rfl (congrArg (outG Q K V L) ?_)
  blk_ext [idx1_4 t]

end Cert.Proof.KernelIdeal
-- ==== Proof.Value.lean ====
/- The two programs end with equal results: each leaves, at every index, the weighted mean of the values seen so far. -/
module

public import proofs.«01_k».proof.Defs
public import proofs.«01_k».proof.Proof.Finite
public import proofs.«01_k».proof.Proof.HostValue
public import proofs.«01_k».proof.Proof.Gen.ReferenceIdeal.Run

@[expose] public section

set_option maxRecDepth 16384

noncomputable section

namespace Cert.Proof

open Idealize.ShloMosaic Idealize.SL.Sem
open Cert.Proof.Ref (Holds)

/-- The reference's result is the array the kernel leaves. -/
theorem res_outG {q k v : FVec Ideal Cert.ReferenceIdeal.S8x8192x1024 .f32} {f : FVec Ideal Cert.ReferenceIdeal.S8x8192x16 .f32} {Q K V L : ℕ → ℕ → ℕ → ℝ}
    (HQ : Holds q Q) (HK : Holds k K) (HV : Holds v V) (HL : Holds f L) : Cert.Proof.Ref.res q k v f = Cert.Proof.KernelIdeal.outG Q K V L := by
  funext j
  have hj : j = ix3 (j 0) (j 1) (j 2) := by
    funext a
    fin_cases a <;> rfl
  rw [hj]
  exact Cert.Proof.Ref.res_at HQ HK HV HL (j 0) (j 1) (j 2)

theorem algebraic [hPre_finite : Cert.Pre_finite.Facts] : Cert.algebraic_KernelIdeal_ReferenceIdeal_pre_finite := fun m g m' g' hp ha =>
  ⟨fun c => Cert.Proof.KernelIdeal.outArr m c,
    (θ_run _ _ _).mono (fun _ h => h.1) (Cert.Proof.KernelIdeal.run (F := Ideal) m g),
    (θ_run _ _ _).mono (fun _ h c => ⟨(h c).1.trans (by
      obtain ⟨HQ, HK, HV, HL⟩ := Finite.holds_of_pre _ _ _ _ (hp c)
      obtain ⟨a0, a1, a2, a3⟩ := ha c
      rw [Cert.Proof.Ref.res_eq, a0, a1, a2, a3]
      exact (res_outG HQ HK HV HL).trans (Cert.Proof.KernelIdeal.outArr_eq m c HQ HK HV HL).symm), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Inproj.Frame
public import proofs.«01_k».proof.Proof.Gen.InprojIdeal
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Ffn.Frame
public import proofs.«01_k».proof.Proof.Gen.FfnIdeal.Value
public import proofs.«01_k».proof.Proof.Gen.FfnReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Gen.FfnSample.Frame
public import proofs.«01_k».proof.Proof.Gen.FfnSampleIdeal.Value
public import proofs.«01_k».proof.Proof.Gen.FfnSampleReferenceIdeal.Run
public import proofs.«01_k».proof.Proof.Gen.InprojSample.Frame
public import proofs.«01_k».proof.Proof.Gen.InprojSampleIdeal.Value
public import proofs.«01_k».proof.Proof.Gen.InprojSampleReferenceIdeal.Run
public import proofs.«01_k».proof.Proof.ProjFrame
public import proofs.«01_k».proof.Proof.ProjValue
public import proofs.«01_k».proof.Proof.FfnFrame
public import proofs.«01_k».proof.Proof.FfnValue
public import proofs.«01_k».proof.Proof.MergeFrame
public import proofs.«01_k».proof.Proof.MergeValue
public import proofs.«01_k».proof.Proof.FfnSampleFrame
public import proofs.«01_k».proof.Proof.FfnSampleValue
public import proofs.«01_k».proof.Proof.ProjSampleFrame
public import proofs.«01_k».proof.Proof.ProjSampleValue
public import proofs.«01_k».proof.Proof.Value
public import proofs.«01_k».proof.Proof.Run
public import proofs.«01_k».proof.Proof.BitsRun
public import Idealize.ShloMosaic.Adequacy
public import Idealize.ShloMosaic.Init

@[expose] public section

noncomputable section

namespace Cert.Proof

open Idealize.ShloMosaic Idealize.SL.Sem

theorem frame_Kernel : Cert.quiescent_Kernel := fun m g _ =>
  (θ_run _ _ _).mono (fun _ h => ⟨fun c => (h.1 c).2, h.2⟩) (Cert.Proof.Kernel.run (F := Bits) m g)

theorem frame_KernelIdeal : Cert.quiescent_KernelIdeal := fun m g _ =>
  (θ_run _ _ _).mono (fun _ h => ⟨fun c => (h.1 c).2, h.2⟩) (Cert.Proof.KernelIdeal.run (F := Ideal) m g)

theorem frame_ReferenceIdeal : Cert.quiescent_ReferenceIdeal := fun m g _ =>
  (θ_run _ _ _).mono (fun r h => ⟨fun c => (h c).2, Idealize.ShloMosaic.sem_eq_zero_of_no_sems (by decide) r.2⟩) (Cert.ReferenceIdeal.Value.run (F := Ideal) m g)

theorem frame_KernelIdeal_finite [Cert.Pre_finite.Facts] : Cert.quiescent_KernelIdeal_pre_finite := fun m g _ => frame_KernelIdeal m g trivial

theorem frame_ReferenceIdeal_finite [Cert.Pre_finite.Facts] : Cert.quiescent_ReferenceIdeal_pre_finite := fun m g _ => frame_ReferenceIdeal m g trivial

theorem constants : Cert.preserves_Kernel_KernelIdeal :=
  ⟨IdealRules.named_const.statement Cert.KernelIdeal.κ "neg_log2e" .f32 _ _ rfl,
    IdealRules.named_const.statement Cert.KernelIdeal.κ "q_scale" .f32 _ _ rfl,
    IdealRules.named_const.statement Cert.KernelIdeal.κ "mask" .f32 _ _ rfl⟩

theorem claim : Cert.Claim :=
  haveI := Finite.facts
  ⟨Cert.Kernel.Gen.facts, Cert.KernelIdeal.Gen.facts, Cert.ReferenceIdeal.Gen.facts, Cert.Inproj.Gen.facts, Cert.InprojIdeal.Gen.facts,
    Cert.InprojReferenceIdeal.Gen.facts, Cert.Ffn.Gen.facts, Cert.FfnIdeal.Gen.facts, Cert.FfnReferenceIdeal.Gen.facts,
    Cert.Merge.Gen.facts, Cert.MergeIdeal.Gen.facts, Cert.MergeReferenceIdeal.Gen.facts,
    Cert.FfnSample.Gen.facts, Cert.FfnSampleIdeal.Gen.facts, Cert.FfnSampleReferenceIdeal.Gen.facts,
    Cert.InprojSample.Gen.facts, Cert.InprojSampleIdeal.Gen.facts, Cert.InprojSampleReferenceIdeal.Gen.facts, Finite.facts,
    frame_Kernel, frame_KernelIdeal, frame_KernelIdeal_finite, frame_ReferenceIdeal, frame_ReferenceIdeal_finite,
    Proj.frame_Inproj, Proj.frame_InprojIdeal, Proj.frame_InprojReferenceIdeal,
    Ffn.frame_Ffn, Ffn.frame_FfnIdeal, Ffn.frame_FfnReferenceIdeal,
    Merge.frame_Merge, Merge.frame_MergeIdeal, Merge.frame_MergeReferenceIdeal,
    FfnSample.frame_FfnSample, FfnSample.frame_FfnSampleIdeal, FfnSample.frame_FfnSampleReferenceIdeal,
    ProjSample.frame_InprojSample, ProjSample.frame_InprojSampleIdeal, ProjSample.frame_InprojSampleReferenceIdeal,
    constants, algebraic (hPre_finite := Finite.facts), trivial, Proj.algebraic_inproj, trivial, Ffn.algebraic_ffn, trivial, Merge.algebraic_merge, trivial, FfnSample.algebraic_ffn_sample, trivial, ProjSample.algebraic_inproj_sample⟩

end Cert.Proof

end
